-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InEvenS (m : (ℓ : Loc Cert.InEvenS.nD Cert.InEvenS.τ Cert.InEvenS.sig) → Buf (Elt Bits) ℓ) : Prop :=
  True

def Pre_InEvenSIdeal (m : (ℓ : Loc Cert.InEvenSIdeal.nD Cert.InEvenSIdeal.τ Cert.InEvenSIdeal.sig) → Buf (Elt Ideal) ℓ) : Prop :=
  True

def Pre_InEvenSRefIdeal (m : (ℓ : Loc Cert.InEvenSRefIdeal.nD Cert.InEvenSRefIdeal.τ Cert.InEvenSRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InOddS (m : (ℓ : Loc Cert.InOddS.nD Cert.InOddS.τ Cert.InOddS.sig) → Buf (Elt Bits) ℓ) : Prop :=
  True

def Pre_InOddSIdeal (m : (ℓ : Loc Cert.InOddSIdeal.nD Cert.InOddSIdeal.τ Cert.InOddSIdeal.sig) → Buf (Elt Ideal) ℓ) : Prop :=
  True

def Pre_InOddSRefIdeal (m : (ℓ : Loc Cert.InOddSRefIdeal.nD Cert.InOddSRefIdeal.τ Cert.InOddSRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_FinishS (m : (ℓ : Loc Cert.FinishS.nD Cert.FinishS.τ Cert.FinishS.sig) → Buf (Elt Bits) ℓ) : Prop :=
  True

def Pre_FinishSIdeal (m : (ℓ : Loc Cert.FinishSIdeal.nD Cert.FinishSIdeal.τ Cert.FinishSIdeal.sig) → Buf (Elt Ideal) ℓ) : Prop :=
  True

def Pre_FinishSRefIdeal (m : (ℓ : Loc Cert.FinishSRefIdeal.nD Cert.FinishSRefIdeal.τ Cert.FinishSRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_InEvenS [hInEvenS : Cert.InEvenS.Facts] : Prop :=
  ∀ (m : (ℓ : Loc Cert.InEvenS.nD Cert.InEvenS.τ Cert.InEvenS.sig) → Buf (Elt Bits) ℓ) (g : Dev Cert.InEvenS.nD → PrngReg), Pre_InEvenS m →
    θ_run (Cert.InEvenS.defs (F := Bits)) (onTc (τ := Cert.InEvenS.τ) (Cert.InEvenS.main (F := Bits))) ⟨m, fun _ => 0, g⟩ (fun r => (∀ c : Dev Cert.InEvenS.nD,
      r.2.mem ((c.tc : Thread Cert.InEvenS.nD Cert.InEvenS.τ).loc Cert.InEvenS.main_arg0) = m ((c.tc : Thread Cert.InEvenS.nD Cert.InEvenS.τ).loc Cert.InEvenS.main_arg0)
      ∧ r.2.mem ((c.tc : Thread Cert.InEvenS.nD Cert.InEvenS.τ).loc Cert.InEvenS.main_arg1) = m ((c.tc : Thread Cert.InEvenS.nD Cert.InEvenS.τ).loc Cert.InEvenS.main_arg1)
      ∧ r.2.mem ((c.tc : Thread Cert.InEvenS.nD Cert.InEvenS.τ).loc Cert.InEvenS.main_arg2) = m ((c.tc : Thread Cert.InEvenS.nD Cert.InEvenS.τ).loc Cert.InEvenS.main_arg2))
      ∧ r.2.sem = fun _ => 0)

def quiescent_InEvenSIdeal [hInEvenSIdeal : Cert.InEvenSIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg), Pre_InEvenSIdeal m →
    θ_run (Cert.InEvenSIdeal.defs (F := Ideal)) (onTc (τ := Cert.InEvenSIdeal.τ) (Cert.InEvenSIdeal.main (F := Ideal))) ⟨m, fun _ => 0, g⟩ (fun r => (∀ c : Dev Cert.InEvenSIdeal.nD,
      r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
      ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
      ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2))
      ∧ r.2.sem = fun _ => 0)

def quiescent_InEvenSRefIdeal [hInEvenSRefIdeal : Cert.InEvenSRefIdeal.Facts] : Prop :=
  ∀ (m : (ℓ : Loc Cert.InEvenSRefIdeal.nD Cert.InEvenSRefIdeal.τ Cert.InEvenSRefIdeal.sig) → Buf (Elt Ideal) ℓ) (g : Dev Cert.InEvenSRefIdeal.nD → PrngReg), Pre_InEvenSRefIdeal m →
    θ_run (Cert.InEvenSRefIdeal.defs (F := Ideal)) (onTc (τ := Cert.InEvenSRefIdeal.τ) (Cert.InEvenSRefIdeal.main (F := Ideal))) ⟨m, fun _ => 0, g⟩ (fun r => (∀ c : Dev Cert.InEvenSRefIdeal.nD,
      r.2.mem ((c.tc : Thread Cert.InEvenSRefIdeal.nD Cert.InEvenSRefIdeal.τ).loc Cert.InEvenSRefIdeal.main_arg0) = m ((c.tc : Thread Cert.InEvenSRefIdeal.nD Cert.InEvenSRefIdeal.τ).loc Cert.InEvenSRefIdeal.main_arg0)
      ∧ r.2.mem ((c.tc : Thread Cert.InEvenSRefIdeal.nD Cert.InEvenSRefIdeal.τ).loc Cert.InEvenSRefIdeal.main_arg1) = m ((c.tc : Thread Cert.InEvenSRefIdeal.nD Cert.InEvenSRefIdeal.τ).loc Cert.InEvenSRefIdeal.main_arg1)
      ∧ r.2.mem ((c.tc : Thread Cert.InEvenSRefIdeal.nD Cert.InEvenSRefIdeal.τ).loc Cert.InEvenSRefIdeal.main_arg2) = m ((c.tc : Thread Cert.InEvenSRefIdeal.nD Cert.InEvenSRefIdeal.τ).loc Cert.InEvenSRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_InOddS [hInOddS : Cert.InOddS.Facts] : Prop :=
  ∀ (m : (ℓ : Loc Cert.InOddS.nD Cert.InOddS.τ Cert.InOddS.sig) → Buf (Elt Bits) ℓ) (g : Dev Cert.InOddS.nD → PrngReg), Pre_InOddS m →
    θ_run (Cert.InOddS.defs (F := Bits)) (onTc (τ := Cert.InOddS.τ) (Cert.InOddS.main (F := Bits))) ⟨m, fun _ => 0, g⟩ (fun r => (∀ c : Dev Cert.InOddS.nD,
      r.2.mem ((c.tc : Thread Cert.InOddS.nD Cert.InOddS.τ).loc Cert.InOddS.main_arg0) = m ((c.tc : Thread Cert.InOddS.nD Cert.InOddS.τ).loc Cert.InOddS.main_arg0)
      ∧ r.2.mem ((c.tc : Thread Cert.InOddS.nD Cert.InOddS.τ).loc Cert.InOddS.main_arg1) = m ((c.tc : Thread Cert.InOddS.nD Cert.InOddS.τ).loc Cert.InOddS.main_arg1)
      ∧ r.2.mem ((c.tc : Thread Cert.InOddS.nD Cert.InOddS.τ).loc Cert.InOddS.main_arg2) = m ((c.tc : Thread Cert.InOddS.nD Cert.InOddS.τ).loc Cert.InOddS.main_arg2)
      ∧ r.2.mem ((c.tc : Thread Cert.InOddS.nD Cert.InOddS.τ).loc Cert.InOddS.main_arg3) = m ((c.tc : Thread Cert.InOddS.nD Cert.InOddS.τ).loc Cert.InOddS.main_arg3))
      ∧ r.2.sem = fun _ => 0)

def quiescent_InOddSIdeal [hInOddSIdeal : Cert.InOddSIdeal.Facts] : Prop :=
  ∀ (m : (ℓ : Loc Cert.InOddSIdeal.nD Cert.InOddSIdeal.τ Cert.InOddSIdeal.sig) → Buf (Elt Ideal) ℓ) (g : Dev Cert.InOddSIdeal.nD → PrngReg), Pre_InOddSIdeal m →
    θ_run (Cert.InOddSIdeal.defs (F := Ideal)) (onTc (τ := Cert.InOddSIdeal.τ) (Cert.InOddSIdeal.main (F := Ideal))) ⟨m, fun _ => 0, g⟩ (fun r => (∀ c : Dev Cert.InOddSIdeal.nD,
      r.2.mem ((c.tc : Thread Cert.InOddSIdeal.nD Cert.InOddSIdeal.τ).loc Cert.InOddSIdeal.main_arg0) = m ((c.tc : Thread Cert.InOddSIdeal.nD Cert.InOddSIdeal.τ).loc Cert.InOddSIdeal.main_arg0)
      ∧ r.2.mem ((c.tc : Thread Cert.InOddSIdeal.nD Cert.InOddSIdeal.τ).loc Cert.InOddSIdeal.main_arg1) = m ((c.tc : Thread Cert.InOddSIdeal.nD Cert.InOddSIdeal.τ).loc Cert.InOddSIdeal.main_arg1)
      ∧ r.2.mem ((c.tc : Thread Cert.InOddSIdeal.nD Cert.InOddSIdeal.τ).loc Cert.InOddSIdeal.main_arg2) = m ((c.tc : Thread Cert.InOddSIdeal.nD Cert.InOddSIdeal.τ).loc Cert.InOddSIdeal.main_arg2)
      ∧ r.2.mem ((c.tc : Thread Cert.InOddSIdeal.nD Cert.InOddSIdeal.τ).loc Cert.InOddSIdeal.main_arg3) = m ((c.tc : Thread Cert.InOddSIdeal.nD Cert.InOddSIdeal.τ).loc Cert.InOddSIdeal.main_arg3))
      ∧ r.2.sem = fun _ => 0)

def quiescent_InOddSRefIdeal [hInOddSRefIdeal : Cert.InOddSRefIdeal.Facts] : Prop :=
  ∀ (m : (ℓ : Loc Cert.InOddSRefIdeal.nD Cert.InOddSRefIdeal.τ Cert.InOddSRefIdeal.sig) → Buf (Elt Ideal) ℓ) (g : Dev Cert.InOddSRefIdeal.nD → PrngReg), Pre_InOddSRefIdeal m →
    θ_run (Cert.InOddSRefIdeal.defs (F := Ideal)) (onTc (τ := Cert.InOddSRefIdeal.τ) (Cert.InOddSRefIdeal.main (F := Ideal))) ⟨m, fun _ => 0, g⟩ (fun r => (∀ c : Dev Cert.InOddSRefIdeal.nD,
      r.2.mem ((c.tc : Thread Cert.InOddSRefIdeal.nD Cert.InOddSRefIdeal.τ).loc Cert.InOddSRefIdeal.main_arg0) = m ((c.tc : Thread Cert.InOddSRefIdeal.nD Cert.InOddSRefIdeal.τ).loc Cert.InOddSRefIdeal.main_arg0)
      ∧ r.2.mem ((c.tc : Thread Cert.InOddSRefIdeal.nD Cert.InOddSRefIdeal.τ).loc Cert.InOddSRefIdeal.main_arg1) = m ((c.tc : Thread Cert.InOddSRefIdeal.nD Cert.InOddSRefIdeal.τ).loc Cert.InOddSRefIdeal.main_arg1)
      ∧ r.2.mem ((c.tc : Thread Cert.InOddSRefIdeal.nD Cert.InOddSRefIdeal.τ).loc Cert.InOddSRefIdeal.main_arg2) = m ((c.tc : Thread Cert.InOddSRefIdeal.nD Cert.InOddSRefIdeal.τ).loc Cert.InOddSRefIdeal.main_arg2)
      ∧ r.2.mem ((c.tc : Thread Cert.InOddSRefIdeal.nD Cert.InOddSRefIdeal.τ).loc Cert.InOddSRefIdeal.main_arg3) = m ((c.tc : Thread Cert.InOddSRefIdeal.nD Cert.InOddSRefIdeal.τ).loc Cert.InOddSRefIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8))
      ∧ r.2.sem = fun _ => 0)

def quiescent_FinishS [hFinishS : Cert.FinishS.Facts] : Prop :=
  ∀ (m : (ℓ : Loc Cert.FinishS.nD Cert.FinishS.τ Cert.FinishS.sig) → Buf (Elt Bits) ℓ) (g : Dev Cert.FinishS.nD → PrngReg), Pre_FinishS m →
    θ_run (Cert.FinishS.defs (F := Bits)) (onTc (τ := Cert.FinishS.τ) (Cert.FinishS.main (F := Bits))) ⟨m, fun _ => 0, g⟩ (fun r => (∀ c : Dev Cert.FinishS.nD,
      r.2.mem ((c.tc : Thread Cert.FinishS.nD Cert.FinishS.τ).loc Cert.FinishS.main_arg0) = m ((c.tc : Thread Cert.FinishS.nD Cert.FinishS.τ).loc Cert.FinishS.main_arg0)
      ∧ r.2.mem ((c.tc : Thread Cert.FinishS.nD Cert.FinishS.τ).loc Cert.FinishS.main_arg1) = m ((c.tc : Thread Cert.FinishS.nD Cert.FinishS.τ).loc Cert.FinishS.main_arg1)
      ∧ r.2.mem ((c.tc : Thread Cert.FinishS.nD Cert.FinishS.τ).loc Cert.FinishS.main_arg2) = m ((c.tc : Thread Cert.FinishS.nD Cert.FinishS.τ).loc Cert.FinishS.main_arg2)
      ∧ r.2.mem ((c.tc : Thread Cert.FinishS.nD Cert.FinishS.τ).loc Cert.FinishS.main_arg3) = m ((c.tc : Thread Cert.FinishS.nD Cert.FinishS.τ).loc Cert.FinishS.main_arg3)
      ∧ r.2.mem ((c.tc : Thread Cert.FinishS.nD Cert.FinishS.τ).loc Cert.FinishS.main_arg4) = m ((c.tc : Thread Cert.FinishS.nD Cert.FinishS.τ).loc Cert.FinishS.main_arg4)
      ∧ r.2.mem ((c.tc : Thread Cert.FinishS.nD Cert.FinishS.τ).loc Cert.FinishS.main_arg5) = m ((c.tc : Thread Cert.FinishS.nD Cert.FinishS.τ).loc Cert.FinishS.main_arg5)
      ∧ r.2.mem ((c.tc : Thread Cert.FinishS.nD Cert.FinishS.τ).loc Cert.FinishS.main_arg6) = m ((c.tc : Thread Cert.FinishS.nD Cert.FinishS.τ).loc Cert.FinishS.main_arg6)
      ∧ r.2.mem ((c.tc : Thread Cert.FinishS.nD Cert.FinishS.τ).loc Cert.FinishS.main_arg7) = m ((c.tc : Thread Cert.FinishS.nD Cert.FinishS.τ).loc Cert.FinishS.main_arg7)
      ∧ r.2.mem ((c.tc : Thread Cert.FinishS.nD Cert.FinishS.τ).loc Cert.FinishS.main_arg8) = m ((c.tc : Thread Cert.FinishS.nD Cert.FinishS.τ).loc Cert.FinishS.main_arg8))
      ∧ r.2.sem = fun _ => 0)

def quiescent_FinishSIdeal [hFinishSIdeal : Cert.FinishSIdeal.Facts] : Prop :=
  ∀ (m : (ℓ : Loc Cert.FinishSIdeal.nD Cert.FinishSIdeal.τ Cert.FinishSIdeal.sig) → Buf (Elt Ideal) ℓ) (g : Dev Cert.FinishSIdeal.nD → PrngReg), Pre_FinishSIdeal m →
    θ_run (Cert.FinishSIdeal.defs (F := Ideal)) (onTc (τ := Cert.FinishSIdeal.τ) (Cert.FinishSIdeal.main (F := Ideal))) ⟨m, fun _ => 0, g⟩ (fun r => (∀ c : Dev Cert.FinishSIdeal.nD,
      r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
      ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
      ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
      ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
      ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
      ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
      ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
      ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
      ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8))
      ∧ r.2.sem = fun _ => 0)

def quiescent_FinishSRefIdeal [hFinishSRefIdeal : Cert.FinishSRefIdeal.Facts] : Prop :=
  ∀ (m : (ℓ : Loc Cert.FinishSRefIdeal.nD Cert.FinishSRefIdeal.τ Cert.FinishSRefIdeal.sig) → Buf (Elt Ideal) ℓ) (g : Dev Cert.FinishSRefIdeal.nD → PrngReg), Pre_FinishSRefIdeal m →
    θ_run (Cert.FinishSRefIdeal.defs (F := Ideal)) (onTc (τ := Cert.FinishSRefIdeal.τ) (Cert.FinishSRefIdeal.main (F := Ideal))) ⟨m, fun _ => 0, g⟩ (fun r => (∀ c : Dev Cert.FinishSRefIdeal.nD,
      r.2.mem ((c.tc : Thread Cert.FinishSRefIdeal.nD Cert.FinishSRefIdeal.τ).loc Cert.FinishSRefIdeal.main_arg0) = m ((c.tc : Thread Cert.FinishSRefIdeal.nD Cert.FinishSRefIdeal.τ).loc Cert.FinishSRefIdeal.main_arg0)
      ∧ r.2.mem ((c.tc : Thread Cert.FinishSRefIdeal.nD Cert.FinishSRefIdeal.τ).loc Cert.FinishSRefIdeal.main_arg1) = m ((c.tc : Thread Cert.FinishSRefIdeal.nD Cert.FinishSRefIdeal.τ).loc Cert.FinishSRefIdeal.main_arg1)
      ∧ r.2.mem ((c.tc : Thread Cert.FinishSRefIdeal.nD Cert.FinishSRefIdeal.τ).loc Cert.FinishSRefIdeal.main_arg2) = m ((c.tc : Thread Cert.FinishSRefIdeal.nD Cert.FinishSRefIdeal.τ).loc Cert.FinishSRefIdeal.main_arg2)
      ∧ r.2.mem ((c.tc : Thread Cert.FinishSRefIdeal.nD Cert.FinishSRefIdeal.τ).loc Cert.FinishSRefIdeal.main_arg3) = m ((c.tc : Thread Cert.FinishSRefIdeal.nD Cert.FinishSRefIdeal.τ).loc Cert.FinishSRefIdeal.main_arg3)
      ∧ r.2.mem ((c.tc : Thread Cert.FinishSRefIdeal.nD Cert.FinishSRefIdeal.τ).loc Cert.FinishSRefIdeal.main_arg4) = m ((c.tc : Thread Cert.FinishSRefIdeal.nD Cert.FinishSRefIdeal.τ).loc Cert.FinishSRefIdeal.main_arg4)
      ∧ r.2.mem ((c.tc : Thread Cert.FinishSRefIdeal.nD Cert.FinishSRefIdeal.τ).loc Cert.FinishSRefIdeal.main_arg5) = m ((c.tc : Thread Cert.FinishSRefIdeal.nD Cert.FinishSRefIdeal.τ).loc Cert.FinishSRefIdeal.main_arg5)
      ∧ r.2.mem ((c.tc : Thread Cert.FinishSRefIdeal.nD Cert.FinishSRefIdeal.τ).loc Cert.FinishSRefIdeal.main_arg6) = m ((c.tc : Thread Cert.FinishSRefIdeal.nD Cert.FinishSRefIdeal.τ).loc Cert.FinishSRefIdeal.main_arg6)
      ∧ r.2.mem ((c.tc : Thread Cert.FinishSRefIdeal.nD Cert.FinishSRefIdeal.τ).loc Cert.FinishSRefIdeal.main_arg7) = m ((c.tc : Thread Cert.FinishSRefIdeal.nD Cert.FinishSRefIdeal.τ).loc Cert.FinishSRefIdeal.main_arg7)
      ∧ r.2.mem ((c.tc : Thread Cert.FinishSRefIdeal.nD Cert.FinishSRefIdeal.τ).loc Cert.FinishSRefIdeal.main_arg8) = m ((c.tc : Thread Cert.FinishSRefIdeal.nD Cert.FinishSRefIdeal.τ).loc Cert.FinishSRefIdeal.main_arg8))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v35)) (v1 : (c : Dev Cert.InEvenIdeal.nD) → Buf (Elt Ideal) ((c.tc : Thread Cert.InEvenIdeal.nD Cert.InEvenIdeal.τ).loc Cert.InEvenIdeal.main_v41)) (v2 : (c : Dev Cert.InEvenIdeal.nD) → Buf (Elt Ideal) ((c.tc : Thread Cert.InEvenIdeal.nD Cert.InEvenIdeal.τ).loc Cert.InEvenIdeal.main_v36)) (v3 : (c : Dev Cert.InEvenIdeal.nD) → Buf (Elt Ideal) ((c.tc : Thread Cert.InEvenIdeal.nD Cert.InEvenIdeal.τ).loc Cert.InEvenIdeal.main_v42)) (v4 : (c : Dev Cert.InEvenIdeal.nD) → Buf (Elt Ideal) ((c.tc : Thread Cert.InEvenIdeal.nD Cert.InEvenIdeal.τ).loc Cert.InEvenIdeal.main_v37)) (v5 : (c : Dev Cert.InEvenIdeal.nD) → Buf (Elt Ideal) ((c.tc : Thread Cert.InEvenIdeal.nD Cert.InEvenIdeal.τ).loc Cert.InEvenIdeal.main_v38)) (v6 : (c : Dev Cert.InEvenIdeal.nD) → Buf (Elt Ideal) ((c.tc : Thread Cert.InEvenIdeal.nD Cert.InEvenIdeal.τ).loc Cert.InEvenIdeal.main_v40)) (v7 : (c : Dev Cert.InEvenIdeal.nD) → Buf (Elt Ideal) ((c.tc : Thread Cert.InEvenIdeal.nD Cert.InEvenIdeal.τ).loc Cert.InEvenIdeal.main_v39)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v35) = v0 c
          ∧ r.2.mem ((c.tc : Thread Cert.InEvenIdeal.nD Cert.InEvenIdeal.τ).loc Cert.InEvenIdeal.main_v41) = v1 c
          ∧ r.2.mem ((c.tc : Thread Cert.InEvenIdeal.nD Cert.InEvenIdeal.τ).loc Cert.InEvenIdeal.main_v36) = v2 c
          ∧ r.2.mem ((c.tc : Thread Cert.InEvenIdeal.nD Cert.InEvenIdeal.τ).loc Cert.InEvenIdeal.main_v42) = v3 c
          ∧ r.2.mem ((c.tc : Thread Cert.InEvenIdeal.nD Cert.InEvenIdeal.τ).loc Cert.InEvenIdeal.main_v37) = v4 c
          ∧ r.2.mem ((c.tc : Thread Cert.InEvenIdeal.nD Cert.InEvenIdeal.τ).loc Cert.InEvenIdeal.main_v38) = v5 c
          ∧ r.2.mem ((c.tc : Thread Cert.InEvenIdeal.nD Cert.InEvenIdeal.τ).loc Cert.InEvenIdeal.main_v40) = v6 c
          ∧ r.2.mem ((c.tc : Thread Cert.InEvenIdeal.nD Cert.InEvenIdeal.τ).loc Cert.InEvenIdeal.main_v39) = v7 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v40) = v0 c
          ∧ r.2.mem ((c.tc : Thread Cert.InEvenRefIdeal.nD Cert.InEvenRefIdeal.τ).loc Cert.InEvenRefIdeal.main_v32) = v1 c
          ∧ r.2.mem ((c.tc : Thread Cert.InEvenRefIdeal.nD Cert.InEvenRefIdeal.τ).loc Cert.InEvenRefIdeal.main_v42) = v2 c
          ∧ r.2.mem ((c.tc : Thread Cert.InEvenRefIdeal.nD Cert.InEvenRefIdeal.τ).loc Cert.InEvenRefIdeal.main_v37) = v3 c
          ∧ r.2.mem ((c.tc : Thread Cert.InEvenRefIdeal.nD Cert.InEvenRefIdeal.τ).loc Cert.InEvenRefIdeal.main_v44) = v4 c
          ∧ r.2.mem ((c.tc : Thread Cert.InEvenRefIdeal.nD Cert.InEvenRefIdeal.τ).loc Cert.InEvenRefIdeal.main_v45) = v5 c
          ∧ r.2.mem ((c.tc : Thread Cert.InEvenRefIdeal.nD Cert.InEvenRefIdeal.τ).loc Cert.InEvenRefIdeal.main_v21) = v6 c
          ∧ r.2.mem ((c.tc : Thread Cert.InEvenRefIdeal.nD Cert.InEvenRefIdeal.τ).loc Cert.InEvenRefIdeal.main_v46) = v7 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_InEvenS_InEvenSIdeal : Prop :=
  True

def algebraic_InEvenSIdeal_InEvenSRefIdeal [hInEvenSIdeal : Cert.InEvenSIdeal.Facts] [hInEvenSRefIdeal : Cert.InEvenSRefIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg)
    (m' : (ℓ : Loc Cert.InEvenSRefIdeal.nD Cert.InEvenSRefIdeal.τ Cert.InEvenSRefIdeal.sig) → Buf (Elt Ideal) ℓ) (g' : Dev Cert.InEvenSRefIdeal.nD → PrngReg), Pre_InEvenSIdeal m →
    (∀ c : Dev Cert.InEvenSIdeal.nD,
      m' ((c.tc : Thread Cert.InEvenSRefIdeal.nD Cert.InEvenSRefIdeal.τ).loc Cert.InEvenSRefIdeal.main_arg0) = m ((c.tc : Thread Cert.InEvenSIdeal.nD Cert.InEvenSIdeal.τ).loc Cert.InEvenSIdeal.main_arg0)
      ∧ m' ((c.tc : Thread Cert.InEvenSRefIdeal.nD Cert.InEvenSRefIdeal.τ).loc Cert.InEvenSRefIdeal.main_arg1) = m ((c.tc : Thread Cert.InEvenSIdeal.nD Cert.InEvenSIdeal.τ).loc Cert.InEvenSIdeal.main_arg1)
      ∧ m' ((c.tc : Thread Cert.InEvenSRefIdeal.nD Cert.InEvenSRefIdeal.τ).loc Cert.InEvenSRefIdeal.main_arg2) = m ((c.tc : Thread Cert.InEvenSIdeal.nD Cert.InEvenSIdeal.τ).loc Cert.InEvenSIdeal.main_arg2)) →
    ∃ (v0 : (c : Dev Cert.InEvenSIdeal.nD) → Buf (Elt Ideal) ((c.tc : Thread Cert.InEvenSIdeal.nD Cert.InEvenSIdeal.τ).loc Cert.InEvenSIdeal.main_v35)) (v1 : (c : Dev Cert.InEvenSIdeal.nD) → Buf (Elt Ideal) ((c.tc : Thread Cert.InEvenSIdeal.nD Cert.InEvenSIdeal.τ).loc Cert.InEvenSIdeal.main_v41)) (v2 : (c : Dev Cert.InEvenSIdeal.nD) → Buf (Elt Ideal) ((c.tc : Thread Cert.InEvenSIdeal.nD Cert.InEvenSIdeal.τ).loc Cert.InEvenSIdeal.main_v36)) (v3 : (c : Dev Cert.InEvenSIdeal.nD) → Buf (Elt Ideal) ((c.tc : Thread Cert.InEvenSIdeal.nD Cert.InEvenSIdeal.τ).loc Cert.InEvenSIdeal.main_v42)) (v4 : (c : Dev Cert.InEvenSIdeal.nD) → Buf (Elt Ideal) ((c.tc : Thread Cert.InEvenSIdeal.nD Cert.InEvenSIdeal.τ).loc Cert.InEvenSIdeal.main_v37)) (v5 : (c : Dev Cert.InEvenSIdeal.nD) → Buf (Elt Ideal) ((c.tc : Thread Cert.InEvenSIdeal.nD Cert.InEvenSIdeal.τ).loc Cert.InEvenSIdeal.main_v38)) (v6 : (c : Dev Cert.InEvenSIdeal.nD) → Buf (Elt Ideal) ((c.tc : Thread Cert.InEvenSIdeal.nD Cert.InEvenSIdeal.τ).loc Cert.InEvenSIdeal.main_v40)) (v7 : (c : Dev Cert.InEvenSIdeal.nD) → Buf (Elt Ideal) ((c.tc : Thread Cert.InEvenSIdeal.nD Cert.InEvenSIdeal.τ).loc Cert.InEvenSIdeal.main_v39)),
      θ_run (Cert.InEvenSIdeal.defs (F := Ideal)) (onTc (τ := Cert.InEvenSIdeal.τ) (Cert.InEvenSIdeal.main (F := Ideal))) ⟨m, fun _ => 0, g⟩ (fun r => ∀ c : Dev Cert.InEvenSIdeal.nD,
          r.2.mem ((c.tc : Thread Cert.InEvenSIdeal.nD Cert.InEvenSIdeal.τ).loc Cert.InEvenSIdeal.main_v35) = v0 c
          ∧ r.2.mem ((c.tc : Thread Cert.InEvenSIdeal.nD Cert.InEvenSIdeal.τ).loc Cert.InEvenSIdeal.main_v41) = v1 c
          ∧ r.2.mem ((c.tc : Thread Cert.InEvenSIdeal.nD Cert.InEvenSIdeal.τ).loc Cert.InEvenSIdeal.main_v36) = v2 c
          ∧ r.2.mem ((c.tc : Thread Cert.InEvenSIdeal.nD Cert.InEvenSIdeal.τ).loc Cert.InEvenSIdeal.main_v42) = v3 c
          ∧ r.2.mem ((c.tc : Thread Cert.InEvenSIdeal.nD Cert.InEvenSIdeal.τ).loc Cert.InEvenSIdeal.main_v37) = v4 c
          ∧ r.2.mem ((c.tc : Thread Cert.InEvenSIdeal.nD Cert.InEvenSIdeal.τ).loc Cert.InEvenSIdeal.main_v38) = v5 c
          ∧ r.2.mem ((c.tc : Thread Cert.InEvenSIdeal.nD Cert.InEvenSIdeal.τ).loc Cert.InEvenSIdeal.main_v40) = v6 c
          ∧ r.2.mem ((c.tc : Thread Cert.InEvenSIdeal.nD Cert.InEvenSIdeal.τ).loc Cert.InEvenSIdeal.main_v39) = v7 c
          ∧ r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
          ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
          ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2))
      ∧ θ_run (Cert.InEvenSRefIdeal.defs (F := Ideal)) (onTc (τ := Cert.InEvenSRefIdeal.τ) (Cert.InEvenSRefIdeal.main (F := Ideal))) ⟨m', fun _ => 0, g'⟩ (fun r => ∀ c : Dev Cert.InEvenSRefIdeal.nD,
          r.2.mem ((c.tc : Thread Cert.InEvenSRefIdeal.nD Cert.InEvenSRefIdeal.τ).loc Cert.InEvenSRefIdeal.main_v40) = v0 c
          ∧ r.2.mem ((c.tc : Thread Cert.InEvenSRefIdeal.nD Cert.InEvenSRefIdeal.τ).loc Cert.InEvenSRefIdeal.main_v32) = v1 c
          ∧ r.2.mem ((c.tc : Thread Cert.InEvenSRefIdeal.nD Cert.InEvenSRefIdeal.τ).loc Cert.InEvenSRefIdeal.main_v42) = v2 c
          ∧ r.2.mem ((c.tc : Thread Cert.InEvenSRefIdeal.nD Cert.InEvenSRefIdeal.τ).loc Cert.InEvenSRefIdeal.main_v37) = v3 c
          ∧ r.2.mem ((c.tc : Thread Cert.InEvenSRefIdeal.nD Cert.InEvenSRefIdeal.τ).loc Cert.InEvenSRefIdeal.main_v44) = v4 c
          ∧ r.2.mem ((c.tc : Thread Cert.InEvenSRefIdeal.nD Cert.InEvenSRefIdeal.τ).loc Cert.InEvenSRefIdeal.main_v45) = v5 c
          ∧ r.2.mem ((c.tc : Thread Cert.InEvenSRefIdeal.nD Cert.InEvenSRefIdeal.τ).loc Cert.InEvenSRefIdeal.main_v21) = v6 c
          ∧ r.2.mem ((c.tc : Thread Cert.InEvenSRefIdeal.nD Cert.InEvenSRefIdeal.τ).loc Cert.InEvenSRefIdeal.main_v46) = v7 c
          ∧ r.2.mem ((c.tc : Thread Cert.InEvenSRefIdeal.nD Cert.InEvenSRefIdeal.τ).loc Cert.InEvenSRefIdeal.main_arg0) = m' ((c.tc : Thread Cert.InEvenSRefIdeal.nD Cert.InEvenSRefIdeal.τ).loc Cert.InEvenSRefIdeal.main_arg0)
          ∧ r.2.mem ((c.tc : Thread Cert.InEvenSRefIdeal.nD Cert.InEvenSRefIdeal.τ).loc Cert.InEvenSRefIdeal.main_arg1) = m' ((c.tc : Thread Cert.InEvenSRefIdeal.nD Cert.InEvenSRefIdeal.τ).loc Cert.InEvenSRefIdeal.main_arg1)
          ∧ r.2.mem ((c.tc : Thread Cert.InEvenSRefIdeal.nD Cert.InEvenSRefIdeal.τ).loc Cert.InEvenSRefIdeal.main_arg2) = m' ((c.tc : Thread Cert.InEvenSRefIdeal.nD Cert.InEvenSRefIdeal.τ).loc Cert.InEvenSRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v28)) (v1 : (c : Dev Cert.InOddIdeal.nD) → Buf (Elt Ideal) ((c.tc : Thread Cert.InOddIdeal.nD Cert.InOddIdeal.τ).loc Cert.InOddIdeal.main_v34)) (v2 : (c : Dev Cert.InOddIdeal.nD) → Buf (Elt Ideal) ((c.tc : Thread Cert.InOddIdeal.nD Cert.InOddIdeal.τ).loc Cert.InOddIdeal.main_v29)) (v3 : (c : Dev Cert.InOddIdeal.nD) → Buf (Elt Ideal) ((c.tc : Thread Cert.InOddIdeal.nD Cert.InOddIdeal.τ).loc Cert.InOddIdeal.main_v36)) (v4 : (c : Dev Cert.InOddIdeal.nD) → Buf (Elt Ideal) ((c.tc : Thread Cert.InOddIdeal.nD Cert.InOddIdeal.τ).loc Cert.InOddIdeal.main_v30)) (v5 : (c : Dev Cert.InOddIdeal.nD) → Buf (Elt Ideal) ((c.tc : Thread Cert.InOddIdeal.nD Cert.InOddIdeal.τ).loc Cert.InOddIdeal.main_v31)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v28) = v0 c
          ∧ r.2.mem ((c.tc : Thread Cert.InOddIdeal.nD Cert.InOddIdeal.τ).loc Cert.InOddIdeal.main_v34) = v1 c
          ∧ r.2.mem ((c.tc : Thread Cert.InOddIdeal.nD Cert.InOddIdeal.τ).loc Cert.InOddIdeal.main_v29) = v2 c
          ∧ r.2.mem ((c.tc : Thread Cert.InOddIdeal.nD Cert.InOddIdeal.τ).loc Cert.InOddIdeal.main_v36) = v3 c
          ∧ r.2.mem ((c.tc : Thread Cert.InOddIdeal.nD Cert.InOddIdeal.τ).loc Cert.InOddIdeal.main_v30) = v4 c
          ∧ r.2.mem ((c.tc : Thread Cert.InOddIdeal.nD Cert.InOddIdeal.τ).loc Cert.InOddIdeal.main_v31) = v5 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v36) = v0 c
          ∧ r.2.mem ((c.tc : Thread Cert.InOddRefIdeal.nD Cert.InOddRefIdeal.τ).loc Cert.InOddRefIdeal.main_v29) = v1 c
          ∧ r.2.mem ((c.tc : Thread Cert.InOddRefIdeal.nD Cert.InOddRefIdeal.τ).loc Cert.InOddRefIdeal.main_v38) = v2 c
          ∧ r.2.mem ((c.tc : Thread Cert.InOddRefIdeal.nD Cert.InOddRefIdeal.τ).loc Cert.InOddRefIdeal.main_v42) = v3 c
          ∧ r.2.mem ((c.tc : Thread Cert.InOddRefIdeal.nD Cert.InOddRefIdeal.τ).loc Cert.InOddRefIdeal.main_v40) = v4 c
          ∧ r.2.mem ((c.tc : Thread Cert.InOddRefIdeal.nD Cert.InOddRefIdeal.τ).loc Cert.InOddRefIdeal.main_v41) = v5 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_InOddS_InOddSIdeal : Prop :=
  True

def algebraic_InOddSIdeal_InOddSRefIdeal [hInOddSIdeal : Cert.InOddSIdeal.Facts] [hInOddSRefIdeal : Cert.InOddSRefIdeal.Facts] : Prop :=
  ∀ (m : (ℓ : Loc Cert.InOddSIdeal.nD Cert.InOddSIdeal.τ Cert.InOddSIdeal.sig) → Buf (Elt Ideal) ℓ) (g : Dev Cert.InOddSIdeal.nD → PrngReg)
    (m' : (ℓ : Loc Cert.InOddSRefIdeal.nD Cert.InOddSRefIdeal.τ Cert.InOddSRefIdeal.sig) → Buf (Elt Ideal) ℓ) (g' : Dev Cert.InOddSRefIdeal.nD → PrngReg), Pre_InOddSIdeal m →
    (∀ c : Dev Cert.InOddSIdeal.nD,
      m' ((c.tc : Thread Cert.InOddSRefIdeal.nD Cert.InOddSRefIdeal.τ).loc Cert.InOddSRefIdeal.main_arg0) = m ((c.tc : Thread Cert.InOddSIdeal.nD Cert.InOddSIdeal.τ).loc Cert.InOddSIdeal.main_arg0)
      ∧ m' ((c.tc : Thread Cert.InOddSRefIdeal.nD Cert.InOddSRefIdeal.τ).loc Cert.InOddSRefIdeal.main_arg1) = m ((c.tc : Thread Cert.InOddSIdeal.nD Cert.InOddSIdeal.τ).loc Cert.InOddSIdeal.main_arg1)
      ∧ m' ((c.tc : Thread Cert.InOddSRefIdeal.nD Cert.InOddSRefIdeal.τ).loc Cert.InOddSRefIdeal.main_arg2) = m ((c.tc : Thread Cert.InOddSIdeal.nD Cert.InOddSIdeal.τ).loc Cert.InOddSIdeal.main_arg2)
      ∧ m' ((c.tc : Thread Cert.InOddSRefIdeal.nD Cert.InOddSRefIdeal.τ).loc Cert.InOddSRefIdeal.main_arg3) = m ((c.tc : Thread Cert.InOddSIdeal.nD Cert.InOddSIdeal.τ).loc Cert.InOddSIdeal.main_arg3)) →
    ∃ (v0 : (c : Dev Cert.InOddSIdeal.nD) → Buf (Elt Ideal) ((c.tc : Thread Cert.InOddSIdeal.nD Cert.InOddSIdeal.τ).loc Cert.InOddSIdeal.main_v28)) (v1 : (c : Dev Cert.InOddSIdeal.nD) → Buf (Elt Ideal) ((c.tc : Thread Cert.InOddSIdeal.nD Cert.InOddSIdeal.τ).loc Cert.InOddSIdeal.main_v37)) (v2 : (c : Dev Cert.InOddSIdeal.nD) → Buf (Elt Ideal) ((c.tc : Thread Cert.InOddSIdeal.nD Cert.InOddSIdeal.τ).loc Cert.InOddSIdeal.main_v29)) (v3 : (c : Dev Cert.InOddSIdeal.nD) → Buf (Elt Ideal) ((c.tc : Thread Cert.InOddSIdeal.nD Cert.InOddSIdeal.τ).loc Cert.InOddSIdeal.main_v38)) (v4 : (c : Dev Cert.InOddSIdeal.nD) → Buf (Elt Ideal) ((c.tc : Thread Cert.InOddSIdeal.nD Cert.InOddSIdeal.τ).loc Cert.InOddSIdeal.main_v30)) (v5 : (c : Dev Cert.InOddSIdeal.nD) → Buf (Elt Ideal) ((c.tc : Thread Cert.InOddSIdeal.nD Cert.InOddSIdeal.τ).loc Cert.InOddSIdeal.main_v31)),
      θ_run (Cert.InOddSIdeal.defs (F := Ideal)) (onTc (τ := Cert.InOddSIdeal.τ) (Cert.InOddSIdeal.main (F := Ideal))) ⟨m, fun _ => 0, g⟩ (fun r => ∀ c : Dev Cert.InOddSIdeal.nD,
          r.2.mem ((c.tc : Thread Cert.InOddSIdeal.nD Cert.InOddSIdeal.τ).loc Cert.InOddSIdeal.main_v28) = v0 c
          ∧ r.2.mem ((c.tc : Thread Cert.InOddSIdeal.nD Cert.InOddSIdeal.τ).loc Cert.InOddSIdeal.main_v37) = v1 c
          ∧ r.2.mem ((c.tc : Thread Cert.InOddSIdeal.nD Cert.InOddSIdeal.τ).loc Cert.InOddSIdeal.main_v29) = v2 c
          ∧ r.2.mem ((c.tc : Thread Cert.InOddSIdeal.nD Cert.InOddSIdeal.τ).loc Cert.InOddSIdeal.main_v38) = v3 c
          ∧ r.2.mem ((c.tc : Thread Cert.InOddSIdeal.nD Cert.InOddSIdeal.τ).loc Cert.InOddSIdeal.main_v30) = v4 c
          ∧ r.2.mem ((c.tc : Thread Cert.InOddSIdeal.nD Cert.InOddSIdeal.τ).loc Cert.InOddSIdeal.main_v31) = v5 c
          ∧ r.2.mem ((c.tc : Thread Cert.InOddSIdeal.nD Cert.InOddSIdeal.τ).loc Cert.InOddSIdeal.main_arg0) = m ((c.tc : Thread Cert.InOddSIdeal.nD Cert.InOddSIdeal.τ).loc Cert.InOddSIdeal.main_arg0)
          ∧ r.2.mem ((c.tc : Thread Cert.InOddSIdeal.nD Cert.InOddSIdeal.τ).loc Cert.InOddSIdeal.main_arg1) = m ((c.tc : Thread Cert.InOddSIdeal.nD Cert.InOddSIdeal.τ).loc Cert.InOddSIdeal.main_arg1)
          ∧ r.2.mem ((c.tc : Thread Cert.InOddSIdeal.nD Cert.InOddSIdeal.τ).loc Cert.InOddSIdeal.main_arg2) = m ((c.tc : Thread Cert.InOddSIdeal.nD Cert.InOddSIdeal.τ).loc Cert.InOddSIdeal.main_arg2)
          ∧ r.2.mem ((c.tc : Thread Cert.InOddSIdeal.nD Cert.InOddSIdeal.τ).loc Cert.InOddSIdeal.main_arg3) = m ((c.tc : Thread Cert.InOddSIdeal.nD Cert.InOddSIdeal.τ).loc Cert.InOddSIdeal.main_arg3))
      ∧ θ_run (Cert.InOddSRefIdeal.defs (F := Ideal)) (onTc (τ := Cert.InOddSRefIdeal.τ) (Cert.InOddSRefIdeal.main (F := Ideal))) ⟨m', fun _ => 0, g'⟩ (fun r => ∀ c : Dev Cert.InOddSRefIdeal.nD,
          r.2.mem ((c.tc : Thread Cert.InOddSRefIdeal.nD Cert.InOddSRefIdeal.τ).loc Cert.InOddSRefIdeal.main_v36) = v0 c
          ∧ r.2.mem ((c.tc : Thread Cert.InOddSRefIdeal.nD Cert.InOddSRefIdeal.τ).loc Cert.InOddSRefIdeal.main_v29) = v1 c
          ∧ r.2.mem ((c.tc : Thread Cert.InOddSRefIdeal.nD Cert.InOddSRefIdeal.τ).loc Cert.InOddSRefIdeal.main_v38) = v2 c
          ∧ r.2.mem ((c.tc : Thread Cert.InOddSRefIdeal.nD Cert.InOddSRefIdeal.τ).loc Cert.InOddSRefIdeal.main_v44) = v3 c
          ∧ r.2.mem ((c.tc : Thread Cert.InOddSRefIdeal.nD Cert.InOddSRefIdeal.τ).loc Cert.InOddSRefIdeal.main_v40) = v4 c
          ∧ r.2.mem ((c.tc : Thread Cert.InOddSRefIdeal.nD Cert.InOddSRefIdeal.τ).loc Cert.InOddSRefIdeal.main_v41) = v5 c
          ∧ r.2.mem ((c.tc : Thread Cert.InOddSRefIdeal.nD Cert.InOddSRefIdeal.τ).loc Cert.InOddSRefIdeal.main_arg0) = m' ((c.tc : Thread Cert.InOddSRefIdeal.nD Cert.InOddSRefIdeal.τ).loc Cert.InOddSRefIdeal.main_arg0)
          ∧ r.2.mem ((c.tc : Thread Cert.InOddSRefIdeal.nD Cert.InOddSRefIdeal.τ).loc Cert.InOddSRefIdeal.main_arg1) = m' ((c.tc : Thread Cert.InOddSRefIdeal.nD Cert.InOddSRefIdeal.τ).loc Cert.InOddSRefIdeal.main_arg1)
          ∧ r.2.mem ((c.tc : Thread Cert.InOddSRefIdeal.nD Cert.InOddSRefIdeal.τ).loc Cert.InOddSRefIdeal.main_arg2) = m' ((c.tc : Thread Cert.InOddSRefIdeal.nD Cert.InOddSRefIdeal.τ).loc Cert.InOddSRefIdeal.main_arg2)
          ∧ r.2.mem ((c.tc : Thread Cert.InOddSRefIdeal.nD Cert.InOddSRefIdeal.τ).loc Cert.InOddSRefIdeal.main_arg3) = m' ((c.tc : Thread Cert.InOddSRefIdeal.nD Cert.InOddSRefIdeal.τ).loc Cert.InOddSRefIdeal.main_arg3))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)) →
    ∃ (v0 : (c : Dev Cert.FinishIdeal.nD) → Buf (Elt Ideal) ((c.tc : Thread Cert.FinishIdeal.nD Cert.FinishIdeal.τ).loc Cert.FinishIdeal.main_v25)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v25) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v50) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8))

def preserves_FinishS_FinishSIdeal : Prop :=
  True

def algebraic_FinishSIdeal_FinishSRefIdeal [hFinishSIdeal : Cert.FinishSIdeal.Facts] [hFinishSRefIdeal : Cert.FinishSRefIdeal.Facts] : Prop :=
  ∀ (m : (ℓ : Loc Cert.FinishSIdeal.nD Cert.FinishSIdeal.τ Cert.FinishSIdeal.sig) → Buf (Elt Ideal) ℓ) (g : Dev Cert.FinishSIdeal.nD → PrngReg)
    (m' : (ℓ : Loc Cert.FinishSRefIdeal.nD Cert.FinishSRefIdeal.τ Cert.FinishSRefIdeal.sig) → Buf (Elt Ideal) ℓ) (g' : Dev Cert.FinishSRefIdeal.nD → PrngReg), Pre_FinishSIdeal m →
    (∀ c : Dev Cert.FinishSIdeal.nD,
      m' ((c.tc : Thread Cert.FinishSRefIdeal.nD Cert.FinishSRefIdeal.τ).loc Cert.FinishSRefIdeal.main_arg0) = m ((c.tc : Thread Cert.FinishSIdeal.nD Cert.FinishSIdeal.τ).loc Cert.FinishSIdeal.main_arg0)
      ∧ m' ((c.tc : Thread Cert.FinishSRefIdeal.nD Cert.FinishSRefIdeal.τ).loc Cert.FinishSRefIdeal.main_arg1) = m ((c.tc : Thread Cert.FinishSIdeal.nD Cert.FinishSIdeal.τ).loc Cert.FinishSIdeal.main_arg1)
      ∧ m' ((c.tc : Thread Cert.FinishSRefIdeal.nD Cert.FinishSRefIdeal.τ).loc Cert.FinishSRefIdeal.main_arg2) = m ((c.tc : Thread Cert.FinishSIdeal.nD Cert.FinishSIdeal.τ).loc Cert.FinishSIdeal.main_arg2)
      ∧ m' ((c.tc : Thread Cert.FinishSRefIdeal.nD Cert.FinishSRefIdeal.τ).loc Cert.FinishSRefIdeal.main_arg3) = m ((c.tc : Thread Cert.FinishSIdeal.nD Cert.FinishSIdeal.τ).loc Cert.FinishSIdeal.main_arg3)
      ∧ m' ((c.tc : Thread Cert.FinishSRefIdeal.nD Cert.FinishSRefIdeal.τ).loc Cert.FinishSRefIdeal.main_arg4) = m ((c.tc : Thread Cert.FinishSIdeal.nD Cert.FinishSIdeal.τ).loc Cert.FinishSIdeal.main_arg4)
      ∧ m' ((c.tc : Thread Cert.FinishSRefIdeal.nD Cert.FinishSRefIdeal.τ).loc Cert.FinishSRefIdeal.main_arg5) = m ((c.tc : Thread Cert.FinishSIdeal.nD Cert.FinishSIdeal.τ).loc Cert.FinishSIdeal.main_arg5)
      ∧ m' ((c.tc : Thread Cert.FinishSRefIdeal.nD Cert.FinishSRefIdeal.τ).loc Cert.FinishSRefIdeal.main_arg6) = m ((c.tc : Thread Cert.FinishSIdeal.nD Cert.FinishSIdeal.τ).loc Cert.FinishSIdeal.main_arg6)
      ∧ m' ((c.tc : Thread Cert.FinishSRefIdeal.nD Cert.FinishSRefIdeal.τ).loc Cert.FinishSRefIdeal.main_arg7) = m ((c.tc : Thread Cert.FinishSIdeal.nD Cert.FinishSIdeal.τ).loc Cert.FinishSIdeal.main_arg7)
      ∧ m' ((c.tc : Thread Cert.FinishSRefIdeal.nD Cert.FinishSRefIdeal.τ).loc Cert.FinishSRefIdeal.main_arg8) = m ((c.tc : Thread Cert.FinishSIdeal.nD Cert.FinishSIdeal.τ).loc Cert.FinishSIdeal.main_arg8)) →
    ∃ (v0 : (c : Dev Cert.FinishSIdeal.nD) → Buf (Elt Ideal) ((c.tc : Thread Cert.FinishSIdeal.nD Cert.FinishSIdeal.τ).loc Cert.FinishSIdeal.main_v25)),
      θ_run (Cert.FinishSIdeal.defs (F := Ideal)) (onTc (τ := Cert.FinishSIdeal.τ) (Cert.FinishSIdeal.main (F := Ideal))) ⟨m, fun _ => 0, g⟩ (fun r => ∀ c : Dev Cert.FinishSIdeal.nD,
          r.2.mem ((c.tc : Thread Cert.FinishSIdeal.nD Cert.FinishSIdeal.τ).loc Cert.FinishSIdeal.main_v25) = v0 c
          ∧ r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
          ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
          ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
          ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
          ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
          ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
          ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
          ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
          ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8))
      ∧ θ_run (Cert.FinishSRefIdeal.defs (F := Ideal)) (onTc (τ := Cert.FinishSRefIdeal.τ) (Cert.FinishSRefIdeal.main (F := Ideal))) ⟨m', fun _ => 0, g'⟩ (fun r => ∀ c : Dev Cert.FinishSRefIdeal.nD,
          r.2.mem ((c.tc : Thread Cert.FinishSRefIdeal.nD Cert.FinishSRefIdeal.τ).loc Cert.FinishSRefIdeal.main_v50) = v0 c
          ∧ r.2.mem ((c.tc : Thread Cert.FinishSRefIdeal.nD Cert.FinishSRefIdeal.τ).loc Cert.FinishSRefIdeal.main_arg0) = m' ((c.tc : Thread Cert.FinishSRefIdeal.nD Cert.FinishSRefIdeal.τ).loc Cert.FinishSRefIdeal.main_arg0)
          ∧ r.2.mem ((c.tc : Thread Cert.FinishSRefIdeal.nD Cert.FinishSRefIdeal.τ).loc Cert.FinishSRefIdeal.main_arg1) = m' ((c.tc : Thread Cert.FinishSRefIdeal.nD Cert.FinishSRefIdeal.τ).loc Cert.FinishSRefIdeal.main_arg1)
          ∧ r.2.mem ((c.tc : Thread Cert.FinishSRefIdeal.nD Cert.FinishSRefIdeal.τ).loc Cert.FinishSRefIdeal.main_arg2) = m' ((c.tc : Thread Cert.FinishSRefIdeal.nD Cert.FinishSRefIdeal.τ).loc Cert.FinishSRefIdeal.main_arg2)
          ∧ r.2.mem ((c.tc : Thread Cert.FinishSRefIdeal.nD Cert.FinishSRefIdeal.τ).loc Cert.FinishSRefIdeal.main_arg3) = m' ((c.tc : Thread Cert.FinishSRefIdeal.nD Cert.FinishSRefIdeal.τ).loc Cert.FinishSRefIdeal.main_arg3)
          ∧ r.2.mem ((c.tc : Thread Cert.FinishSRefIdeal.nD Cert.FinishSRefIdeal.τ).loc Cert.FinishSRefIdeal.main_arg4) = m' ((c.tc : Thread Cert.FinishSRefIdeal.nD Cert.FinishSRefIdeal.τ).loc Cert.FinishSRefIdeal.main_arg4)
          ∧ r.2.mem ((c.tc : Thread Cert.FinishSRefIdeal.nD Cert.FinishSRefIdeal.τ).loc Cert.FinishSRefIdeal.main_arg5) = m' ((c.tc : Thread Cert.FinishSRefIdeal.nD Cert.FinishSRefIdeal.τ).loc Cert.FinishSRefIdeal.main_arg5)
          ∧ r.2.mem ((c.tc : Thread Cert.FinishSRefIdeal.nD Cert.FinishSRefIdeal.τ).loc Cert.FinishSRefIdeal.main_arg6) = m' ((c.tc : Thread Cert.FinishSRefIdeal.nD Cert.FinishSRefIdeal.τ).loc Cert.FinishSRefIdeal.main_arg6)
          ∧ r.2.mem ((c.tc : Thread Cert.FinishSRefIdeal.nD Cert.FinishSRefIdeal.τ).loc Cert.FinishSRefIdeal.main_arg7) = m' ((c.tc : Thread Cert.FinishSRefIdeal.nD Cert.FinishSRefIdeal.τ).loc Cert.FinishSRefIdeal.main_arg7)
          ∧ r.2.mem ((c.tc : Thread Cert.FinishSRefIdeal.nD Cert.FinishSRefIdeal.τ).loc Cert.FinishSRefIdeal.main_arg8) = m' ((c.tc : Thread Cert.FinishSRefIdeal.nD Cert.FinishSRefIdeal.τ).loc Cert.FinishSRefIdeal.main_arg8))

def preserves_Diff_DiffIdeal : Prop :=
  IdealRules.named_const.Statement Cert.DiffIdeal.κ "mask" .f32 0xF149F2CA#32 ⊥

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v3)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v3) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v119) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hInEvenS : Cert.InEvenS.Facts) (hInEvenSIdeal : Cert.InEvenSIdeal.Facts) (hInEvenSRefIdeal : Cert.InEvenSRefIdeal.Facts) (hInOdd : Cert.InOdd.Facts) (hInOddIdeal : Cert.InOddIdeal.Facts) (hInOddRefIdeal : Cert.InOddRefIdeal.Facts) (hInOddS : Cert.InOddS.Facts) (hInOddSIdeal : Cert.InOddSIdeal.Facts) (hInOddSRefIdeal : Cert.InOddSRefIdeal.Facts) (hFinish : Cert.Finish.Facts) (hFinishIdeal : Cert.FinishIdeal.Facts) (hFinishRefIdeal : Cert.FinishRefIdeal.Facts) (hFinishS : Cert.FinishS.Facts) (hFinishSIdeal : Cert.FinishSIdeal.Facts) (hFinishSRefIdeal : Cert.FinishSRefIdeal.Facts) (hDiff : Cert.Diff.Facts) (hDiffIdeal : Cert.DiffIdeal.Facts) (hDiffRefIdeal : Cert.DiffRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InEvenS (hInEvenS := hInEvenS)
    ∧ quiescent_InEvenSIdeal (hInEvenSIdeal := hInEvenSIdeal)
    ∧ quiescent_InEvenSRefIdeal (hInEvenSRefIdeal := hInEvenSRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_InOddS (hInOddS := hInOddS)
    ∧ quiescent_InOddSIdeal (hInOddSIdeal := hInOddSIdeal)
    ∧ quiescent_InOddSRefIdeal (hInOddSRefIdeal := hInOddSRefIdeal)
    ∧ quiescent_Finish (hFinish := hFinish)
    ∧ quiescent_FinishIdeal (hFinishIdeal := hFinishIdeal)
    ∧ quiescent_FinishRefIdeal (hFinishRefIdeal := hFinishRefIdeal)
    ∧ quiescent_FinishS (hFinishS := hFinishS)
    ∧ quiescent_FinishSIdeal (hFinishSIdeal := hFinishSIdeal)
    ∧ quiescent_FinishSRefIdeal (hFinishSRefIdeal := hFinishSRefIdeal)
    ∧ quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ preserves_Kernel_KernelIdeal
    ∧ algebraic_KernelIdeal_ReferenceIdeal (hKernelIdeal := hKernelIdeal) (hReferenceIdeal := hReferenceIdeal)
    ∧ preserves_InEven_InEvenIdeal
    ∧ algebraic_InEvenIdeal_InEvenRefIdeal (hInEvenIdeal := hInEvenIdeal) (hInEvenRefIdeal := hInEvenRefIdeal)
    ∧ preserves_InEvenS_InEvenSIdeal
    ∧ algebraic_InEvenSIdeal_InEvenSRefIdeal (hInEvenSIdeal := hInEvenSIdeal) (hInEvenSRefIdeal := hInEvenSRefIdeal)
    ∧ preserves_InOdd_InOddIdeal
    ∧ algebraic_InOddIdeal_InOddRefIdeal (hInOddIdeal := hInOddIdeal) (hInOddRefIdeal := hInOddRefIdeal)
    ∧ preserves_InOddS_InOddSIdeal
    ∧ algebraic_InOddSIdeal_InOddSRefIdeal (hInOddSIdeal := hInOddSIdeal) (hInOddSRefIdeal := hInOddSRefIdeal)
    ∧ preserves_Finish_FinishIdeal
    ∧ algebraic_FinishIdeal_FinishRefIdeal (hFinishIdeal := hFinishIdeal) (hFinishRefIdeal := hFinishRefIdeal)
    ∧ preserves_FinishS_FinishSIdeal
    ∧ algebraic_FinishSIdeal_FinishSRefIdeal (hFinishSIdeal := hFinishSIdeal) (hFinishSRefIdeal := hFinishSRefIdeal)
    ∧ preserves_Diff_DiffIdeal
    ∧ algebraic_DiffIdeal_DiffRefIdeal_pre_finite (hDiffIdeal := hDiffIdeal) (hDiffRefIdeal := hDiffRefIdeal) (hPre_finite := hPre_finite)
-- ==== Pre_finite.lean ====
abbrev S1x8192x5120 : Shape := ⟨3, ![1, 8192, 5120]⟩
abbrev S1x8192x4096 : Shape := ⟨3, ![1, 8192, 4096]⟩
abbrev S3x8x256x256 : Shape := ⟨4, ![3, 8, 256, 256]⟩
abbrev S1x4x128 : Shape := ⟨3, ![1, 4, 128]⟩
abbrev S1x256 : Shape := ⟨2, ![1, 256]⟩
abbrev S1x8192x2048 : Shape := ⟨3, ![1, 8192, 2048]⟩
abbrev S_ : Shape := ⟨0, ![]⟩

class Facts : Prop where
  slices_S1x8192x5120_S1x8192x2048_0_0_3072 : S1x8192x5120.Slices ![0, 0, 3072] S1x8192x2048
  bitsLt_bf16_f32 : FTy.bits .bf16 < FTy.bits .f32
  bcast_S_S1x8192x2048 : S_.BroadcastsInDim S1x8192x2048 (![] : Fin 0 → Fin S1x8192x2048.rank)
  bcast_S_S1x8192x4096 : S_.BroadcastsInDim S1x8192x4096 (![] : Fin 0 → Fin S1x8192x4096.rank)
  bcast_S_S3x8x256x256 : S_.BroadcastsInDim S3x8x256x256 (![] : Fin 0 → Fin S3x8x256x256.rank)
  bcast_S_S1x4x128 : S_.BroadcastsInDim S1x4x128 (![] : Fin 0 → Fin S1x4x128.rank)

variable [Facts]

def fn {F : FTy → Type} [FloatOps F] (main_arg0 : FVec F S1x8192x5120 .bf16) (main_arg1 : FVec F S1x8192x4096 .bf16) (main_arg2 : FVec F S1x8192x4096 .f32) (main_arg3 : FVec F S3x8x256x256 .f32) (main_arg4 : FVec F S1x4x128 .f32) (main_arg5 : FVec F S1x256 .f32) : IVec S1x8192x2048 1 × IVec S1x8192x4096 1 × IVec S3x8x256x256 1 × IVec S1x4x128 1 :=
  let main_v0 : FVec F S1x8192x2048 .bf16 := (extractStridedSlice S1x8192x2048 ![0, 0, 3072] · slices_S1x8192x5120_S1x8192x2048_0_0_3072) main_arg0
  let main_v1 : FVec F S1x8192x2048 .f32 := (extf .f32 · bitsLt_bf16_f32) main_v0
  let main_v2 : FVec F S1x8192x2048 .f32 := Host.absf main_v1
  let main_cst : FVec F S_ .f32 := constant S_ .f32 0x7F800000#32
  let main_v3 : FVec F S1x8192x2048 .f32 := broadcastInDim S1x8192x2048 ![] bcast_S_S1x8192x2048 main_cst
  let main_v4 : IVec S1x8192x2048 1 := cmpf .olt main_v2 main_v3
  let main_v5 : FVec F S1x8192x4096 .f32 := (extf .f32 · bitsLt_bf16_f32) main_arg1
  let main_v6 : FVec F S1x8192x4096 .f32 := Host.absf main_v5
  let main_cst_0 : FVec F S_ .f32 := constant S_ .f32 0x7F800000#32
  let main_v7 : FVec F S1x8192x4096 .f32 := broadcastInDim S1x8192x4096 ![] bcast_S_S1x8192x4096 main_cst_0
  let main_v8 : IVec S1x8192x4096 1 := cmpf .olt main_v6 main_v7
  let main_v9 : FVec F S3x8x256x256 .f32 := Host.absf main_arg3
  let main_cst_1 : FVec F S_ .f32 := constant S_ .f32 0x7F800000#32
  let main_v10 : FVec F S3x8x256x256 .f32 := broadcastInDim S3x8x256x256 ![] bcast_S_S3x8x256x256 main_cst_1
  let main_v11 : IVec S3x8x256x256 1 := cmpf .olt main_v9 main_v10
  let main_v12 : FVec F S1x4x128 .f32 := Host.absf main_arg4
  let main_cst_2 : FVec F S_ .f32 := constant S_ .f32 0x7F800000#32
  let main_v13 : FVec F S1x4x128 .f32 := broadcastInDim S1x4x128 ![] bcast_S_S1x4x128 main_cst_2
  let main_v14 : IVec S1x4x128 1 := cmpf .olt main_v12 main_v13
  (main_v4, main_v8, main_v11, main_v14)
-- ==== Kernel.lean ====
abbrev S1x8192x4096 : Shape := ⟨3, ![1, 8192, 4096]⟩
abbrev S256x256 : Shape := ⟨2, ![256, 256]⟩
abbrev S1x8192x2048 : Shape := ⟨3, ![1, 8192, 2048]⟩
abbrev S1x256x128 : Shape := ⟨3, ![1, 256, 128]⟩
abbrev S1x8192x128 : Shape := ⟨3, ![1, 8192, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S1x8192x4096, .bf16⟩
  | .hbm, ⟨1, _⟩ => ⟨S1x8192x4096, .bf16⟩
  | .hbm, ⟨2, _⟩ => ⟨S1x8192x4096, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .f32⟩
  | .hbm, ⟨7, _⟩ => ⟨S256x256, .bf16⟩
  | .hbm, ⟨8, _⟩ => ⟨S1x8192x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .f32⟩
  | .local _ .vmem, ⟨7, _⟩ => ⟨S1x256x128, .f32⟩
  | .local _ .vmem, ⟨8, _⟩ => ⟨S256x256, .bf16⟩
  | .local _ .vmem, ⟨9, _⟩ => ⟨S1x256x128, .bf16⟩
  | .local _ .vmem, ⟨10, _⟩ => ⟨S1x256x128, .bf16⟩
  | .local _ .vmem, ⟨11, _⟩ => ⟨S256x128, .f32⟩
  | .local _ .vmem, ⟨12, _⟩ => ⟨S256x128, .f32⟩
  | _, _ => ⟨S1x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 16, 32], ![false, false, false]⟩

def k0_mult1 (i : grid0.Coords) : BitVec 32 :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_5 : BitVec 32 := 256#32
  let v16 : BitVec 32 := Scalar.muli v3 c256_i32_5
  v16
def k0_off1 (i : grid0.Coords) : Fin 3 → Nat :=
  let c0_9 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_5 : BitVec 32 := 256#32
  let v16 : BitVec 32 := Scalar.muli v3 c256_i32_5
  let v17 : BitVec 32 := v16
  let v20 : Index := Scalar.indexCast v17
  let c0_10 : Index := 0#32
  ![0, v20.toNat, 0]
@[reducible] def k0_t1_loop (i : grid0.Coords) : Scf.Loop 32 :=
  let c0_i32_40 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v79 : BitVec 32 := Scalar.subi v3 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_42 : BitVec 32 := 1#32
  ⟨c0_i32_40, v83, c1_i32_42⟩
def k0_mult2 (i : grid0.Coords) (k0_t1 : Fin (k0_t1_loop i).trips) : BitVec 32 :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c1_i32_55 : BitVec 32 := 1#32
  let v100 : BitVec 32 := Scalar.subi v3 c1_i32_55
  let c0_i32_40 : BitVec 32 := 0#32
  let c1_i32_42 : BitVec 32 := 1#32
  let arg11 : BitVec 32 := Scf.iv c0_i32_40 c1_i32_42 k0_t1
  let v101 : BitVec 32 := Scalar.subi v100 arg11
  let c256_i32_56 : BitVec 32 := 256#32
  let v102 : BitVec 32 := Scalar.muli v101 c256_i32_56
  v102
def k0_off2 (i : grid0.Coords) (k0_t1 : Fin (k0_t1_loop i).trips) : Fin 3 → Nat :=
  let c0_60 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c1_i32_55 : BitVec 32 := 1#32
  let v100 : BitVec 32 := Scalar.subi v3 c1_i32_55
  let c0_i32_40 : BitVec 32 := 0#32
  let c1_i32_42 : BitVec 32 := 1#32
  let arg11 : BitVec 32 := Scf.iv c0_i32_40 c1_i32_42 k0_t1
  let v101 : BitVec 32 := Scalar.subi v100 arg11
  let c256_i32_56 : BitVec 32 := 256#32
  let v102 : BitVec 32 := Scalar.muli v101 c256_i32_56
  let v103 : BitVec 32 := v102
  let v106 : Index := Scalar.indexCast v103
  let c0_61 : Index := 0#32
  ![0, v106.toNat, 0]
@[reducible] def k0_t2_loop (i : grid0.Coords) : Scf.Loop 32 :=
  let c0_i32_40 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v79 : BitVec 32 := Scalar.subi v3 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let v80 : BitVec 32 := Scalar.addi c0_i32_40 v79
  let c1_i32_43 : BitVec 32 := 1#32
  ⟨v83, v80, c1_i32_43⟩
def k0_mult3 (i : grid0.Coords) (k0_t2 : Fin (k0_t2_loop i).trips) : BitVec 32 :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c1_i32_55 : BitVec 32 := 1#32
  let v100 : BitVec 32 := Scalar.subi v3 c1_i32_55
  let c0_i32_40 : BitVec 32 := 0#32
  let v79 : BitVec 32 := Scalar.subi v3 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg11 : BitVec 32 := Scf.iv v83 c1_i32_43 k0_t2
  let v101 : BitVec 32 := Scalar.subi v100 arg11
  let c256_i32_56 : BitVec 32 := 256#32
  let v102 : BitVec 32 := Scalar.muli v101 c256_i32_56
  v102
def k0_off3 (i : grid0.Coords) (k0_t2 : Fin (k0_t2_loop i).trips) : Fin 3 → Nat :=
  let c0_60 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c1_i32_55 : BitVec 32 := 1#32
  let v100 : BitVec 32 := Scalar.subi v3 c1_i32_55
  let c0_i32_40 : BitVec 32 := 0#32
  let v79 : BitVec 32 := Scalar.subi v3 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg11 : BitVec 32 := Scf.iv v83 c1_i32_43 k0_t2
  let v101 : BitVec 32 := Scalar.subi v100 arg11
  let c256_i32_56 : BitVec 32 := 256#32
  let v102 : BitVec 32 := Scalar.muli v101 c256_i32_56
  let v103 : BitVec 32 := v102
  let v106 : Index := Scalar.indexCast v103
  let c0_61 : Index := 0#32
  ![0, v106.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S1x8192x4096 : Shape := ⟨3, ![1, 8192, 4096]⟩
abbrev S1x8192x2048 : Shape := ⟨3, ![1, 8192, 2048]⟩
abbrev S1x8192x16x128 : Shape := ⟨4, ![1, 8192, 16, 128]⟩
abbrev S8192 : Shape := ⟨1, ![8192]⟩
abbrev S1x16x8192x8192 : Shape := ⟨4, ![1, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x16x128x8192 : Shape := ⟨4, ![1, 16, 128, 8192]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x4096, .bf16⟩
  | .hbm, ⟨1, _⟩ => ⟨S1x8192x4096, .bf16⟩
  | .hbm, ⟨2, _⟩ => ⟨S1x8192x4096, .f32⟩
  | .hbm, ⟨3, _⟩ => ⟨S1x8192x2048, .bf16⟩
  | .hbm, ⟨4, _⟩ => ⟨S1x8192x2048, .f32⟩
  | .hbm, ⟨5, _⟩ => ⟨S1x8192x16x128, .f32⟩
  | .hbm, ⟨6, _⟩ => ⟨S1x8192x2048, .bf16⟩
  | .hbm, ⟨7, _⟩ => ⟨S1x8192x2048, .f32⟩
  | .hbm, ⟨8, _⟩ => ⟨S1x8192x16x128, .f32⟩
  | .hbm, ⟨9, _⟩ => ⟨S1x8192x2048, .bf16⟩
  | .hbm, ⟨10, _⟩ => ⟨S1x8192x2048, .f32⟩
  | .hbm, ⟨11, _⟩ => ⟨S1x8192x16x128, .f32⟩
  | .hbm, ⟨12, _⟩ => ⟨S8192, .i32⟩
  | .hbm, ⟨13, _⟩ => ⟨S1x16x8192x8192, .f32⟩
  | .hbm, ⟨14, _⟩ => ⟨S_, .f32⟩
  | .hbm, ⟨15, _⟩ => ⟨S1x16x8192x8192, .f32⟩
  | .hbm, ⟨16, _⟩ => ⟨S1x16x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x16x8192x8192, .f32⟩
  | .hbm, ⟨23, _⟩ => ⟨S1x16x8192x8192, .f32⟩
  | .hbm, ⟨24, _⟩ => ⟨S_, .f32⟩
  | .hbm, ⟨25, _⟩ => ⟨S1x16x8192x8192, .f32⟩
  | .hbm, ⟨26, _⟩ => ⟨S1x16x8192x8192, .f32⟩
  | .hbm, ⟨27, _⟩ => ⟨S1x16x8192x8192, .f32⟩
  | .hbm, ⟨28, _⟩ => ⟨S1x16x8192x8192, .f32⟩
  | .hbm, ⟨29, _⟩ => ⟨S1x16x8192x8192, .i1⟩
  | .hbm, ⟨30, _⟩ => ⟨S1x16x8192x8192, .f32⟩
  | .hbm, ⟨31, _⟩ => ⟨S1x16x8192x8192, .f32⟩
  | .hbm, ⟨32, _⟩ => ⟨S1x16x8192x8192, .f32⟩
  | .hbm, ⟨33, _⟩ => ⟨S1x16x8192x8192, .f32⟩
  | .hbm, ⟨34, _⟩ => ⟨S1x16x8192x8192, .f32⟩
  | .hbm, ⟨35, _⟩ => ⟨S1x16x8192x8192, .f32⟩
  | .hbm, ⟨36, _⟩ => ⟨S1x16x8192x8192, .f32⟩
  | .hbm, ⟨37, _⟩ => ⟨S1x16x8192x8192, .f32⟩
  | .hbm, ⟨38, _⟩ => ⟨S1x16x8192x8192, .f32⟩
  | .hbm, ⟨39, _⟩ => ⟨S_, .f32⟩
  | .hbm, ⟨40, _⟩ => ⟨S_, .f32⟩
  | .hbm, ⟨41, _⟩ => ⟨S1x16x8192x8192, .i1⟩
  | .hbm, ⟨42, _⟩ => ⟨S1x16x8192x8192, .f32⟩
  | .hbm, ⟨43, _⟩ => ⟨S1x16x8192x8192, .f32⟩
  | .hbm, ⟨44, _⟩ => ⟨S_, .f32⟩
  | .hbm, ⟨45, _⟩ => ⟨S_, .f32⟩
  | .hbm, ⟨46, _⟩ => ⟨S1x16x8192x8192, .f32⟩
  | .hbm, ⟨47, _⟩ => ⟨S1x16x8192x8192, .f32⟩
  | .hbm, ⟨48, _⟩ => ⟨S1x16x8192x8192, .f32⟩
  | .hbm, ⟨49, _⟩ => ⟨S_, .f32⟩
  | .hbm, ⟨50, _⟩ => ⟨S1x16x8192x8192, .f32⟩
  | .hbm, ⟨51, _⟩ => ⟨S1x16x8192x8192, .f32⟩
  | .hbm, ⟨52, _⟩ => ⟨S1x16x8192x8192, .f32⟩
  | .hbm, ⟨53, _⟩ => ⟨S1x16x8192x8192, .f32⟩
  | .hbm, ⟨54, _⟩ => ⟨S1x16x8192x8192, .i1⟩
  | .hbm, ⟨55, _⟩ => ⟨S1x16x8192x8192, .f32⟩
  | .hbm, ⟨56, _⟩ => ⟨S1x16x8192x8192, .f32⟩
  | .hbm, ⟨57, _⟩ => ⟨S1x16x8192x8192, .f32⟩
  | .hbm, ⟨58, _⟩ => ⟨S1x16x8192x8192, .f32⟩
  | .hbm, ⟨59, _⟩ => ⟨S1x16x8192x8192, .f32⟩
  | .hbm, ⟨60, _⟩ => ⟨S1x16x8192x8192, .f32⟩
  | .hbm, ⟨61, _⟩ => ⟨S1x16x8192x8192, .f32⟩
  | .hbm, ⟨62, _⟩ => ⟨S1x16x8192x8192, .f32⟩
  | .hbm, ⟨63, _⟩ => ⟨S1x16x8192x8192, .f32⟩
  | .hbm, ⟨64, _⟩ => ⟨S1x16x8192x8192, .f32⟩
  | .hbm, ⟨65, _⟩ => ⟨S1x16x8192x8192, .f32⟩
  | .hbm, ⟨66, _⟩ => ⟨S_, .f32⟩
  | .hbm, ⟨67, _⟩ => ⟨S_, .f32⟩
  | .hbm, ⟨68, _⟩ => ⟨S1x16x8192x8192, .i1⟩
  | .hbm, ⟨69, _⟩ => ⟨S1x16x8192x8192, .f32⟩
  | .hbm, ⟨70, _⟩ => ⟨S1x16x8192x8192, .f32⟩
  | .hbm, ⟨71, _⟩ => ⟨S1x16x128x8192, .f32⟩
  | .hbm, ⟨72, _⟩ => ⟨S1x8192x16x128, .f32⟩
  | .hbm, ⟨73, _⟩ => ⟨S1x8192x2048, .f32⟩
  | .hbm, ⟨74, _⟩ => ⟨S1x8192x2048, .f32⟩
  | .hbm, ⟨75, _⟩ => ⟨S1x8192x2048, .f32⟩
  | .hbm, ⟨76, _⟩ => ⟨S1x8192x2048, .f32⟩
  | .hbm, ⟨77, _⟩ => ⟨S_, .f32⟩
  | .hbm, ⟨78, _⟩ => ⟨S1x8192x2048, .f32⟩
  | .hbm, ⟨79, _⟩ => ⟨S1x8192x2048, .f32⟩
  | .hbm, ⟨80, _⟩ => ⟨S_, .f32⟩
  | .hbm, ⟨81, _⟩ => ⟨S1x8192x2048, .f32⟩
  | .hbm, ⟨82, _⟩ => ⟨S1x8192x2048, .f32⟩
  | .hbm, ⟨83, _⟩ => ⟨S1x8192x2048, .f32⟩
  | .hbm, ⟨84, _⟩ => ⟨S1x8192x2048, .f32⟩
  | .hbm, ⟨85, _⟩ => ⟨S1x8192x2048, .bf16⟩
  | _, _ => ⟨S1x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call5_v0 : Ref sig .tc := ⟨.hbm, 75, rfl⟩
abbrev main_call5_v1 : Ref sig .tc := ⟨.hbm, 76, rfl⟩
abbrev main_call5_cst : Ref sig .tc := ⟨.hbm, 77, rfl⟩
abbrev main_call5_v2 : Ref sig .tc := ⟨.hbm, 78, rfl⟩
abbrev main_call5_v3 : Ref sig .tc := ⟨.hbm, 79, rfl⟩
abbrev main_call5_cst_0 : Ref sig .tc := ⟨.hbm, 80, rfl⟩
abbrev main_call5_v4 : Ref sig .tc := ⟨.hbm, 81, rfl⟩
abbrev main_call5_v5 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩

abbrev nD : Nat := 1
abbrev τ : Topo := Topo.v7x

variable {F : FTy → Type} [FloatOps F]
-- ==== InEven.lean ====
abbrev S1x8192x4096 : Shape := ⟨3, ![1, 8192, 4096]⟩
abbrev S2x4096 : Shape := ⟨2, ![2, 4096]⟩
abbrev S1x4096x14416 : Shape := ⟨3, ![1, 4096, 14416]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x14416 : Shape := ⟨2, ![4096, 14416]⟩
abbrev S4096x2048 : Shape := ⟨2, ![4096, 2048]⟩
abbrev S4096x512 : Shape := ⟨2, ![4096, 512]⟩
abbrev S4096x1024 : Shape := ⟨2, ![4096, 1024]⟩
abbrev S4096x64 : Shape := ⟨2, ![4096, 64]⟩
abbrev S4096x16 : Shape := ⟨2, ![4096, 16]⟩
abbrev S_ : Shape := ⟨0, ![]⟩
abbrev S4096x48 : Shape := ⟨2, ![4096, 48]⟩
abbrev S4096x5120 : Shape := ⟨2, ![4096, 5120]⟩
abbrev S4096x4096 : Shape := ⟨2, ![4096, 4096]⟩
abbrev S4096x128 : Shape := ⟨2, ![4096, 128]⟩
abbrev S8192x5120 : Shape := ⟨2, ![8192, 5120]⟩
abbrev S1024x4096 : Shape := ⟨2, ![1024, 4096]⟩
abbrev S1024x1024 : Shape := ⟨2, ![1024, 1024]⟩
abbrev S8192x1024 : Shape := ⟨2, ![8192, 1024]⟩
abbrev S8192x128 : Shape := ⟨2, ![8192, 128]⟩
abbrev S1024x128 : Shape := ⟨2, ![1024, 128]⟩
abbrev S1x8192x5120 : Shape := ⟨3, ![1, 8192, 5120]⟩
abbrev S1x8192x1024 : Shape := ⟨3, ![1, 8192, 1024]⟩
abbrev S1x8192x128 : Shape := ⟨3, ![1, 8192, 128]⟩
abbrev S1x8192x64 : Shape := ⟨3, ![1, 8192, 64]⟩
abbrev S1x8192x2x4x128 : Shape := ⟨5, ![1, 8192, 2, 4, 128]⟩
abbrev S1x8192x2x8x256 : Shape := ⟨5, ![1, 8192, 2, 8, 256]⟩

abbrev nBuf : Space → Nat
  | .hbm => 49
  | .vmem => 37
  | .smem => 0
  | _ => 0

abbrev bufTy : (tb : Table) → Fin (tcTables nBuf tb) → BufTy
  | .hbm, ⟨0, _⟩ => ⟨S1x8192x4096, .f32⟩
  | .hbm, ⟨1, _⟩ => ⟨S2x4096, .f32⟩
  | .hbm, ⟨2, _⟩ => ⟨S1x4096x14416, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .bf16⟩
  | .hbm, ⟨8, _⟩ => ⟨S1x8192x4096, .bf16⟩
  | .hbm, ⟨9, _⟩ => ⟨S4096x14416, .f32⟩
  | .hbm, ⟨10, _⟩ => ⟨S4096x2048, .f32⟩
  | .hbm, ⟨11, _⟩ => ⟨S4096x512, .f32⟩
  | .hbm, ⟨12, _⟩ => ⟨S4096x512, .f32⟩
  | .hbm, ⟨13, _⟩ => ⟨S4096x1024, .f32⟩
  | .hbm, ⟨14, _⟩ => ⟨S4096x64, .f32⟩
  | .hbm, ⟨15, _⟩ => ⟨S4096x16, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x48, .f32⟩
  | .hbm, ⟨23, _⟩ => ⟨S4096x5120, .f32⟩
  | .hbm, ⟨24, _⟩ => ⟨S4096x5120, .bf16⟩
  | .hbm, ⟨25, _⟩ => ⟨S4096x1024, .f32⟩
  | .hbm, ⟨26, _⟩ => ⟨S4096x1024, .bf16⟩
  | .hbm, ⟨27, _⟩ => ⟨S4096x4096, .f32⟩
  | .hbm, ⟨28, _⟩ => ⟨S4096x4096, .bf16⟩
  | .hbm, ⟨29, _⟩ => ⟨S4096x128, .f32⟩
  | .hbm, ⟨30, _⟩ => ⟨S4096x128, .bf16⟩
  | .hbm, ⟨31, _⟩ => ⟨S4096x4096, .f32⟩
  | .hbm, ⟨32, _⟩ => ⟨S4096x4096, .bf16⟩
  | .hbm, ⟨33, _⟩ => ⟨S8192x4096, .bf16⟩
  | .hbm, ⟨34, _⟩ => ⟨S8192x5120, .bf16⟩
  | .hbm, ⟨35, _⟩ => ⟨S8192x1024, .f32⟩
  | .hbm, ⟨36, _⟩ => ⟨S8192x1024, .bf16⟩
  | .hbm, ⟨37, _⟩ => ⟨S8192x4096, .f32⟩
  | .hbm, ⟨38, _⟩ => ⟨S8192x4096, .bf16⟩
  | .hbm, ⟨39, _⟩ => ⟨S8192x128, .f32⟩
  | .hbm, ⟨40, _⟩ => ⟨S8192x4096, .f32⟩
  | .hbm, ⟨41, _⟩ => ⟨S1x8192x5120, .bf16⟩
  | .hbm, ⟨42, _⟩ => ⟨S1x8192x1024, .bf16⟩
  | .hbm, ⟨43, _⟩ => ⟨S1x8192x4096, .bf16⟩
  | .hbm, ⟨44, _⟩ => ⟨S1x8192x128, .f32⟩
  | .hbm, ⟨45, _⟩ => ⟨S1x8192x4096, .f32⟩
  | .hbm, ⟨46, _⟩ => ⟨S1x8192x64, .f32⟩
  | .hbm, ⟨47, _⟩ => ⟨S1x8192x2x4x128, .f32⟩
  | .hbm, ⟨48, _⟩ => ⟨S1x8192x2x8x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x4096, .bf16⟩
  | .local _ .vmem, ⟨27, _⟩ => ⟨S1024x4096, .bf16⟩
  | .local _ .vmem, ⟨28, _⟩ => ⟨S4096x128, .bf16⟩
  | .local _ .vmem, ⟨29, _⟩ => ⟨S1024x128, .f32⟩
  | .local _ .vmem, ⟨30, _⟩ => ⟨S1024x128, .f32⟩
  | .local _ .vmem, ⟨31, _⟩ => ⟨S1024x4096, .bf16⟩
  | .local _ .vmem, ⟨32, _⟩ => ⟨S1024x4096, .bf16⟩
  | .local _ .vmem, ⟨33, _⟩ => ⟨S4096x1024, .bf16⟩
  | .local _ .vmem, ⟨34, _⟩ => ⟨S4096x1024, .bf16⟩
  | .local _ .vmem, ⟨35, _⟩ => ⟨S1024x1024, .f32⟩
  | .local _ .vmem, ⟨36, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev main_v32_0 : Ref sig .tc := ⟨.hbm, 37, rfl⟩
abbrev main_v32_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== InEvenIdeal.lean ====
abbrev S1x8192x4096 : Shape := ⟨3, ![1, 8192, 4096]⟩
abbrev S2x4096 : Shape := ⟨2, ![2, 4096]⟩
abbrev S1x4096x14416 : Shape := ⟨3, ![1, 4096, 14416]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x14416 : Shape := ⟨2, ![4096, 14416]⟩
abbrev S4096x2048 : Shape := ⟨2, ![4096, 2048]⟩
abbrev S4096x512 : Shape := ⟨2, ![4096, 512]⟩
abbrev S4096x1024 : Shape := ⟨2, ![4096, 1024]⟩
abbrev S4096x64 : Shape := ⟨2, ![4096, 64]⟩
abbrev S4096x16 : Shape := ⟨2, ![4096, 16]⟩
abbrev S_ : Shape := ⟨0, ![]⟩
abbrev S4096x48 : Shape := ⟨2, ![4096, 48]⟩
abbrev S4096x5120 : Shape := ⟨2, ![4096, 5120]⟩
abbrev S4096x4096 : Shape := ⟨2, ![4096, 4096]⟩
abbrev S4096x128 : Shape := ⟨2, ![4096, 128]⟩
abbrev S8192x5120 : Shape := ⟨2, ![8192, 5120]⟩
abbrev S1024x4096 : Shape := ⟨2, ![1024, 4096]⟩
abbrev S1024x1024 : Shape := ⟨2, ![1024, 1024]⟩
abbrev S8192x1024 : Shape := ⟨2, ![8192, 1024]⟩
abbrev S8192x128 : Shape := ⟨2, ![8192, 128]⟩
abbrev S1024x128 : Shape := ⟨2, ![1024, 128]⟩
abbrev S1x8192x5120 : Shape := ⟨3, ![1, 8192, 5120]⟩
abbrev S1x8192x1024 : Shape := ⟨3, ![1, 8192, 1024]⟩
abbrev S1x8192x128 : Shape := ⟨3, ![1, 8192, 128]⟩
abbrev S1x8192x64 : Shape := ⟨3, ![1, 8192, 64]⟩
abbrev S1x8192x2x4x128 : Shape := ⟨5, ![1, 8192, 2, 4, 128]⟩
abbrev S1x8192x2x8x256 : Shape := ⟨5, ![1, 8192, 2, 8, 256]⟩

abbrev nBuf : Space → Nat
  | .hbm => 49
  | .vmem => 37
  | .smem => 0
  | _ => 0

abbrev bufTy : (tb : Table) → Fin (tcTables nBuf tb) → BufTy
  | .hbm, ⟨0, _⟩ => ⟨S1x8192x4096, .f32⟩
  | .hbm, ⟨1, _⟩ => ⟨S2x4096, .f32⟩
  | .hbm, ⟨2, _⟩ => ⟨S1x4096x14416, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .bf16⟩
  | .hbm, ⟨8, _⟩ => ⟨S1x8192x4096, .bf16⟩
  | .hbm, ⟨9, _⟩ => ⟨S4096x14416, .f32⟩
  | .hbm, ⟨10, _⟩ => ⟨S4096x2048, .f32⟩
  | .hbm, ⟨11, _⟩ => ⟨S4096x512, .f32⟩
  | .hbm, ⟨12, _⟩ => ⟨S4096x512, .f32⟩
  | .hbm, ⟨13, _⟩ => ⟨S4096x1024, .f32⟩
  | .hbm, ⟨14, _⟩ => ⟨S4096x64, .f32⟩
  | .hbm, ⟨15, _⟩ => ⟨S4096x16, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x48, .f32⟩
  | .hbm, ⟨23, _⟩ => ⟨S4096x5120, .f32⟩
  | .hbm, ⟨24, _⟩ => ⟨S4096x5120, .bf16⟩
  | .hbm, ⟨25, _⟩ => ⟨S4096x1024, .f32⟩
  | .hbm, ⟨26, _⟩ => ⟨S4096x1024, .bf16⟩
  | .hbm, ⟨27, _⟩ => ⟨S4096x4096, .f32⟩
  | .hbm, ⟨28, _⟩ => ⟨S4096x4096, .bf16⟩
  | .hbm, ⟨29, _⟩ => ⟨S4096x128, .f32⟩
  | .hbm, ⟨30, _⟩ => ⟨S4096x128, .bf16⟩
  | .hbm, ⟨31, _⟩ => ⟨S4096x4096, .f32⟩
  | .hbm, ⟨32, _⟩ => ⟨S4096x4096, .bf16⟩
  | .hbm, ⟨33, _⟩ => ⟨S8192x4096, .bf16⟩
  | .hbm, ⟨34, _⟩ => ⟨S8192x5120, .bf16⟩
  | .hbm, ⟨35, _⟩ => ⟨S8192x1024, .f32⟩
  | .hbm, ⟨36, _⟩ => ⟨S8192x1024, .bf16⟩
  | .hbm, ⟨37, _⟩ => ⟨S8192x4096, .f32⟩
  | .hbm, ⟨38, _⟩ => ⟨S8192x4096, .bf16⟩
  | .hbm, ⟨39, _⟩ => ⟨S8192x128, .f32⟩
  | .hbm, ⟨40, _⟩ => ⟨S8192x4096, .f32⟩
  | .hbm, ⟨41, _⟩ => ⟨S1x8192x5120, .bf16⟩
  | .hbm, ⟨42, _⟩ => ⟨S1x8192x1024, .bf16⟩
  | .hbm, ⟨43, _⟩ => ⟨S1x8192x4096, .bf16⟩
  | .hbm, ⟨44, _⟩ => ⟨S1x8192x128, .f32⟩
  | .hbm, ⟨45, _⟩ => ⟨S1x8192x4096, .f32⟩
  | .hbm, ⟨46, _⟩ => ⟨S1x8192x64, .f32⟩
  | .hbm, ⟨47, _⟩ => ⟨S1x8192x2x4x128, .f32⟩
  | .hbm, ⟨48, _⟩ => ⟨S1x8192x2x8x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x4096, .bf16⟩
  | .local _ .vmem, ⟨27, _⟩ => ⟨S1024x4096, .bf16⟩
  | .local _ .vmem, ⟨28, _⟩ => ⟨S4096x128, .bf16⟩
  | .local _ .vmem, ⟨29, _⟩ => ⟨S1024x128, .f32⟩
  | .local _ .vmem, ⟨30, _⟩ => ⟨S1024x128, .f32⟩
  | .local _ .vmem, ⟨31, _⟩ => ⟨S1024x4096, .bf16⟩
  | .local _ .vmem, ⟨32, _⟩ => ⟨S1024x4096, .bf16⟩
  | .local _ .vmem, ⟨33, _⟩ => ⟨S4096x1024, .bf16⟩
  | .local _ .vmem, ⟨34, _⟩ => ⟨S4096x1024, .bf16⟩
  | .local _ .vmem, ⟨35, _⟩ => ⟨S1024x1024, .f32⟩
  | .local _ .vmem, ⟨36, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev main_v32_0 : Ref sig .tc := ⟨.hbm, 37, rfl⟩
abbrev main_v32_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== InEvenRefIdeal.lean ====
abbrev S1x8192x4096 : Shape := ⟨3, ![1, 8192, 4096]⟩
abbrev S2x4096 : Shape := ⟨2, ![2, 4096]⟩
abbrev S1x4096x14416 : Shape := ⟨3, ![1, 4096, 14416]⟩
abbrev S_ : Shape := ⟨0, ![]⟩
abbrev S1x8192 : Shape := ⟨2, ![1, 8192]⟩
abbrev S1x8192x1 : Shape := ⟨3, ![1, 8192, 1]⟩
abbrev S1x4096 : Shape := ⟨2, ![1, 4096]⟩
abbrev S4096 : Shape := ⟨1, ![4096]⟩
abbrev S1x1x4096 : Shape := ⟨3, ![1, 1, 4096]⟩
abbrev S4096x14416 : Shape := ⟨2, ![4096, 14416]⟩
abbrev S1x8192x14416 : Shape := ⟨3, ![1, 8192, 14416]⟩
abbrev S1x8192x2048 : Shape := ⟨3, ![1, 8192, 2048]⟩
abbrev S1x8192x512 : Shape := ⟨3, ![1, 8192, 512]⟩
abbrev S1x8192x1024 : Shape := ⟨3, ![1, 8192, 1024]⟩
abbrev S1x8192x64 : Shape := ⟨3, ![1, 8192, 64]⟩
abbrev S1x8192x16 : Shape := ⟨3, ![1, 8192, 16]⟩
abbrev S1x8192x4x128 : Shape := ⟨4, ![1, 8192, 4, 128]⟩
abbrev S1x8192x1x4x128 : Shape := ⟨5, ![1, 8192, 1, 4, 128]⟩
abbrev S1x8192x2x4x128 : Shape := ⟨5, ![1, 8192, 2, 4, 128]⟩
abbrev S1x8192x8x256 : Shape := ⟨4, ![1, 8192, 8, 256]⟩
abbrev S1x8192x1x8x256 : Shape := ⟨5, ![1, 8192, 1, 8, 256]⟩
abbrev S1x8192x2x8x256 : Shape := ⟨5, ![1, 8192, 2, 8, 256]⟩
abbrev S1x8192x48 : Shape := ⟨3, ![1, 8192, 48]⟩
abbrev S1x8192x5120 : Shape := ⟨3, ![1, 8192, 5120]⟩
abbrev S1x8192x128 : Shape := ⟨3, ![1, 8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S2x4096, .f32⟩
  | .hbm, ⟨2, _⟩ => ⟨S1x4096x14416, .f32⟩
  | .hbm, ⟨3, _⟩ => ⟨S1x8192x4096, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x4096, .f32⟩
  | .hbm, ⟨15, _⟩ => ⟨S1x8192x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S1x8192x4096, .f32⟩
  | .hbm, ⟨20, _⟩ => ⟨S1x8192x4096, .f32⟩
  | .hbm, ⟨21, _⟩ => ⟨S4096x14416, .f32⟩
  | .hbm, ⟨22, _⟩ => ⟨S1x8192x14416, .f32⟩
  | .hbm, ⟨23, _⟩ => ⟨S1x8192x2048, .f32⟩
  | .hbm, ⟨24, _⟩ => ⟨S1x8192x512, .f32⟩
  | .hbm, ⟨25, _⟩ => ⟨S1x8192x512, .f32⟩
  | .hbm, ⟨26, _⟩ => ⟨S1x8192x1024, .f32⟩
  | .hbm, ⟨27, _⟩ => ⟨S1x8192x64, .f32⟩
  | .hbm, ⟨28, _⟩ => ⟨S1x8192x16, .f32⟩
  | .hbm, ⟨29, _⟩ => ⟨S1x8192x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x4x128, .f32⟩
  | .hbm, ⟨35, _⟩ => ⟨S1x8192x4x128, .f32⟩
  | .hbm, ⟨36, _⟩ => ⟨S1x8192x1x4x128, .f32⟩
  | .hbm, ⟨37, _⟩ => ⟨S1x8192x1x4x128, .f32⟩
  | .hbm, ⟨38, _⟩ => ⟨S1x8192x2x4x128, .f32⟩
  | .hbm, ⟨39, _⟩ => ⟨S1x8192x8x256, .f32⟩
  | .hbm, ⟨40, _⟩ => ⟨S1x8192x8x256, .f32⟩
  | .hbm, ⟨41, _⟩ => ⟨S1x8192x1x8x256, .f32⟩
  | .hbm, ⟨42, _⟩ => ⟨S1x8192x1x8x256, .f32⟩
  | .hbm, ⟨43, _⟩ => ⟨S1x8192x2x8x256, .f32⟩
  | .hbm, ⟨44, _⟩ => ⟨S_, .f32⟩
  | .hbm, ⟨45, _⟩ => ⟨S1x8192x48, .f32⟩
  | .hbm, ⟨46, _⟩ => ⟨S1x8192x5120, .f32⟩
  | .hbm, ⟨47, _⟩ => ⟨S1x8192x5120, .bf16⟩
  | .hbm, ⟨48, _⟩ => ⟨S1x8192x2x4x128, .bf16⟩
  | .hbm, ⟨49, _⟩ => ⟨S1x8192x1024, .bf16⟩
  | .hbm, ⟨50, _⟩ => ⟨S1x8192x2x8x256, .bf16⟩
  | .hbm, ⟨51, _⟩ => ⟨S1x8192x4096, .bf16⟩
  | .hbm, ⟨52, _⟩ => ⟨S1x8192x128, .f32⟩
  | .hbm, ⟨53, _⟩ => ⟨S1x8192x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== InEvenS.lean ====
abbrev S16x64x4096 : Shape := ⟨3, ![16, 64, 4096]⟩
abbrev S2x4096 : Shape := ⟨2, ![2, 4096]⟩
abbrev S1x4096x14416 : Shape := ⟨3, ![1, 4096, 14416]⟩
abbrev S1024x4096 : Shape := ⟨2, ![1024, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x14416 : Shape := ⟨2, ![4096, 14416]⟩
abbrev S4096x2048 : Shape := ⟨2, ![4096, 2048]⟩
abbrev S4096x512 : Shape := ⟨2, ![4096, 512]⟩
abbrev S4096x1024 : Shape := ⟨2, ![4096, 1024]⟩
abbrev S4096x64 : Shape := ⟨2, ![4096, 64]⟩
abbrev S4096x16 : Shape := ⟨2, ![4096, 16]⟩
abbrev S_ : Shape := ⟨0, ![]⟩
abbrev S4096x48 : Shape := ⟨2, ![4096, 48]⟩
abbrev S4096x5120 : Shape := ⟨2, ![4096, 5120]⟩
abbrev S4096x4096 : Shape := ⟨2, ![4096, 4096]⟩
abbrev S4096x128 : Shape := ⟨2, ![4096, 128]⟩
abbrev S1024x5120 : Shape := ⟨2, ![1024, 5120]⟩
abbrev S1024x1024 : Shape := ⟨2, ![1024, 1024]⟩
abbrev S1024x128 : Shape := ⟨2, ![1024, 128]⟩
abbrev S16x64x5120 : Shape := ⟨3, ![16, 64, 5120]⟩
abbrev S16x64x1024 : Shape := ⟨3, ![16, 64, 1024]⟩
abbrev S16x64x128 : Shape := ⟨3, ![16, 64, 128]⟩
abbrev S16x64x64 : Shape := ⟨3, ![16, 64, 64]⟩
abbrev S16x64x2x4x128 : Shape := ⟨5, ![16, 64, 2, 4, 128]⟩
abbrev S16x64x2x8x256 : Shape := ⟨5, ![16, 64, 2, 8, 256]⟩

abbrev nBuf : Space → Nat
  | .hbm => 49
  | .vmem => 29
  | .smem => 0
  | _ => 0

abbrev bufTy : (tb : Table) → Fin (tcTables nBuf tb) → BufTy
  | .hbm, ⟨0, _⟩ => ⟨S16x64x4096, .f32⟩
  | .hbm, ⟨1, _⟩ => ⟨S2x4096, .f32⟩
  | .hbm, ⟨2, _⟩ => ⟨S1x4096x14416, .f32⟩
  | .hbm, ⟨3, _⟩ => ⟨S1024x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S1024x4096, .bf16⟩
  | .hbm, ⟨8, _⟩ => ⟨S16x64x4096, .bf16⟩
  | .hbm, ⟨9, _⟩ => ⟨S4096x14416, .f32⟩
  | .hbm, ⟨10, _⟩ => ⟨S4096x2048, .f32⟩
  | .hbm, ⟨11, _⟩ => ⟨S4096x512, .f32⟩
  | .hbm, ⟨12, _⟩ => ⟨S4096x512, .f32⟩
  | .hbm, ⟨13, _⟩ => ⟨S4096x1024, .f32⟩
  | .hbm, ⟨14, _⟩ => ⟨S4096x64, .f32⟩
  | .hbm, ⟨15, _⟩ => ⟨S4096x16, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x48, .f32⟩
  | .hbm, ⟨23, _⟩ => ⟨S4096x5120, .f32⟩
  | .hbm, ⟨24, _⟩ => ⟨S4096x5120, .bf16⟩
  | .hbm, ⟨25, _⟩ => ⟨S4096x1024, .f32⟩
  | .hbm, ⟨26, _⟩ => ⟨S4096x1024, .bf16⟩
  | .hbm, ⟨27, _⟩ => ⟨S4096x4096, .f32⟩
  | .hbm, ⟨28, _⟩ => ⟨S4096x4096, .bf16⟩
  | .hbm, ⟨29, _⟩ => ⟨S4096x128, .f32⟩
  | .hbm, ⟨30, _⟩ => ⟨S4096x128, .bf16⟩
  | .hbm, ⟨31, _⟩ => ⟨S4096x4096, .f32⟩
  | .hbm, ⟨32, _⟩ => ⟨S4096x4096, .bf16⟩
  | .hbm, ⟨33, _⟩ => ⟨S1024x4096, .bf16⟩
  | .hbm, ⟨34, _⟩ => ⟨S1024x5120, .bf16⟩
  | .hbm, ⟨35, _⟩ => ⟨S1024x1024, .f32⟩
  | .hbm, ⟨36, _⟩ => ⟨S1024x1024, .bf16⟩
  | .hbm, ⟨37, _⟩ => ⟨S1024x4096, .f32⟩
  | .hbm, ⟨38, _⟩ => ⟨S1024x4096, .bf16⟩
  | .hbm, ⟨39, _⟩ => ⟨S1024x128, .f32⟩
  | .hbm, ⟨40, _⟩ => ⟨S1024x4096, .f32⟩
  | .hbm, ⟨41, _⟩ => ⟨S16x64x5120, .bf16⟩
  | .hbm, ⟨42, _⟩ => ⟨S16x64x1024, .bf16⟩
  | .hbm, ⟨43, _⟩ => ⟨S16x64x4096, .bf16⟩
  | .hbm, ⟨44, _⟩ => ⟨S16x64x128, .f32⟩
  | .hbm, ⟨45, _⟩ => ⟨S16x64x4096, .f32⟩
  | .hbm, ⟨46, _⟩ => ⟨S16x64x64, .f32⟩
  | .hbm, ⟨47, _⟩ => ⟨S16x64x2x4x128, .f32⟩
  | .hbm, ⟨48, _⟩ => ⟨S16x64x2x8x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x4096, .bf16⟩
  | .local _ .vmem, ⟨11, _⟩ => ⟨S4096x1024, .bf16⟩
  | .local _ .vmem, ⟨12, _⟩ => ⟨S1024x1024, .f32⟩
  | .local _ .vmem, ⟨13, _⟩ => ⟨S1024x1024, .bf16⟩
  | .local _ .vmem, ⟨14, _⟩ => ⟨S1024x4096, .bf16⟩
  | .local _ .vmem, ⟨15, _⟩ => ⟨S4096x1024, .bf16⟩
  | .local _ .vmem, ⟨16, _⟩ => ⟨S4096x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x4096, .bf16⟩
  | .local _ .vmem, ⟨22, _⟩ => ⟨S4096x128, .bf16⟩
  | .local _ .vmem, ⟨23, _⟩ => ⟨S1024x128, .f32⟩
  | .local _ .vmem, ⟨24, _⟩ => ⟨S1024x4096, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .f32⟩
  | .local _ .vmem, ⟨28, _⟩ => ⟨S1024x1024, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev main_v32_0 : Ref sig .tc := ⟨.hbm, 37, rfl⟩
abbrev main_v32_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc3_sem0_0 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc4_sem0_0 : DmaSem sig := 21
abbrev cc4_sem1_0 : DmaSem sig := 22
abbrev cc4_sem2_0 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S1024x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== InEvenSRefIdeal.lean ====
abbrev S16x64x4096 : Shape := ⟨3, ![16, 64, 4096]⟩
abbrev S2x4096 : Shape := ⟨2, ![2, 4096]⟩
abbrev S1x4096x14416 : Shape := ⟨3, ![1, 4096, 14416]⟩
abbrev S_ : Shape := ⟨0, ![]⟩
abbrev S16x64 : Shape := ⟨2, ![16, 64]⟩
abbrev S16x64x1 : Shape := ⟨3, ![16, 64, 1]⟩
abbrev S1x4096 : Shape := ⟨2, ![1, 4096]⟩
abbrev S4096 : Shape := ⟨1, ![4096]⟩
abbrev S1x1x4096 : Shape := ⟨3, ![1, 1, 4096]⟩
abbrev S4096x14416 : Shape := ⟨2, ![4096, 14416]⟩
abbrev S16x64x14416 : Shape := ⟨3, ![16, 64, 14416]⟩
abbrev S16x64x2048 : Shape := ⟨3, ![16, 64, 2048]⟩
abbrev S16x64x512 : Shape := ⟨3, ![16, 64, 512]⟩
abbrev S16x64x1024 : Shape := ⟨3, ![16, 64, 1024]⟩
abbrev S16x64x64 : Shape := ⟨3, ![16, 64, 64]⟩
abbrev S16x64x16 : Shape := ⟨3, ![16, 64, 16]⟩
abbrev S16x64x4x128 : Shape := ⟨4, ![16, 64, 4, 128]⟩
abbrev S16x64x1x4x128 : Shape := ⟨5, ![16, 64, 1, 4, 128]⟩
abbrev S16x64x2x4x128 : Shape := ⟨5, ![16, 64, 2, 4, 128]⟩
abbrev S16x64x8x256 : Shape := ⟨4, ![16, 64, 8, 256]⟩
abbrev S16x64x1x8x256 : Shape := ⟨5, ![16, 64, 1, 8, 256]⟩
abbrev S16x64x2x8x256 : Shape := ⟨5, ![16, 64, 2, 8, 256]⟩
abbrev S16x64x48 : Shape := ⟨3, ![16, 64, 48]⟩
abbrev S16x64x5120 : Shape := ⟨3, ![16, 64, 5120]⟩
abbrev S16x64x128 : Shape := ⟨3, ![16, 64, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S2x4096, .f32⟩
  | .hbm, ⟨2, _⟩ => ⟨S1x4096x14416, .f32⟩
  | .hbm, ⟨3, _⟩ => ⟨S16x64x4096, .f32⟩
  | .hbm, ⟨4, _⟩ => ⟨S_, .f32⟩
  | .hbm, ⟨5, _⟩ => ⟨S16x64, .f32⟩
  | .hbm, ⟨6, _⟩ => ⟨S16x64x1, .f32⟩
  | .hbm, ⟨7, _⟩ => ⟨S_, .f32⟩
  | .hbm, ⟨8, _⟩ => ⟨S16x64x1, .f32⟩
  | .hbm, ⟨9, _⟩ => ⟨S16x64x1, .f32⟩
  | .hbm, ⟨10, _⟩ => ⟨S_, .f32⟩
  | .hbm, ⟨11, _⟩ => ⟨S16x64x1, .f32⟩
  | .hbm, ⟨12, _⟩ => ⟨S16x64x1, .f32⟩
  | .hbm, ⟨13, _⟩ => ⟨S16x64x1, .f32⟩
  | .hbm, ⟨14, _⟩ => ⟨S16x64x4096, .f32⟩
  | .hbm, ⟨15, _⟩ => ⟨S16x64x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S16x64x4096, .f32⟩
  | .hbm, ⟨20, _⟩ => ⟨S16x64x4096, .f32⟩
  | .hbm, ⟨21, _⟩ => ⟨S4096x14416, .f32⟩
  | .hbm, ⟨22, _⟩ => ⟨S16x64x14416, .f32⟩
  | .hbm, ⟨23, _⟩ => ⟨S16x64x2048, .f32⟩
  | .hbm, ⟨24, _⟩ => ⟨S16x64x512, .f32⟩
  | .hbm, ⟨25, _⟩ => ⟨S16x64x512, .f32⟩
  | .hbm, ⟨26, _⟩ => ⟨S16x64x1024, .f32⟩
  | .hbm, ⟨27, _⟩ => ⟨S16x64x64, .f32⟩
  | .hbm, ⟨28, _⟩ => ⟨S16x64x16, .f32⟩
  | .hbm, ⟨29, _⟩ => ⟨S16x64x2048, .f32⟩
  | .hbm, ⟨30, _⟩ => ⟨S16x64x2048, .f32⟩
  | .hbm, ⟨31, _⟩ => ⟨S16x64x2048, .f32⟩
  | .hbm, ⟨32, _⟩ => ⟨S16x64x2048, .f32⟩
  | .hbm, ⟨33, _⟩ => ⟨S16x64x2048, .f32⟩
  | .hbm, ⟨34, _⟩ => ⟨S16x64x4x128, .f32⟩
  | .hbm, ⟨35, _⟩ => ⟨S16x64x4x128, .f32⟩
  | .hbm, ⟨36, _⟩ => ⟨S16x64x1x4x128, .f32⟩
  | .hbm, ⟨37, _⟩ => ⟨S16x64x1x4x128, .f32⟩
  | .hbm, ⟨38, _⟩ => ⟨S16x64x2x4x128, .f32⟩
  | .hbm, ⟨39, _⟩ => ⟨S16x64x8x256, .f32⟩
  | .hbm, ⟨40, _⟩ => ⟨S16x64x8x256, .f32⟩
  | .hbm, ⟨41, _⟩ => ⟨S16x64x1x8x256, .f32⟩
  | .hbm, ⟨42, _⟩ => ⟨S16x64x1x8x256, .f32⟩
  | .hbm, ⟨43, _⟩ => ⟨S16x64x2x8x256, .f32⟩
  | .hbm, ⟨44, _⟩ => ⟨S_, .f32⟩
  | .hbm, ⟨45, _⟩ => ⟨S16x64x48, .f32⟩
  | .hbm, ⟨46, _⟩ => ⟨S16x64x5120, .f32⟩
  | .hbm, ⟨47, _⟩ => ⟨S16x64x5120, .bf16⟩
  | .hbm, ⟨48, _⟩ => ⟨S16x64x2x4x128, .bf16⟩
  | .hbm, ⟨49, _⟩ => ⟨S16x64x1024, .bf16⟩
  | .hbm, ⟨50, _⟩ => ⟨S16x64x2x8x256, .bf16⟩
  | .hbm, ⟨51, _⟩ => ⟨S16x64x4096, .bf16⟩
  | .hbm, ⟨52, _⟩ => ⟨S16x64x128, .f32⟩
  | .hbm, ⟨53, _⟩ => ⟨S16x64x4096, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== InOdd.lean ====
abbrev S1x8192x4096 : Shape := ⟨3, ![1, 8192, 4096]⟩
abbrev S2x4096 : Shape := ⟨2, ![2, 4096]⟩
abbrev S1x4096x16384 : Shape := ⟨3, ![1, 4096, 16384]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x16384 : Shape := ⟨2, ![4096, 16384]⟩
abbrev S4096x2048 : Shape := ⟨2, ![4096, 2048]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S1x8192x2x16x128 : Shape := ⟨5, ![1, 8192, 2, 16, 128]⟩
abbrev S1x512x4096 : Shape := ⟨3, ![1, 512, 4096]⟩
abbrev S1x512x2x16x128 : Shape := ⟨5, ![1, 512, 2, 16, 128]⟩

abbrev nBuf : Space → Nat
  | .hbm => 42
  | .vmem => 33
  | .smem => 0
  | _ => 0

abbrev bufTy : (tb : Table) → Fin (tcTables nBuf tb) → BufTy
  | .hbm, ⟨0, _⟩ => ⟨S1x8192x4096, .f32⟩
  | .hbm, ⟨1, _⟩ => ⟨S2x4096, .f32⟩
  | .hbm, ⟨2, _⟩ => ⟨S1x4096x16384, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .bf16⟩
  | .hbm, ⟨8, _⟩ => ⟨S1x8192x4096, .bf16⟩
  | .hbm, ⟨9, _⟩ => ⟨S4096x16384, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4096, .f32⟩
  | .hbm, ⟨19, _⟩ => ⟨S4096x4096, .bf16⟩
  | .hbm, ⟨20, _⟩ => ⟨S4096x4096, .f32⟩
  | .hbm, ⟨21, _⟩ => ⟨S4096x4096, .bf16⟩
  | .hbm, ⟨22, _⟩ => ⟨S4096x4096, .f32⟩
  | .hbm, ⟨23, _⟩ => ⟨S4096x4096, .bf16⟩
  | .hbm, ⟨24, _⟩ => ⟨S4096x4096, .f32⟩
  | .hbm, ⟨25, _⟩ => ⟨S4096x4096, .bf16⟩
  | .hbm, ⟨26, _⟩ => ⟨S8192x4096, .bf16⟩
  | .hbm, ⟨27, _⟩ => ⟨S8192x4096, .bf16⟩
  | .hbm, ⟨28, _⟩ => ⟨S8192x4096, .f32⟩
  | .hbm, ⟨29, _⟩ => ⟨S8192x4096, .bf16⟩
  | .hbm, ⟨30, _⟩ => ⟨S8192x4096, .f32⟩
  | .hbm, ⟨31, _⟩ => ⟨S8192x4096, .bf16⟩
  | .hbm, ⟨32, _⟩ => ⟨S8192x4096, .f32⟩
  | .hbm, ⟨33, _⟩ => ⟨S1x8192x4096, .bf16⟩
  | .hbm, ⟨34, _⟩ => ⟨S1x8192x4096, .bf16⟩
  | .hbm, ⟨35, _⟩ => ⟨S1x8192x4096, .bf16⟩
  | .hbm, ⟨36, _⟩ => ⟨S1x8192x4096, .f32⟩
  | .hbm, ⟨37, _⟩ => ⟨S1x8192x4096, .f32⟩
  | .hbm, ⟨38, _⟩ => ⟨S1x8192x4096, .f32⟩
  | .hbm, ⟨39, _⟩ => ⟨S1x8192x2x16x128, .f32⟩
  | .hbm, ⟨40, _⟩ => ⟨S1x512x4096, .f32⟩
  | .hbm, ⟨41, _⟩ => ⟨S1x512x2x16x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x4096, .bf16⟩
  | .local _ .vmem, ⟨20, _⟩ => ⟨S1024x4096, .bf16⟩
  | .local _ .vmem, ⟨21, _⟩ => ⟨S4096x1024, .bf16⟩
  | .local _ .vmem, ⟨22, _⟩ => ⟨S4096x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x4096, .bf16⟩
  | .local _ .vmem, ⟨28, _⟩ => ⟨S1024x4096, .bf16⟩
  | .local _ .vmem, ⟨29, _⟩ => ⟨S4096x1024, .bf16⟩
  | .local _ .vmem, ⟨30, _⟩ => ⟨S4096x1024, .bf16⟩
  | .local _ .vmem, ⟨31, _⟩ => ⟨S1024x1024, .f32⟩
  | .local _ .vmem, ⟨32, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25_0 : Ref sig .tc := ⟨.hbm, 28, rfl⟩
abbrev main_v25_1 : Ref sig .tc := ⟨.hbm, 29, rfl⟩
abbrev main_v26_0 : Ref sig .tc := ⟨.hbm, 30, rfl⟩
abbrev main_v26_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== InOddRefIdeal.lean ====
abbrev S1x8192x4096 : Shape := ⟨3, ![1, 8192, 4096]⟩
abbrev S2x4096 : Shape := ⟨2, ![2, 4096]⟩
abbrev S1x4096x16384 : Shape := ⟨3, ![1, 4096, 16384]⟩
abbrev S_ : Shape := ⟨0, ![]⟩
abbrev S1x8192 : Shape := ⟨2, ![1, 8192]⟩
abbrev S1x8192x1 : Shape := ⟨3, ![1, 8192, 1]⟩
abbrev S1x4096 : Shape := ⟨2, ![1, 4096]⟩
abbrev S4096 : Shape := ⟨1, ![4096]⟩
abbrev S1x1x4096 : Shape := ⟨3, ![1, 1, 4096]⟩
abbrev S4096x16384 : Shape := ⟨2, ![4096, 16384]⟩
abbrev S1x8192x16384 : Shape := ⟨3, ![1, 8192, 16384]⟩
abbrev S1x8192x2048 : Shape := ⟨3, ![1, 8192, 2048]⟩
abbrev S1x8192x16x128 : Shape := ⟨4, ![1, 8192, 16, 128]⟩
abbrev S1x8192x1x16x128 : Shape := ⟨5, ![1, 8192, 1, 16, 128]⟩
abbrev S1x8192x2x16x128 : Shape := ⟨5, ![1, 8192, 2, 16, 128]⟩
abbrev S1x512x2x16x128 : Shape := ⟨5, ![1, 512, 2, 16, 128]⟩

abbrev nBuf : Space → Nat
  | .hbm => 49
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S2x4096, .f32⟩
  | .hbm, ⟨2, _⟩ => ⟨S1x4096x16384, .f32⟩
  | .hbm, ⟨3, _⟩ => ⟨S1x8192x4096, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x4096, .f32⟩
  | .hbm, ⟨15, _⟩ => ⟨S1x8192x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S1x8192x4096, .f32⟩
  | .hbm, ⟨20, _⟩ => ⟨S1x8192x4096, .f32⟩
  | .hbm, ⟨21, _⟩ => ⟨S4096x16384, .f32⟩
  | .hbm, ⟨22, _⟩ => ⟨S1x8192x16384, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S1x8192x2048, .f32⟩
  | .hbm, ⟨30, _⟩ => ⟨S1x8192x2048, .f32⟩
  | .hbm, ⟨31, _⟩ => ⟨S1x8192x16x128, .f32⟩
  | .hbm, ⟨32, _⟩ => ⟨S1x8192x16x128, .f32⟩
  | .hbm, ⟨33, _⟩ => ⟨S1x8192x1x16x128, .f32⟩
  | .hbm, ⟨34, _⟩ => ⟨S1x8192x1x16x128, .f32⟩
  | .hbm, ⟨35, _⟩ => ⟨S1x8192x2x16x128, .f32⟩
  | .hbm, ⟨36, _⟩ => ⟨S1x8192x16x128, .f32⟩
  | .hbm, ⟨37, _⟩ => ⟨S1x8192x16x128, .f32⟩
  | .hbm, ⟨38, _⟩ => ⟨S1x8192x1x16x128, .f32⟩
  | .hbm, ⟨39, _⟩ => ⟨S1x8192x1x16x128, .f32⟩
  | .hbm, ⟨40, _⟩ => ⟨S1x8192x2x16x128, .f32⟩
  | .hbm, ⟨41, _⟩ => ⟨S1x8192x4096, .f32⟩
  | .hbm, ⟨42, _⟩ => ⟨S1x8192x4096, .bf16⟩
  | .hbm, ⟨43, _⟩ => ⟨S1x8192x2x16x128, .bf16⟩
  | .hbm, ⟨44, _⟩ => ⟨S1x8192x4096, .bf16⟩
  | .hbm, ⟨45, _⟩ => ⟨S1x8192x2x16x128, .bf16⟩
  | .hbm, ⟨46, _⟩ => ⟨S1x8192x4096, .bf16⟩
  | .hbm, ⟨47, _⟩ => ⟨S1x8192x4096, .f32⟩
  | .hbm, ⟨48, _⟩ => ⟨S1x512x2x16x128, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== InOddS.lean ====
abbrev S16x64x4096 : Shape := ⟨3, ![16, 64, 4096]⟩
abbrev S2x4096 : Shape := ⟨2, ![2, 4096]⟩
abbrev S1x4096x16384 : Shape := ⟨3, ![1, 4096, 16384]⟩
abbrev S1x16x512x2x16x128 : Shape := ⟨6, ![1, 16, 512, 2, 16, 128]⟩
abbrev S1024x4096 : Shape := ⟨2, ![1024, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x16384 : Shape := ⟨2, ![4096, 16384]⟩
abbrev S4096x2048 : Shape := ⟨2, ![4096, 2048]⟩
abbrev S4096x4096 : Shape := ⟨2, ![4096, 4096]⟩
abbrev S4096x1024 : Shape := ⟨2, ![4096, 1024]⟩
abbrev S1024x1024 : Shape := ⟨2, ![1024, 1024]⟩
abbrev S16x512x2x16x128 : Shape := ⟨5, ![16, 512, 2, 16, 128]⟩
abbrev S16x64x2x16x128 : Shape := ⟨5, ![16, 64, 2, 16, 128]⟩
abbrev S16x576x2x16x128 : Shape := ⟨5, ![16, 576, 2, 16, 128]⟩

abbrev nBuf : Space → Nat
  | .hbm => 45
  | .vmem => 29
  | .smem => 0
  | _ => 0

abbrev bufTy : (tb : Table) → Fin (tcTables nBuf tb) → BufTy
  | .hbm, ⟨0, _⟩ => ⟨S16x64x4096, .f32⟩
  | .hbm, ⟨1, _⟩ => ⟨S2x4096, .f32⟩
  | .hbm, ⟨2, _⟩ => ⟨S1x4096x16384, .f32⟩
  | .hbm, ⟨3, _⟩ => ⟨S1x16x512x2x16x128, .f32⟩
  | .hbm, ⟨4, _⟩ => ⟨S1024x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S1024x4096, .bf16⟩
  | .hbm, ⟨9, _⟩ => ⟨S16x64x4096, .bf16⟩
  | .hbm, ⟨10, _⟩ => ⟨S4096x16384, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x4096, .f32⟩
  | .hbm, ⟨20, _⟩ => ⟨S4096x4096, .bf16⟩
  | .hbm, ⟨21, _⟩ => ⟨S4096x4096, .f32⟩
  | .hbm, ⟨22, _⟩ => ⟨S4096x4096, .bf16⟩
  | .hbm, ⟨23, _⟩ => ⟨S4096x4096, .f32⟩
  | .hbm, ⟨24, _⟩ => ⟨S4096x4096, .bf16⟩
  | .hbm, ⟨25, _⟩ => ⟨S4096x4096, .f32⟩
  | .hbm, ⟨26, _⟩ => ⟨S4096x4096, .bf16⟩
  | .hbm, ⟨27, _⟩ => ⟨S1024x4096, .bf16⟩
  | .hbm, ⟨28, _⟩ => ⟨S1024x4096, .bf16⟩
  | .hbm, ⟨29, _⟩ => ⟨S1024x4096, .f32⟩
  | .hbm, ⟨30, _⟩ => ⟨S1024x4096, .bf16⟩
  | .hbm, ⟨31, _⟩ => ⟨S1024x4096, .f32⟩
  | .hbm, ⟨32, _⟩ => ⟨S1024x4096, .bf16⟩
  | .hbm, ⟨33, _⟩ => ⟨S1024x4096, .f32⟩
  | .hbm, ⟨34, _⟩ => ⟨S16x64x4096, .bf16⟩
  | .hbm, ⟨35, _⟩ => ⟨S16x64x4096, .bf16⟩
  | .hbm, ⟨36, _⟩ => ⟨S16x64x4096, .bf16⟩
  | .hbm, ⟨37, _⟩ => ⟨S16x64x4096, .f32⟩
  | .hbm, ⟨38, _⟩ => ⟨S16x64x4096, .f32⟩
  | .hbm, ⟨39, _⟩ => ⟨S16x64x4096, .f32⟩
  | .hbm, ⟨40, _⟩ => ⟨S16x512x2x16x128, .f32⟩
  | .hbm, ⟨41, _⟩ => ⟨S16x64x2x16x128, .f32⟩
  | .hbm, ⟨42, _⟩ => ⟨S16x576x2x16x128, .f32⟩
  | .hbm, ⟨43, _⟩ => ⟨S16x64x2x16x128, .f32⟩
  | .hbm, ⟨44, _⟩ => ⟨S16x512x2x16x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x4096, .bf16⟩
  | .local _ .vmem, ⟨11, _⟩ => ⟨S4096x1024, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x4096, .bf16⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x4096, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .f32⟩
  | .local _ .vmem, ⟨28, _⟩ => ⟨S1024x1024, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25_0 : Ref sig .tc := ⟨.hbm, 29, rfl⟩
abbrev main_v25_1 : Ref sig .tc := ⟨.hbm, 30, rfl⟩
abbrev main_v26_0 : Ref sig .tc := ⟨.hbm, 31, rfl⟩
abbrev main_v26_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== InOddSRefIdeal.lean ====
abbrev S16x64x4096 : Shape := ⟨3, ![16, 64, 4096]⟩
abbrev S2x4096 : Shape := ⟨2, ![2, 4096]⟩
abbrev S1x4096x16384 : Shape := ⟨3, ![1, 4096, 16384]⟩
abbrev S1x16x512x2x16x128 : Shape := ⟨6, ![1, 16, 512, 2, 16, 128]⟩
abbrev S_ : Shape := ⟨0, ![]⟩
abbrev S16x64 : Shape := ⟨2, ![16, 64]⟩
abbrev S16x64x1 : Shape := ⟨3, ![16, 64, 1]⟩
abbrev S1x4096 : Shape := ⟨2, ![1, 4096]⟩
abbrev S4096 : Shape := ⟨1, ![4096]⟩
abbrev S1x1x4096 : Shape := ⟨3, ![1, 1, 4096]⟩
abbrev S4096x16384 : Shape := ⟨2, ![4096, 16384]⟩
abbrev S16x64x16384 : Shape := ⟨3, ![16, 64, 16384]⟩
abbrev S16x64x2048 : Shape := ⟨3, ![16, 64, 2048]⟩
abbrev S16x64x16x128 : Shape := ⟨4, ![16, 64, 16, 128]⟩
abbrev S16x64x1x16x128 : Shape := ⟨5, ![16, 64, 1, 16, 128]⟩
abbrev S16x64x2x16x128 : Shape := ⟨5, ![16, 64, 2, 16, 128]⟩
abbrev S16x512x2x16x128 : Shape := ⟨5, ![16, 512, 2, 16, 128]⟩
abbrev S16x576x2x16x128 : Shape := ⟨5, ![16, 576, 2, 16, 128]⟩

abbrev nBuf : Space → Nat
  | .hbm => 52
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S2x4096, .f32⟩
  | .hbm, ⟨2, _⟩ => ⟨S1x4096x16384, .f32⟩
  | .hbm, ⟨3, _⟩ => ⟨S1x16x512x2x16x128, .f32⟩
  | .hbm, ⟨4, _⟩ => ⟨S16x64x4096, .f32⟩
  | .hbm, ⟨5, _⟩ => ⟨S_, .f32⟩
  | .hbm, ⟨6, _⟩ => ⟨S16x64, .f32⟩
  | .hbm, ⟨7, _⟩ => ⟨S16x64x1, .f32⟩
  | .hbm, ⟨8, _⟩ => ⟨S_, .f32⟩
  | .hbm, ⟨9, _⟩ => ⟨S16x64x1, .f32⟩
  | .hbm, ⟨10, _⟩ => ⟨S16x64x1, .f32⟩
  | .hbm, ⟨11, _⟩ => ⟨S_, .f32⟩
  | .hbm, ⟨12, _⟩ => ⟨S16x64x1, .f32⟩
  | .hbm, ⟨13, _⟩ => ⟨S16x64x1, .f32⟩
  | .hbm, ⟨14, _⟩ => ⟨S16x64x1, .f32⟩
  | .hbm, ⟨15, _⟩ => ⟨S16x64x4096, .f32⟩
  | .hbm, ⟨16, _⟩ => ⟨S16x64x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S16x64x4096, .f32⟩
  | .hbm, ⟨21, _⟩ => ⟨S16x64x4096, .f32⟩
  | .hbm, ⟨22, _⟩ => ⟨S4096x16384, .f32⟩
  | .hbm, ⟨23, _⟩ => ⟨S16x64x16384, .f32⟩
  | .hbm, ⟨24, _⟩ => ⟨S16x64x2048, .f32⟩
  | .hbm, ⟨25, _⟩ => ⟨S16x64x2048, .f32⟩
  | .hbm, ⟨26, _⟩ => ⟨S16x64x2048, .f32⟩
  | .hbm, ⟨27, _⟩ => ⟨S16x64x2048, .f32⟩
  | .hbm, ⟨28, _⟩ => ⟨S16x64x2048, .f32⟩
  | .hbm, ⟨29, _⟩ => ⟨S16x64x2048, .f32⟩
  | .hbm, ⟨30, _⟩ => ⟨S16x64x2048, .f32⟩
  | .hbm, ⟨31, _⟩ => ⟨S16x64x2048, .f32⟩
  | .hbm, ⟨32, _⟩ => ⟨S16x64x16x128, .f32⟩
  | .hbm, ⟨33, _⟩ => ⟨S16x64x16x128, .f32⟩
  | .hbm, ⟨34, _⟩ => ⟨S16x64x1x16x128, .f32⟩
  | .hbm, ⟨35, _⟩ => ⟨S16x64x1x16x128, .f32⟩
  | .hbm, ⟨36, _⟩ => ⟨S16x64x2x16x128, .f32⟩
  | .hbm, ⟨37, _⟩ => ⟨S16x64x16x128, .f32⟩
  | .hbm, ⟨38, _⟩ => ⟨S16x64x16x128, .f32⟩
  | .hbm, ⟨39, _⟩ => ⟨S16x64x1x16x128, .f32⟩
  | .hbm, ⟨40, _⟩ => ⟨S16x64x1x16x128, .f32⟩
  | .hbm, ⟨41, _⟩ => ⟨S16x64x2x16x128, .f32⟩
  | .hbm, ⟨42, _⟩ => ⟨S16x64x4096, .f32⟩
  | .hbm, ⟨43, _⟩ => ⟨S16x64x4096, .bf16⟩
  | .hbm, ⟨44, _⟩ => ⟨S16x64x2x16x128, .bf16⟩
  | .hbm, ⟨45, _⟩ => ⟨S16x64x4096, .bf16⟩
  | .hbm, ⟨46, _⟩ => ⟨S16x64x2x16x128, .bf16⟩
  | .hbm, ⟨47, _⟩ => ⟨S16x64x4096, .bf16⟩
  | .hbm, ⟨48, _⟩ => ⟨S16x64x4096, .f32⟩
  | .hbm, ⟨49, _⟩ => ⟨S16x512x2x16x128, .f32⟩
  | .hbm, ⟨50, _⟩ => ⟨S16x576x2x16x128, .f32⟩
  | .hbm, ⟨51, _⟩ => ⟨S16x512x2x16x128, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== Finish.lean ====
abbrev S1x8192x4096 : Shape := ⟨3, ![1, 8192, 4096]⟩
abbrev S1x8192x2048 : Shape := ⟨3, ![1, 8192, 2048]⟩
abbrev S1x4096x4096 : Shape := ⟨3, ![1, 4096, 4096]⟩
abbrev S2x1x8192x256 : Shape := ⟨4, ![2, 1, 8192, 256]⟩
abbrev S2x4096 : Shape := ⟨2, ![2, 4096]⟩
abbrev S2x256x4096 : Shape := ⟨3, ![2, 256, 4096]⟩
abbrev S2x4096x4096 : Shape := ⟨3, ![2, 4096, 4096]⟩
abbrev S8192x4096 : Shape := ⟨2, ![8192, 4096]⟩
abbrev S4096x4096 : Shape := ⟨2, ![4096, 4096]⟩
abbrev S1x4096 : Shape := ⟨2, ![1, 4096]⟩
abbrev S4096 : Shape := ⟨1, ![4096]⟩
abbrev S1x256x4096 : Shape := ⟨3, ![1, 256, 4096]⟩
abbrev S256x4096 : Shape := ⟨2, ![256, 4096]⟩
abbrev S1x1x8192x256 : Shape := ⟨4, ![1, 1, 8192, 256]⟩
abbrev S1x8192x256 : Shape := ⟨3, ![1, 8192, 256]⟩
abbrev S8192x256 : Shape := ⟨2, ![8192, 256]⟩
abbrev S1024x4096 : Shape := ⟨2, ![1024, 4096]⟩
abbrev S4096x1024 : Shape := ⟨2, ![4096, 1024]⟩
abbrev S1024x1024 : Shape := ⟨2, ![1024, 1024]⟩
abbrev S256 : Shape := ⟨1, ![256]⟩
abbrev S256x1 : Shape := ⟨2, ![256, 1]⟩
abbrev S256x256 : Shape := ⟨2, ![256, 256]⟩
abbrev S512x4096 : Shape := ⟨2, ![512, 4096]⟩
abbrev S512x1024 : Shape := ⟨2, ![512, 1024]⟩

abbrev nBuf : Space → Nat
  | .hbm => 36
  | .vmem => 31
  | .smem => 0
  | _ => 0

abbrev bufTy : (tb : Table) → Fin (tcTables nBuf tb) → BufTy
  | .hbm, ⟨0, _⟩ => ⟨S1x8192x4096, .f32⟩
  | .hbm, ⟨1, _⟩ => ⟨S1x8192x2048, .bf16⟩
  | .hbm, ⟨2, _⟩ => ⟨S1x8192x2048, .bf16⟩
  | .hbm, ⟨3, _⟩ => ⟨S1x4096x4096, .f32⟩
  | .hbm, ⟨4, _⟩ => ⟨S2x1x8192x256, .f32⟩
  | .hbm, ⟨5, _⟩ => ⟨S2x4096, .f32⟩
  | .hbm, ⟨6, _⟩ => ⟨S2x256x4096, .f32⟩
  | .hbm, ⟨7, _⟩ => ⟨S2x4096, .f32⟩
  | .hbm, ⟨8, _⟩ => ⟨S2x4096x4096, .f32⟩
  | .hbm, ⟨9, _⟩ => ⟨S1x8192x4096, .bf16⟩
  | .hbm, ⟨10, _⟩ => ⟨S8192x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S4096, .f32⟩
  | .hbm, ⟨15, _⟩ => ⟨S1x256x4096, .f32⟩
  | .hbm, ⟨16, _⟩ => ⟨S256x4096, .f32⟩
  | .hbm, ⟨17, _⟩ => ⟨S256x4096, .bf16⟩
  | .hbm, ⟨18, _⟩ => ⟨S1x4096, .f32⟩
  | .hbm, ⟨19, _⟩ => ⟨S4096, .f32⟩
  | .hbm, ⟨20, _⟩ => ⟨S1x4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S1x1x8192x256, .f32⟩
  | .hbm, ⟨25, _⟩ => ⟨S1x8192x256, .f32⟩
  | .hbm, ⟨26, _⟩ => ⟨S8192x256, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .bf16⟩
  | .hbm, ⟨31, _⟩ => ⟨S8192x256, .bf16⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S1x8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | .local _ .vmem, ⟨15, _⟩ => ⟨S256x256, .bf16⟩
  | .local _ .vmem, ⟨16, _⟩ => ⟨S256x256, .bf16⟩
  | .local _ .vmem, ⟨17, _⟩ => ⟨S256x4096, .bf16⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | .local _ .vmem, ⟨21, _⟩ => ⟨S512x4096, .bf16⟩
  | .local _ .vmem, ⟨22, _⟩ => ⟨S512x4096, .bf16⟩
  | .local _ .vmem, ⟨23, _⟩ => ⟨S4096x1024, .bf16⟩
  | .local _ .vmem, ⟨24, _⟩ => ⟨S4096x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== FinishIdeal.lean ====
abbrev S1x8192x4096 : Shape := ⟨3, ![1, 8192, 4096]⟩
abbrev S1x8192x2048 : Shape := ⟨3, ![1, 8192, 2048]⟩
abbrev S1x4096x4096 : Shape := ⟨3, ![1, 4096, 4096]⟩
abbrev S2x1x8192x256 : Shape := ⟨4, ![2, 1, 8192, 256]⟩
abbrev S2x4096 : Shape := ⟨2, ![2, 4096]⟩
abbrev S2x256x4096 : Shape := ⟨3, ![2, 256, 4096]⟩
abbrev S2x4096x4096 : Shape := ⟨3, ![2, 4096, 4096]⟩
abbrev S8192x4096 : Shape := ⟨2, ![8192, 4096]⟩
abbrev S4096x4096 : Shape := ⟨2, ![4096, 4096]⟩
abbrev S1x4096 : Shape := ⟨2, ![1, 4096]⟩
abbrev S4096 : Shape := ⟨1, ![4096]⟩
abbrev S1x256x4096 : Shape := ⟨3, ![1, 256, 4096]⟩
abbrev S256x4096 : Shape := ⟨2, ![256, 4096]⟩
abbrev S1x1x8192x256 : Shape := ⟨4, ![1, 1, 8192, 256]⟩
abbrev S1x8192x256 : Shape := ⟨3, ![1, 8192, 256]⟩
abbrev S8192x256 : Shape := ⟨2, ![8192, 256]⟩
abbrev S1024x4096 : Shape := ⟨2, ![1024, 4096]⟩
abbrev S4096x1024 : Shape := ⟨2, ![4096, 1024]⟩
abbrev S1024x1024 : Shape := ⟨2, ![1024, 1024]⟩
abbrev S256 : Shape := ⟨1, ![256]⟩
abbrev S256x1 : Shape := ⟨2, ![256, 1]⟩
abbrev S256x256 : Shape := ⟨2, ![256, 256]⟩
abbrev S512x4096 : Shape := ⟨2, ![512, 4096]⟩
abbrev S512x1024 : Shape := ⟨2, ![512, 1024]⟩

abbrev nBuf : Space → Nat
  | .hbm => 36
  | .vmem => 31
  | .smem => 0
  | _ => 0

abbrev bufTy : (tb : Table) → Fin (tcTables nBuf tb) → BufTy
  | .hbm, ⟨0, _⟩ => ⟨S1x8192x4096, .f32⟩
  | .hbm, ⟨1, _⟩ => ⟨S1x8192x2048, .bf16⟩
  | .hbm, ⟨2, _⟩ => ⟨S1x8192x2048, .bf16⟩
  | .hbm, ⟨3, _⟩ => ⟨S1x4096x4096, .f32⟩
  | .hbm, ⟨4, _⟩ => ⟨S2x1x8192x256, .f32⟩
  | .hbm, ⟨5, _⟩ => ⟨S2x4096, .f32⟩
  | .hbm, ⟨6, _⟩ => ⟨S2x256x4096, .f32⟩
  | .hbm, ⟨7, _⟩ => ⟨S2x4096, .f32⟩
  | .hbm, ⟨8, _⟩ => ⟨S2x4096x4096, .f32⟩
  | .hbm, ⟨9, _⟩ => ⟨S1x8192x4096, .bf16⟩
  | .hbm, ⟨10, _⟩ => ⟨S8192x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S4096, .f32⟩
  | .hbm, ⟨15, _⟩ => ⟨S1x256x4096, .f32⟩
  | .hbm, ⟨16, _⟩ => ⟨S256x4096, .f32⟩
  | .hbm, ⟨17, _⟩ => ⟨S256x4096, .bf16⟩
  | .hbm, ⟨18, _⟩ => ⟨S1x4096, .f32⟩
  | .hbm, ⟨19, _⟩ => ⟨S4096, .f32⟩
  | .hbm, ⟨20, _⟩ => ⟨S1x4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S1x1x8192x256, .f32⟩
  | .hbm, ⟨25, _⟩ => ⟨S1x8192x256, .f32⟩
  | .hbm, ⟨26, _⟩ => ⟨S8192x256, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .bf16⟩
  | .hbm, ⟨31, _⟩ => ⟨S8192x256, .bf16⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S1x8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | .local _ .vmem, ⟨15, _⟩ => ⟨S256x256, .bf16⟩
  | .local _ .vmem, ⟨16, _⟩ => ⟨S256x256, .bf16⟩
  | .local _ .vmem, ⟨17, _⟩ => ⟨S256x4096, .bf16⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | .local _ .vmem, ⟨21, _⟩ => ⟨S512x4096, .bf16⟩
  | .local _ .vmem, ⟨22, _⟩ => ⟨S512x4096, .bf16⟩
  | .local _ .vmem, ⟨23, _⟩ => ⟨S4096x1024, .bf16⟩
  | .local _ .vmem, ⟨24, _⟩ => ⟨S4096x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== FinishRefIdeal.lean ====
abbrev S1x8192x4096 : Shape := ⟨3, ![1, 8192, 4096]⟩
abbrev S1x8192x2048 : Shape := ⟨3, ![1, 8192, 2048]⟩
abbrev S1x4096x4096 : Shape := ⟨3, ![1, 4096, 4096]⟩
abbrev S2x1x8192x256 : Shape := ⟨4, ![2, 1, 8192, 256]⟩
abbrev S2x4096 : Shape := ⟨2, ![2, 4096]⟩
abbrev S2x256x4096 : Shape := ⟨3, ![2, 256, 4096]⟩
abbrev S2x4096x4096 : Shape := ⟨3, ![2, 4096, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S1x1x8192x256 : Shape := ⟨4, ![1, 1, 8192, 256]⟩
abbrev S1x8192x256 : Shape := ⟨3, ![1, 8192, 256]⟩
abbrev S1x256x4096 : Shape := ⟨3, ![1, 256, 4096]⟩
abbrev S256x4096 : Shape := ⟨2, ![256, 4096]⟩

abbrev nBuf : Space → Nat
  | .hbm => 68
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x8192x2048, .bf16⟩
  | .hbm, ⟨2, _⟩ => ⟨S1x8192x2048, .bf16⟩
  | .hbm, ⟨3, _⟩ => ⟨S1x4096x4096, .f32⟩
  | .hbm, ⟨4, _⟩ => ⟨S2x1x8192x256, .f32⟩
  | .hbm, ⟨5, _⟩ => ⟨S2x4096, .f32⟩
  | .hbm, ⟨6, _⟩ => ⟨S2x256x4096, .f32⟩
  | .hbm, ⟨7, _⟩ => ⟨S2x4096, .f32⟩
  | .hbm, ⟨8, _⟩ => ⟨S2x4096x4096, .f32⟩
  | .hbm, ⟨9, _⟩ => ⟨S1x8192x4096, .bf16⟩
  | .hbm, ⟨10, _⟩ => ⟨S1x8192x4096, .f32⟩
  | .hbm, ⟨11, _⟩ => ⟨S4096x4096, .f32⟩
  | .hbm, ⟨12, _⟩ => ⟨S1x8192x4096, .f32⟩
  | .hbm, ⟨13, _⟩ => ⟨S1x4096, .f32⟩
  | .hbm, ⟨14, _⟩ => ⟨S4096, .f32⟩
  | .hbm, ⟨15, _⟩ => ⟨S1x8192x4096, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x4096, .f32⟩
  | .hbm, ⟨27, _⟩ => ⟨S1x8192x4096, .f32⟩
  | .hbm, ⟨28, _⟩ => ⟨S1x1x4096, .f32⟩
  | .hbm, ⟨29, _⟩ => ⟨S1x8192x4096, .f32⟩
  | .hbm, ⟨30, _⟩ => ⟨S1x8192x4096, .f32⟩
  | .hbm, ⟨31, _⟩ => ⟨S1x8192x4096, .f32⟩
  | .hbm, ⟨32, _⟩ => ⟨S1x1x8192x256, .f32⟩
  | .hbm, ⟨33, _⟩ => ⟨S1x8192x256, .f32⟩
  | .hbm, ⟨34, _⟩ => ⟨S1x256x4096, .f32⟩
  | .hbm, ⟨35, _⟩ => ⟨S256x4096, .f32⟩
  | .hbm, ⟨36, _⟩ => ⟨S1x8192x4096, .f32⟩
  | .hbm, ⟨37, _⟩ => ⟨S1x4096, .f32⟩
  | .hbm, ⟨38, _⟩ => ⟨S4096, .f32⟩
  | .hbm, ⟨39, _⟩ => ⟨S1x8192x4096, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S1x8192x1, .f32⟩
  | .hbm, ⟨50, _⟩ => ⟨S1x8192x4096, .f32⟩
  | .hbm, ⟨51, _⟩ => ⟨S1x8192x4096, .f32⟩
  | .hbm, ⟨52, _⟩ => ⟨S1x1x4096, .f32⟩
  | .hbm, ⟨53, _⟩ => ⟨S1x8192x4096, .f32⟩
  | .hbm, ⟨54, _⟩ => ⟨S1x8192x4096, .f32⟩
  | .hbm, ⟨55, _⟩ => ⟨S1x4096x4096, .f32⟩
  | .hbm, ⟨56, _⟩ => ⟨S4096x4096, .f32⟩
  | .hbm, ⟨57, _⟩ => ⟨S1x8192x4096, .f32⟩
  | .hbm, ⟨58, _⟩ => ⟨S1x8192x4096, .f32⟩
  | .hbm, ⟨59, _⟩ => ⟨S1x8192x4096, .f32⟩
  | .hbm, ⟨60, _⟩ => ⟨S_, .f32⟩
  | .hbm, ⟨61, _⟩ => ⟨S1x8192x4096, .f32⟩
  | .hbm, ⟨62, _⟩ => ⟨S1x8192x4096, .f32⟩
  | .hbm, ⟨63, _⟩ => ⟨S_, .f32⟩
  | .hbm, ⟨64, _⟩ => ⟨S1x8192x4096, .f32⟩
  | .hbm, ⟨65, _⟩ => ⟨S1x8192x4096, .f32⟩
  | .hbm, ⟨66, _⟩ => ⟨S1x8192x4096, .f32⟩
  | .hbm, ⟨67, _⟩ => ⟨S1x8192x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== FinishS.lean ====
abbrev S16x64x4096 : Shape := ⟨3, ![16, 64, 4096]⟩
abbrev S16x64x2048 : Shape := ⟨3, ![16, 64, 2048]⟩
abbrev S1x4096x4096 : Shape := ⟨3, ![1, 4096, 4096]⟩
abbrev S2x16x64x256 : Shape := ⟨4, ![2, 16, 64, 256]⟩
abbrev S2x4096 : Shape := ⟨2, ![2, 4096]⟩
abbrev S2x256x4096 : Shape := ⟨3, ![2, 256, 4096]⟩
abbrev S2x4096x4096 : Shape := ⟨3, ![2, 4096, 4096]⟩
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩
abbrev S1x256x4096 : Shape := ⟨3, ![1, 256, 4096]⟩
abbrev S256x4096 : Shape := ⟨2, ![256, 4096]⟩
abbrev S1x16x64x256 : Shape := ⟨4, ![1, 16, 64, 256]⟩
abbrev S16x64x256 : Shape := ⟨3, ![16, 64, 256]⟩
abbrev S1024x256 : Shape := ⟨2, ![1024, 256]⟩
abbrev S4096x1024 : Shape := ⟨2, ![4096, 1024]⟩
abbrev S1024x1024 : Shape := ⟨2, ![1024, 1024]⟩
abbrev S256 : Shape := ⟨1, ![256]⟩
abbrev S256x1 : Shape := ⟨2, ![256, 1]⟩
abbrev S256x256 : Shape := ⟨2, ![256, 256]⟩
abbrev S512x4096 : Shape := ⟨2, ![512, 4096]⟩
abbrev S512x1024 : Shape := ⟨2, ![512, 1024]⟩

abbrev nBuf : Space → Nat
  | .hbm => 36
  | .vmem => 30
  | .smem => 0
  | _ => 0

abbrev bufTy : (tb : Table) → Fin (tcTables nBuf tb) → BufTy
  | .hbm, ⟨0, _⟩ => ⟨S16x64x4096, .f32⟩
  | .hbm, ⟨1, _⟩ => ⟨S16x64x2048, .bf16⟩
  | .hbm, ⟨2, _⟩ => ⟨S16x64x2048, .bf16⟩
  | .hbm, ⟨3, _⟩ => ⟨S1x4096x4096, .f32⟩
  | .hbm, ⟨4, _⟩ => ⟨S2x16x64x256, .f32⟩
  | .hbm, ⟨5, _⟩ => ⟨S2x4096, .f32⟩
  | .hbm, ⟨6, _⟩ => ⟨S2x256x4096, .f32⟩
  | .hbm, ⟨7, _⟩ => ⟨S2x4096, .f32⟩
  | .hbm, ⟨8, _⟩ => ⟨S2x4096x4096, .f32⟩
  | .hbm, ⟨9, _⟩ => ⟨S16x64x4096, .bf16⟩
  | .hbm, ⟨10, _⟩ => ⟨S1024x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S4096, .f32⟩
  | .hbm, ⟨15, _⟩ => ⟨S1x256x4096, .f32⟩
  | .hbm, ⟨16, _⟩ => ⟨S256x4096, .f32⟩
  | .hbm, ⟨17, _⟩ => ⟨S256x4096, .bf16⟩
  | .hbm, ⟨18, _⟩ => ⟨S1x4096, .f32⟩
  | .hbm, ⟨19, _⟩ => ⟨S4096, .f32⟩
  | .hbm, ⟨20, _⟩ => ⟨S1x4096x4096, .f32⟩
  | .hbm, ⟨21, _⟩ => ⟨S4096x4096, .f32⟩
  | .hbm, ⟨22, _⟩ => ⟨S4096x4096, .bf16⟩
  | .hbm, ⟨23, _⟩ => ⟨S1024x4096, .f32⟩
  | .hbm, ⟨24, _⟩ => ⟨S1x16x64x256, .f32⟩
  | .hbm, ⟨25, _⟩ => ⟨S16x64x256, .f32⟩
  | .hbm, ⟨26, _⟩ => ⟨S1024x256, .f32⟩
  | .hbm, ⟨27, _⟩ => ⟨S1024x4096, .f32⟩
  | .hbm, ⟨28, _⟩ => ⟨S1x4096, .f32⟩
  | .hbm, ⟨29, _⟩ => ⟨S1024x4096, .f32⟩
  | .hbm, ⟨30, _⟩ => ⟨S1024x4096, .bf16⟩
  | .hbm, ⟨31, _⟩ => ⟨S1024x256, .bf16⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S16x64x4096, .f32⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | .local _ .vmem, ⟨14, _⟩ => ⟨S256x256, .bf16⟩
  | .local _ .vmem, ⟨15, _⟩ => ⟨S256x256, .bf16⟩
  | .local _ .vmem, ⟨16, _⟩ => ⟨S256x4096, .bf16⟩
  | .local _ .vmem, ⟨17, _⟩ => ⟨S1x4096, .f32⟩
  | .local _ .vmem, ⟨18, _⟩ => ⟨S256x4096, .f32⟩
  | .local _ .vmem, ⟨19, _⟩ => ⟨S256x4096, .f32⟩
  | .local _ .vmem, ⟨20, _⟩ => ⟨S512x4096, .bf16⟩
  | .local _ .vmem, ⟨21, _⟩ => ⟨S512x4096, .bf16⟩
  | .local _ .vmem, ⟨22, _⟩ => ⟨S4096x1024, .bf16⟩
  | .local _ .vmem, ⟨23, _⟩ => ⟨S4096x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== FinishSRefIdeal.lean ====
abbrev S16x64x4096 : Shape := ⟨3, ![16, 64, 4096]⟩
abbrev S16x64x2048 : Shape := ⟨3, ![16, 64, 2048]⟩
abbrev S1x4096x4096 : Shape := ⟨3, ![1, 4096, 4096]⟩
abbrev S2x16x64x256 : Shape := ⟨4, ![2, 16, 64, 256]⟩
abbrev S2x4096 : Shape := ⟨2, ![2, 4096]⟩
abbrev S2x256x4096 : Shape := ⟨3, ![2, 256, 4096]⟩
abbrev S2x4096x4096 : Shape := ⟨3, ![2, 4096, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S16x64 : Shape := ⟨2, ![16, 64]⟩
abbrev S16x64x1 : Shape := ⟨3, ![16, 64, 1]⟩
abbrev S1x1x4096 : Shape := ⟨3, ![1, 1, 4096]⟩
abbrev S1x16x64x256 : Shape := ⟨4, ![1, 16, 64, 256]⟩
abbrev S16x64x256 : Shape := ⟨3, ![16, 64, 256]⟩
abbrev S1x256x4096 : Shape := ⟨3, ![1, 256, 4096]⟩
abbrev S256x4096 : Shape := ⟨2, ![256, 4096]⟩

abbrev nBuf : Space → Nat
  | .hbm => 68
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S16x64x2048, .bf16⟩
  | .hbm, ⟨2, _⟩ => ⟨S16x64x2048, .bf16⟩
  | .hbm, ⟨3, _⟩ => ⟨S1x4096x4096, .f32⟩
  | .hbm, ⟨4, _⟩ => ⟨S2x16x64x256, .f32⟩
  | .hbm, ⟨5, _⟩ => ⟨S2x4096, .f32⟩
  | .hbm, ⟨6, _⟩ => ⟨S2x256x4096, .f32⟩
  | .hbm, ⟨7, _⟩ => ⟨S2x4096, .f32⟩
  | .hbm, ⟨8, _⟩ => ⟨S2x4096x4096, .f32⟩
  | .hbm, ⟨9, _⟩ => ⟨S16x64x4096, .bf16⟩
  | .hbm, ⟨10, _⟩ => ⟨S16x64x4096, .f32⟩
  | .hbm, ⟨11, _⟩ => ⟨S4096x4096, .f32⟩
  | .hbm, ⟨12, _⟩ => ⟨S16x64x4096, .f32⟩
  | .hbm, ⟨13, _⟩ => ⟨S1x4096, .f32⟩
  | .hbm, ⟨14, _⟩ => ⟨S4096, .f32⟩
  | .hbm, ⟨15, _⟩ => ⟨S16x64x4096, .f32⟩
  | .hbm, ⟨16, _⟩ => ⟨S_, .f32⟩
  | .hbm, ⟨17, _⟩ => ⟨S16x64, .f32⟩
  | .hbm, ⟨18, _⟩ => ⟨S16x64x1, .f32⟩
  | .hbm, ⟨19, _⟩ => ⟨S_, .f32⟩
  | .hbm, ⟨20, _⟩ => ⟨S16x64x1, .f32⟩
  | .hbm, ⟨21, _⟩ => ⟨S16x64x1, .f32⟩
  | .hbm, ⟨22, _⟩ => ⟨S_, .f32⟩
  | .hbm, ⟨23, _⟩ => ⟨S16x64x1, .f32⟩
  | .hbm, ⟨24, _⟩ => ⟨S16x64x1, .f32⟩
  | .hbm, ⟨25, _⟩ => ⟨S16x64x1, .f32⟩
  | .hbm, ⟨26, _⟩ => ⟨S16x64x4096, .f32⟩
  | .hbm, ⟨27, _⟩ => ⟨S16x64x4096, .f32⟩
  | .hbm, ⟨28, _⟩ => ⟨S1x1x4096, .f32⟩
  | .hbm, ⟨29, _⟩ => ⟨S16x64x4096, .f32⟩
  | .hbm, ⟨30, _⟩ => ⟨S16x64x4096, .f32⟩
  | .hbm, ⟨31, _⟩ => ⟨S16x64x4096, .f32⟩
  | .hbm, ⟨32, _⟩ => ⟨S1x16x64x256, .f32⟩
  | .hbm, ⟨33, _⟩ => ⟨S16x64x256, .f32⟩
  | .hbm, ⟨34, _⟩ => ⟨S1x256x4096, .f32⟩
  | .hbm, ⟨35, _⟩ => ⟨S256x4096, .f32⟩
  | .hbm, ⟨36, _⟩ => ⟨S16x64x4096, .f32⟩
  | .hbm, ⟨37, _⟩ => ⟨S1x4096, .f32⟩
  | .hbm, ⟨38, _⟩ => ⟨S4096, .f32⟩
  | .hbm, ⟨39, _⟩ => ⟨S16x64x4096, .f32⟩
  | .hbm, ⟨40, _⟩ => ⟨S_, .f32⟩
  | .hbm, ⟨41, _⟩ => ⟨S16x64, .f32⟩
  | .hbm, ⟨42, _⟩ => ⟨S16x64x1, .f32⟩
  | .hbm, ⟨43, _⟩ => ⟨S_, .f32⟩
  | .hbm, ⟨44, _⟩ => ⟨S16x64x1, .f32⟩
  | .hbm, ⟨45, _⟩ => ⟨S16x64x1, .f32⟩
  | .hbm, ⟨46, _⟩ => ⟨S_, .f32⟩
  | .hbm, ⟨47, _⟩ => ⟨S16x64x1, .f32⟩
  | .hbm, ⟨48, _⟩ => ⟨S16x64x1, .f32⟩
  | .hbm, ⟨49, _⟩ => ⟨S16x64x1, .f32⟩
  | .hbm, ⟨50, _⟩ => ⟨S16x64x4096, .f32⟩
  | .hbm, ⟨51, _⟩ => ⟨S16x64x4096, .f32⟩
  | .hbm, ⟨52, _⟩ => ⟨S1x1x4096, .f32⟩
  | .hbm, ⟨53, _⟩ => ⟨S16x64x4096, .f32⟩
  | .hbm, ⟨54, _⟩ => ⟨S16x64x4096, .f32⟩
  | .hbm, ⟨55, _⟩ => ⟨S1x4096x4096, .f32⟩
  | .hbm, ⟨56, _⟩ => ⟨S4096x4096, .f32⟩
  | .hbm, ⟨57, _⟩ => ⟨S16x64x4096, .f32⟩
  | .hbm, ⟨58, _⟩ => ⟨S16x64x4096, .f32⟩
  | .hbm, ⟨59, _⟩ => ⟨S16x64x4096, .f32⟩
  | .hbm, ⟨60, _⟩ => ⟨S_, .f32⟩
  | .hbm, ⟨61, _⟩ => ⟨S16x64x4096, .f32⟩
  | .hbm, ⟨62, _⟩ => ⟨S16x64x4096, .f32⟩
  | .hbm, ⟨63, _⟩ => ⟨S_, .f32⟩
  | .hbm, ⟨64, _⟩ => ⟨S16x64x4096, .f32⟩
  | .hbm, ⟨65, _⟩ => ⟨S16x64x4096, .f32⟩
  | .hbm, ⟨66, _⟩ => ⟨S16x64x4096, .f32⟩
  | .hbm, ⟨67, _⟩ => ⟨S16x64x4096, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Diff.lean ====
abbrev S1x8192x5120 : Shape := ⟨3, ![1, 8192, 5120]⟩
abbrev S1x8192x4096 : Shape := ⟨3, ![1, 8192, 4096]⟩
abbrev S3x8x256x256 : Shape := ⟨4, ![3, 8, 256, 256]⟩
abbrev S1x4x128 : Shape := ⟨3, ![1, 4, 128]⟩
abbrev S1x256 : Shape := ⟨2, ![1, 256]⟩
abbrev S4x128 : Shape := ⟨2, ![4, 128]⟩
abbrev S256 : Shape := ⟨1, ![256]⟩
abbrev S1x8192x2048 : Shape := ⟨3, ![1, 8192, 2048]⟩
abbrev S1x256x256 : Shape := ⟨3, ![1, 256, 256]⟩
abbrev S1x8192x256 : Shape := ⟨3, ![1, 8192, 256]⟩
abbrev S3x1x256x256 : Shape := ⟨4, ![3, 1, 256, 256]⟩
abbrev S2x256x128 : Shape := ⟨3, ![2, 256, 128]⟩
abbrev S2x256x256 : Shape := ⟨3, ![2, 256, 256]⟩
abbrev S256x256 : Shape := ⟨2, ![256, 256]⟩
abbrev S1x1x256x256 : Shape := ⟨4, ![1, 1, 256, 256]⟩
abbrev S1x256x128 : Shape := ⟨3, ![1, 256, 128]⟩
abbrev S256x128 : Shape := ⟨2, ![256, 128]⟩
abbrev S256x1 : Shape := ⟨2, ![256, 1]⟩
abbrev S1x128 : Shape := ⟨2, ![1, 128]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S1x8192x5120, .bf16⟩
  | .hbm, ⟨1, _⟩ => ⟨S1x8192x4096, .bf16⟩
  | .hbm, ⟨2, _⟩ => ⟨S1x8192x4096, .f32⟩
  | .hbm, ⟨3, _⟩ => ⟨S3x8x256x256, .f32⟩
  | .hbm, ⟨4, _⟩ => ⟨S1x4x128, .f32⟩
  | .hbm, ⟨5, _⟩ => ⟨S1x256, .f32⟩
  | .hbm, ⟨6, _⟩ => ⟨S4x128, .f32⟩
  | .hbm, ⟨7, _⟩ => ⟨S256, .f32⟩
  | .hbm, ⟨8, _⟩ => ⟨S1x256, .f32⟩
  | .hbm, ⟨9, _⟩ => ⟨S1x8192x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x256x256, .f32⟩
  | .local _ .vmem, ⟨7, _⟩ => ⟨S1x256x256, .f32⟩
  | .local _ .vmem, ⟨8, _⟩ => ⟨S3x1x256x256, .f32⟩
  | .local _ .vmem, ⟨9, _⟩ => ⟨S3x1x256x256, .f32⟩
  | .local _ .vmem, ⟨10, _⟩ => ⟨S4x128, .f32⟩
  | .local _ .vmem, ⟨11, _⟩ => ⟨S1x256, .f32⟩
  | .local _ .vmem, ⟨12, _⟩ => ⟨S1x256x256, .bf16⟩
  | .local _ .vmem, ⟨13, _⟩ => ⟨S1x256x256, .bf16⟩
  | .local _ .vmem, ⟨14, _⟩ => ⟨S2x256x128, .f32⟩
  | .local _ .vmem, ⟨15, _⟩ => ⟨S2x256x128, .f32⟩
  | .local _ .vmem, ⟨16, _⟩ => ⟨S2x256x256, .f32⟩
  | _, _ => ⟨S1x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![1, 8, 32], ![false, false, false]⟩

@[reducible] def k0_t1_loop (i : grid0.Coords) : Scf.Loop 32 :=
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_14 : BitVec 32 := 1#32
  ⟨c0_i32_12, v26, c1_i32_14⟩
def k0_mult1 (i : grid0.Coords) (k0_t1 : Fin (k0_t1_loop i).trips) : BitVec 32 :=
  let c0_i32_12 : BitVec 32 := 0#32
  let c1_i32_14 : BitVec 32 := 1#32
  let arg14 : BitVec 32 := Scf.iv c0_i32_12 c1_i32_14 k0_t1
  let c256_i32_116 : BitVec 32 := 256#32
  let v198 : BitVec 32 := Scalar.muli arg14 c256_i32_116
  v198
def k0_off1 (i : grid0.Coords) (k0_t1 : Fin (k0_t1_loop i).trips) : Fin 4 → Nat :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c0_i32_12 : BitVec 32 := 0#32
  let c1_i32_14 : BitVec 32 := 1#32
  let arg14 : BitVec 32 := Scf.iv c0_i32_12 c1_i32_14 k0_t1
  let v200 : BitVec 32 := Scalar.subi v3 arg14
  let c2_i32_117 : BitVec 32 := 2#32
  let v201 : BitVec 32 := Scalar.minsi v200 c2_i32_117
  let v202 : Index := Scalar.indexCast v201
  let c0_118 : Index := 0#32
  let c0_119 : Index := 0#32
  let c0_120 : Index := 0#32
  ![v202.toNat, 0, 0, 0]
def k0_off2 (i : grid0.Coords) (k0_t1 : Fin (k0_t1_loop i).trips) : Fin 3 → Nat :=
  let c0_121 : Index := 0#32
  let c0_i32_12 : BitVec 32 := 0#32
  let c1_i32_14 : BitVec 32 := 1#32
  let arg14 : BitVec 32 := Scf.iv c0_i32_12 c1_i32_14 k0_t1
  let c256_i32_116 : BitVec 32 := 256#32
  let v198 : BitVec 32 := Scalar.muli arg14 c256_i32_116
  let v199 : BitVec 32 := v198
  let v205 : Index := Scalar.indexCast v199
  let c0_122 : Index := 0#32
  ![0, v205.toNat, 0]
def k0_off3 (i : grid0.Coords) (k0_t1 : Fin (k0_t1_loop i).trips) : Fin 3 → Nat :=
  let c0_123 : Index := 0#32
  let c0_i32_12 : BitVec 32 := 0#32
  let c1_i32_14 : BitVec 32 := 1#32
  let arg14 : BitVec 32 := Scf.iv c0_i32_12 c1_i32_14 k0_t1
  let c256_i32_116 : BitVec 32 := 256#32
  let v198 : BitVec 32 := Scalar.muli arg14 c256_i32_116
  let v199 : BitVec 32 := v198
  let v208 : Index := Scalar.indexCast v199
  let c0_124 : Index := 0#32
  ![0, v208.toNat, 0]
def k0_off4 (i : grid0.Coords) (k0_t1 : Fin (k0_t1_loop i).trips) : Fin 3 → Nat :=
  let c0_151 : Index := 0#32
  let c0_i32_12 : BitVec 32 := 0#32
  let c1_i32_14 : BitVec 32 := 1#32
  let arg14 : BitVec 32 := Scf.iv c0_i32_12 c1_i32_14 k0_t1
  let c256_i32_116 : BitVec 32 := 256#32
  let v198 : BitVec 32 := Scalar.muli arg14 c256_i32_116
  let v199 : BitVec 32 := v198
  let v251 : Index := Scalar.indexCast v199
  let c128_152 : Index := 128#32
  ![0, v251.toNat, 128]
@[reducible] def k0_t2_loop (i : grid0.Coords) : Scf.Loop 32 :=
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let v23 : BitVec 32 := Scalar.addi c0_i32_12 v22
  let c1_i32_15 : BitVec 32 := 1#32
  ⟨v26, v23, c1_i32_15⟩
def k0_mult2 (i : grid0.Coords) (k0_t2 : Fin (k0_t2_loop i).trips) : BitVec 32 :=
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_15 : BitVec 32 := 1#32
  let arg14 : BitVec 32 := Scf.iv v26 c1_i32_15 k0_t2
  let c256_i32_116 : BitVec 32 := 256#32
  let v198 : BitVec 32 := Scalar.muli arg14 c256_i32_116
  v198
def k0_off5 (i : grid0.Coords) (k0_t2 : Fin (k0_t2_loop i).trips) : Fin 4 → Nat :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c0_i32_12 : BitVec 32 := 0#32
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_15 : BitVec 32 := 1#32
  let arg14 : BitVec 32 := Scf.iv v26 c1_i32_15 k0_t2
  let v200 : BitVec 32 := Scalar.subi v3 arg14
  let c2_i32_117 : BitVec 32 := 2#32
  let v201 : BitVec 32 := Scalar.minsi v200 c2_i32_117
  let v202 : Index := Scalar.indexCast v201
  let c0_118 : Index := 0#32
  let c0_119 : Index := 0#32
  let c0_120 : Index := 0#32
  ![v202.toNat, 0, 0, 0]
def k0_off6 (i : grid0.Coords) (k0_t2 : Fin (k0_t2_loop i).trips) : Fin 3 → Nat :=
  let c0_121 : Index := 0#32
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_15 : BitVec 32 := 1#32
  let arg14 : BitVec 32 := Scf.iv v26 c1_i32_15 k0_t2
  let c256_i32_116 : BitVec 32 := 256#32
  let v198 : BitVec 32 := Scalar.muli arg14 c256_i32_116
  let v199 : BitVec 32 := v198
  let v205 : Index := Scalar.indexCast v199
  let c0_122 : Index := 0#32
  ![0, v205.toNat, 0]
def k0_off7 (i : grid0.Coords) (k0_t2 : Fin (k0_t2_loop i).trips) : Fin 3 → Nat :=
  let c0_123 : Index := 0#32
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_15 : BitVec 32 := 1#32
  let arg14 : BitVec 32 := Scf.iv v26 c1_i32_15 k0_t2
  let c256_i32_116 : BitVec 32 := 256#32
  let v198 : BitVec 32 := Scalar.muli arg14 c256_i32_116
  let v199 : BitVec 32 := v198
  let v208 : Index := Scalar.indexCast v199
  let c0_124 : Index := 0#32
  ![0, v208.toNat, 0]
def k0_off8 (i : grid0.Coords) (k0_t2 : Fin (k0_t2_loop i).trips) : Fin 3 → Nat :=
  let c0_151 : Index := 0#32
  let c0_i32_12 : BitVec 32 := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v22 : BitVec 32 := Scalar.subi v3 c0_i32_12
  let c1_i32_13 : BitVec 32 := 1#32
  let v24 : BitVec 32 := Scalar.divsi v22 c1_i32_13
  let v25 : BitVec 32 := Scalar.muli v24 c1_i32_13
  let v26 : BitVec 32 := Scalar.addi c0_i32_12 v25
  let c1_i32_15 : BitVec 32 := 1#32
  let arg14 : BitVec 32 := Scf.iv v26 c1_i32_15 k0_t2
  let c256_i32_116 : BitVec 32 := 256#32
  let v198 : BitVec 32 := Scalar.muli arg14 c256_i32_116
  let v199 : BitVec 32 := v198
  let v251 : Index := Scalar.indexCast v199
  let c128_152 : Index := 128#32
  ![0, v251.toNat, 128]
def k0_mult3 (i : grid0.Coords) : BitVec 32 :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_16 : BitVec 32 := 256#32
  let v27 : BitVec 32 := Scalar.muli v3 c256_i32_16
  v27
def k0_off9 (i : grid0.Coords) : Fin 4 → Nat :=
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let v29 : BitVec 32 := Scalar.subi v3 v3
  let c2_i32 : BitVec 32 := 2#32
  let v30 : BitVec 32 := Scalar.minsi v29 c2_i32
  let v31 : Index := Scalar.indexCast v30
  let c0_17 : Index := 0#32
  let c0_18 : Index := 0#32
  let c0_19 : Index := 0#32
  ![v31.toNat, 0, 0, 0]
def k0_off10 (i : grid0.Coords) : Fin 3 → Nat :=
  let c0_24 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_16 : BitVec 32 := 256#32
  let v27 : BitVec 32 := Scalar.muli v3 c256_i32_16
  let v28 : BitVec 32 := v27
  let v44 : Index := Scalar.indexCast v28
  let c0_25 : Index := 0#32
  ![0, v44.toNat, 0]
def k0_off11 (i : grid0.Coords) : Fin 3 → Nat :=
  let c0_26 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_16 : BitVec 32 := 256#32
  let v27 : BitVec 32 := Scalar.muli v3 c256_i32_16
  let v28 : BitVec 32 := v27
  let v47 : Index := Scalar.indexCast v28
  let c0_27 : Index := 0#32
  ![0, v47.toNat, 0]
def k0_off12 (i : grid0.Coords) : Fin 3 → Nat :=
  let c0_54 : Index := 0#32
  let c0_i32_0 : BitVec 32 := 0#32
  let arg2 : BitVec 32 := BitVec.ofNat 32 (i 2).val
  let c1_i32 : BitVec 32 := 1#32
  let v2 : BitVec 32 := Scalar.muli arg2 c1_i32
  let v3 : BitVec 32 := Scalar.addi c0_i32_0 v2
  let c256_i32_16 : BitVec 32 := 256#32
  let v27 : BitVec 32 := Scalar.muli v3 c256_i32_16
  let v28 : BitVec 32 := v27
  let v90 : Index := Scalar.indexCast v28
  let c128 : Index := 128#32
  ![0, v90.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S1x8192x5120 : Shape := ⟨3, ![1, 8192, 5120]⟩
abbrev S1x8192x4096 : Shape := ⟨3, ![1, 8192, 4096]⟩
abbrev S3x8x256x256 : Shape := ⟨4, ![3, 8, 256, 256]⟩
abbrev S1x4x128 : Shape := ⟨3, ![1, 4, 128]⟩
abbrev S1x256 : Shape := ⟨2, ![1, 256]⟩
abbrev S1x8192x2048 : Shape := ⟨3, ![1, 8192, 2048]⟩
abbrev S1x8192x8x2x128 : Shape := ⟨5, ![1, 8192, 8, 2, 128]⟩
abbrev S1x8192x8x256 : Shape := ⟨4, ![1, 8192, 8, 256]⟩
abbrev S8192 : Shape := ⟨1, ![8192]⟩
abbrev S1x8x2x8192x8192 : Shape := ⟨5, ![1, 8, 2, 8192, 8192]⟩
abbrev S_ : Shape := ⟨0, ![]⟩
abbrev S1x8x256x256 : Shape := ⟨4, ![1, 8, 256, 256]⟩
abbrev S8x256x256 : Shape := ⟨3, ![8, 256, 256]⟩
abbrev S8x1x256x1x256 : Shape := ⟨5, ![8, 1, 256, 1, 256]⟩
abbrev S8x32x256x32x256 : Shape := ⟨5, ![8, 32, 256, 32, 256]⟩
abbrev S8x8192x8192 : Shape := ⟨3, ![8, 8192, 8192]⟩
abbrev S8192x1 : Shape := ⟨2, ![8192, 1]⟩
abbrev S1x8192 : Shape := ⟨2, ![1, 8192]⟩
abbrev S8192x8192 : Shape := ⟨2, ![8192, 8192]⟩
abbrev S1x8x1x8192x8192 : Shape := ⟨5, ![1, 8, 1, 8192, 8192]⟩
abbrev S1x8x2x8192 : Shape := ⟨4, ![1, 8, 2, 8192]⟩
abbrev S1x8x2x8192x1 : Shape := ⟨5, ![1, 8, 2, 8192, 1]⟩
abbrev S4x128 : Shape := ⟨2, ![4, 128]⟩
abbrev S1x128 : Shape := ⟨2, ![1, 128]⟩
abbrev S128 : Shape := ⟨1, ![128]⟩
abbrev S1x8x8192x8192 : Shape := ⟨4, ![1, 8, 8192, 8192]⟩
abbrev S1x8x256x8192 : Shape := ⟨4, ![1, 8, 256, 8192]⟩
abbrev S1x8192x8 : Shape := ⟨3, ![1, 8192, 8]⟩
abbrev S1x8192x8x1 : Shape := ⟨4, ![1, 8192, 8, 1]⟩
abbrev S256 : Shape := ⟨1, ![256]⟩
abbrev S1x1x1x256 : Shape := ⟨4, ![1, 1, 1, 256]⟩

abbrev nBuf : Space → Nat
  | .hbm => 151
  | .vmem => 0
  | .smem => 0
  | _ => 0

abbrev hbmTy0_0 (i : Nat) : BufTy := match i % 128 with
  | 0 => ⟨S1x8192x5120, .bf16⟩
  | 1 => ⟨S1x8192x4096, .bf16⟩
  | 2 => ⟨S1x8192x4096, .f32⟩
  | 3 => ⟨S3x8x256x256, .f32⟩
  | 4 => ⟨S1x4x128, .f32⟩
  | 5 => ⟨S1x256, .f32⟩
  | 6 => ⟨S1x8192x2048, .bf16⟩
  | 7 => ⟨S1x8192x2048, .f32⟩
  | 8 => ⟨S1x8192x8x2x128, .f32⟩
  | 9 => ⟨S1x8192x2048, .bf16⟩
  | 10 => ⟨S1x8192x2048, .f32⟩
  | 11 => ⟨S1x8192x8x2x128, .f32⟩
  | 12 => ⟨S1x8192x2048, .bf16⟩
  | 13 => ⟨S1x8192x2048, .f32⟩
  | 14 => ⟨S1x8192x8x256, .f32⟩
  | 15 => ⟨S8192, .i32⟩
  | 16 => ⟨S1x8x2x8192x8192, .f32⟩
  | 17 => ⟨S_, .f32⟩
  | 18 => ⟨S1x8x2x8192x8192, .f32⟩
  | 19 => ⟨S1x8x2x8192x8192, .f32⟩
  | 20 => ⟨S1x8x256x256, .f32⟩
  | 21 => ⟨S8x256x256, .f32⟩
  | 22 => ⟨S8x1x256x1x256, .f32⟩
  | 23 => ⟨S8x32x256x32x256, .f32⟩
  | 24 => ⟨S8x8192x8192, .f32⟩
  | 25 => ⟨S1x8x256x256, .f32⟩
  | 26 => ⟨S8x256x256, .f32⟩
  | 27 => ⟨S8x1x256x1x256, .f32⟩
  | 28 => ⟨S8x32x256x32x256, .f32⟩
  | 29 => ⟨S8x8192x8192, .f32⟩
  | 30 => ⟨S1x8x256x256, .f32⟩
  | 31 => ⟨S8x256x256, .f32⟩
  | 32 => ⟨S8x1x256x1x256, .f32⟩
  | 33 => ⟨S8x32x256x32x256, .f32⟩
  | 34 => ⟨S8x8192x8192, .f32⟩
  | 35 => ⟨S8192x1, .i32⟩
  | 36 => ⟨S_, .i32⟩
  | 37 => ⟨S8192x1, .i32⟩
  | 38 => ⟨S8192x1, .i32⟩
  | 39 => ⟨S1x8192, .i32⟩
  | 40 => ⟨S_, .i32⟩
  | 41 => ⟨S1x8192, .i32⟩
  | 42 => ⟨S1x8192, .i32⟩
  | 43 => ⟨S8192x8192, .i32⟩
  | 44 => ⟨S8192x8192, .i32⟩
  | 45 => ⟨S8192x8192, .i32⟩
  | 46 => ⟨S_, .i32⟩
  | 47 => ⟨S8192x8192, .i32⟩
  | 48 => ⟨S8192x8192, .i1⟩
  | 49 => ⟨S_, .i32⟩
  | 50 => ⟨S8192x8192, .i32⟩
  | 51 => ⟨S8192x8192, .i1⟩
  | 52 => ⟨S8x8192x8192, .i1⟩
  | 53 => ⟨S8x8192x8192, .f32⟩
  | 54 => ⟨S8x8192x8192, .i1⟩
  | 55 => ⟨S8x8192x8192, .f32⟩
  | 56 => ⟨S1x8x1x8192x8192, .f32⟩
  | 57 => ⟨S1x8192, .i32⟩
  | 58 => ⟨S_, .i32⟩
  | 59 => ⟨S1x8192, .i32⟩
  | 60 => ⟨S1x8192, .i32⟩
  | 61 => ⟨S8192x1, .i32⟩
  | 62 => ⟨S_, .i32⟩
  | 63 => ⟨S8192x1, .i32⟩
  | 64 => ⟨S8192x1, .i32⟩
  | 65 => ⟨S8192x8192, .i32⟩
  | 66 => ⟨S8192x8192, .i32⟩
  | 67 => ⟨S8192x8192, .i1⟩
  | 68 => ⟨S1x8x2x8192x8192, .f32⟩
  | 69 => ⟨S1x8x2x8192x8192, .f32⟩
  | 70 => ⟨S_, .f32⟩
  | 71 => ⟨S_, .f32⟩
  | 72 => ⟨S1x8x2x8192x8192, .i1⟩
  | 73 => ⟨S1x8x2x8192x8192, .f32⟩
  | 74 => ⟨S1x8x2x8192x8192, .f32⟩
  | 75 => ⟨S_, .f32⟩
  | 76 => ⟨S1x8x2x8192, .f32⟩
  | 77 => ⟨S_, .f32⟩
  | 78 => ⟨S1x8x2x8192, .f32⟩
  | 79 => ⟨S1x8x2x8192, .f32⟩
  | 80 => ⟨S1x8x2x8192x1, .f32⟩
  | 81 => ⟨S1x8x2x8192x8192, .f32⟩
  | 82 => ⟨S1x8x2x8192x8192, .f32⟩
  | 83 => ⟨S1x8x2x8192x8192, .f32⟩
  | 84 => ⟨S_, .f32⟩
  | 85 => ⟨S1x8x2x8192, .f32⟩
  | 86 => ⟨S1x8x2x8192x1, .f32⟩
  | 87 => ⟨S1x8x2x8192x8192, .f32⟩
  | 88 => ⟨S1x8x2x8192x8192, .f32⟩
  | 89 => ⟨S4x128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S128, .f32⟩
  | 99 => ⟨S_, .f32⟩
  | 100 => ⟨S_, .f32⟩
  | 101 => ⟨S_, .f32⟩
  | 102 => ⟨S128, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S1x8x1x8192x8192, .f32⟩
  | 110 => ⟨S1x8x8192x8192, .f32⟩
  | 111 => ⟨S1x8x1x8192x8192, .f32⟩
  | 112 => ⟨S1x8x8192x8192, .f32⟩
  | 113 => ⟨S1x8x8192x8192, .f32⟩
  | 114 => ⟨S1x8x8192x8192, .f32⟩
  | 115 => ⟨S1x8x8192x8192, .f32⟩
  | 116 => ⟨S1x8x256x8192, .f32⟩
  | 117 => ⟨S1x8192x8x256, .f32⟩
  | 118 => ⟨S1x8192x8x256, .f32⟩
  | 119 => ⟨S_, .f32⟩
  | 120 => ⟨S1x8192x8, .f32⟩
  | 121 => ⟨S1x8192x8x1, .f32⟩
  | 122 => ⟨S_, .f32⟩
  | 123 => ⟨S1x8192x8x1, .f32⟩
  | 124 => ⟨S1x8192x8x1, .f32⟩
  | 125 => ⟨S_, .f32⟩
  | 126 => ⟨S1x8192x8x1, .f32⟩
  | 127 => ⟨S1x8192x8x1, .f32⟩
  | _ => ⟨S1x8192x5120, .bf16⟩

abbrev hbmTy0_1 (i : Nat) : BufTy := match i % 128 with
  | 0 => ⟨S1x8192x8x1, .f32⟩
  | 1 => ⟨S1x8192x8x256, .f32⟩
  | 2 => ⟨S1x8192x8x256, .f32⟩
  | 3 => ⟨S256, .f32⟩
  | 4 => ⟨S1x1x1x256, .f32⟩
  | 5 => ⟨S1x8192x8x256, .f32⟩
  | 6 => ⟨S1x8192x8x256, .f32⟩
  | 7 => ⟨S_, .f32⟩
  | 8 => ⟨S1x8192x8x256, .f32⟩
  | 9 => ⟨S1x8192x8x256, .f32⟩
  | 10 => ⟨S1x8192x2048, .f32⟩
  | 11 => ⟨S1x8192x2048, .f32⟩
  | 12 => ⟨S1x8192x2048, .f32⟩
  | 13 => ⟨S1x8192x2048, .f32⟩
  | 14 => ⟨S_, .f32⟩
  | 15 => ⟨S1x8192x2048, .f32⟩
  | 16 => ⟨S1x8192x2048, .f32⟩
  | 17 => ⟨S_, .f32⟩
  | 18 => ⟨S1x8192x2048, .f32⟩
  | 19 => ⟨S1x8192x2048, .f32⟩
  | 20 => ⟨S1x8192x2048, .f32⟩
  | 21 => ⟨S1x8192x2048, .f32⟩
  | 22 => ⟨S1x8192x2048, .bf16⟩
  | _ => ⟨S1x8192x5120, .bf16⟩

abbrev hbmTy (i : Nat) : BufTy := match i / 128 with
  | 0 => hbmTy0_0 i
  | 1 => hbmTy0_1 i
  | _ => ⟨S1x8192x5120, .bf16⟩

abbrev bufTy : (tb : Table) → Fin (tcTables nBuf tb) → BufTy
  | .hbm, ⟨i, _⟩ => hbmTy i
  | _, _ => ⟨S1x8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_1 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_v41 : Ref sig .tc := ⟨.hbm, 53, rfl⟩
abbrev main_call1_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_11 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_15 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_16 : Ref sig .tc := ⟨.hbm, 142, rfl⟩
abbrev main_v113 : Ref sig .tc := ⟨.hbm, 143, rfl⟩
abbrev main_v114 : Ref sig .tc := ⟨.hbm, 144, rfl⟩
abbrev main_cst_17 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩

abbrev nD : Nat := 1
abbrev τ : Topo := Topo.v7x

variable {F : FTy → Type} [FloatOps F]
-- ==== Proof.StickLoop.lean ====
/-
  The loop of the stick-breaking attention kernel over the earlier key blocks, read back: the two scratch buffers (the
  weighted sum of the values and the carried log of the stick that is left) are stored whole on every trip, so after
  `n` trips each holds the `n`-th term of a plain recursion, and the block the kernel leaves is the gated sum that the
  recursion ends at.
-/
module

public import proofs.«01_k».proof.Proof.Gen.KernelIdeal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Proof.Stick

open Cert.KernelIdeal Cert.KernelIdeal.Gen Idealize.ShloMosaic Idealize.ShloMosaic.TcCoe Idealize.SL.Sem

variable {F : FTy → Type} [FloatOps F]

/-- The query block's number as the kernel computes it. -/
abbrev rowBlock (i : grid0.Coords) : BitVec 32 :=
  Scalar.addi (0#32) (Scalar.muli (BitVec.ofNat 32 (i 2).val) 1#32)

/-- The diagonal block: the weighted sum and the carry after it. -/
def diag (i : grid0.Coords) (x0 : Vec F S1x256x128 .bf16) (x1 x2 : Vec F S1x8192x128 .bf16)
    (x4 : Vec F S256x256 .bf16) : FVec F S256x128 .f32 × FVec F S256x128 .f32 :=
  let kb := View.ld (Val := Elt F) (e' := .bf16) x1 (Rect.unit (k0_off1 i) S1x256x128.size (k0_off1_inb i))
  let vb := View.ld (Val := Elt F) (e' := .bf16) x2 (Rect.unit (k0_off1 i) S1x256x128.size (k0_off1_inb i))
  let lanes := iota Kind.tc S256x256 32 [1] iota_S256x256_d1_w32
  (k0_pay22 (rowBlock i) (k0_pay15 i) lanes (k0_pay18 x0 kb) (k0_pay19 x0 kb) (FloatOps.ofBits FTy.f32 0#32) x4 x4
      k0_pay17 k0_pay16 vb,
    k0_pay1 (k0_pay21 (rowBlock i) (k0_pay15 i) lanes (k0_pay19 x0 kb) (FloatOps.ofBits FTy.f32 0#32)) k0_pay17)

/-- One trip: the key block of trip `k` added to the weighted sum, its log-fails to the carry. -/
def trip (i : grid0.Coords) (x0 : Vec F S1x256x128 .bf16) (x1 x2 : Vec F S1x8192x128 .bf16)
    (x4 : Vec F S256x256 .bf16) (k : Fin (k0_t1_loop i).trips) (s : FVec F S256x128 .f32 × FVec F S256x128 .f32) :
    FVec F S256x128 .f32 × FVec F S256x128 .f32 :=
  let kb := View.ld (Val := Elt F) (e' := .bf16) x1 (Rect.unit (k0_off2 i k) S1x256x128.size (k0_off2_inb i k))
  let vb := View.ld (Val := Elt F) (e' := .bf16) x2 (Rect.unit (k0_off2 i k) S1x256x128.size (k0_off2_inb i k))
  (k0_pay2 (k0_pay10 x0 kb x4 x4 s.2) s.1 vb, k0_pay3 (k0_pay9 x0 kb) s.2)

/-- The two scratch buffers after `n` trips: the diagonal block, then the trips in order. -/
def state (i : grid0.Coords) (x0 : Vec F S1x256x128 .bf16) (x1 x2 : Vec F S1x8192x128 .bf16)
    (x4 : Vec F S256x256 .bf16) : ℕ → FVec F S256x128 .f32 × FVec F S256x128 .f32
  | 0 => diag i x0 x1 x2 x4
  | n + 1 => if h : n < (k0_t1_loop i).trips then trip i x0 x1 x2 x4 ⟨n, h⟩ (state i x0 x1 x2 x4 n)
      else state i x0 x1 x2 x4 n

/-- What one trip stores, over what it finds: the recursion's next term, in each buffer. -/
theorem trip_pieces (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S256x256 .bf16) (harg7 : arg7.IsWhole) (arg8 : Memref sig .tc .vmem S1x256x128 .bf16) (harg8 : arg8.IsWhole) (arg9 : Memref sig .tc .vmem S256x128 .f32) (harg9 : arg9.IsWhole) (arg10 : Memref sig .tc .vmem S256x128 .f32) (harg10 : arg10.IsWhole) (v3 : BitVec 32)
    (x0 : Vec F S1x256x128 .bf16) (x1 : Vec F S1x8192x128 .bf16) (x2 : Vec F S1x8192x128 .bf16) (x3 : Vec F S1x256x128 .f32) (x4 : Vec F S256x256 .bf16) (k : Fin (k0_t1_loop i).trips)
    (f9 : BufTy.Contents (Elt F) arg9.view.ty) (f10 : BufTy.Contents (Elt F) arg10.view.ty)
    (P9 P10 : List (View.Piece (Elt F) S256x128 .f32)) (g9 : BufTy.Contents (Elt F) arg9.view.ty)
    (g10 : BufTy.Contents (Elt F) arg10.view.ty) :
    arg9.view.read (Elt F) (arg9.view.writes (Elt F) g9
      ((tripL_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) k f9 f10).1 ++ P9))
      = (trip i x0 x1 x2 x4 k (arg9.view.read (Elt F) f9, arg10.view.read (Elt F) f10)).1
    ∧ arg10.view.read (Elt F) (arg10.view.writes (Elt F) g10
      ((tripL_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) k f9 f10).2 ++ P10))
      = (trip i x0 x1 x2 x4 k (arg9.view.read (Elt F) f9, arg10.view.read (Elt F) f10)).2 := by
  unfold tripL_k0_t1 trip_k0_t1
  dsimp only
  sl_unfold_words
  simp only [List.singleton_append]
  constructor
  · refine (View.read_writes_full (s := S256x128) arg9.view g9 inb_S256x128_S256x128_0_0 _ P9).trans ?_
    simp only [trip, View.readAt_eq_ld, Memref.IsWhole.read_unread]
    rw [View.ld_unit_zero (S := S256x128) (by decide), View.ld_unit_zero (S := S256x128) (by decide),
      View.ld_unit_zero (S := S1x256x128) (by decide), View.ld_unit_zero (S := S256x256) (by decide)]
    rfl
  · refine (View.read_writes_full (s := S256x128) arg10.view g10 inb_S256x128_S256x128_0_0 _ P10).trans ?_
    simp only [trip, View.readAt_eq_ld, Memref.IsWhole.read_unread]
    rw [View.ld_unit_zero (S := S256x128) (by decide), View.ld_unit_zero (S := S1x256x128) (by decide)]
    rfl

/-- Before trip `n` each scratch buffer reads the recursion's `n`-th term, when it does at the loop's entry. -/
theorem loop_read (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S256x256 .bf16) (harg7 : arg7.IsWhole) (arg8 : Memref sig .tc .vmem S1x256x128 .bf16) (harg8 : arg8.IsWhole) (arg9 : Memref sig .tc .vmem S256x128 .f32) (harg9 : arg9.IsWhole) (arg10 : Memref sig .tc .vmem S256x128 .f32) (harg10 : arg10.IsWhole) (v3 : BitVec 32)
    (x0 : Vec F S1x256x128 .bf16) (x1 : Vec F S1x8192x128 .bf16) (x2 : Vec F S1x8192x128 .bf16) (x3 : Vec F S1x256x128 .f32) (x4 : Vec F S256x256 .bf16)
    (G9 : BufTy.Contents (Elt F) arg9.view.ty) (G10 : BufTy.Contents (Elt F) arg10.view.ty)
    (h9 : arg9.view.read (Elt F) G9 = (diag i x0 x1 x2 x4).1) (h10 : arg10.view.read (Elt F) G10 = (diag i x0 x1 x2 x4).2) :
    ∀ n, n ≤ (k0_t1_loop i).trips →
    arg9.view.read (Elt F) (arg9.view.writes (Elt F) G9
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).1) = (state i x0 x1 x2 x4 n).1
    ∧ arg10.view.read (Elt F) (arg10.view.writes (Elt F) G10
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).2) = (state i x0 x1 x2 x4 n).2
  | 0, _ => ⟨h9, h10⟩
  | n + 1, hn => by
    have ih := loop_read c i arg3 harg3 arg4 harg4 arg5 harg5 arg6 harg6 arg7 harg7 arg8 harg8 arg9 harg9 arg10 harg10 v3 x0 x1 x2 x3 x4 G9 G10 h9 h10 n (Nat.le_of_succ_le hn)
    have hs := pb_k0_t1_succ (F := F) Variants.none c none i arg3 harg3 arg4 harg4 arg5 harg5 arg6 harg6 arg7 harg7 arg8 harg8 arg9 harg9 arg10 harg10 v3 (harg3.unread x0) (harg4.unread x1)
      (harg5.unread x2) (harg7.unread x4) G9 G10 ⟨n, hn⟩
    have ht := trip_pieces c i arg3 harg3 arg4 harg4 arg5 harg5 arg6 harg6 arg7 harg7 arg8 harg8 arg9 harg9 arg10 harg10 v3 x0 x1 x2 x3 x4 ⟨n, hn⟩ (arg9.view.writes (Elt F) G9
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).1) (arg10.view.writes (Elt F) G10
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).2)
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).1
      (pb_k0_t1 (F := F) Variants.none c none i arg3 harg3 arg4 harg4 arg5 harg5 arg6 harg6 arg7 harg7 arg8 harg8 arg9 harg9 arg10 harg10 v3 (harg3.unread x0) (harg4.unread x1) (harg5.unread x2)
        (harg7.unread x4) G9 G10 n).2 G9 G10
    rw [ih.1, ih.2] at ht
    have hst : state i x0 x1 x2 x4 (n + 1) = trip i x0 x1 x2 x4 ⟨n, hn⟩ (state i x0 x1 x2 x4 n) := dif_pos hn
    rw [hst]
    refine ⟨(congrArg (fun L => arg9.view.read (Elt F) (arg9.view.writes (Elt F) G9 L)) (congrArg Prod.fst hs)).trans ht.1,
      (congrArg (fun L => arg10.view.read (Elt F) (arg10.view.writes (Elt F) G10 L)) (congrArg Prod.snd hs)).trans ht.2⟩

/-- The remainder loop runs no trip, whatever the query block. -/
theorem trips2 : ∀ q : Fin 32, Scf.trips
    (Scalar.addi (0#32) (Scalar.muli (Scalar.divsi (Scalar.subi (Scalar.addi (0#32) (Scalar.muli (BitVec.ofNat 32 q.val) 1#32)) 0#32) 1#32) 1#32))
    (Scalar.addi (0#32) (Scalar.subi (Scalar.addi (0#32) (Scalar.muli (BitVec.ofNat 32 q.val) 1#32)) 0#32)) 1#32 = 0 := by
  decide +kernel

/-- The block a grid point leaves: the gate of the weighted sum after the last trip. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S256x256 .bf16) (harg7 : arg7.IsWhole) (arg8 : Memref sig .tc .vmem S1x256x128 .bf16) (harg8 : arg8.IsWhole) (arg9 : Memref sig .tc .vmem S256x128 .f32) (harg9 : arg9.IsWhole) (arg10 : Memref sig .tc .vmem S256x128 .f32) (harg10 : arg10.IsWhole)
    (x0 : Vec F S1x256x128 .bf16) (x1 : Vec F S1x8192x128 .bf16) (x2 : Vec F S1x8192x128 .bf16) (x3 : Vec F S1x256x128 .f32) (x4 : Vec F S256x256 .bf16) :
    out0_A_5 c i arg3 harg3 arg4 harg4 arg5 harg5 arg6 harg6 arg7 harg7 arg8 harg8 arg9 harg9 arg10 harg10 x0 x1 x2 x3 x4 = k0_pay6 x3 (state i x0 x1 x2 x4 (k0_t1_loop i).trips).1 := by
  frame_out
  rw [show Scf.trips (Scalar.addi (0#32) (Scalar.muli (Scalar.divsi (Scalar.subi (Scalar.addi (0#32) (Scalar.muli (BitVec.ofNat 32 (i 2).val) 1#32)) 0#32) 1#32) 1#32))
    (Scalar.addi (0#32) (Scalar.subi (Scalar.addi (0#32) (Scalar.muli (BitVec.ofNat 32 (i 2).val) 1#32)) 0#32)) 1#32 = 0 from trips2 (i 2)]
  simp only [pb_k0_t2]
  refine congrArg (k0_pay6 x3) ?_
  rw [List.nil_append]
  unfold View.readCov
  rw [View.writes_append, View.readAt_eq_ld, View.ld_unit_zero (S := S256x128) (by decide)]
  refine (loop_read c i arg3 harg3 arg4 harg4 arg5 harg5 arg6 harg6 arg7 harg7 arg8 harg8 arg9 harg9 arg10 harg10 (rowBlock i) x0 x1 x2 x3 x4 _ _ ?_ ?_ (k0_t1_loop i).trips le_rfl).1
  · exact View.read_writes_full (s := S256x128) arg9.view _ inb_S256x128_S256x128_0_0 _ _
  · exact View.read_writes_full (s := S256x128) arg10.view _ inb_S256x128_S256x128_0_0 _ _

end Cert.Proof.Stick

end
-- ==== Proof.StickMath.lean ====
/-
  The arithmetic of stick-breaking attention over the extended reals: the softplus, the identity between the two ways
  of writing the log of a weight, and the sums over a stretch of positions that both programs take.
-/
module

public import Idealize.ShloMosaic.Lib.Pipeline.ValueKit

@[expose] public section

noncomputable section

namespace Cert.Proof.Stick

open Idealize.ShloMosaic

/-- The softplus `log (1 + exp z)` in the form both programs compute: `max(z, 0) + log1p(exp(-|z|))`. -/
def sp (z : EReal) : EReal := max z 0 + Ideal.log1p (Ideal.exp (0 - max z (-z)))

/-- Softplus at a real number is a real number. -/
theorem sp_coe (r : ℝ) : sp (r : EReal) = ((max r 0 + Real.log (1 + Real.exp (-|r|)) : ℝ) : EReal) := by
  have h1 : max (r : EReal) (-(r : EReal)) = ((|r| : ℝ) : EReal) := by
    rw [← EReal.coe_neg, abs_eq_max_neg]
    exact (EReal.coe_strictMono.monotone.map_max).symm
  have h2 : max (r : EReal) 0 = ((max r 0 : ℝ) : EReal) := by
    rw [← EReal.coe_zero]
    exact (EReal.coe_strictMono.monotone.map_max).symm
  have h3 : ¬ (1 + Real.exp (-|r|) ≤ 0) := not_le.mpr (by positivity)
  unfold sp
  rw [h1, h2, zero_sub, ← EReal.coe_neg, Ideal.exp_coe, Ideal.log1p, ← EReal.coe_one, ← EReal.coe_add, Ideal.log_coe,
    if_neg h3, ← EReal.coe_add]

/-- Softplus at minus infinity is zero. -/
theorem sp_bot : sp ⊥ = 0 := by
  unfold sp
  rw [EReal.neg_bot, max_eq_right bot_le, max_eq_right bot_le, zero_sub, EReal.neg_top, Ideal.exp_bot, Ideal.log1p, add_zero,
    ← EReal.coe_one, Ideal.log_coe, if_neg (by norm_num), Real.log_one, EReal.coe_zero, add_zero]

/-- Softplus at plus infinity is plus infinity. -/
theorem sp_top : sp ⊤ = ⊤ := by
  unfold sp
  rw [EReal.neg_top, max_eq_left bot_le, max_eq_left le_top, zero_sub, EReal.neg_top, Ideal.exp_bot, Ideal.log1p, add_zero,
    ← EReal.coe_one, Ideal.log_coe, if_neg (by norm_num), Real.log_one, EReal.coe_zero, add_zero]

/-- The log of failing at a position: minus the softplus of its score. -/
def lf (z : EReal) : EReal := 0 - sp z

/-- It is never plus infinity. -/
theorem lf_ne_top (z : EReal) : lf z ≠ ⊤ := by
  unfold lf
  induction z using EReal.rec with
  | bot => rw [sp_bot]; simp
  | top => rw [sp_top]; simp
  | coe r => rw [sp_coe, zero_sub, ← EReal.coe_neg]; exact EReal.coe_ne_top _

/-- The log of a weight written the reference's way — the log-sigmoid of the score plus a running sum that still holds
    the position's own log-fail, less that log-fail — is the kernel's: the score less its softplus, plus the sum `E`
    over the later positions. At an infinite score too. -/
theorem hit_eq (z E : EReal) : -sp (-z) + ((lf z + E) - lf z) = (z - sp z) + E := by
  unfold lf
  induction z using EReal.rec with
  | bot => rw [EReal.neg_bot, sp_top, sp_bot]; simp
  | top => rw [EReal.neg_top, sp_top, sp_bot]; simp
  | coe r =>
    have h : -sp (-(r : EReal)) = (r : EReal) - sp r := by
      rw [← EReal.coe_neg, sp_coe, sp_coe, ← EReal.coe_neg, ← EReal.coe_sub, abs_neg]
      congr 1
      rcases le_total r 0 with h | h
      · rw [max_eq_left (by linarith), max_eq_right h]; ring
      · rw [max_eq_right (by linarith), max_eq_left h]; ring
    rw [h]
    congr 1
    rw [sp_coe, zero_sub, ← EReal.coe_neg]
    generalize -(max r 0 + Real.log (1 + Real.exp (-|r|))) = l
    induction E using EReal.rec with
    | bot => simp
    | top => simp
    | coe e => rw [← EReal.coe_add, ← EReal.coe_sub]; congr 1; ring

/-- A value that is not plus infinity, plus itself less itself, is the value. -/
theorem add_sub_self (a : EReal) (h : a ≠ ⊤) : a + (a - a) = a := by
  induction a using EReal.rec with
  | bot => simp
  | top => exact absurd rfl h
  | coe r => rw [← EReal.coe_sub, ← EReal.coe_add]; congr 1; ring

/-- Split into a high and a low part — the value and what is left of it — and each part weighted by a bit and summed,
    a row gives the sum of the values weighted by the bits. -/
theorem hilo (g : Fin 256 → EReal) (hg : ∀ x, g x ≠ ⊤) (l : ℕ) :
    (∑ x : Fin 256, g x * (if l < x.val then (1 : EReal) else 0))
      + (∑ x : Fin 256, (g x - g x) * (if l < x.val then (1 : EReal) else 0))
      = ∑ x : Fin 256, if l < x.val then g x else 0 := by
  rw [← Finset.sum_add_distrib]
  refine Finset.sum_congr rfl fun x _ => ?_
  split_ifs
  · rw [mul_one, mul_one, add_sub_self _ (hg x)]
  · rw [mul_zero, mul_zero, add_zero]

/-- The later lanes of block `b`: the positions after `256 b + l`, up to the block's end. -/
theorem sum_later (f : ℕ → EReal) (b l : ℕ) (hl : l < 256) :
    (∑ x : Fin 256, if l < x.val then f (256 * b + x.val) else 0)
      = ∑ s ∈ Finset.Ico (256 * b + l + 1) (256 * (b + 1)), f s := by
  rw [Fin.sum_univ_eq_sum_range (fun x => if l < x then f (256 * b + x) else 0) 256, ← Finset.sum_filter,
    show (Finset.range 256).filter (fun x => l < x) = Finset.Ico (l + 1) 256 by
      ext x; simp only [Finset.mem_filter, Finset.mem_range, Finset.mem_Ico]; omega,
    Finset.sum_Ico_add (fun s => f s) (l + 1) 256 (256 * b)]
  refine Finset.sum_congr ?_ fun _ _ => rfl
  congr 1 <;> ring

/-- The lanes of block `b`: the positions from `256 b` to the block's end. -/
theorem sum_block (f : ℕ → EReal) (b : ℕ) :
    (∑ x : Fin 256, f (256 * b + x.val)) = ∑ s ∈ Finset.Ico (256 * b) (256 * (b + 1)), f s := by
  rw [Fin.sum_univ_eq_sum_range (fun x => f (256 * b + x)) 256, Finset.range_eq_Ico,
    Finset.sum_Ico_add (fun s => f s) 0 256 (256 * b)]
  refine Finset.sum_congr ?_ fun _ _ => rfl
  congr 1 <;> ring

/-- A sum of terms kept only before position `R` ends at `R`. -/
theorem sum_masked (f : ℕ → EReal) (a b R : ℕ) (hR : R ≤ b) :
    (∑ s ∈ Finset.Ico a b, if s < R then f s else 0) = ∑ s ∈ Finset.Ico a R, f s := by
  rw [← Finset.sum_filter]
  refine Finset.sum_congr ?_ fun _ _ => rfl
  ext x; simp only [Finset.mem_filter, Finset.mem_Ico]; omega

/-- The window of a running sum from the end: the entries from `s` on. -/
theorem sum_window_rev (f : ℕ → EReal) (N s : ℕ) (hs : s ≤ N) :
    (∑ x : Fin N, if s + x.val < N then f (s + x.val) else 0) = ∑ k ∈ Finset.Ico s N, f k := by
  rw [Fin.sum_univ_eq_sum_range (fun x => if s + x < N then f (s + x) else 0) N, ← Finset.sum_filter,
    Finset.sum_Ico_eq_sum_range]
  refine Finset.sum_congr ?_ fun _ _ => rfl
  ext x; simp only [Finset.mem_filter, Finset.mem_range]; omega

/-- A left fold of additions is the start plus the sum. -/
theorem foldl_sum {ι : Type} (g : ι → EReal) : ∀ (l : List ι) (z : EReal),
    l.foldl (fun r n => r + g n) z = z + (l.map g).sum
  | [], z => by simp
  | a :: l, z => by rw [List.foldl_cons, foldl_sum g l, List.map_cons, List.sum_cons, add_assoc]

/-- The host's window sum of a rank-four array along its last axis, each window reaching from its entry to the end (a
    running sum taken from the end): the sum of the entries from `s` on. -/
theorem reverse_cumsum {m b n N Nm1 : ℕ} (hN : Nm1 + 1 = N) (x : (⟨4, ![m, b, n, N]⟩ : Shape).Idx → EReal)
    (h : (⟨4, ![m, b, n, N]⟩ : Shape).ReduceWindows (![1, 1, 1, N] : Fin 4 → Nat) ![1, 1, 1, 1] ![0, 0, 0, 0]
      ![0, 0, 0, Nm1] ⟨4, ![m, b, n, N]⟩)
    (i0 : Fin m) (i1 : Fin b) (i2 : Fin n) (s : Fin N) :
    Ideal.hostReduceWindowAdd ![1, 1, 1, N] ![1, 1, 1, 1] ![0, 0, 0, 0] ![0, 0, 0, Nm1] h x 0 (ix4 i0 i1 i2 s)
      = ∑ k : Fin N, if hk : s.val + k.val < N then x (ix4 i0 i1 i2 ⟨s.val + k.val, hk⟩) else 0 := by
  unfold Ideal.hostReduceWindowAdd Host.reduceWindow
  dsimp only
  rw [foldl_sum, zero_add, ← Fin.sum_univ_def,
    ← Equiv.sum_comp (Shape.rowMajor ⟨4, ![1, 1, 1, N]⟩)]
  refine (Fintype.sum_bijective (fun k : Fin N => (ix4 (0 : Fin 1) (0 : Fin 1) (0 : Fin 1) k : (⟨4, ![1, 1, 1, N]⟩ : Shape).Idx))
    ⟨fun k k' e => congrFun e 3, fun y => ⟨y 3, ?_⟩⟩ _ _ fun k => ?_).symm
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  · simp only [Equiv.symm_apply_apply]
    by_cases hk : s.val + k.val < N
    · rw [dif_pos hk, dif_pos]
      · refine congrArg x (funext fun a => Fin.ext ?_)
        match a with
        | ⟨0, _⟩ => show i0.val = i0.val * 1 + 0 - 0; omega
        | ⟨1, _⟩ => show i1.val = i1.val * 1 + 0 - 0; omega
        | ⟨2, _⟩ => show i2.val = i2.val * 1 + 0 - 0; omega
        | ⟨3, _⟩ => show s.val + k.val = s.val * 1 + k.val - 0; omega
      · intro a
        match a with
        | ⟨0, _⟩ => show 0 ≤ i0.val * 1 + 0 ∧ i0.val * 1 + 0 - 0 < m; omega
        | ⟨1, _⟩ => show 0 ≤ i1.val * 1 + 0 ∧ i1.val * 1 + 0 - 0 < b; omega
        | ⟨2, _⟩ => show 0 ≤ i2.val * 1 + 0 ∧ i2.val * 1 + 0 - 0 < n; omega
        | ⟨3, _⟩ => show 0 ≤ s.val * 1 + k.val ∧ s.val * 1 + k.val - 0 < N; omega
    · rw [dif_neg hk, dif_neg]
      intro hin
      have := (hin 3).2
      change s.val * 1 + k.val - 0 < N at this
      omega

/-- The same of the printed operation, from any zero initial value. -/
theorem reduceWindowAdd_last {m b n N Nm1 : ℕ} {u : Shape} (hN : Nm1 + 1 = N) (x : FVec Ideal ⟨4, ![m, b, n, N]⟩ .f32)
    (z : FVec Ideal u .f32)
    (h : (⟨4, ![m, b, n, N]⟩ : Shape).ReduceWindows (![1, 1, 1, N] : Fin 4 → Nat) ![1, 1, 1, 1] ![0, 0, 0, 0]
      ![0, 0, 0, Nm1] ⟨4, ![m, b, n, N]⟩) (hu : 0 < u.numel) (hz : z (Shape.Idx.first hu) = (0 : EReal))
    (i0 : Fin m) (i1 : Fin b) (i2 : Fin n) (s : Fin N) :
    Host.reduceWindowAdd ![1, 1, 1, N] ![1, 1, 1, 1] ![0, 0, 0, 0] ![0, 0, 0, Nm1] x z h hu (ix4 i0 i1 i2 s)
      = ∑ k : Fin N, if hk : s.val + k.val < N then x (ix4 i0 i1 i2 ⟨s.val + k.val, hk⟩) else 0 := by
  rw [← reverse_cumsum hN x h i0 i1 i2 s, ← hz]
  rfl

/-- The sum of the values `v` at the positions from `lo` up to `R`, each weighted by the stick that is broken there:
    the score's log-hit and the log-fails of the positions after it, before `R`. -/
def stick (z v : ℕ → EReal) (R lo : ℕ) : EReal :=
  ∑ s ∈ Finset.Ico lo R, Ideal.exp ((z s - sp (z s)) + ∑ k ∈ Finset.Ico (s + 1) R, lf (z k)) * v s

/-- The gate of a value: the value times its sigmoid. -/
def gated (x : EReal) : EReal := x * Ideal.div 1 (1 + Ideal.exp (0 - x))

end Cert.Proof.Stick

end
-- ==== Proof.StickStep.lean ====
/-
  The stick-breaking attention kernel's recursion at an index: after `n` trips the carry of a row is the sum of the
  log-fails of the last positions before the row's query, back to the last block read, and the weighted sum is the
  stick-weighted sum of the values over the same positions.
-/
module

public import proofs.«01_k».proof.Proof.StickLoop
public import proofs.«01_k».proof.Proof.StickMath
public import Idealize.ShloMosaic.Lib.WordCmp

@[expose] public section

set_option maxRecDepth 16384

noncomputable section

namespace Cert.Proof.Stick

open Cert.KernelIdeal Cert.KernelIdeal.Gen Idealize.ShloMosaic Idealize.ShloMosaic.TcCoe Idealize.SL.Sem

/-- A query block makes as many trips as there are key blocks before it. -/
theorem trips_eq (i : grid0.Coords) : (k0_t1_loop i).trips = (i 2).val :=
  (by decide +kernel : ∀ q : Fin 32, Scf.trips 0#32 (Scalar.addi (0#32) (Scalar.muli (Scalar.divsi (Scalar.subi (Scalar.addi (0#32) (Scalar.muli (BitVec.ofNat 32 q.val) 1#32)) 0#32) 1#32) 1#32)) 1#32 = q.val) (i 2)

/-- The score block, in both spellings, and its softplus and log-fail at an index. -/
theorem pay18_eq (x0 kb : Vec Ideal S1x256x128 .bf16) : k0_pay18 x0 kb = k0_pay7 x0 kb := rfl

theorem pay19_eq (x0 kb : Vec Ideal S1x256x128 .bf16) : k0_pay19 x0 kb = k0_pay8 x0 kb := rfl

theorem pay7_apply (x0 kb : Vec Ideal S1x256x128 .bf16) (r l : Fin 256) :
    k0_pay7 (F := Ideal) x0 kb (ix2 r l)
      = (∑ x : Fin 128, x0 (ix3 (0 : Fin 1) r x) * kb (ix3 (0 : Fin 1) l x)) * Ideal.ofBits FTy.f32 1035273459#32 := by
  pointwise [k0_pay7]

theorem pay8_apply (x0 kb : Vec Ideal S1x256x128 .bf16) (r l : Fin 256) :
    k0_pay8 (F := Ideal) x0 kb (ix2 r l) = sp (k0_pay7 (F := Ideal) x0 kb (ix2 r l)) := by
  pointwise [k0_pay8]
  rfl

theorem pay9_apply (x0 kb : Vec Ideal S1x256x128 .bf16) (r l : Fin 256) :
    k0_pay9 (F := Ideal) x0 kb (ix2 r l) = lf (k0_pay7 (F := Ideal) x0 kb (ix2 r l)) := by
  unfold lf
  rw [← pay8_apply]
  pointwise [k0_pay9]

/-- The weighted sum after a trip, and the carry after it. -/
theorem pay2_apply (w : FVec Ideal S256x256 .bf16) (A : Vec Ideal S256x128 .f32) (vb : Vec Ideal S1x256x128 .bf16)
    (r : Fin 256) (d : Fin 128) :
    k0_pay2 (F := Ideal) w A vb (ix2 r d) = A (ix2 r d) + ∑ x : Fin 256, w (ix2 r x) * vb (ix3 (0 : Fin 1) x d) := by
  pointwise [k0_pay2]

theorem pay3_apply (f : FVec Ideal S256x256 .f32) (C : Vec Ideal S256x128 .f32) (r : Fin 256) (d : Fin 128) :
    k0_pay3 (F := Ideal) f C (ix2 r d) = C (ix2 r d) + ∑ x : Fin 256, f (ix2 r x) := by
  pointwise [k0_pay3]

theorem pay1_apply (f : FVec Ideal S256x256 .f32) (C : Vec Ideal S256x128 .f32) (r : Fin 256) (d : Fin 128) :
    k0_pay1 (F := Ideal) f C (ix2 r d) = C (ix2 r d) + ∑ x : Fin 256, f (ix2 r x) := by
  pointwise [k0_pay1]

theorem pay16_apply (r : Fin 256) (d : Fin 128) : k0_pay16 (F := Ideal) (ix2 r d) = 0 := by
  pointwise [k0_pay16]

theorem pay17_apply (r : Fin 256) (d : Fin 128) : k0_pay17 (F := Ideal) (ix2 r d) = 0 := by
  pointwise [k0_pay17]

/-- The weights of a trip whose carry is the same in every lane of row `r`. -/
theorem pay10_apply (x0 kb : Vec Ideal S1x256x128 .bf16) (x4 : Vec Ideal S256x256 .bf16) (C : Vec Ideal S256x128 .f32)
    (r l : Fin 256) (c : EReal) (hC : ∀ d : Fin 128, C (ix2 r d) = c) :
    k0_pay10 (F := Ideal) x0 kb x4 x4 C (ix2 r l)
      = Ideal.exp (k0_pay7 (F := Ideal) x0 kb (ix2 r l) - k0_pay8 (F := Ideal) x0 kb (ix2 r l)
        + (∑ x : Fin 256, k0_pay9 (F := Ideal) x0 kb (ix2 r x) * x4 (ix2 x l)
          + ∑ x : Fin 256, (k0_pay9 (F := Ideal) x0 kb (ix2 r x) - k0_pay9 (F := Ideal) x0 kb (ix2 r x)) * x4 (ix2 x l)) + c) := by
  pointwise [k0_pay10]
  simp only [hC, ite_self, dite_eq_ite]

/-- The mask of the diagonal block: the lanes before the row. -/
theorem mask_apply {α : Type} (i : grid0.Coords) (r l : Fin 256) (x y : α) :
    Scalar.select (k0_pay20 (rowBlock i) (k0_pay15 i) (iota Kind.tc S256x256 32 [1] iota_S256x256_d1_w32) (ix2 r l)) x y
      = if 256 * (i 2).val + l.val < 256 * (i 2).val + r.val then x else y := by
  have e : k0_pay20 (rowBlock i) (k0_pay15 i) (iota Kind.tc S256x256 32 [1] iota_S256x256_d1_w32) (ix2 r l)
      = IntOp.cmpi .slt (BitVec.ofNat 32 (256 * (i 2).val + l.val)) (BitVec.ofNat 32 (256 * (i 2).val + r.val)) := by
    pointwise [k0_pay20, k0_pay15, rowBlock]
    congr 1 <;> (apply BitVec.eq_of_toNat_eq; simp [Scalar.addi, Scalar.muli, IntOp.addi, IntOp.muli]; try ring_nf)
  have hi : (i 2).val < 32 := (i 2).isLt
  rw [e]
  by_cases hs : 256 * (i 2).val + l.val < 256 * (i 2).val + r.val
  · rw [if_pos hs, WordCmp.select_of_eq_one ((WordCmp.cmpi_slt_ofNat_eq_one_iff (by omega) (by omega)).2 hs)]
  · rw [if_neg hs, WordCmp.select_of_eq_zero ((WordCmp.cmpi_slt_ofNat_eq_zero_iff (by omega) (by omega)).2 hs)]

/-- The log-fails of the diagonal block: those of the lanes before the row. -/
theorem pay21_apply (i : grid0.Coords) (f : FVec Ideal S256x256 .f32) (r l : Fin 256) :
    k0_pay21 (F := Ideal) (rowBlock i) (k0_pay15 i) (iota Kind.tc S256x256 32 [1] iota_S256x256_d1_w32) f (FloatOps.ofBits FTy.f32 0#32) (ix2 r l)
      = if 256 * (i 2).val + l.val < 256 * (i 2).val + r.val then 0 - f (ix2 r l) else 0 := by
  rw [← mask_apply]
  pointwise [k0_pay21]

/-- The weights of the diagonal block: zero from the row on. -/
def diagWeight (i : grid0.Coords) (z p : FVec Ideal S256x256 .f32) (x4 : Vec Ideal S256x256 .bf16) (C : Vec Ideal S256x128 .f32) :
    FVec Ideal S256x256 .bf16 :=
  let lanes := iota Kind.tc S256x256 32 [1] iota_S256x256_d1_w32
  let f := k0_pay21 (rowBlock i) (k0_pay15 i) lanes p (FloatOps.ofBits FTy.f32 0#32)
  let t : FVec Ideal S256x256 .bf16 := shapeCast S256x256 x4 shapeCasts_S256x256_S256x256
  let later := addf (matmul dot_S256x256_S256x256_S256x256_1_0_0_1_n_n none (truncf .bf16 f bitsLt_bf16_f32) t (constant S256x256 .f32 0x00000000#32))
    (matmul dot_S256x256_S256x256_S256x256_1_0_0_1_n_n none
      (truncf .bf16 (subf f (extf .f32 (truncf .bf16 f bitsLt_bf16_f32) bitsLt_bf16_f32)) bitsLt_bf16_f32) t (constant S256x256 .f32 0x00000000#32))
  let w := exp (addf (addf (subf z p) later) (concatenate S256x256 1 [⟨S256x128, C⟩, ⟨S256x128, C⟩] concatenates_S256x128_S256x128_S256x256_d1))
  truncf .bf16 (select (k0_pay20 (rowBlock i) (k0_pay15 i) lanes) w (broadcast S256x256 (Scalar.ofBits .f32 0x00000000#32))) bitsLt_bf16_f32

/-- The diagonal block's weighted sum is a trip's, by its own weights. -/
theorem pay22_eq (i : grid0.Coords) (z p : FVec Ideal S256x256 .f32) (x4 : Vec Ideal S256x256 .bf16)
    (C A : Vec Ideal S256x128 .f32) (vb : Vec Ideal S1x256x128 .bf16) :
    k0_pay22 (F := Ideal) (rowBlock i) (k0_pay15 i) (iota Kind.tc S256x256 32 [1] iota_S256x256_d1_w32) z p (FloatOps.ofBits FTy.f32 0#32) x4 x4 C A vb
      = k0_pay2 (diagWeight i z p x4 C) A vb := rfl

/-- The weights of the diagonal block at an index, when the carry is the same in every lane of row `r`. -/
theorem diagWeight_apply (i : grid0.Coords) (z p : FVec Ideal S256x256 .f32) (x4 : Vec Ideal S256x256 .bf16)
    (C : Vec Ideal S256x128 .f32) (r l : Fin 256) (c : EReal) (hC : ∀ d : Fin 128, C (ix2 r d) = c) :
    diagWeight i z p x4 C (ix2 r l)
      = if 256 * (i 2).val + l.val < 256 * (i 2).val + r.val then
          Ideal.exp (z (ix2 r l) - p (ix2 r l)
            + (∑ x : Fin 256, k0_pay21 (F := Ideal) (rowBlock i) (k0_pay15 i) (iota Kind.tc S256x256 32 [1] iota_S256x256_d1_w32) p (FloatOps.ofBits FTy.f32 0#32) (ix2 r x) * x4 (ix2 x l)
              + ∑ x : Fin 256, (k0_pay21 (F := Ideal) (rowBlock i) (k0_pay15 i) (iota Kind.tc S256x256 32 [1] iota_S256x256_d1_w32) p (FloatOps.ofBits FTy.f32 0#32) (ix2 r x) - k0_pay21 (F := Ideal) (rowBlock i) (k0_pay15 i) (iota Kind.tc S256x256 32 [1] iota_S256x256_d1_w32) p (FloatOps.ofBits FTy.f32 0#32) (ix2 r x)) * x4 (ix2 x l))
            + c) else 0 := by
  rw [← mask_apply]
  pointwise [diagWeight]
  simp only [hC, ite_self, dite_eq_ite]

/-- The gate of the block. -/
theorem pay6_apply (g : Vec Ideal S1x256x128 .f32) (A : Vec Ideal S256x128 .f32) (r : Fin 256) (d : Fin 128) :
    k0_pay6 (F := Ideal) g A (ix3 (0 : Fin 1) r d)
      = A (ix2 r d) * (g (ix3 (0 : Fin 1) r d) * Ideal.div 1 (1 + Ideal.exp (0 - g (ix3 (0 : Fin 1) r d)))) := by
  pointwise [k0_pay6]

/-! ## One block -/

section Block

variable {z v : ℕ → EReal} {R b : ℕ} {x4 : Vec Ideal S256x256 .bf16} {r : Fin 256}

/-- A trip over block `b` extends the carry by the block. -/
theorem carry_step (x0 kb : Vec Ideal S1x256x128 .bf16) (C : Vec Ideal S256x128 .f32) (hbR : 256 * (b + 1) ≤ R)
    (hz : ∀ l : Fin 256, k0_pay7 (F := Ideal) x0 kb (ix2 r l) = z (256 * b + l.val))
    (hC : ∀ d : Fin 128, C (ix2 r d) = ∑ k ∈ Finset.Ico (256 * (b + 1)) R, lf (z k)) (d : Fin 128) :
    k0_pay3 (F := Ideal) (k0_pay9 x0 kb) C (ix2 r d) = ∑ k ∈ Finset.Ico (256 * b) R, lf (z k) := by
  rw [pay3_apply, hC]
  simp only [pay9_apply, hz]
  rw [sum_block (fun k => lf (z k)) b, add_comm]
  exact Finset.sum_Ico_consecutive _ (by omega) hbR

/-- The weights of a trip over block `b`. -/
theorem weight_step (x0 kb : Vec Ideal S1x256x128 .bf16) (C : Vec Ideal S256x128 .f32) (hbR : 256 * (b + 1) ≤ R)
    (hx4 : ∀ l' l : Fin 256, x4 (ix2 l' l) = if l.val < l'.val then (1 : EReal) else 0)
    (hz : ∀ l : Fin 256, k0_pay7 (F := Ideal) x0 kb (ix2 r l) = z (256 * b + l.val))
    (hC : ∀ d : Fin 128, C (ix2 r d) = ∑ k ∈ Finset.Ico (256 * (b + 1)) R, lf (z k)) (l : Fin 256) :
    k0_pay10 (F := Ideal) x0 kb x4 x4 C (ix2 r l)
      = Ideal.exp ((z (256 * b + l.val) - sp (z (256 * b + l.val))) + ∑ k ∈ Finset.Ico (256 * b + l.val + 1) R, lf (z k)) := by
  rw [pay10_apply x0 kb x4 C r l _ hC]
  simp only [pay9_apply, pay8_apply, hz, hx4]
  rw [hilo (fun x => lf (z (256 * b + x.val))) (fun x => lf_ne_top _) l.val, sum_later (fun k => lf (z k)) b l.val l.isLt,
    add_assoc, Finset.sum_Ico_consecutive _ (by omega) hbR]

/-- A trip over block `b` extends the weighted sum by the block. -/
theorem acc_step (x0 kb vb : Vec Ideal S1x256x128 .bf16) (C A : Vec Ideal S256x128 .f32) (hbR : 256 * (b + 1) ≤ R) (d : Fin 128)
    (hx4 : ∀ l' l : Fin 256, x4 (ix2 l' l) = if l.val < l'.val then (1 : EReal) else 0)
    (hz : ∀ l : Fin 256, k0_pay7 (F := Ideal) x0 kb (ix2 r l) = z (256 * b + l.val))
    (hv : ∀ l : Fin 256, vb (ix3 (0 : Fin 1) l d) = v (256 * b + l.val))
    (hC : ∀ d : Fin 128, C (ix2 r d) = ∑ k ∈ Finset.Ico (256 * (b + 1)) R, lf (z k))
    (hA : A (ix2 r d) = stick z v R (256 * (b + 1))) :
    k0_pay2 (F := Ideal) (k0_pay10 x0 kb x4 x4 C) A vb (ix2 r d) = stick z v R (256 * b) := by
  rw [pay2_apply, hA]
  simp only [weight_step x0 kb C hbR hx4 hz hC, hv]
  rw [sum_block (fun s => Ideal.exp ((z s - sp (z s)) + ∑ k ∈ Finset.Ico (s + 1) R, lf (z k)) * v s) b, add_comm]
  exact Finset.sum_Ico_consecutive _ (by omega) hbR

end Block

section Diagonal

variable {z v : ℕ → EReal} {x4 : Vec Ideal S256x256 .bf16} {r : Fin 256}

/-- The diagonal block's log-fails in one form. -/
theorem diag_fail (i : grid0.Coords) (x0 kb : Vec Ideal S1x256x128 .bf16)
    (hz : ∀ l : Fin 256, k0_pay7 (F := Ideal) x0 kb (ix2 r l) = z (256 * (i 2).val + l.val)) (l : Fin 256) :
    k0_pay21 (F := Ideal) (rowBlock i) (k0_pay15 i) (iota Kind.tc S256x256 32 [1] iota_S256x256_d1_w32) (k0_pay19 x0 kb) (FloatOps.ofBits FTy.f32 0#32) (ix2 r l)
      = (fun k => if k < 256 * (i 2).val + r.val then lf (z k) else 0) (256 * (i 2).val + l.val) := by
  rw [pay21_apply, pay19_eq, pay8_apply, hz]
  rfl

/-- The carry after the diagonal block. -/
theorem diag_carry (i : grid0.Coords) (x0 kb : Vec Ideal S1x256x128 .bf16)
    (hz : ∀ l : Fin 256, k0_pay7 (F := Ideal) x0 kb (ix2 r l) = z (256 * (i 2).val + l.val)) (d : Fin 128) :
    k0_pay1 (F := Ideal) (k0_pay21 (rowBlock i) (k0_pay15 i) (iota Kind.tc S256x256 32 [1] iota_S256x256_d1_w32) (k0_pay19 x0 kb) (FloatOps.ofBits FTy.f32 0#32)) (k0_pay17 (F := Ideal)) (ix2 r d)
      = ∑ k ∈ Finset.Ico (256 * (i 2).val) (256 * (i 2).val + r.val), lf (z k) := by
  rw [pay1_apply, pay17_apply, zero_add]
  simp only [diag_fail i x0 kb hz]
  rw [sum_block (fun k => if k < 256 * (i 2).val + r.val then lf (z k) else 0) (i 2).val]
  exact sum_masked (fun k => lf (z k)) _ _ _ (by omega)

/-- The weights of the diagonal block. -/
theorem diag_weight (i : grid0.Coords) (x0 kb : Vec Ideal S1x256x128 .bf16)
    (hx4 : ∀ l' l : Fin 256, x4 (ix2 l' l) = if l.val < l'.val then (1 : EReal) else 0)
    (hz : ∀ l : Fin 256, k0_pay7 (F := Ideal) x0 kb (ix2 r l) = z (256 * (i 2).val + l.val)) (l : Fin 256) :
    diagWeight i (k0_pay18 x0 kb) (k0_pay19 x0 kb) x4 (k0_pay17 (F := Ideal)) (ix2 r l)
      = if 256 * (i 2).val + l.val < 256 * (i 2).val + r.val then
          Ideal.exp ((z (256 * (i 2).val + l.val) - sp (z (256 * (i 2).val + l.val)))
            + ∑ k ∈ Finset.Ico (256 * (i 2).val + l.val + 1) (256 * (i 2).val + r.val), lf (z k)) else 0 := by
  rw [diagWeight_apply i _ _ x4 (k0_pay17 (F := Ideal)) r l 0 (fun d => pay17_apply r d)]
  simp only [diag_fail i x0 kb hz, hx4]
  simp only [pay18_eq, pay19_eq, pay8_apply, hz]
  rw [add_zero, hilo (fun x => if 256 * (i 2).val + x.val < 256 * (i 2).val + r.val then lf (z (256 * (i 2).val + x.val)) else 0)
      (fun x => by dsimp only; split_ifs; exacts [lf_ne_top _, EReal.zero_ne_top]) l.val,
    sum_later (fun k => if k < 256 * (i 2).val + r.val then lf (z k) else 0) (i 2).val l.val l.isLt,
    sum_masked (fun k => lf (z k)) _ _ _ (by omega)]

/-- The weighted sum after the diagonal block. -/
theorem diag_acc (i : grid0.Coords) (x0 kb vb : Vec Ideal S1x256x128 .bf16) (d : Fin 128)
    (hx4 : ∀ l' l : Fin 256, x4 (ix2 l' l) = if l.val < l'.val then (1 : EReal) else 0)
    (hz : ∀ l : Fin 256, k0_pay7 (F := Ideal) x0 kb (ix2 r l) = z (256 * (i 2).val + l.val))
    (hv : ∀ l : Fin 256, vb (ix3 (0 : Fin 1) l d) = v (256 * (i 2).val + l.val)) :
    k0_pay2 (F := Ideal) (diagWeight i (k0_pay18 x0 kb) (k0_pay19 x0 kb) x4 (k0_pay17 (F := Ideal))) (k0_pay16 (F := Ideal)) vb (ix2 r d)
      = stick z v (256 * (i 2).val + r.val) (256 * (i 2).val) := by
  rw [pay2_apply, pay16_apply, zero_add]
  simp only [diag_weight i x0 kb hx4 hz, hv, ite_mul, zero_mul]
  rw [sum_block (fun s => if s < 256 * (i 2).val + r.val then Ideal.exp ((z s - sp (z s))
      + ∑ k ∈ Finset.Ico (s + 1) (256 * (i 2).val + r.val), lf (z k)) * v s else 0) (i 2).val]
  exact sum_masked _ _ _ _ (by omega)

end Diagonal

/-! ## Where the blocks are read -/

/-- The diagonal block stands at the query block's own rows. -/
theorem off1_eq (i : grid0.Coords) : k0_off1 i = ![0, 256 * (i 2).val, 0] := by
  have h : (Scalar.indexCast (Scalar.muli (Scalar.addi (0#32) (Scalar.muli (BitVec.ofNat 32 (i 2).val) 1#32)) 256#32) : Index).toNat = 256 * (i 2).val :=
    (by decide +kernel : ∀ q : Fin 32, (Scalar.indexCast (Scalar.muli (Scalar.addi (0#32) (Scalar.muli (BitVec.ofNat 32 q.val) 1#32)) 256#32) : Index).toNat = 256 * q.val) (i 2)
  unfold k0_off1
  dsimp only
  rw [h]

/-- Trip `k` reads the block `k + 1` blocks before the query block's. -/
theorem off2_eq (i : grid0.Coords) (k : Fin (k0_t1_loop i).trips) : k0_off2 i k = ![0, 256 * ((i 2).val - 1 - k.val), 0] := by
  have hk : k.val < (i 2).val := lt_of_lt_of_eq k.isLt (trips_eq i)
  have hi : (i 2).val < 32 := (i 2).isLt
  have h := (by decide +kernel : ∀ q k : Fin 32, k.val < q.val →
    (Scalar.indexCast (Scalar.muli (Scalar.subi (Scalar.subi (Scalar.addi (0#32) (Scalar.muli (BitVec.ofNat 32 q.val) 1#32)) 1#32)
      (Scf.iv 0#32 1#32 k.val)) 256#32) : Index).toNat = 256 * (q.val - 1 - k.val)) (i 2) ⟨k.val, by omega⟩ hk
  unfold k0_off2
  dsimp only
  rw [h]

/-! ## The recursion -/

/-- A key block loaded at rows `256 b`, at an index. -/
theorem ld_block {off : Fin 3 → ℕ} {inb} (x : Vec Ideal S1x8192x128 .bf16) (b : ℕ) (hoff : off = ![0, 256 * b, 0]) (l : Fin 256) (d : Fin 128) (hb : b < 32) :
    View.ld (Val := Elt Ideal) (e' := .bf16) x (Rect.unit off S1x256x128.size inb) (ix3 (0 : Fin 1) l d)
      = x (ix3 (0 : Fin 1) (⟨256 * b + l.val, by omega⟩ : Fin 8192) d) := by
  subst hoff
  refine View.ld_unit_apply_of _ _ _ _ _ _ fun a => ?_
  match a with
  | ⟨0, _⟩ => rfl
  | ⟨1, _⟩ => rfl
  | ⟨2, _⟩ => exact (Nat.zero_add _).symm

/-- After `n` trips: row `r`'s carry, and its weighted sum in lane `d`, when row `r` of the query block scores `z s` at key
    `s` and lane `d` of the values is `v`. -/
theorem state_eq (i : grid0.Coords) (x0 : Vec Ideal S1x256x128 .bf16) (x1 x2 : Vec Ideal S1x8192x128 .bf16) (x4 : Vec Ideal S256x256 .bf16)
    (z v : ℕ → EReal) (r : Fin 256) (d : Fin 128)
    (hx4 : ∀ l' l : Fin 256, x4 (ix2 l' l) = if l.val < l'.val then (1 : EReal) else 0)
    (hz : ∀ s : Fin 8192, (∑ x : Fin 128, x0 (ix3 (0 : Fin 1) r x) * x1 (ix3 (0 : Fin 1) s x)) * Ideal.ofBits FTy.f32 1035273459#32 = z s.val)
    (hv : ∀ s : Fin 8192, x2 (ix3 (0 : Fin 1) s d) = v s.val) :
    ∀ n, n ≤ (i 2).val →
      (∀ e : Fin 128, (state (F := Ideal) i x0 x1 x2 x4 n).2 (ix2 r e)
        = ∑ k ∈ Finset.Ico (256 * ((i 2).val - n)) (256 * (i 2).val + r.val), lf (z k))
      ∧ (state (F := Ideal) i x0 x1 x2 x4 n).1 (ix2 r d) = stick z v (256 * (i 2).val + r.val) (256 * ((i 2).val - n))
  | 0, _ => by
    have hi : (i 2).val < 32 := (i 2).isLt
    have hzb : ∀ l : Fin 256, k0_pay7 (F := Ideal) x0 (View.ld (Val := Elt Ideal) (e' := .bf16) x1 (Rect.unit (k0_off1 i) S1x256x128.size (k0_off1_inb i))) (ix2 r l)
        = z (256 * (i 2).val + l.val) := fun l => by
      rw [pay7_apply, ← hz ⟨256 * (i 2).val + l.val, by omega⟩]
      simp only [ld_block x1 (i 2).val (off1_eq i) l _ hi]
    exact ⟨fun e => diag_carry i x0 _ hzb e, diag_acc i x0 _ _ d hx4 hzb fun l => by
      rw [ld_block x2 (i 2).val (off1_eq i) l _ hi, hv]⟩
  | n + 1, hn => by
    have hi : (i 2).val < 32 := (i 2).isLt
    have ht : n < (k0_t1_loop i).trips := lt_of_lt_of_eq hn (trips_eq i).symm
    obtain ⟨ih2, ih1⟩ := state_eq i x0 x1 x2 x4 z v r d hx4 hz hv n (Nat.le_of_succ_le hn)
    rw [show (i 2).val - n = ((i 2).val - 1 - n) + 1 by omega] at ih1 ih2
    rw [show (i 2).val - (n + 1) = (i 2).val - 1 - n by omega]
    have hst : state (F := Ideal) i x0 x1 x2 x4 (n + 1) = trip i x0 x1 x2 x4 ⟨n, ht⟩ (state i x0 x1 x2 x4 n) := dif_pos ht
    rw [hst]
    have hzb : ∀ l : Fin 256, k0_pay7 (F := Ideal) x0 (View.ld (Val := Elt Ideal) (e' := .bf16) x1 (Rect.unit (k0_off2 i ⟨n, ht⟩) S1x256x128.size (k0_off2_inb i ⟨n, ht⟩))) (ix2 r l)
        = z (256 * ((i 2).val - 1 - n) + l.val) := fun l => by
      rw [pay7_apply, ← hz ⟨256 * ((i 2).val - 1 - n) + l.val, by omega⟩]
      simp only [ld_block x1 ((i 2).val - 1 - n) (off2_eq i ⟨n, ht⟩) l _ (by omega)]
    exact ⟨fun e => carry_step x0 _ _ (by omega) hzb ih2 e, acc_step x0 _ _ _ _ (by omega) d hx4 hzb (fun l => by
      rw [ld_block x2 ((i 2).val - 1 - n) (off2_eq i ⟨n, ht⟩) l _ (by omega), hv]) ih2 ih1⟩

/-- The block a grid point leaves, at an index. -/
theorem block_apply (i : grid0.Coords) (x0 : Vec Ideal S1x256x128 .bf16) (x1 x2 : Vec Ideal S1x8192x128 .bf16) (x3 : Vec Ideal S1x256x128 .f32)
    (x4 : Vec Ideal S256x256 .bf16) (z v : ℕ → EReal) (r : Fin 256) (d : Fin 128)
    (hx4 : ∀ l' l : Fin 256, x4 (ix2 l' l) = if l.val < l'.val then (1 : EReal) else 0)
    (hz : ∀ s : Fin 8192, (∑ x : Fin 128, x0 (ix3 (0 : Fin 1) r x) * x1 (ix3 (0 : Fin 1) s x)) * Ideal.ofBits FTy.f32 1035273459#32 = z s.val)
    (hv : ∀ s : Fin 8192, x2 (ix3 (0 : Fin 1) s d) = v s.val) :
    k0_pay6 (F := Ideal) x3 (state i x0 x1 x2 x4 (k0_t1_loop i).trips).1 (ix3 (0 : Fin 1) r d)
      = stick z v (256 * (i 2).val + r.val) 0 * gated (x3 (ix3 (0 : Fin 1) r d)) := by
  rw [pay6_apply, trips_eq, (state_eq i x0 x1 x2 x4 z v r d hx4 hz hv (i 2).val le_rfl).2, Nat.sub_self]
  rfl

end Cert.Proof.Stick

end
-- ==== Proof.StickRef.lean ====
/-
  The reference of stick-breaking attention, read at an index: the scores, the log-fails kept before the row's
  position, the running sum from the end, the weights, and the gated sum of the values.
-/
module

public import proofs.«01_k».proof.Proof.Gen.ReferenceIdeal.Run
public import proofs.«01_k».proof.Proof.StickMath
public import Idealize.ShloMosaic.Lib.WordCmp

@[expose] public section

set_option maxRecDepth 16384

noncomputable section

namespace Cert.Proof.Stick

open Cert.ReferenceIdeal Cert.ReferenceIdeal.Gen Idealize.ShloMosaic Idealize.ShloMosaic.TcCoe Idealize.SL.Sem

/-- The scaled scores of every head, query and key. -/
def refScore (q kv : FVec Ideal S1x8192x4096 .bf16) : FVec Ideal S1x16x8192x8192 .f32 :=
  mulf (Host.dotGeneral dot_S1x8192x16x128_S1x8192x16x128_S1x16x8192x8192_3_3_1_1_02_02 none (shapeCast _ (extf .f32 (extractStridedSlice S1x8192x2048 ![0, 0, 0] q slices_S1x8192x4096_S1x8192x2048_0_0_0) bitsLt_bf16_f32) shapeCasts_S1x8192x2048_S1x8192x16x128) (shapeCast _ (extf .f32 (extractStridedSlice S1x8192x2048 ![0, 0, 0] kv slices_S1x8192x4096_S1x8192x2048_0_0_0) bitsLt_bf16_f32) shapeCasts_S1x8192x2048_S1x8192x16x128)) (broadcastInDim S1x16x8192x8192 ![] bcast_S_S1x16x8192x8192 (constant S_ .f32 0x3DB504F3#32))

/-- Which keys stand before which query. -/
def refBefore : IVec S1x16x8192x8192 1 :=
  broadcastInDim S1x16x8192x8192 ![2, 3] bcast_S8192x8192_S1x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- A zero at every entry. -/
def refZero : FVec Ideal S1x16x8192x8192 .f32 :=
  broadcastInDim S1x16x8192x8192 ![] bcast_S_S1x16x8192x8192 (constant S_ .f32 0x00000000#32)

/-- The log-sigmoid of an array, from the array's negation `n`. -/
def refLogSigmoid (n : FVec Ideal S1x16x8192x8192 .f32) : FVec Ideal S1x16x8192x8192 .f32 :=
  Host.negf (select (cmpf .une (subf n refZero) (subf n refZero)) (addf n refZero) (addf (maximumf n refZero) (Host.log1p (Host.exp (Host.negf (Host.absf (subf n refZero)))))))

/-- The log-fails, zero from the query's own position on. -/
def refFail (sc : FVec Ideal S1x16x8192x8192 .f32) : FVec Ideal S1x16x8192x8192 .f32 :=
  select refBefore (refLogSigmoid (Host.negf (Host.negf sc))) (broadcastInDim S1x16x8192x8192 ![] bcast_S_S1x16x8192x8192 (id (constant S_ .f32 0x00000000#32)))

/-- The running sum of the log-fails from the end. -/
def refRun (f : FVec Ideal S1x16x8192x8192 .f32) : FVec Ideal S1x16x8192x8192 .f32 :=
  Host.reduceWindowAdd ![1, 1, 1, 8192] ![1, 1, 1, 1] ![0, 0, 0, 0] ![0, 0, 0, 8191] f (broadcastInDim S_ ![] bcast_S_S_ (constant S_ .f32 0x00000000#32)) reduceWindows_S1x16x8192x8192_S1x16x8192x8192_w1s1p0_0_w1s1p0_0_w1s1p0_0_w8192s1p0_8191 h_S_

/-- The weights. -/
def refWeight (sc f : FVec Ideal S1x16x8192x8192 .f32) : FVec Ideal S1x16x8192x8192 .f32 :=
  select refBefore (Host.exp (addf (refLogSigmoid (Host.negf sc)) (subf (refRun f) f))) (broadcastInDim S1x16x8192x8192 ![] bcast_S_S1x16x8192x8192 (id (constant S_ .f32 0x00000000#32)))

/-- The gated sum of the values by weights `w`. -/
def refOut (w : FVec Ideal S1x16x8192x8192 .f32) (kv : FVec Ideal S1x8192x4096 .bf16) (g : FVec Ideal S1x8192x4096 .f32) : FVec Ideal S1x8192x2048 .bf16 :=
  truncf .bf16 (mulf (shapeCast _ (transpose S1x8192x16x128 [0, 3, 1, 2] (Host.dotGeneral dot_S1x8192x16x128_S1x16x8192x8192_S1x16x128x8192_1_3_3_2_02_01 none (shapeCast _ (extf .f32 (extractStridedSlice S1x8192x2048 ![0, 0, 2048] kv slices_S1x8192x4096_S1x8192x2048_0_0_2048) bitsLt_bf16_f32) shapeCasts_S1x8192x2048_S1x8192x16x128) w) transposes_S1x16x128x8192_S1x8192x16x128_0_3_1_2) shapeCasts_S1x8192x16x128_S1x8192x2048) (mulf (extractStridedSlice S1x8192x2048 ![0, 0, 0] g slices_S1x8192x4096_S1x8192x2048_0_0_0) (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (extractStridedSlice S1x8192x2048 ![0, 0, 0] g slices_S1x8192x4096_S1x8192x2048_0_0_0))))))) bitsLt_bf16_f32

/-- The reference's result, of its three arguments. -/
def REF (q kv : FVec Ideal S1x8192x4096 .bf16) (g : FVec Ideal S1x8192x4096 .f32) : FVec Ideal S1x8192x2048 .bf16 :=
  refOut (refWeight (refScore q kv) (refFail (refScore q kv))) kv g

/-- The reference's run ends at `REF` of its arguments. -/
theorem res_eq (m : (ℓ : Loc nD τ sig) → Buf (Elt Ideal) ℓ) (c : Dev nD) :
    Cert.ReferenceIdeal.Value.res_out0 m c = REF (m ((c.tc : Thread nD τ).loc main_arg0)) (m ((c.tc : Thread nD τ).loc main_arg1))
      (m ((c.tc : Thread nD τ).loc main_arg2)) := by
  unfold Cert.ReferenceIdeal.Value.res_out0 Cert.ReferenceIdeal.Value.res_main_v33
  rfl

/-- The scaled score of head `h`, query `R`, at key `s` (zero past the last key). -/
def score (q kv : (⟨3, ![1, 8192, 4096]⟩ : Shape).Idx → EReal) (h : Fin 16) (R : Fin 8192) (s : ℕ) : EReal :=
  if hs : s < 8192 then (∑ d : Fin 128, q (ix3 (0 : Fin 1) R (⟨h.val * 128 + d.val, by omega⟩ : Fin 4096))
    * kv (ix3 (0 : Fin 1) (⟨s, hs⟩ : Fin 8192) (⟨h.val * 128 + d.val, by omega⟩ : Fin 4096))) * Ideal.ofBits FTy.f32 1035273459#32
  else 0

/-- The value of column `e` at key `s` (zero past the last key). -/
def value (kv : (⟨3, ![1, 8192, 4096]⟩ : Shape).Idx → EReal) (e : Fin 2048) (s : ℕ) : EReal :=
  if hs : s < 8192 then kv (ix3 (0 : Fin 1) (⟨s, hs⟩ : Fin 8192) (⟨2048 + e.val, by omega⟩ : Fin 4096)) else 0

/-- The reference's scaled score at an index. -/
theorem score_apply (q kv : FVec Ideal S1x8192x4096 .bf16) (h : Fin 16) (R s : Fin 8192) :
    refScore q kv (ix4 (0 : Fin 1) h R s) = score q kv h R s.val := by
  unfold score
  rw [dif_pos s.isLt]
  pointwise [refScore]

/-- A key stands before a query when its position is the smaller. -/
theorem before_apply {α : Type} (h : Fin 16) (R s : Fin 8192) (x y : α) :
    Scalar.select (refBefore (ix4 (0 : Fin 1) h R s)) x y = if s.val < R.val then x else y := by
  have e : refBefore (ix4 (0 : Fin 1) h R s) = IntOp.cmpi .slt (BitVec.ofNat 32 s.val) (BitVec.ofNat 32 R.val) := by
    pointwise [refBefore]
  rw [e]
  by_cases hs : s.val < R.val
  · rw [if_pos hs, WordCmp.select_of_eq_one ((WordCmp.cmpi_slt_ofNat_eq_one_iff (by omega) (by omega)).2 hs)]
  · rw [if_neg hs, WordCmp.select_of_eq_zero ((WordCmp.cmpi_slt_ofNat_eq_zero_iff (by omega) (by omega)).2 hs)]

/-- The zero constant's entry. -/
theorem zero_entry : id (constant (F := Ideal) S_ .f32 0x00000000#32) ix0 = (0 : EReal) := Ideal.ofBits_zero_f32

/-- The log-sigmoid from the negation: minus the softplus of it. -/
theorem logSigmoid_apply (n : FVec Ideal S1x16x8192x8192 .f32) (j : S1x16x8192x8192.Idx) :
    refLogSigmoid n j = -sp (n j) := by
  pointwise [refLogSigmoid, refZero]
  rw [if_neg (by simp)]
  unfold sp
  rw [zero_sub]
  rfl

/-- The log-fail kept at a key: before the query its log-fail, else zero. -/
theorem fail_apply (sc : FVec Ideal S1x16x8192x8192 .f32) (h : Fin 16) (R s : Fin 8192) :
    refFail sc (ix4 (0 : Fin 1) h R s) = if s.val < R.val then lf (sc (ix4 (0 : Fin 1) h R s)) else 0 := by
  have e : refFail sc (ix4 (0 : Fin 1) h R s) = Scalar.select (refBefore (ix4 (0 : Fin 1) h R s))
      (refLogSigmoid (Host.negf (Host.negf sc)) (ix4 (0 : Fin 1) h R s)) 0 := by
    pointwise [refFail]
    rw [zero_entry]
  rw [e, before_apply, logSigmoid_apply]
  have e2 : Host.negf (Host.negf sc) (ix4 (0 : Fin 1) h R s) = sc (ix4 (0 : Fin 1) h R s) := neg_neg (sc _)
  rw [e2, lf, zero_sub]

/-- The running sum from the end at key `s`: the sum of the entries from `s` on. -/
theorem run_apply (f : FVec Ideal S1x16x8192x8192 .f32) (h : Fin 16) (R s : Fin 8192) :
    refRun f (ix4 (0 : Fin 1) h R s)
      = ∑ k : Fin 8192, if hk : s.val + k.val < 8192 then f (ix4 (0 : Fin 1) h R ⟨s.val + k.val, hk⟩) else 0 := by
  have e : broadcastInDim S_ ![] bcast_S_S_ (constant (F := Ideal) S_ .f32 0x00000000#32) (Shape.Idx.first h_S_) = (0 : EReal) := by
    pointwise
  unfold refRun
  rw [reduceWindowAdd_last (Nm1 := 8191) rfl f _ _ h_S_ e]

/-- The weight of a key: zero from the query on; before it, the exponential of its log-hit and of the log-fails
    between it and the query. -/
theorem weight_apply (q kv : FVec Ideal S1x8192x4096 .bf16) (h : Fin 16) (R s : Fin 8192) :
    refWeight (refScore q kv) (refFail (refScore q kv)) (ix4 (0 : Fin 1) h R s)
      = if s.val < R.val then Ideal.exp ((score q kv h R s.val - sp (score q kv h R s.val))
          + ∑ k ∈ Finset.Ico (s.val + 1) R.val, lf (score q kv h R k)) else 0 := by
  have e : refWeight (refScore q kv) (refFail (refScore q kv)) (ix4 (0 : Fin 1) h R s)
      = Scalar.select (refBefore (ix4 (0 : Fin 1) h R s))
        (Ideal.exp (refLogSigmoid (Host.negf (refScore q kv)) (ix4 (0 : Fin 1) h R s)
          + (refRun (refFail (refScore q kv)) (ix4 (0 : Fin 1) h R s) - refFail (refScore q kv) (ix4 (0 : Fin 1) h R s)))) 0 := by
    pointwise [refWeight]
    rw [zero_entry]
  rw [e, before_apply]
  by_cases hR : s.val < R.val
  swap
  · rw [if_neg hR, if_neg hR]
  rw [if_pos hR, if_pos hR, logSigmoid_apply, run_apply, fail_apply, if_pos hR, score_apply]
  have e2 : Host.negf (refScore q kv) (ix4 (0 : Fin 1) h R s) = -score q kv h R s.val :=
    congrArg Neg.neg (score_apply q kv h R s)
  have e3 : (∑ k : Fin 8192, if hk : s.val + k.val < 8192 then refFail (refScore q kv) (ix4 (0 : Fin 1) h R ⟨s.val + k.val, hk⟩) else 0)
      = lf (score q kv h R s.val) + ∑ k ∈ Finset.Ico (s.val + 1) R.val, lf (score q kv h R k) := by
    have e4 : (∑ k : Fin 8192, if hk : s.val + k.val < 8192 then refFail (refScore q kv) (ix4 (0 : Fin 1) h R ⟨s.val + k.val, hk⟩) else 0)
        = ∑ k : Fin 8192, if s.val + k.val < 8192 then (if s.val + k.val < R.val then lf (score q kv h R (s.val + k.val)) else 0) else 0 := by
      refine Finset.sum_congr rfl fun k _ => ?_
      by_cases hk : s.val + k.val < 8192
      · rw [dif_pos hk, if_pos hk, fail_apply, score_apply]
      · rw [dif_neg hk, if_neg hk]
    rw [e4, sum_window_rev (fun k => if k < R.val then lf (score q kv h R k) else 0) 8192 s.val (by omega),
      sum_masked (fun k => lf (score q kv h R k)) s.val 8192 R.val (by omega), Finset.sum_eq_sum_Ico_succ_bot hR]
  rw [e2, e3, hit_eq]

/-- The reference's result at an index: the stick-weighted sum of the values before the query, gated. -/
theorem ref_apply (q kv : FVec Ideal S1x8192x4096 .bf16) (g : FVec Ideal S1x8192x4096 .f32) (R : Fin 8192) (e : Fin 2048) :
    REF q kv g (ix3 (0 : Fin 1) R e)
      = stick (score q kv ⟨e.val / 128, by omega⟩ R) (value kv e) R.val 0
        * gated (g (ix3 (0 : Fin 1) R (⟨e.val, by omega⟩ : Fin 4096))) := by
  have e1 : REF q kv g (ix3 (0 : Fin 1) R e)
      = (∑ s : Fin 8192, kv (ix3 (0 : Fin 1) s (⟨2048 + e.val, by omega⟩ : Fin 4096))
          * refWeight (refScore q kv) (refFail (refScore q kv)) (ix4 (0 : Fin 1) ⟨e.val / 128, by omega⟩ R s))
        * gated (g (ix3 (0 : Fin 1) R (⟨e.val, by omega⟩ : Fin 4096))) := by
    unfold gated
    rw [zero_sub]
    pointwise [REF, refOut]
  rw [e1]
  congr 1
  unfold stick
  rw [← sum_masked (fun s => Ideal.exp ((score q kv ⟨e.val / 128, by omega⟩ R s - sp (score q kv ⟨e.val / 128, by omega⟩ R s))
    + ∑ k ∈ Finset.Ico (s + 1) R.val, lf (score q kv ⟨e.val / 128, by omega⟩ R k)) * value kv e s) 0 8192 R.val (by omega),
    ← Finset.range_eq_Ico, ← Fin.sum_univ_eq_sum_range]
  refine Finset.sum_congr rfl fun s _ => ?_
  rw [weight_apply]
  unfold value
  rw [dif_pos s.isLt]
  by_cases hs : s.val < R.val
  · rw [if_pos hs, if_pos hs, mul_comm]
  · rw [if_neg hs, if_neg hs, mul_zero]

end Cert.Proof.Stick

end
-- ==== Proof.StickValue.lean ====
/-
  The stick-breaking attention kernel's result array: every grid point's block is the reference's result at the
  block's place, and the blocks cover the array.
-/
module

public import proofs.«01_k».proof.Proof.StickStep
public import proofs.«01_k».proof.Proof.StickRef
public import Idealize.ShloMosaic.Lib.Pipeline.Covers
public import Idealize.ShloMosaic.Lib.Claim

@[expose] public section

set_option maxRecDepth 16384

noncomputable section

namespace Cert.Proof.Stick

open Cert.KernelIdeal Cert.KernelIdeal.Gen Idealize.ShloMosaic Idealize.ShloMosaic.TcCoe Idealize.SL.Sem

variable (m : (ℓ : Loc nD τ sig) → Buf (Elt Ideal) ℓ)

/-- Where each window's block stands at a grid point. -/
theorem idx : ∀ t : Fin cfg0.N, win0_0.index t = ![0, (grid0.coords t 2).val, (grid0.coords t 1).val]
    ∧ win0_1.index t = ![0, 0, (grid0.coords t 1).val] ∧ win0_2.index t = ![0, 0, 16 + (grid0.coords t 1).val]
    ∧ win0_3.index t = ![0, (grid0.coords t 2).val, (grid0.coords t 1).val] ∧ win0_4.index t = ![0, 0]
    ∧ win0_5.index t = ![0, (grid0.coords t 2).val, (grid0.coords t 1).val] :=
  (by decide +kernel : ∀ t : Fin grid0.N, _)

/-- The blocks of the result cover it. -/
theorem cover : (cfg0.win 5).Covers :=
  (cfg0.win 5).covers_of_indexMap_surj rfl (by decide) fun β =>
    ⟨fun a => match a with
      | ⟨0, _⟩ => (⟨0, Nat.one_pos⟩ : Fin 1)
      | ⟨1, _⟩ => ⟨(β 2).val, (β 2).isLt⟩
      | ⟨2, _⟩ => ⟨(β 1).val, (β 1).isLt⟩, fun a => by
      have h0 : (β 0).val < 1 := (β 0).isLt
      have h1 : (β 1).val < 32 := (β 1).isLt
      have h2 : (β 2).val < 16 := (β 2).isLt
      match a with
      | ⟨0, _⟩ => show (BitVec.ofNat 32 0).toNat = (β 0).val; simp
      | ⟨1, _⟩ => show (BitVec.ofNat 32 (β 1).val).toNat = (β 1).val; rw [BitVec.toNat_ofNat]; omega
      | ⟨2, _⟩ => show (BitVec.ofNat 32 (β 2).val).toNat = (β 2).val; rw [BitVec.toNat_ofNat]; omega⟩

/-- The triangular operand the host prepares: one where the row is past the column, else zero. -/
theorem tri_apply (c : Dev nD) (t : Fin cfg0.N) (l' l : Fin 256) :
    (show Vec Ideal S256x256 .bf16 from iblk m c 4 t) (ix2 l' l) = if l.val < l'.val then (1 : EReal) else 0 := by
  have e : (show Vec Ideal S256x256 .bf16 from iblk m c 4 t) (ix2 l' l)
      = (show Vec Ideal S256x256 .bf16 from V m c main_v4) (ix2 l' l) := by
    blk_point [iblk, idx t]
  rw [e]
  entry_read
  pointwise
  by_cases h : l.val < l'.val
  · rw [if_pos h, (WordCmp.cmpi_sgt_ofNat_eq_one_iff (by omega) (by omega)).2 h]
    show ((((1#1 : BitVec 1).toNat : ℝ)) : EReal) = 1
    simp
  · rw [if_neg h, (WordCmp.cmpi_sgt_ofNat_eq_zero_iff (by omega) (by omega)).2 h]
    show ((((0#1 : BitVec 1).toNat : ℝ)) : EReal) = 0
    simp

/-- A point's block, at an index. -/
theorem point (c : Dev nD) (t : Fin cfg0.N) (y : S1x256x128.Idx) :
    k0_pay6 (F := Ideal) (iblk m c 3 t) (state (grid0.coords t) (iblk m c 0 t) (iblk m c 1 t) (iblk m c 2 t) (iblk m c 4 t) (k0_t1_loop (grid0.coords t)).trips).1 y
      = REF (m ((c.tc : Thread nD τ).loc main_arg0)) (m ((c.tc : Thread nD τ).loc main_arg1))
          (m ((c.tc : Thread nD τ).loc main_arg2)) (((cfg0.win 5).blk t).view.emb y) := by
  obtain ⟨r, d, rfl⟩ : ∃ (r : Fin 256) (d : Fin 128), y = ix3 (0 : Fin 1) r d := ⟨y 1, y 2, by
    funext a
    match a with
    | ⟨0, _⟩ => exact Subsingleton.elim (α := Fin 1) _ _
    | ⟨1, _⟩ => rfl
    | ⟨2, _⟩ => rfl⟩
  have h1 : (grid0.coords t 1).val < 16 := (grid0.coords t 1).isLt
  have h2 : (grid0.coords t 2).val < 32 := (grid0.coords t 2).isLt
  have hemb : (((cfg0.win 5).blk t).view.emb (ix3 (0 : Fin 1) r d) : S1x8192x2048.Idx)
      = ix3 (0 : Fin 1) (⟨256 * (grid0.coords t 2).val + r.val, by omega⟩ : Fin 8192) (⟨128 * (grid0.coords t 1).val + d.val, by omega⟩ : Fin 2048) := by
    blk_ext [idx t]
  refine Eq.trans ?_ (congrArg (REF _ _ _) hemb.symm)
  rw [ref_apply]
  refine (block_apply (grid0.coords t) _ _ _ _ _ (score (m ((c.tc : Thread nD τ).loc main_arg0)) (m ((c.tc : Thread nD τ).loc main_arg1))
      ⟨(grid0.coords t 1).val, h1⟩ ⟨256 * (grid0.coords t 2).val + r.val, by omega⟩)
    (value (m ((c.tc : Thread nD τ).loc main_arg1)) ⟨128 * (grid0.coords t 1).val + d.val, by omega⟩) r d (tri_apply m c t) ?_ ?_).trans ?_
  · intro s
    unfold score
    rw [dif_pos s.isLt]
    blk_point [iblk, V, idx t]
  · intro s
    unfold value
    rw [dif_pos s.isLt]
    blk_point [iblk, V, idx t]
  · have hh : (⟨(128 * (grid0.coords t 1).val + d.val) / 128, by omega⟩ : Fin 16) = ⟨(grid0.coords t 1).val, h1⟩ :=
      Fin.ext (by show (128 * (grid0.coords t 1).val + d.val) / 128 = (grid0.coords t 1).val; omega)
    rw [hh]
    congr 2
    blk_point [iblk, V, idx t]

/-- The result array after the run. -/
theorem final (c : Dev nD) : (dats m 0 c).arrAt 5 cfg0.N
    = REF (m ((c.tc : Thread nD τ).loc main_arg0)) (m ((c.tc : Thread nD τ).loc main_arg1)) (m ((c.tc : Thread nD τ).loc main_arg2)) := by
  refine (dats m 0 c).arrAt_eq_of_covers 5 _ cover fun t hf y => ?_
  blk_simp
  rw [after0_5]
  unfold outsAt0
  rw [out_eq]
  exact point m c t y

end Cert.Proof.Stick

end
-- ==== Proof.LayerMath.lean ====
/-
  Two whole-array functions the layer's calls compute: the root-mean-square norm of every row, and the matrix product.
-/
module

public import Idealize.ShloMosaic.Lib.Pipeline.ValueKit

@[expose] public section

noncomputable section

namespace Cert.Proof.Layer

open Idealize.ShloMosaic

/-- The product of two matrices. -/
def mm {a k b : ℕ} (A : (⟨2, ![a, k]⟩ : Shape).Idx → EReal) (W : (⟨2, ![k, b]⟩ : Shape).Idx → EReal) :
    (⟨2, ![a, b]⟩ : Shape).Idx → EReal :=
  fun y => ∑ i : Fin k, A (ix2 (y 0 : Fin a) i) * W (ix2 i (y 1 : Fin b))

/-- The product at an index. -/
theorem mm_apply {a k b : ℕ} (A : (⟨2, ![a, k]⟩ : Shape).Idx → EReal) (W : (⟨2, ![k, b]⟩ : Shape).Idx → EReal)
    (r : Fin a) (n : Fin b) : mm A W (ix2 r n) = ∑ i : Fin k, A (ix2 r i) * W (ix2 i n) := rfl

/-- The product at an index, of the entries of the row and of the column. -/
theorem mm_eq {a k b : ℕ} (A : (⟨2, ![a, k]⟩ : Shape).Idx → EReal) (W : (⟨2, ![k, b]⟩ : Shape).Idx → EReal)
    (r : Fin a) (n : Fin b) (p q : Fin k → EReal) (hp : ∀ i, A (ix2 r i) = p i) (hq : ∀ i, W (ix2 i n) = q i) :
    mm A W (ix2 r n) = ∑ i : Fin k, p i * q i :=
  Finset.sum_congr rfl fun i _ => by rw [← hp, ← hq]; rfl

/-- One entry of the norm of a row: the entry `x n` over the row's root mean square, times the gain `g`. -/
def rnEntry (x : Fin 4096 → EReal) (g : EReal) (n : Fin 4096) : EReal :=
  x n * Ideal.rsqrt (Ideal.div (∑ i, x i * x i) (Ideal.ofBits FTy.f32 1166016512#32) + Ideal.ofBits FTy.f32 897988541#32) * g

/-- The root-mean-square norm of every row, with gains. -/
def rn {a : ℕ} (A : (⟨2, ![a, 4096]⟩ : Shape).Idx → EReal) (G : (⟨2, ![1, 4096]⟩ : Shape).Idx → EReal) :
    (⟨2, ![a, 4096]⟩ : Shape).Idx → EReal :=
  fun y => rnEntry (fun i => A (ix2 (y 0 : Fin a) i)) (G (ix2 (0 : Fin 1) (y 1 : Fin 4096))) (y 1 : Fin 4096)

/-- The norm at an index. -/
theorem rn_apply {a : ℕ} (A : (⟨2, ![a, 4096]⟩ : Shape).Idx → EReal) (G : (⟨2, ![1, 4096]⟩ : Shape).Idx → EReal)
    (r : Fin a) (n : Fin 4096) : rn A G (ix2 r n) = rnEntry (fun i => A (ix2 r i)) (G (ix2 (0 : Fin 1) n)) n := rfl

/-- Every index of a matrix is a pair of a row and a column. -/
theorem exists_ix2 {a b : ℕ} (y : (⟨2, ![a, b]⟩ : Shape).Idx) : ∃ (r : Fin a) (n : Fin b), y = ix2 r n :=
  ⟨y 0, y 1, by
    funext d
    match d with
    | ⟨0, _⟩ => rfl
    | ⟨1, _⟩ => rfl⟩

/-- Every index of a three-axis array is a triple. -/
theorem exists_ix3 {a b d : ℕ} (y : (⟨3, ![a, b, d]⟩ : Shape).Idx) : ∃ (i : Fin a) (j : Fin b) (k : Fin d), y = ix3 i j k :=
  ⟨y 0, y 1, y 2, by
    funext e
    match e with
    | ⟨0, _⟩ => rfl
    | ⟨1, _⟩ => rfl
    | ⟨2, _⟩ => rfl⟩

/-- Every index of a five-axis array is a quintuple. -/
theorem exists_ix5 {a b d e f : ℕ} (y : (⟨5, ![a, b, d, e, f]⟩ : Shape).Idx) :
    ∃ (i : Fin a) (j : Fin b) (k : Fin d) (l : Fin e) (n : Fin f), y = ix5 i j k l n :=
  ⟨y 0, y 1, y 2, y 3, y 4, by
    funext e
    match e with
    | ⟨0, _⟩ => rfl
    | ⟨1, _⟩ => rfl
    | ⟨2, _⟩ => rfl
    | ⟨3, _⟩ => rfl
    | ⟨4, _⟩ => rfl⟩

end Cert.Proof.Layer

end
-- ==== Proof.EvenMath.lean ====
/-
  The attention layer's input as one product: its entries, and the column of the weights each result's place takes.
-/
module

public import proofs.«01_k».proof.Proof.LayerMath

@[expose] public section

noncomputable section

namespace Cert.Proof.Layer

open Idealize.ShloMosaic

/-- Column `n` of the product of the normed row `(b, r)` with the weights. -/
def evenProd {B T : ℕ} (x : (⟨3, ![B, T, 4096]⟩ : Shape).Idx → EReal) (g : (⟨2, ![2, 4096]⟩ : Shape).Idx → EReal)
    (w : (⟨3, ![1, 4096, 14416]⟩ : Shape).Idx → EReal) (b : Fin B) (r : Fin T) (n : Fin 14416) : EReal :=
  ∑ i : Fin 4096, rnEntry (fun i => x (ix3 b r i)) (g (ix2 (0 : Fin 2) i)) i * w (ix3 (0 : Fin 1) i n)

/-- The weights' column of the queries' column `n`. -/
def colQ (n : Fin 5120) : Fin 14416 :=
  if h1 : n.val < 2048 then ⟨n.val, by omega⟩ else if h2 : n.val < 3072 then ⟨n.val + 1024, by omega⟩ else ⟨n.val + 3152, by omega⟩

/-- It as a number. -/
theorem colQ_val (n : Fin 5120) :
    (colQ n).val = if n.val < 2048 then n.val else if n.val < 3072 then n.val + 1024 else n.val + 3152 := by
  unfold colQ
  split_ifs <;> rfl

/-- The weights' column of column `n` of the first heads' keys and values. -/
def colA (n : Fin 1024) : Fin 14416 := ⟨2048 + n.val, by omega⟩

/-- The weights' column of column `n` of the second heads' keys and values. -/
def colB (n : Fin 4096) : Fin 14416 := ⟨8272 + n.val, by omega⟩

/-- The weights' column of the indexer's column `n`. -/
def colK (n : Fin 80) : Fin 14416 := ⟨4096 + n.val, by omega⟩

/-- The weights' column of the gates' column `n`. -/
def colG (n : Fin 4096) : Fin 14416 :=
  if h : n.val < 2048 then ⟨4176 + n.val, by omega⟩ else ⟨10320 + n.val, by omega⟩

/-- It as a number. -/
theorem colG_val (n : Fin 4096) : (colG n).val = if n.val < 2048 then 4176 + n.val else 10320 + n.val := by
  unfold colG
  split_ifs <;> rfl

end Cert.Proof.Layer

end
-- ==== Proof.EvenRef.lean ====
/-
  The reference of the attention layer's input at an index: each result's entry is one entry of the product of the
  normed rows with the layer's weights, at the column its place in the result stands for.
-/
module

public import proofs.«01_k».proof.Proof.EvenMath
public import proofs.«01_k».proof.Proof.Gen.InEvenRefIdeal.Run
public import Idealize.ShloMosaic.Lib.Pipeline.ValueKit
public import Idealize.ShloMosaic.Lib.Claim

@[expose] public section

set_option maxRecDepth 16384

noncomputable section

namespace Cert.Proof.Even

open Cert.InEvenRefIdeal Cert.InEvenRefIdeal.Gen Cert.Proof.Layer Idealize.ShloMosaic Idealize.ShloMosaic.TcCoe Idealize.SL.Sem

/-- The reference's normed rows. -/
def refH (x : FVec Ideal S1x8192x4096 .f32) (g : FVec Ideal S2x4096 .f32) : FVec Ideal S1x8192x4096 .f32 :=
  (mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 (shapeCast _ (extractStridedSlice S1x4096 ![0, 0] g slices_S2x4096_S1x4096_0_0) shapeCasts_S1x4096_S4096))))

/-- The reference's product of the normed rows with the layer's weights. -/
def refY (x : FVec Ideal S1x8192x4096 .f32) (g : FVec Ideal S2x4096 .f32) (w : FVec Ideal S1x4096x14416 .f32) : FVec Ideal S1x8192x14416 .f32 :=
  Host.dotGeneral dot_S1x8192x4096_S4096x14416_S1x8192x14416_2_0_01_1_n_n none (refH x g) (shapeCast _ w shapeCasts_S1x4096x14416_S4096x14416)

/-- The product at an index. -/
theorem refY_apply (x : FVec Ideal S1x8192x4096 .f32) (g : FVec Ideal S2x4096 .f32) (w : FVec Ideal S1x4096x14416 .f32) (b : Fin 1) (r : Fin 8192) (n : Fin 14416) :
    refY x g w (ix3 b r n) = evenProd x g w b r n := by
  obtain rfl : b = 0 := Subsingleton.elim _ _
  have e : ∀ i : Fin 4096, refH x g (ix3 (0 : Fin 1) r i) = rnEntry (fun i => x (ix3 (0 : Fin 1) r i)) (g (ix2 (0 : Fin 2) i)) i := fun i => by
    unfold rnEntry
    pointwise [refH]
  unfold evenProd
  simp only [← e]
  pointwise [refY]

/-- The queries' columns, of the product `y`. -/
def refQ (y : FVec Ideal S1x8192x14416 .f32) : FVec Ideal S1x8192x5120 .bf16 :=
  truncf .bf16 ((concatenate S1x8192x5120 2 [⟨S1x8192x2048, ((extractStridedSlice S1x8192x2048 ![0, 0, 0] y slices_S1x8192x14416_S1x8192x2048_0_0_0) : (⟨S1x8192x2048, .f32⟩ : BufTy).Contents (Elt Ideal))⟩, ⟨S1x8192x1024, ((extractStridedSlice S1x8192x1024 ![0, 0, 3072] y slices_S1x8192x14416_S1x8192x1024_0_0_3072) : (⟨S1x8192x1024, .f32⟩ : BufTy).Contents (Elt Ideal))⟩, ⟨S1x8192x2048, ((extractStridedSlice S1x8192x2048 ![0, 0, 6224] y slices_S1x8192x14416_S1x8192x2048_0_0_6224) : (⟨S1x8192x2048, .f32⟩ : BufTy).Contents (Elt Ideal))⟩] concatenates_S1x8192x2048_S1x8192x1024_S1x8192x2048_S1x8192x5120_d2 : (⟨S1x8192x5120, .f32⟩ : BufTy).Contents (Elt Ideal))) bitsLt_bf16_f32

/-- The first heads' keys and values, of the product `y`. -/
def refA (y : FVec Ideal S1x8192x14416 .f32) : FVec Ideal S1x8192x2x4x128 .f32 :=
  concatenate S1x8192x2x4x128 2 [⟨S1x8192x1x4x128, (broadcastInDim S1x8192x1x4x128 ![0, 1, 3, 4] bcast_S1x8192x4x128_S1x8192x1x4x128_0_1_3_4 (shapeCast _ (extractStridedSlice S1x8192x512 ![0, 0, 2048] y slices_S1x8192x14416_S1x8192x512_0_0_2048) shapeCasts_S1x8192x512_S1x8192x4x128))⟩, ⟨S1x8192x1x4x128, (broadcastInDim S1x8192x1x4x128 ![0, 1, 3, 4] bcast_S1x8192x4x128_S1x8192x1x4x128_0_1_3_4 (shapeCast _ (extractStridedSlice S1x8192x512 ![0, 0, 2560] y slices_S1x8192x14416_S1x8192x512_0_0_2560) shapeCasts_S1x8192x512_S1x8192x4x128))⟩] concatenates_S1x8192x1x4x128_S1x8192x1x4x128_S1x8192x2x4x128_d2

/-- The second heads' keys and values, of the product `y`. -/
def refB (y : FVec Ideal S1x8192x14416 .f32) : FVec Ideal S1x8192x2x8x256 .f32 :=
  concatenate S1x8192x2x8x256 2 [⟨S1x8192x1x8x256, (broadcastInDim S1x8192x1x8x256 ![0, 1, 3, 4] bcast_S1x8192x8x256_S1x8192x1x8x256_0_1_3_4 (shapeCast _ (extractStridedSlice S1x8192x2048 ![0, 0, 8272] y slices_S1x8192x14416_S1x8192x2048_0_0_8272) shapeCasts_S1x8192x2048_S1x8192x8x256))⟩, ⟨S1x8192x1x8x256, (broadcastInDim S1x8192x1x8x256 ![0, 1, 3, 4] bcast_S1x8192x8x256_S1x8192x1x8x256_0_1_3_4 (shapeCast _ (extractStridedSlice S1x8192x2048 ![0, 0, 10320] y slices_S1x8192x14416_S1x8192x2048_0_0_10320) shapeCasts_S1x8192x2048_S1x8192x8x256))⟩] concatenates_S1x8192x1x8x256_S1x8192x1x8x256_S1x8192x2x8x256_d2

/-- The indexer's key and weights beside zeros, of the product `y`. -/
def refK (y : FVec Ideal S1x8192x14416 .f32) : FVec Ideal S1x8192x128 .f32 :=
  (concatenate S1x8192x128 2 [⟨S1x8192x64, ((extractStridedSlice S1x8192x64 ![0, 0, 4096] y slices_S1x8192x14416_S1x8192x64_0_0_4096) : (⟨S1x8192x64, .f32⟩ : BufTy).Contents (Elt Ideal))⟩, ⟨S1x8192x16, ((extractStridedSlice S1x8192x16 ![0, 0, 4160] y slices_S1x8192x14416_S1x8192x16_0_0_4160) : (⟨S1x8192x16, .f32⟩ : BufTy).Contents (Elt Ideal))⟩, ⟨S1x8192x48, ((broadcastInDim S1x8192x48 ![] bcast_S_S1x8192x48 (constant (F := Ideal) S_ .f32 0x00000000#32)) : (⟨S1x8192x48, .f32⟩ : BufTy).Contents (Elt Ideal))⟩] concatenates_S1x8192x64_S1x8192x16_S1x8192x48_S1x8192x128_d2 : (⟨S1x8192x128, .f32⟩ : BufTy).Contents (Elt Ideal))

/-- The gates, of the product `y`. -/
def refG (y : FVec Ideal S1x8192x14416 .f32) : FVec Ideal S1x8192x4096 .f32 :=
  concatenate S1x8192x4096 2 [⟨S1x8192x2048, (extractStridedSlice S1x8192x2048 ![0, 0, 4176] y slices_S1x8192x14416_S1x8192x2048_0_0_4176)⟩, ⟨S1x8192x2048, (extractStridedSlice S1x8192x2048 ![0, 0, 12368] y slices_S1x8192x14416_S1x8192x2048_0_0_12368)⟩] concatenates_S1x8192x2048_S1x8192x2048_S1x8192x4096_d2

/-- The queries at an index. -/
theorem refQ_apply (y : FVec Ideal S1x8192x14416 .f32) (b : Fin 1) (r : Fin 8192) (n : Fin 5120) :
    refQ y (ix3 b r n) = y (ix3 b r (colQ n)) := by
  obtain rfl : b = 0 := Subsingleton.elim _ _
  pointwise [refQ]
  split_ifs
  all_goals first
    | omega
    | exact congrArg (fun c => y (ix3 (0 : Fin 1) r c)) (Fin.ext (by rw [colQ_val]; try dsimp only; split_ifs <;> omega))

/-- The first heads' keys (`k = 0`) and values (`k = 1`) at an index. -/
theorem refA_apply (y : FVec Ideal S1x8192x14416 .f32) (b : Fin 1) (r : Fin 8192) (k : Fin 2) (h : Fin 4) (d : Fin 128) :
    refA y (ix5 b r k h d) = y (ix3 b r (colA ⟨512 * k.val + (128 * h.val + d.val), by omega⟩)) := by
  obtain rfl : b = 0 := Subsingleton.elim _ _
  pointwise [refA]
  split_ifs
  all_goals exact congrArg (fun c => y (ix3 (0 : Fin 1) r c)) (Fin.ext (by unfold colA; dsimp only; omega))

/-- The second heads' keys and values at an index. -/
theorem refB_apply (y : FVec Ideal S1x8192x14416 .f32) (b : Fin 1) (r : Fin 8192) (k : Fin 2) (h : Fin 8) (d : Fin 256) :
    refB y (ix5 b r k h d) = y (ix3 b r (colB ⟨2048 * k.val + (256 * h.val + d.val), by omega⟩)) := by
  obtain rfl : b = 0 := Subsingleton.elim _ _
  pointwise [refB]
  split_ifs
  all_goals exact congrArg (fun c => y (ix3 (0 : Fin 1) r c)) (Fin.ext (by unfold colB; dsimp only; omega))

/-- The indexer's key, weights and zeros at an index. -/
theorem refK_apply (y : FVec Ideal S1x8192x14416 .f32) (b : Fin 1) (r : Fin 8192) (n : Fin 128) :
    refK y (ix3 b r n) = if h : n.val < 80 then y (ix3 b r (colK ⟨n.val, h⟩)) else 0 := by
  obtain rfl : b = 0 := Subsingleton.elim _ _
  by_cases h : n.val < 80
  · rw [dif_pos h]
    pointwise [refK]
    split_ifs
    all_goals first
      | omega
      | exact congrArg (fun c => y (ix3 (0 : Fin 1) r c)) (Fin.ext (by first | rfl | (unfold colK; dsimp only; omega)))
  · rw [dif_neg h]
    pointwise [refK]
    split_ifs
    all_goals first
      | omega
      | exact Ideal.ofBits_zero_f32
      | rfl

/-- The gates at an index. -/
theorem refG_apply (y : FVec Ideal S1x8192x14416 .f32) (b : Fin 1) (r : Fin 8192) (n : Fin 4096) :
    refG y (ix3 b r n) = y (ix3 b r (colG n)) := by
  obtain rfl : b = 0 := Subsingleton.elim _ _
  pointwise [refG]
  split_ifs
  all_goals first
    | omega
    | exact congrArg (fun c => y (ix3 (0 : Fin 1) r c)) (Fin.ext (by rw [colG_val]; try dsimp only; split_ifs <;> omega))

/-- They side by side, in the shorter type. -/
def refA2 (y : FVec Ideal S1x8192x14416 .f32) : FVec Ideal S1x8192x1024 .bf16 :=
  shapeCast _ (truncf .bf16 (refA y) bitsLt_bf16_f32) shapeCasts_S1x8192x2x4x128_S1x8192x1024

/-- They at an index. -/
theorem refA2_apply (y : FVec Ideal S1x8192x14416 .f32) (b : Fin 1) (r : Fin 8192) (n : Fin 1024) :
    refA2 y (ix3 b r n) = y (ix3 b r (colA n)) := by
  have e : refA2 y (ix3 b r n) = refA y (ix5 b r (⟨n.val / 512, by omega⟩ : Fin 2) (⟨n.val % 512 / 128, by omega⟩ : Fin 4) (⟨n.val % 128, by omega⟩ : Fin 128)) := by
    obtain rfl : b = 0 := Subsingleton.elim _ _
    pointwise [refA2]
    try blk_ext
  rw [e, refA_apply]
  exact congrArg (fun c => y (ix3 b r c)) (Fin.ext (by unfold colA; dsimp only; omega))

/-- They side by side, in the shorter type. -/
def refB2 (y : FVec Ideal S1x8192x14416 .f32) : FVec Ideal S1x8192x4096 .bf16 :=
  shapeCast _ (truncf .bf16 (refB y) bitsLt_bf16_f32) shapeCasts_S1x8192x2x8x256_S1x8192x4096

/-- They at an index. -/
theorem refB2_apply (y : FVec Ideal S1x8192x14416 .f32) (b : Fin 1) (r : Fin 8192) (n : Fin 4096) :
    refB2 y (ix3 b r n) = y (ix3 b r (colB n)) := by
  have e : refB2 y (ix3 b r n) = refB y (ix5 b r (⟨n.val / 2048, by omega⟩ : Fin 2) (⟨n.val % 2048 / 256, by omega⟩ : Fin 8) (⟨n.val % 256, by omega⟩ : Fin 256)) := by
    obtain rfl : b = 0 := Subsingleton.elim _ _
    pointwise [refB2]
    try blk_ext
  rw [e, refB_apply]
  exact congrArg (fun c => y (ix3 b r c)) (Fin.ext (by unfold colB; dsimp only; omega))

/-- The indexer's key, of the product `y`. -/
def refI (y : FVec Ideal S1x8192x14416 .f32) : FVec Ideal S1x8192x64 .f32 :=
  extractStridedSlice S1x8192x64 ![0, 0, 4096] y slices_S1x8192x14416_S1x8192x64_0_0_4096

/-- It at an index. -/
theorem refI_apply (y : FVec Ideal S1x8192x14416 .f32) (b : Fin 1) (r : Fin 8192) (n : Fin 64) :
    refI y (ix3 b r n) = y (ix3 b r (colK ⟨n.val, by omega⟩)) := by
  obtain rfl : b = 0 := Subsingleton.elim _ _
  pointwise [refI]
  try exact congrArg (fun c => y (ix3 (0 : Fin 1) r c)) (Fin.ext (by unfold colK; dsimp only))

variable (m : (ℓ : Loc nD τ sig) → Buf (Elt Ideal) ℓ)

/-- The reference's product of a run's arguments. -/
abbrev runY (c : Dev nD) : FVec Ideal S1x8192x14416 .f32 :=
  refY (m ((c.tc : Thread nD τ).loc main_arg0)) (m ((c.tc : Thread nD τ).loc main_arg1)) (m ((c.tc : Thread nD τ).loc main_arg2))

/-- The reference runs to its end, at its eight results, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v40) = refQ (runY m c)
      ∧ r.2.mem ((c.tc : Thread nD τ).loc main_v32) = refA (runY m c)
      ∧ r.2.mem ((c.tc : Thread nD τ).loc main_v42) = refA2 (runY m c)
      ∧ r.2.mem ((c.tc : Thread nD τ).loc main_v37) = refB (runY m c)
      ∧ r.2.mem ((c.tc : Thread nD τ).loc main_v44) = refB2 (runY m c)
      ∧ r.2.mem ((c.tc : Thread nD τ).loc main_v45) = refK (runY m c)
      ∧ r.2.mem ((c.tc : Thread nD τ).loc main_v21) = refI (runY m c)
      ∧ r.2.mem ((c.tc : Thread nD τ).loc main_v46) = refG (runY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.InEvenRefIdeal.Value.run m ρ

end Cert.Proof.Even

end
-- ==== Proof.EvenRun.lean ====
/-
  The run of the attention layer's input: what every buffer holds at the end.
-/
module

public import proofs.«01_k».proof.Proof.Gen.InEvenIdeal.Frame
public import Idealize.ShloMosaic.Lib.Pipeline.ValueKit

@[expose] public section

noncomputable section

namespace Cert.Proof.Even

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c b hb => h c _ (mem_uc b hb))

end Cert.Proof.Even

end
-- ==== Proof.EvenRegions.lean ====
/-
  The arrays the six calls of the attention layer's input leave, of the arrays each is given: the norm of every row,
  and the products with the five groups of weights.
-/
module

public import proofs.«01_k».proof.Proof.LayerMath
public import proofs.«01_k».proof.Proof.Gen.InEvenIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.Even

open Cert.InEvenIdeal Cert.InEvenIdeal.Gen Cert.Proof.Layer Idealize.ShloMosaic Idealize.ShloMosaic.TcCoe Idealize.SL.Sem

variable (V : (c : Dev nD) → (b : Ref sig .tc) → Buf (Elt Ideal) ((c : Thread nD τ).loc b))

/-! ## The norm of call 0 -/

/-- Where call 0's blocks stand at a grid point. -/
theorem idx0 : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

/-- The blocks of call 0's result cover it. -/
theorem cover0 : (cfg0.win 2).Covers :=
  (cfg0.win 2).covers_of_indexMap_surj rfl (by decide) fun β =>
    ⟨fun a => match a with
      | ⟨0, _⟩ => ⟨(β 0).val, (β 0).isLt⟩, fun a => by
      have h0 : (β 0).val < 32 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of call 0's result at an index. -/
theorem pay0_apply (x : Vec Ideal S256x4096 .f32) (g : Vec Ideal S1x4096 .f32) (r : Fin 256) (n : Fin 4096) :
    k0_pay1 (F := Ideal) x g (ix2 r n) = rnEntry (fun i => x (ix2 r i)) (g (ix2 (0 : Fin 1) n)) n := by
  unfold rnEntry
  pointwise [k0_pay1]

/-- Call 0's result ends at the norm of its array. -/
theorem final0 (c : Dev nD) : (dat0 V c).arrAt 2 cfg0.N = rn (V c main_v0) (V c main_v3) := by
  refine (dat0 V c).arrAt_eq_of_covers 2 _ cover0 fun t hf y => ?_
  blk_simp
  rw [after0_2]
  frame_out
  obtain ⟨r, n, rfl⟩ := exists_ix2 (a := 256) (b := 4096) y
  have h0 : (grid0.coords t 0).val < 32 := (grid0.coords t 0).isLt
  have hemb : (((cfg0.win 2).blk t).view.emb (ix2 r n) : S8192x4096.Idx)
      = ix2 (⟨256 * (grid0.coords t 0).val + r.val, by omega⟩ : Fin 8192) n := by
    blk_ext [idx0 t]
  refine Eq.trans ?_ (congrArg (rn (V c main_v0) (V c main_v3)) hemb.symm)
  rw [rn_apply]
  refine (pay0_apply _ _ r n).trans (congrArg₂ (fun a b => rnEntry a b n) (funext fun i => ?_) ?_)
  · blk_point [iblk0, idx0 t]
  · blk_point [iblk0, idx0 t]

/-! ## The product of call 1 -/

/-- Where call 1's blocks stand at a grid point. -/
theorem idx1 : ∀ t : Fin cfg1.N, win1_0.index t = ![(grid1.coords t 0).val, 0] ∧ win1_1.index t = ![0, (grid1.coords t 1).val] ∧ win1_2.index t = ![(grid1.coords t 0).val, (grid1.coords t 1).val] :=
  (by decide +kernel : ∀ t : Fin grid1.N, _)

/-- The bounds of a grid point of call 1. -/
theorem lt1 (t : Fin cfg1.N) : (grid1.coords t 0).val < 8 ∧ (grid1.coords t 1).val < 5 :=
  ⟨(grid1.coords t 0).isLt, (grid1.coords t 1).isLt⟩

/-- The blocks of window 2 of call 1 cover its array. -/
theorem cover1_2 : (cfg1.win 2).Covers :=
  (cfg1.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 5 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 1 at an index. -/
theorem pay1_2_apply (a : Vec Ideal S1024x4096 .bf16) (w : Vec Ideal S4096x1024 .bf16) (r : Fin 1024) (n : Fin 1024) :
    k1_pay1 (F := Ideal) a w (ix2 r n) = ∑ i : Fin 4096, a (ix2 r i) * w (ix2 i n) := by
  pointwise [k1_pay1]

/-- Window 2 of call 1 ends at the product of the call's two arrays. -/
theorem final1_2 (c : Dev nD) : (dat1 V c).arrAt 2 cfg1.N = mm (V c main_v29) (V c main_v20) := by
  refine (dat1 V c).arrAt_eq_of_covers 2 _ cover1_2 fun t hf y => ?_
  blk_simp
  rw [after1_2]
  frame_out
  obtain ⟨r, n, rfl⟩ := exists_ix2 (a := 1024) (b := 1024) y
  have h0 := (lt1 t).1
  have h1 := (lt1 t).2
  have hemb : (((cfg1.win 2).blk t).view.emb (ix2 r n) : S8192x5120.Idx)
      = ix2 (⟨1024 * (grid1.coords t 0).val + r.val, by omega⟩ : Fin 8192) (⟨1024 * (grid1.coords t 1).val + n.val, by omega⟩ : Fin 5120) := by
    blk_ext [idx1 t]
  refine Eq.trans ?_ (congrArg (mm (V c main_v29) (V c main_v20)) hemb.symm)
  rw [mm_apply]
  refine (pay1_2_apply _ _ r n).trans (Finset.sum_congr rfl fun i _ => congrArg₂ (fun a b : EReal => a * b) ?_ ?_)
  · blk_point [iblk1, idx1 t]
  · blk_point [iblk1, idx1 t]

/-! ## The product of call 2 -/

/-- Where call 2's blocks stand at a grid point. -/
theorem idx2 : ∀ t : Fin cfg2.N, win2_0.index t = ![(grid2.coords t 0).val, 0] ∧ win2_1.index t = ![0, (grid2.coords t 1).val] ∧ win2_2.index t = ![(grid2.coords t 0).val, (grid2.coords t 1).val] ∧ win2_3.index t = ![(grid2.coords t 0).val, (grid2.coords t 1).val] :=
  (by decide +kernel : ∀ t : Fin grid2.N, _)

/-- The bounds of a grid point of call 2. -/
theorem lt2 (t : Fin cfg2.N) : (grid2.coords t 0).val < 8 ∧ (grid2.coords t 1).val < 1 :=
  ⟨(grid2.coords t 0).isLt, (grid2.coords t 1).isLt⟩

/-- The blocks of window 2 of call 2 cover its array. -/
theorem cover2_2 : (cfg2.win 2).Covers :=
  (cfg2.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 2 at an index. -/
theorem pay2_2_apply (a : Vec Ideal S1024x4096 .bf16) (w : Vec Ideal S4096x1024 .bf16) (r : Fin 1024) (n : Fin 1024) :
    k2_pay1 (F := Ideal) a w (ix2 r n) = ∑ i : Fin 4096, a (ix2 r i) * w (ix2 i n) := by
  pointwise [k2_pay1]

/-- Window 2 of call 2 ends at the product of the call's two arrays. -/
theorem final2_2 (c : Dev nD) : (dat2 V c).arrAt 2 cfg2.N = mm (V c main_v29) (V c main_v22) := by
  refine (dat2 V c).arrAt_eq_of_covers 2 _ cover2_2 fun t hf y => ?_
  blk_simp
  rw [after2_2]
  frame_out
  obtain ⟨r, n, rfl⟩ := exists_ix2 (a := 1024) (b := 1024) y
  have h0 := (lt2 t).1
  have h1 := (lt2 t).2
  have hemb : (((cfg2.win 2).blk t).view.emb (ix2 r n) : S8192x1024.Idx)
      = ix2 (⟨1024 * (grid2.coords t 0).val + r.val, by omega⟩ : Fin 8192) (⟨1024 * (grid2.coords t 1).val + n.val, by omega⟩ : Fin 1024) := by
    blk_ext [idx2 t]
  refine Eq.trans ?_ (congrArg (mm (V c main_v29) (V c main_v22)) hemb.symm)
  rw [mm_apply]
  refine (pay2_2_apply _ _ r n).trans (Finset.sum_congr rfl fun i _ => congrArg₂ (fun a b : EReal => a * b) ?_ ?_)
  · blk_point [iblk2, idx2 t]
  · blk_point [iblk2, idx2 t]

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 2 at an index. -/
theorem pay2_3_apply (a : Vec Ideal S1024x4096 .bf16) (w : Vec Ideal S4096x1024 .bf16) (r : Fin 1024) (n : Fin 1024) :
    k2_pay2 (F := Ideal) a w (ix2 r n) = ∑ i : Fin 4096, a (ix2 r i) * w (ix2 i n) := by
  pointwise [k2_pay2, k2_pay1]

/-- Window 3 of call 2 ends at the product of the call's two arrays. -/
theorem final2_3 (c : Dev nD) : (dat2 V c).arrAt 3 cfg2.N = mm (V c main_v29) (V c main_v22) := by
  refine (dat2 V c).arrAt_eq_of_covers 3 _ cover2_3 fun t hf y => ?_
  blk_simp
  rw [after2_3]
  frame_out
  obtain ⟨r, n, rfl⟩ := exists_ix2 (a := 1024) (b := 1024) y
  have h0 := (lt2 t).1
  have h1 := (lt2 t).2
  have hemb : (((cfg2.win 3).blk t).view.emb (ix2 r n) : S8192x1024.Idx)
      = ix2 (⟨1024 * (grid2.coords t 0).val + r.val, by omega⟩ : Fin 8192) (⟨1024 * (grid2.coords t 1).val + n.val, by omega⟩ : Fin 1024) := by
    blk_ext [idx2 t]
  refine Eq.trans ?_ (congrArg (mm (V c main_v29) (V c main_v22)) hemb.symm)
  rw [mm_apply]
  refine (pay2_3_apply _ _ r n).trans (Finset.sum_congr rfl fun i _ => congrArg₂ (fun a b : EReal => a * b) ?_ ?_)
  · blk_point [iblk2, idx2 t]
  · blk_point [iblk2, idx2 t]

/-! ## The product of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] :=
  (by decide +kernel : ∀ t : Fin grid3.N, _)

/-- The bounds of a grid point of call 3. -/
theorem lt3 (t : Fin cfg3.N) : (grid3.coords t 0).val < 8 ∧ (grid3.coords t 1).val < 4 :=
  ⟨(grid3.coords t 0).isLt, (grid3.coords t 1).isLt⟩

/-- The blocks of window 2 of call 3 cover its array. -/
theorem cover3_2 : (cfg3.win 2).Covers :=
  (cfg3.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 3 at an index. -/
theorem pay3_2_apply (a : Vec Ideal S1024x4096 .bf16) (w : Vec Ideal S4096x1024 .bf16) (r : Fin 1024) (n : Fin 1024) :
    k3_pay1 (F := Ideal) a w (ix2 r n) = ∑ i : Fin 4096, a (ix2 r i) * w (ix2 i n) := by
  pointwise [k3_pay1]

/-- Window 2 of call 3 ends at the product of the call's two arrays. -/
theorem final3_2 (c : Dev nD) : (dat3 V c).arrAt 2 cfg3.N = mm (V c main_v29) (V c main_v24) := by
  refine (dat3 V c).arrAt_eq_of_covers 2 _ cover3_2 fun t hf y => ?_
  blk_simp
  rw [after3_2]
  frame_out
  obtain ⟨r, n, rfl⟩ := exists_ix2 (a := 1024) (b := 1024) y
  have h0 := (lt3 t).1
  have h1 := (lt3 t).2
  have hemb : (((cfg3.win 2).blk t).view.emb (ix2 r n) : S8192x4096.Idx)
      = ix2 (⟨1024 * (grid3.coords t 0).val + r.val, by omega⟩ : Fin 8192) (⟨1024 * (grid3.coords t 1).val + n.val, by omega⟩ : Fin 4096) := by
    blk_ext [idx3 t]
  refine Eq.trans ?_ (congrArg (mm (V c main_v29) (V c main_v24)) hemb.symm)
  rw [mm_apply]
  refine (pay3_2_apply _ _ r n).trans (Finset.sum_congr rfl fun i _ => congrArg₂ (fun a b : EReal => a * b) ?_ ?_)
  · blk_point [iblk3, idx3 t]
  · blk_point [iblk3, idx3 t]

/-- The blocks of window 3 of call 3 cover its array. -/
theorem cover3_3 : (cfg3.win 3).Covers :=
  (cfg3.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 3 at an index. -/
theorem pay3_3_apply (a : Vec Ideal S1024x4096 .bf16) (w : Vec Ideal S4096x1024 .bf16) (r : Fin 1024) (n : Fin 1024) :
    k3_pay2 (F := Ideal) a w (ix2 r n) = ∑ i : Fin 4096, a (ix2 r i) * w (ix2 i n) := by
  pointwise [k3_pay2, k3_pay1]

/-- Window 3 of call 3 ends at the product of the call's two arrays. -/
theorem final3_3 (c : Dev nD) : (dat3 V c).arrAt 3 cfg3.N = mm (V c main_v29) (V c main_v24) := by
  refine (dat3 V c).arrAt_eq_of_covers 3 _ cover3_3 fun t hf y => ?_
  blk_simp
  rw [after3_3]
  frame_out
  obtain ⟨r, n, rfl⟩ := exists_ix2 (a := 1024) (b := 1024) y
  have h0 := (lt3 t).1
  have h1 := (lt3 t).2
  have hemb : (((cfg3.win 3).blk t).view.emb (ix2 r n) : S8192x4096.Idx)
      = ix2 (⟨1024 * (grid3.coords t 0).val + r.val, by omega⟩ : Fin 8192) (⟨1024 * (grid3.coords t 1).val + n.val, by omega⟩ : Fin 4096) := by
    blk_ext [idx3 t]
  refine Eq.trans ?_ (congrArg (mm (V c main_v29) (V c main_v24)) hemb.symm)
  rw [mm_apply]
  refine (pay3_3_apply _ _ r n).trans (Finset.sum_congr rfl fun i _ => congrArg₂ (fun a b : EReal => a * b) ?_ ?_)
  · blk_point [iblk3, idx3 t]
  · blk_point [iblk3, idx3 t]

/-! ## The product of call 4 -/

/-- Where call 4's blocks stand at a grid point. -/
theorem idx4 : ∀ t : Fin cfg4.N, win4_0.index t = ![(grid4.coords t 0).val, 0] ∧ win4_1.index t = ![0, (grid4.coords t 1).val] ∧ win4_2.index t = ![(grid4.coords t 0).val, (grid4.coords t 1).val] :=
  (by decide +kernel : ∀ t : Fin grid4.N, _)

/-- The bounds of a grid point of call 4. -/
theorem lt4 (t : Fin cfg4.N) : (grid4.coords t 0).val < 8 ∧ (grid4.coords t 1).val < 1 :=
  ⟨(grid4.coords t 0).isLt, (grid4.coords t 1).isLt⟩

/-- The blocks of window 2 of call 4 cover its array. -/
theorem cover4_2 : (cfg4.win 2).Covers :=
  (cfg4.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 4 at an index. -/
theorem pay4_2_apply (a : Vec Ideal S1024x4096 .bf16) (w : Vec Ideal S4096x128 .bf16) (r : Fin 1024) (n : Fin 128) :
    k4_pay1 (F := Ideal) a w (ix2 r n) = ∑ i : Fin 4096, a (ix2 r i) * w (ix2 i n) := by
  pointwise [k4_pay1]

/-- Window 2 of call 4 ends at the product of the call's two arrays. -/
theorem final4_2 (c : Dev nD) : (dat4 V c).arrAt 2 cfg4.N = mm (V c main_v29) (V c main_v26) := by
  refine (dat4 V c).arrAt_eq_of_covers 2 _ cover4_2 fun t hf y => ?_
  blk_simp
  rw [after4_2]
  frame_out
  obtain ⟨r, n, rfl⟩ := exists_ix2 (a := 1024) (b := 128) y
  have h0 := (lt4 t).1
  have h1 := (lt4 t).2
  have hemb : (((cfg4.win 2).blk t).view.emb (ix2 r n) : S8192x128.Idx)
      = ix2 (⟨1024 * (grid4.coords t 0).val + r.val, by omega⟩ : Fin 8192) (⟨128 * (grid4.coords t 1).val + n.val, by omega⟩ : Fin 128) := by
    blk_ext [idx4 t]
  refine Eq.trans ?_ (congrArg (mm (V c main_v29) (V c main_v26)) hemb.symm)
  rw [mm_apply]
  refine (pay4_2_apply _ _ r n).trans (Finset.sum_congr rfl fun i _ => congrArg₂ (fun a b : EReal => a * b) ?_ ?_)
  · blk_point [iblk4, idx4 t]
  · blk_point [iblk4, idx4 t]

/-! ## The product of call 5 -/

/-- Where call 5's blocks stand at a grid point. -/
theorem idx5 : ∀ t : Fin cfg5.N, win5_0.index t = ![(grid5.coords t 0).val, 0] ∧ win5_1.index t = ![0, (grid5.coords t 1).val] ∧ win5_2.index t = ![(grid5.coords t 0).val, (grid5.coords t 1).val] :=
  (by decide +kernel : ∀ t : Fin grid5.N, _)

/-- The bounds of a grid point of call 5. -/
theorem lt5 (t : Fin cfg5.N) : (grid5.coords t 0).val < 8 ∧ (grid5.coords t 1).val < 4 :=
  ⟨(grid5.coords t 0).isLt, (grid5.coords t 1).isLt⟩

/-- The blocks of window 2 of call 5 cover its array. -/
theorem cover5_2 : (cfg5.win 2).Covers :=
  (cfg5.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 5 at an index. -/
theorem pay5_2_apply (a : Vec Ideal S1024x4096 .bf16) (w : Vec Ideal S4096x1024 .bf16) (r : Fin 1024) (n : Fin 1024) :
    k5_pay1 (F := Ideal) a w (ix2 r n) = ∑ i : Fin 4096, a (ix2 r i) * w (ix2 i n) := by
  pointwise [k5_pay1]

/-- Window 2 of call 5 ends at the product of the call's two arrays. -/
theorem final5_2 (c : Dev nD) : (dat5 V c).arrAt 2 cfg5.N = mm (V c main_v29) (V c main_v28) := by
  refine (dat5 V c).arrAt_eq_of_covers 2 _ cover5_2 fun t hf y => ?_
  blk_simp
  rw [after5_2]
  frame_out
  obtain ⟨r, n, rfl⟩ := exists_ix2 (a := 1024) (b := 1024) y
  have h0 := (lt5 t).1
  have h1 := (lt5 t).2
  have hemb : (((cfg5.win 2).blk t).view.emb (ix2 r n) : S8192x4096.Idx)
      = ix2 (⟨1024 * (grid5.coords t 0).val + r.val, by omega⟩ : Fin 8192) (⟨1024 * (grid5.coords t 1).val + n.val, by omega⟩ : Fin 4096) := by
    blk_ext [idx5 t]
  refine Eq.trans ?_ (congrArg (mm (V c main_v29) (V c main_v28)) hemb.symm)
  rw [mm_apply]
  refine (pay5_2_apply _ _ r n).trans (Finset.sum_congr rfl fun i _ => congrArg₂ (fun a b : EReal => a * b) ?_ ?_)
  · blk_point [iblk5, idx5 t]
  · blk_point [iblk5, idx5 t]

end Cert.Proof.Even

end
-- ==== Proof.EvenValue.lean ====
/-
  The attention layer's input: what the host prepares for the calls, and each call's array at an index.
-/
module

public import proofs.«01_k».proof.Proof.EvenMath
public import proofs.«01_k».proof.Proof.EvenRegions
public import Idealize.ShloMosaic.Lib.StableHlo.RunRead

@[expose] public section

set_option maxRecDepth 16384

noncomputable section

namespace Cert.Proof.Even

open Cert.InEvenIdeal Cert.InEvenIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![1, 8192, 4096]⟩ : Shape).Idx → EReal := m ((c.tc : Thread nD τ).loc main_arg0)
/-- The norms' gains. -/
abbrev argN (c : Dev nD) : (⟨2, ![2, 4096]⟩ : Shape).Idx → EReal := m ((c.tc : Thread nD τ).loc main_arg1)
/-- The layer's weights. -/
abbrev argW (c : Dev nD) : (⟨3, ![1, 4096, 14416]⟩ : Shape).Idx → EReal := m ((c.tc : Thread nD τ).loc main_arg2)

/-- The rows the norm is given. -/
theorem rows_apply (c : Dev nD) (b : Fin 1) (r : Fin 8192) (n : Fin 4096) :
    (show Vec Ideal S8192x4096 .f32 from W1 m ρ c (Proc.devRef .tc main_v0)) (ix2 r n) = argX m c (ix3 b r n) := by
  obtain rfl : b = 0 := Subsingleton.elim _ _
  after_results_simp
  pointwise
  blk_ext

/-- The gains the norm is given. -/
theorem gains_apply (c : Dev nD) (n : Fin 4096) :
    (show Vec Ideal S1x4096 .f32 from W1 m ρ c (Proc.devRef .tc main_v3)) (ix2 (0 : Fin 1) n) = argN m c (ix2 (0 : Fin 2) n) := by
  after_results_simp
  pointwise
  try blk_ext

/-- The normed rows the products are given. -/
theorem normed_apply (c : Dev nD) (b : Fin 1) (r : Fin 8192) (n : Fin 4096) :
    (show Vec Ideal S8192x4096 .bf16 from W3 m ρ c (Proc.devRef .tc main_v29)) (ix2 r n)
      = rnEntry (fun i => argX m c (ix3 b r i)) (argN m c (ix2 (0 : Fin 2) n)) n := by
  have e : (show Vec Ideal S8192x4096 .bf16 from W3 m ρ c (Proc.devRef .tc main_v29)) (ix2 r n)
      = (show Vec Ideal S8192x4096 .bf16 from W2 m ρ c (Proc.devRef .tc main_v4)) (ix2 r n) := by
    after_results_simp
    pointwise
    try blk_ext
  refine e.trans ((congrFun ((W2_arr m ρ c 2).trans (final0 (V1 m ρ) c)) _).trans ?_)
  rw [rn_apply]
  exact congrArg₂ (fun a b => rnEntry a b n) (funext fun i => rows_apply m ρ c b r i) (gains_apply m ρ c n)

/-- The queries' weights, of the three groups of columns. -/
def catQ (a : FVec Ideal S4096x2048 .f32) (b : FVec Ideal S4096x1024 .f32) (c : FVec Ideal S4096x2048 .f32) : FVec Ideal S4096x5120 .f32 :=
  concatenate S4096x5120 1 [⟨S4096x2048, a⟩, ⟨S4096x1024, b⟩, ⟨S4096x2048, c⟩] concatenates_S4096x2048_S4096x1024_S4096x2048_S4096x5120_d1

/-- The indexer's weights, of the two groups of columns and the zeros. -/
def catK (a : FVec Ideal S4096x64 .f32) (b : FVec Ideal S4096x16 .f32) (c : FVec Ideal S4096x48 .f32) : FVec Ideal S4096x128 .f32 :=
  concatenate S4096x128 1 [⟨S4096x64, a⟩, ⟨S4096x16, b⟩, ⟨S4096x48, c⟩] concatenates_S4096x64_S4096x16_S4096x48_S4096x128_d1

/-- The weights as a matrix. -/
def matW (w : FVec Ideal S1x4096x14416 .f32) : FVec Ideal S4096x14416 .f32 := shapeCast _ w shapeCasts_S1x4096x14416_S4096x14416

/-- The queries' weights as the host prepares them. -/
theorem wq_read (c : Dev nD) : (show Vec Ideal S4096x5120 .bf16 from W3 m ρ c (Proc.devRef .tc main_v20))
    = truncf .bf16 (catQ (extractStridedSlice S4096x2048 ![0, 0] (matW (W2 m ρ c (Proc.devRef .tc main_arg2))) slices_S4096x14416_S4096x2048_0_0)
        (extractStridedSlice S4096x1024 ![0, 3072] (matW (W2 m ρ c (Proc.devRef .tc main_arg2))) slices_S4096x14416_S4096x1024_0_3072)
        (extractStridedSlice S4096x2048 ![0, 6224] (matW (W2 m ρ c (Proc.devRef .tc main_arg2))) slices_S4096x14416_S4096x2048_0_6224)) bitsLt_bf16_f32 := rfl

/-- The indexer's weights as the host prepares them. -/
theorem wk_read (c : Dev nD) : (show Vec Ideal S4096x128 .bf16 from W3 m ρ c (Proc.devRef .tc main_v26))
    = truncf .bf16 (catK (extractStridedSlice S4096x64 ![0, 4096] (matW (W2 m ρ c (Proc.devRef .tc main_arg2))) slices_S4096x14416_S4096x64_0_4096)
        (extractStridedSlice S4096x16 ![0, 4160] (matW (W2 m ρ c (Proc.devRef .tc main_arg2))) slices_S4096x14416_S4096x16_0_4160)
        (broadcastInDim S4096x48 ![] bcast_S_S4096x48 (constant (F := Ideal) S_ .f32 0x00000000#32))) bitsLt_bf16_f32 := rfl

/-- The third argument before the second stretch of host operations. -/
theorem w2_arg (c : Dev nD) : W2 m ρ c (Proc.devRef .tc main_arg2) = m ((c.tc : Thread nD τ).loc main_arg2) :=
  W2_args m ρ c main_arg2 (by decide)

/-- The queries' weights. -/
theorem wq_apply (c : Dev nD) (i : Fin 4096) (n : Fin 5120) :
    (show Vec Ideal S4096x5120 .bf16 from W3 m ρ c (Proc.devRef .tc main_v20)) (ix2 i n) = argW m c (ix3 (0 : Fin 1) i (colQ n)) := by
  rw [wq_read, w2_arg]
  pointwise [catQ, matW]
  split_ifs
  all_goals first
    | omega
    | exact congrArg (fun k => argW m c (ix3 (0 : Fin 1) i k)) (Fin.ext (by first | rfl | (rw [colQ_val]; try dsimp only; split_ifs <;> omega)))

/-- The first heads' keys' and values' weights. -/
theorem wa_apply (c : Dev nD) (i : Fin 4096) (n : Fin 1024) :
    (show Vec Ideal S4096x1024 .bf16 from W3 m ρ c (Proc.devRef .tc main_v22)) (ix2 i n) = argW m c (ix3 (0 : Fin 1) i (colA n)) := by
  after_results
  rw [w2_arg]
  pointwise
  split_ifs
  all_goals first
    | omega
    | exact congrArg (fun k => argW m c (ix3 (0 : Fin 1) i k)) (Fin.ext (by first | rfl | (unfold colA; dsimp only; omega)))

/-- The second heads' keys' and values' weights. -/
theorem wb_apply (c : Dev nD) (i : Fin 4096) (n : Fin 4096) :
    (show Vec Ideal S4096x4096 .bf16 from W3 m ρ c (Proc.devRef .tc main_v24)) (ix2 i n) = argW m c (ix3 (0 : Fin 1) i (colB n)) := by
  after_results
  rw [w2_arg]
  pointwise
  split_ifs
  all_goals first
    | omega
    | exact congrArg (fun k => argW m c (ix3 (0 : Fin 1) i k)) (Fin.ext (by first | rfl | (unfold colB; dsimp only; omega)))

/-- The indexer's weights, beside zeros. -/
theorem wk_apply (c : Dev nD) (i : Fin 4096) (n : Fin 128) :
    (show Vec Ideal S4096x128 .bf16 from W3 m ρ c (Proc.devRef .tc main_v26)) (ix2 i n) = if h : n.val < 80 then argW m c (ix3 (0 : Fin 1) i (colK ⟨n.val, h⟩)) else 0 := by
  rw [wk_read, w2_arg]
  by_cases h : n.val < 80
  · rw [dif_pos h]
    pointwise [catK, matW]
    split_ifs
    all_goals first
      | omega
      | exact congrArg (fun k => argW m c (ix3 (0 : Fin 1) i k)) (Fin.ext (by first | rfl | (unfold colK; dsimp only; omega)))
  · rw [dif_neg h]
    pointwise [catK, matW]
    split_ifs
    all_goals first
      | omega
      | exact Ideal.ofBits_zero_f32
      | rfl

/-- The gates' weights. -/
theorem wg_apply (c : Dev nD) (i : Fin 4096) (n : Fin 4096) :
    (show Vec Ideal S4096x4096 .bf16 from W3 m ρ c (Proc.devRef .tc main_v28)) (ix2 i n) = argW m c (ix3 (0 : Fin 1) i (colG n)) := by
  after_results
  rw [w2_arg]
  pointwise
  split_ifs
  all_goals first
    | omega
    | exact congrArg (fun k => argW m c (ix3 (0 : Fin 1) i k)) (Fin.ext (by first | rfl | (rw [colG_val]; try dsimp only; split_ifs <;> omega)))

/-- The rows every product is given are the normed rows: no call writes them. -/
theorem rows4 (c : Dev nD) : W4 m ρ c (Proc.devRef .tc main_v29) = W3 m ρ c (Proc.devRef .tc main_v29) := W4_of m ρ c main_v29 (by decide)
theorem rows5 (c : Dev nD) : W5 m ρ c (Proc.devRef .tc main_v29) = W3 m ρ c (Proc.devRef .tc main_v29) := (W5_of m ρ c main_v29 (by decide)).trans (rows4 m ρ c)
theorem rows6 (c : Dev nD) : W6 m ρ c (Proc.devRef .tc main_v29) = W3 m ρ c (Proc.devRef .tc main_v29) := (W6_of m ρ c main_v29 (by decide)).trans (rows5 m ρ c)
theorem rows7 (c : Dev nD) : W7 m ρ c (Proc.devRef .tc main_v29) = W3 m ρ c (Proc.devRef .tc main_v29) := (W7_of m ρ c main_v29 (by decide)).trans (rows6 m ρ c)

/-- The queries. -/
theorem q_apply (c : Dev nD) (b : Fin 1) (r : Fin 8192) (n : Fin 5120) :
    (show Vec Ideal S8192x5120 .bf16 from W8 m ρ c (Proc.devRef .tc main_v30)) (ix2 r n) = evenProd (argX m c) (argN m c) (argW m c) b r (colQ n) := by
  refine (congrFun (((((W8_of m ρ c main_v30 (by decide)).trans (W7_of m ρ c main_v30 (by decide))).trans (W6_of m ρ c main_v30 (by decide))).trans (W5_of m ρ c main_v30 (by decide))).trans ((W4_arr m ρ c 2).trans (final1_2 (V3 m ρ) c))) _).trans ?_
  exact mm_eq _ _ _ _ _ _ (fun i => (rfl).trans (normed_apply m ρ c b r i)) (fun i => (rfl).trans (wq_apply m ρ c i n))

/-- The first heads' keys and values. -/
theorem a_apply (c : Dev nD) (b : Fin 1) (r : Fin 8192) (n : Fin 1024) :
    (show Vec Ideal S8192x1024 .f32 from W8 m ρ c (Proc.devRef .tc main_v31_0)) (ix2 r n) = evenProd (argX m c) (argN m c) (argW m c) b r (colA n) := by
  refine (congrFun ((((W8_of m ρ c main_v31_0 (by decide)).trans (W7_of m ρ c main_v31_0 (by decide))).trans (W6_of m ρ c main_v31_0 (by decide))).trans ((W5_arr m ρ c 2).trans (final2_2 (V4 m ρ) c))) _).trans ?_
  exact mm_eq _ _ _ _ _ _ (fun i => (congrFun (rows4 m ρ c) _).trans (normed_apply m ρ c b r i)) (fun i => (congrFun (W4_of m ρ c main_v22 (by decide)) _).trans (wa_apply m ρ c i n))

/-- The first heads' keys and values, in the shorter type. -/
theorem a2_apply (c : Dev nD) (b : Fin 1) (r : Fin 8192) (n : Fin 1024) :
    (show Vec Ideal S8192x1024 .bf16 from W8 m ρ c (Proc.devRef .tc main_v31_1)) (ix2 r n) = evenProd (argX m c) (argN m c) (argW m c) b r (colA n) := by
  refine (congrFun ((((W8_of m ρ c main_v31_1 (by decide)).trans (W7_of m ρ c main_v31_1 (by decide))).trans (W6_of m ρ c main_v31_1 (by decide))).trans ((W5_arr m ρ c 3).trans (final2_3 (V4 m ρ) c))) _).trans ?_
  exact mm_eq _ _ _ _ _ _ (fun i => (congrFun (rows4 m ρ c) _).trans (normed_apply m ρ c b r i)) (fun i => (congrFun (W4_of m ρ c main_v22 (by decide)) _).trans (wa_apply m ρ c i n))

/-- The second heads' keys and values. -/
theorem b_apply (c : Dev nD) (b : Fin 1) (r : Fin 8192) (n : Fin 4096) :
    (show Vec Ideal S8192x4096 .f32 from W8 m ρ c (Proc.devRef .tc main_v32_0)) (ix2 r n) = evenProd (argX m c) (argN m c) (argW m c) b r (colB n) := by
  refine (congrFun (((W8_of m ρ c main_v32_0 (by decide)).trans (W7_of m ρ c main_v32_0 (by decide))).trans ((W6_arr m ρ c 2).trans (final3_2 (V5 m ρ) c))) _).trans ?_
  exact mm_eq _ _ _ _ _ _ (fun i => (congrFun (rows5 m ρ c) _).trans (normed_apply m ρ c b r i)) (fun i => (congrFun ((W5_of m ρ c main_v24 (by decide)).trans (W4_of m ρ c main_v24 (by decide))) _).trans (wb_apply m ρ c i n))

/-- The second heads' keys and values, in the shorter type. -/
theorem b2_apply (c : Dev nD) (b : Fin 1) (r : Fin 8192) (n : Fin 4096) :
    (show Vec Ideal S8192x4096 .bf16 from W8 m ρ c (Proc.devRef .tc main_v32_1)) (ix2 r n) = evenProd (argX m c) (argN m c) (argW m c) b r (colB n) := by
  refine (congrFun (((W8_of m ρ c main_v32_1 (by decide)).trans (W7_of m ρ c main_v32_1 (by decide))).trans ((W6_arr m ρ c 3).trans (final3_3 (V5 m ρ) c))) _).trans ?_
  exact mm_eq _ _ _ _ _ _ (fun i => (congrFun (rows5 m ρ c) _).trans (normed_apply m ρ c b r i)) (fun i => (congrFun ((W5_of m ρ c main_v24 (by decide)).trans (W4_of m ρ c main_v24 (by decide))) _).trans (wb_apply m ρ c i n))

/-- The indexer's key and weights, beside zeros. -/
theorem k_apply (c : Dev nD) (b : Fin 1) (r : Fin 8192) (n : Fin 128) :
    (show Vec Ideal S8192x128 .f32 from W8 m ρ c (Proc.devRef .tc main_v33)) (ix2 r n) = if h : n.val < 80 then evenProd (argX m c) (argN m c) (argW m c) b r (colK ⟨n.val, h⟩) else 0 := by
  refine (congrFun ((W8_of m ρ c main_v33 (by decide)).trans ((W7_arr m ρ c 2).trans (final4_2 (V6 m ρ) c))) _).trans ?_
  refine (mm_eq _ _ _ _ _ _ (fun i => (congrFun (rows6 m ρ c) _).trans (normed_apply m ρ c b r i)) (fun i => (congrFun (((W6_of m ρ c main_v26 (by decide)).trans (W5_of m ρ c main_v26 (by decide))).trans (W4_of m ρ c main_v26 (by decide))) _).trans (wk_apply m ρ c i n))).trans ?_
  by_cases h : n.val < 80
  · simp only [dif_pos h]
    rfl
  · simp only [dif_neg h]
    exact Finset.sum_eq_zero fun i _ => mul_zero _

/-- The gates. -/
theorem g_apply (c : Dev nD) (b : Fin 1) (r : Fin 8192) (n : Fin 4096) :
    (show Vec Ideal S8192x4096 .f32 from W8 m ρ c (Proc.devRef .tc main_v34)) (ix2 r n) = evenProd (argX m c) (argN m c) (argW m c) b r (colG n) := by
  refine (congrFun ((W8_arr m ρ c 2).trans (final5_2 (V7 m ρ) c)) _).trans ?_
  exact mm_eq _ _ _ _ _ _ (fun i => (congrFun (rows7 m ρ c) _).trans (normed_apply m ρ c b r i)) (fun i => (congrFun ((((W7_of m ρ c main_v28 (by decide)).trans (W6_of m ρ c main_v28 (by decide))).trans (W5_of m ρ c main_v28 (by decide))).trans (W4_of m ρ c main_v28 (by decide))) _).trans (wg_apply m ρ c i n))

end Cert.Proof.Even

end
-- ==== Proof.EvenFinal.lean ====
/-
  The attention layer's input: each of the kernel's eight results is the reference's.
-/
module

public import proofs.«01_k».proof.Proof.EvenValue
public import proofs.«01_k».proof.Proof.EvenRun
public import proofs.«01_k».proof.Proof.EvenRef

@[expose] public section

set_option maxRecDepth 16384

noncomputable section

namespace Cert.Proof.Even

open Cert.InEvenIdeal Cert.InEvenIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The queries are the reference's. -/
theorem res_q (c : Dev nD) : (show Vec Ideal S1x8192x5120 .bf16 from W9 m ρ c (Proc.devRef .tc main_v35)) = refQ (refY (argX m c) (argN m c) (argW m c)) := by
  funext y
  obtain ⟨b, r, n, rfl⟩ := exists_ix3 (a := 1) (b := 8192) (d := 5120) y
  have e : (show Vec Ideal S1x8192x5120 .bf16 from W9 m ρ c (Proc.devRef .tc main_v35)) (ix3 b r n)
      = (show Vec Ideal S8192x5120 .bf16 from W8 m ρ c (Proc.devRef .tc main_v30)) (ix2 r n) := by
    obtain rfl : b = 0 := Subsingleton.elim _ _
    after_results_simp
    pointwise
    try blk_ext
  refine e.trans ((q_apply m ρ c b r n).trans ?_)
  rw [refQ_apply]
  exact (refY_apply _ _ _ b r _).symm

/-- The first heads' keys and values are the reference's. -/
theorem res_a (c : Dev nD) : (show Vec Ideal S1x8192x2x4x128 .f32 from W9 m ρ c (Proc.devRef .tc main_v41)) = refA (refY (argX m c) (argN m c) (argW m c)) := by
  funext y
  obtain ⟨b, r, k, h, d, rfl⟩ := exists_ix5 (a := 1) (b := 8192) (d := 2) (e := 4) (f := 128) y
  have e : (show Vec Ideal S1x8192x2x4x128 .f32 from W9 m ρ c (Proc.devRef .tc main_v41)) (ix5 b r k h d)
      = (show Vec Ideal S8192x1024 .f32 from W8 m ρ c (Proc.devRef .tc main_v31_0)) (ix2 r (⟨512 * k.val + (128 * h.val + d.val), by omega⟩ : Fin 1024)) := by
    obtain rfl : b = 0 := Subsingleton.elim _ _
    after_results_simp
    pointwise
    try blk_ext
  refine e.trans ((a_apply m ρ c b r _).trans ?_)
  rw [refA_apply]
  exact (refY_apply _ _ _ b r _).symm

/-- So they are in the shorter type. -/
theorem res_a2 (c : Dev nD) : (show Vec Ideal S1x8192x1024 .bf16 from W9 m ρ c (Proc.devRef .tc main_v36)) = refA2 (refY (argX m c) (argN m c) (argW m c)) := by
  funext y
  obtain ⟨b, r, n, rfl⟩ := exists_ix3 (a := 1) (b := 8192) (d := 1024) y
  have e : (show Vec Ideal S1x8192x1024 .bf16 from W9 m ρ c (Proc.devRef .tc main_v36)) (ix3 b r n)
      = (show Vec Ideal S8192x1024 .bf16 from W8 m ρ c (Proc.devRef .tc main_v31_1)) (ix2 r n) := by
    obtain rfl : b = 0 := Subsingleton.elim _ _
    after_results_simp
    pointwise
    try blk_ext
  refine e.trans ((a2_apply m ρ c b r n).trans ?_)
  rw [refA2_apply]
  exact (refY_apply _ _ _ b r _).symm

/-- The second heads' keys and values are the reference's. -/
theorem res_b (c : Dev nD) : (show Vec Ideal S1x8192x2x8x256 .f32 from W9 m ρ c (Proc.devRef .tc main_v42)) = refB (refY (argX m c) (argN m c) (argW m c)) := by
  funext y
  obtain ⟨b, r, k, h, d, rfl⟩ := exists_ix5 (a := 1) (b := 8192) (d := 2) (e := 8) (f := 256) y
  have e : (show Vec Ideal S1x8192x2x8x256 .f32 from W9 m ρ c (Proc.devRef .tc main_v42)) (ix5 b r k h d)
      = (show Vec Ideal S8192x4096 .f32 from W8 m ρ c (Proc.devRef .tc main_v32_0)) (ix2 r (⟨2048 * k.val + (256 * h.val + d.val), by omega⟩ : Fin 4096)) := by
    obtain rfl : b = 0 := Subsingleton.elim _ _
    after_results_simp
    pointwise
    try blk_ext
  refine e.trans ((b_apply m ρ c b r _).trans ?_)
  rw [refB_apply]
  exact (refY_apply _ _ _ b r _).symm

/-- So they are in the shorter type. -/
theorem res_b2 (c : Dev nD) : (show Vec Ideal S1x8192x4096 .bf16 from W9 m ρ c (Proc.devRef .tc main_v37)) = refB2 (refY (argX m c) (argN m c) (argW m c)) := by
  funext y
  obtain ⟨b, r, n, rfl⟩ := exists_ix3 (a := 1) (b := 8192) (d := 4096) y
  have e : (show Vec Ideal S1x8192x4096 .bf16 from W9 m ρ c (Proc.devRef .tc main_v37)) (ix3 b r n)
      = (show Vec Ideal S8192x4096 .bf16 from W8 m ρ c (Proc.devRef .tc main_v32_1)) (ix2 r n) := by
    obtain rfl : b = 0 := Subsingleton.elim _ _
    after_results_simp
    pointwise
    try blk_ext
  refine e.trans ((b2_apply m ρ c b r n).trans ?_)
  rw [refB2_apply]
  exact (refY_apply _ _ _ b r _).symm

/-- The indexer's key and weights are the reference's. -/
theorem res_k (c : Dev nD) : (show Vec Ideal S1x8192x128 .f32 from W9 m ρ c (Proc.devRef .tc main_v38)) = refK (refY (argX m c) (argN m c) (argW m c)) := by
  funext y
  obtain ⟨b, r, n, rfl⟩ := exists_ix3 (a := 1) (b := 8192) (d := 128) y
  have e : (show Vec Ideal S1x8192x128 .f32 from W9 m ρ c (Proc.devRef .tc main_v38)) (ix3 b r n)
      = (show Vec Ideal S8192x128 .f32 from W8 m ρ c (Proc.devRef .tc main_v33)) (ix2 r n) := by
    obtain rfl : b = 0 := Subsingleton.elim _ _
    after_results_simp
    pointwise
    try blk_ext
  refine e.trans ((k_apply m ρ c b r n).trans ?_)
  rw [refK_apply]
  split_ifs
  · exact (refY_apply _ _ _ b r _).symm
  · rfl

/-- The indexer's key alone is the reference's. -/
theorem res_i (c : Dev nD) : (show Vec Ideal S1x8192x64 .f32 from W9 m ρ c (Proc.devRef .tc main_v40))
    = refI (refY (argX m c) (argN m c) (argW m c)) := by
  funext y
  obtain ⟨b, r, n, rfl⟩ := exists_ix3 (a := 1) (b := 8192) (d := 64) y
  have e : (show Vec Ideal S1x8192x64 .f32 from W9 m ρ c (Proc.devRef .tc main_v40)) (ix3 b r n)
      = (show Vec Ideal S8192x128 .f32 from W8 m ρ c (Proc.devRef .tc main_v33)) (ix2 r (⟨n.val, by omega⟩ : Fin 128)) := by
    obtain rfl : b = 0 := Subsingleton.elim _ _
    after_results_simp
    pointwise
    try blk_ext
  refine e.trans ((k_apply m ρ c b r _).trans ((dif_pos (by dsimp only; omega)).trans ?_))
  rw [refI_apply]
  exact (refY_apply _ _ _ b r _).symm

/-- The gates are the reference's. -/
theorem res_g (c : Dev nD) : (show Vec Ideal S1x8192x4096 .f32 from W9 m ρ c (Proc.devRef .tc main_v39)) = refG (refY (argX m c) (argN m c) (argW m c)) := by
  funext y
  obtain ⟨b, r, n, rfl⟩ := exists_ix3 (a := 1) (b := 8192) (d := 4096) y
  have e : (show Vec Ideal S1x8192x4096 .f32 from W9 m ρ c (Proc.devRef .tc main_v39)) (ix3 b r n)
      = (show Vec Ideal S8192x4096 .f32 from W8 m ρ c (Proc.devRef .tc main_v34)) (ix2 r n) := by
    obtain rfl : b = 0 := Subsingleton.elim _ _
    after_results_simp
    pointwise
    try blk_ext
  refine e.trans ((g_apply m ρ c b r n).trans ?_)
  rw [refG_apply]
  exact (refY_apply _ _ _ b r _).symm

/-- From equal arguments the reference's product is that of the kernel's arguments. -/
theorem runY_eq (m' : (ℓ : Loc Cert.InEvenRefIdeal.nD Cert.InEvenRefIdeal.τ Cert.InEvenRefIdeal.sig) → Buf (Elt Ideal) ℓ) (c : Dev nD)
    (h0 : m' ((c.tc : Thread Cert.InEvenRefIdeal.nD Cert.InEvenRefIdeal.τ).loc Cert.InEvenRefIdeal.main_arg0) = m ((c.tc : Thread nD τ).loc main_arg0))
    (h1 : m' ((c.tc : Thread Cert.InEvenRefIdeal.nD Cert.InEvenRefIdeal.τ).loc Cert.InEvenRefIdeal.main_arg1) = m ((c.tc : Thread nD τ).loc main_arg1))
    (h2 : m' ((c.tc : Thread Cert.InEvenRefIdeal.nD Cert.InEvenRefIdeal.τ).loc Cert.InEvenRefIdeal.main_arg2) = m ((c.tc : Thread nD τ).loc main_arg2)) :
    runY m' c = (refY (argX m c) (argN m c) (argW m c)) :=
  congr (congr (congrArg refY h0) h1) h2

end Cert.Proof.Even

end
-- ==== Proof.EvenSRef.lean ====
/-
  The reference of the first layer's input, on the sample batch, at an index: each result's entry is one entry of the product of the
  normed rows with the layer's weights, at the column its place in the result stands for.
-/
module

public import proofs.«01_k».proof.Proof.EvenMath
public import proofs.«01_k».proof.Proof.Gen.InEvenSRefIdeal.Run
public import Idealize.ShloMosaic.Lib.Pipeline.ValueKit
public import Idealize.ShloMosaic.Lib.Claim

@[expose] public section

set_option maxRecDepth 16384

noncomputable section

namespace Cert.Proof.EvenS

open Cert.InEvenSRefIdeal Cert.InEvenSRefIdeal.Gen Cert.Proof.Layer Idealize.ShloMosaic Idealize.ShloMosaic.TcCoe Idealize.SL.Sem

/-- The reference's normed rows. -/
def refH (x : FVec Ideal S16x64x4096 .f32) (g : FVec Ideal S2x4096 .f32) : FVec Ideal S16x64x4096 .f32 :=
  (mulf (mulf x (broadcastInDim S16x64x4096 ![0, 1, 2] bcast_S16x64x1_S16x64x4096_0_1_2 (Host.rsqrt (addf (Host.divf (broadcastInDim S16x64x1 ![0, 1] bcast_S16x64_S16x64x1_0_1 (Host.reduceAdd (mulf x x) (constant S_ .f32 0x00000000#32) reducesTo_S16x64x4096_S16x64_d2 h_S_)) (broadcastInDim S16x64x1 ![] bcast_S_S16x64x1 (constant S_ .f32 0x45800000#32))) (broadcastInDim S16x64x1 ![] bcast_S_S16x64x1 (constant S_ .f32 0x358637BD#32)))))) (broadcastInDim S16x64x4096 ![0, 1, 2] bcast_S1x1x4096_S16x64x4096_0_1_2 (broadcastInDim S1x1x4096 ![2] bcast_S4096_S1x1x4096_2 (shapeCast _ (extractStridedSlice S1x4096 ![0, 0] g slices_S2x4096_S1x4096_0_0) shapeCasts_S1x4096_S4096))))

/-- The reference's product of the normed rows with the layer's weights. -/
def refY (x : FVec Ideal S16x64x4096 .f32) (g : FVec Ideal S2x4096 .f32) (w : FVec Ideal S1x4096x14416 .f32) : FVec Ideal S16x64x14416 .f32 :=
  Host.dotGeneral dot_S16x64x4096_S4096x14416_S16x64x14416_2_0_01_1_n_n none (refH x g) (shapeCast _ w shapeCasts_S1x4096x14416_S4096x14416)

/-- The product at an index. -/
theorem refY_apply (x : FVec Ideal S16x64x4096 .f32) (g : FVec Ideal S2x4096 .f32) (w : FVec Ideal S1x4096x14416 .f32) (b : Fin 16) (r : Fin 64) (n : Fin 14416) :
    refY x g w (ix3 b r n) = evenProd x g w b r n := by
  have e : ∀ i : Fin 4096, refH x g (ix3 b r i) = rnEntry (fun i => x (ix3 b r i)) (g (ix2 (0 : Fin 2) i)) i := fun i => by
    unfold rnEntry
    pointwise [refH]
  unfold evenProd
  simp only [← e]
  pointwise [refY]

/-- The queries' columns, of the product `y`. -/
def refQ (y : FVec Ideal S16x64x14416 .f32) : FVec Ideal S16x64x5120 .bf16 :=
  truncf .bf16 ((concatenate S16x64x5120 2 [⟨S16x64x2048, ((extractStridedSlice S16x64x2048 ![0, 0, 0] y slices_S16x64x14416_S16x64x2048_0_0_0) : (⟨S16x64x2048, .f32⟩ : BufTy).Contents (Elt Ideal))⟩, ⟨S16x64x1024, ((extractStridedSlice S16x64x1024 ![0, 0, 3072] y slices_S16x64x14416_S16x64x1024_0_0_3072) : (⟨S16x64x1024, .f32⟩ : BufTy).Contents (Elt Ideal))⟩, ⟨S16x64x2048, ((extractStridedSlice S16x64x2048 ![0, 0, 6224] y slices_S16x64x14416_S16x64x2048_0_0_6224) : (⟨S16x64x2048, .f32⟩ : BufTy).Contents (Elt Ideal))⟩] concatenates_S16x64x2048_S16x64x1024_S16x64x2048_S16x64x5120_d2 : (⟨S16x64x5120, .f32⟩ : BufTy).Contents (Elt Ideal))) bitsLt_bf16_f32

/-- The first heads' keys and values, of the product `y`. -/
def refA (y : FVec Ideal S16x64x14416 .f32) : FVec Ideal S16x64x2x4x128 .f32 :=
  concatenate S16x64x2x4x128 2 [⟨S16x64x1x4x128, (broadcastInDim S16x64x1x4x128 ![0, 1, 3, 4] bcast_S16x64x4x128_S16x64x1x4x128_0_1_3_4 (shapeCast _ (extractStridedSlice S16x64x512 ![0, 0, 2048] y slices_S16x64x14416_S16x64x512_0_0_2048) shapeCasts_S16x64x512_S16x64x4x128))⟩, ⟨S16x64x1x4x128, (broadcastInDim S16x64x1x4x128 ![0, 1, 3, 4] bcast_S16x64x4x128_S16x64x1x4x128_0_1_3_4 (shapeCast _ (extractStridedSlice S16x64x512 ![0, 0, 2560] y slices_S16x64x14416_S16x64x512_0_0_2560) shapeCasts_S16x64x512_S16x64x4x128))⟩] concatenates_S16x64x1x4x128_S16x64x1x4x128_S16x64x2x4x128_d2

/-- The second heads' keys and values, of the product `y`. -/
def refB (y : FVec Ideal S16x64x14416 .f32) : FVec Ideal S16x64x2x8x256 .f32 :=
  concatenate S16x64x2x8x256 2 [⟨S16x64x1x8x256, (broadcastInDim S16x64x1x8x256 ![0, 1, 3, 4] bcast_S16x64x8x256_S16x64x1x8x256_0_1_3_4 (shapeCast _ (extractStridedSlice S16x64x2048 ![0, 0, 8272] y slices_S16x64x14416_S16x64x2048_0_0_8272) shapeCasts_S16x64x2048_S16x64x8x256))⟩, ⟨S16x64x1x8x256, (broadcastInDim S16x64x1x8x256 ![0, 1, 3, 4] bcast_S16x64x8x256_S16x64x1x8x256_0_1_3_4 (shapeCast _ (extractStridedSlice S16x64x2048 ![0, 0, 10320] y slices_S16x64x14416_S16x64x2048_0_0_10320) shapeCasts_S16x64x2048_S16x64x8x256))⟩] concatenates_S16x64x1x8x256_S16x64x1x8x256_S16x64x2x8x256_d2

/-- The indexer's key and weights beside zeros, of the product `y`. -/
def refK (y : FVec Ideal S16x64x14416 .f32) : FVec Ideal S16x64x128 .f32 :=
  (concatenate S16x64x128 2 [⟨S16x64x64, ((extractStridedSlice S16x64x64 ![0, 0, 4096] y slices_S16x64x14416_S16x64x64_0_0_4096) : (⟨S16x64x64, .f32⟩ : BufTy).Contents (Elt Ideal))⟩, ⟨S16x64x16, ((extractStridedSlice S16x64x16 ![0, 0, 4160] y slices_S16x64x14416_S16x64x16_0_0_4160) : (⟨S16x64x16, .f32⟩ : BufTy).Contents (Elt Ideal))⟩, ⟨S16x64x48, ((broadcastInDim S16x64x48 ![] bcast_S_S16x64x48 (constant (F := Ideal) S_ .f32 0x00000000#32)) : (⟨S16x64x48, .f32⟩ : BufTy).Contents (Elt Ideal))⟩] concatenates_S16x64x64_S16x64x16_S16x64x48_S16x64x128_d2 : (⟨S16x64x128, .f32⟩ : BufTy).Contents (Elt Ideal))

/-- The gates, of the product `y`. -/
def refG (y : FVec Ideal S16x64x14416 .f32) : FVec Ideal S16x64x4096 .f32 :=
  concatenate S16x64x4096 2 [⟨S16x64x2048, (extractStridedSlice S16x64x2048 ![0, 0, 4176] y slices_S16x64x14416_S16x64x2048_0_0_4176)⟩, ⟨S16x64x2048, (extractStridedSlice S16x64x2048 ![0, 0, 12368] y slices_S16x64x14416_S16x64x2048_0_0_12368)⟩] concatenates_S16x64x2048_S16x64x2048_S16x64x4096_d2

/-- The queries at an index. -/
theorem refQ_apply (y : FVec Ideal S16x64x14416 .f32) (b : Fin 16) (r : Fin 64) (n : Fin 5120) :
    refQ y (ix3 b r n) = y (ix3 b r (colQ n)) := by
  pointwise [refQ]
  split_ifs
  all_goals first
    | omega
    | exact congrArg (fun c => y (ix3 b r c)) (Fin.ext (by rw [colQ_val]; try dsimp only; split_ifs <;> omega))

/-- The first heads' keys (`k = 0`) and values (`k = 1`) at an index. -/
theorem refA_apply (y : FVec Ideal S16x64x14416 .f32) (b : Fin 16) (r : Fin 64) (k : Fin 2) (h : Fin 4) (d : Fin 128) :
    refA y (ix5 b r k h d) = y (ix3 b r (colA ⟨512 * k.val + (128 * h.val + d.val), by omega⟩)) := by
  pointwise [refA]
  split_ifs
  all_goals exact congrArg (fun c => y (ix3 b r c)) (Fin.ext (by unfold colA; dsimp only; omega))

/-- The second heads' keys and values at an index. -/
theorem refB_apply (y : FVec Ideal S16x64x14416 .f32) (b : Fin 16) (r : Fin 64) (k : Fin 2) (h : Fin 8) (d : Fin 256) :
    refB y (ix5 b r k h d) = y (ix3 b r (colB ⟨2048 * k.val + (256 * h.val + d.val), by omega⟩)) := by
  pointwise [refB]
  split_ifs
  all_goals exact congrArg (fun c => y (ix3 b r c)) (Fin.ext (by unfold colB; dsimp only; omega))

/-- The indexer's key, weights and zeros at an index. -/
theorem refK_apply (y : FVec Ideal S16x64x14416 .f32) (b : Fin 16) (r : Fin 64) (n : Fin 128) :
    refK y (ix3 b r n) = if h : n.val < 80 then y (ix3 b r (colK ⟨n.val, h⟩)) else 0 := by
  by_cases h : n.val < 80
  · rw [dif_pos h]
    pointwise [refK]
    split_ifs
    all_goals first
      | omega
      | exact congrArg (fun c => y (ix3 b r c)) (Fin.ext (by first | rfl | (unfold colK; dsimp only; omega)))
  · rw [dif_neg h]
    pointwise [refK]
    split_ifs
    all_goals first
      | omega
      | exact Ideal.ofBits_zero_f32
      | rfl

/-- The gates at an index. -/
theorem refG_apply (y : FVec Ideal S16x64x14416 .f32) (b : Fin 16) (r : Fin 64) (n : Fin 4096) :
    refG y (ix3 b r n) = y (ix3 b r (colG n)) := by
  pointwise [refG]
  split_ifs
  all_goals first
    | omega
    | exact congrArg (fun c => y (ix3 b r c)) (Fin.ext (by rw [colG_val]; try dsimp only; split_ifs <;> omega))

/-- They side by side, in the shorter type. -/
def refA2 (y : FVec Ideal S16x64x14416 .f32) : FVec Ideal S16x64x1024 .bf16 :=
  shapeCast _ (truncf .bf16 (refA y) bitsLt_bf16_f32) shapeCasts_S16x64x2x4x128_S16x64x1024

/-- They at an index. -/
theorem refA2_apply (y : FVec Ideal S16x64x14416 .f32) (b : Fin 16) (r : Fin 64) (n : Fin 1024) :
    refA2 y (ix3 b r n) = y (ix3 b r (colA n)) := by
  have e : refA2 y (ix3 b r n) = refA y (ix5 b r (⟨n.val / 512, by omega⟩ : Fin 2) (⟨n.val % 512 / 128, by omega⟩ : Fin 4) (⟨n.val % 128, by omega⟩ : Fin 128)) := by
    pointwise [refA2]
    try blk_ext
  rw [e, refA_apply]
  exact congrArg (fun c => y (ix3 b r c)) (Fin.ext (by unfold colA; dsimp only; omega))

/-- They side by side, in the shorter type. -/
def refB2 (y : FVec Ideal S16x64x14416 .f32) : FVec Ideal S16x64x4096 .bf16 :=
  shapeCast _ (truncf .bf16 (refB y) bitsLt_bf16_f32) shapeCasts_S16x64x2x8x256_S16x64x4096

/-- They at an index. -/
theorem refB2_apply (y : FVec Ideal S16x64x14416 .f32) (b : Fin 16) (r : Fin 64) (n : Fin 4096) :
    refB2 y (ix3 b r n) = y (ix3 b r (colB n)) := by
  have e : refB2 y (ix3 b r n) = refB y (ix5 b r (⟨n.val / 2048, by omega⟩ : Fin 2) (⟨n.val % 2048 / 256, by omega⟩ : Fin 8) (⟨n.val % 256, by omega⟩ : Fin 256)) := by
    pointwise [refB2]
    try blk_ext
  rw [e, refB_apply]
  exact congrArg (fun c => y (ix3 b r c)) (Fin.ext (by unfold colB; dsimp only; omega))

/-- The indexer's key, of the product `y`. -/
def refI (y : FVec Ideal S16x64x14416 .f32) : FVec Ideal S16x64x64 .f32 :=
  extractStridedSlice S16x64x64 ![0, 0, 4096] y slices_S16x64x14416_S16x64x64_0_0_4096

/-- It at an index. -/
theorem refI_apply (y : FVec Ideal S16x64x14416 .f32) (b : Fin 16) (r : Fin 64) (n : Fin 64) :
    refI y (ix3 b r n) = y (ix3 b r (colK ⟨n.val, by omega⟩)) := by
  pointwise [refI]
  try exact congrArg (fun c => y (ix3 b r c)) (Fin.ext (by unfold colK; dsimp only))

variable (m : (ℓ : Loc nD τ sig) → Buf (Elt Ideal) ℓ)

/-- The reference's product of a run's arguments. -/
abbrev runY (c : Dev nD) : FVec Ideal S16x64x14416 .f32 :=
  refY (m ((c.tc : Thread nD τ).loc main_arg0)) (m ((c.tc : Thread nD τ).loc main_arg1)) (m ((c.tc : Thread nD τ).loc main_arg2))

/-- The reference runs to its end, at its eight results, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v40) = refQ (runY m c)
      ∧ r.2.mem ((c.tc : Thread nD τ).loc main_v32) = refA (runY m c)
      ∧ r.2.mem ((c.tc : Thread nD τ).loc main_v42) = refA2 (runY m c)
      ∧ r.2.mem ((c.tc : Thread nD τ).loc main_v37) = refB (runY m c)
      ∧ r.2.mem ((c.tc : Thread nD τ).loc main_v44) = refB2 (runY m c)
      ∧ r.2.mem ((c.tc : Thread nD τ).loc main_v45) = refK (runY m c)
      ∧ r.2.mem ((c.tc : Thread nD τ).loc main_v21) = refI (runY m c)
      ∧ r.2.mem ((c.tc : Thread nD τ).loc main_v46) = refG (runY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.InEvenSRefIdeal.Value.run m ρ

end Cert.Proof.EvenS

end
-- ==== Proof.EvenSRun.lean ====
/-
  The run of the first layer's input on the sample batch: what every buffer holds at the end.
-/
module

public import proofs.«01_k».proof.Proof.Gen.InEvenSIdeal.Frame
public import Idealize.ShloMosaic.Lib.Pipeline.ValueKit

@[expose] public section

noncomputable section

namespace Cert.Proof.EvenS

open Cert.InEvenSIdeal Cert.InEvenSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c b hb => h c _ (mem_uc b hb))

end Cert.Proof.EvenS

end
-- ==== Proof.EvenSRegions.lean ====
/-
  The arrays the six calls of the first layer's input leave on the sample batch, of the arrays each is given: the norm of
  every row, and the products with the five groups of weights.
-/
module

public import proofs.«01_k».proof.Proof.LayerMath
public import proofs.«01_k».proof.Proof.Gen.InEvenSIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.EvenS

open Cert.InEvenSIdeal Cert.InEvenSIdeal.Gen Cert.Proof.Layer Idealize.ShloMosaic Idealize.ShloMosaic.TcCoe Idealize.SL.Sem

variable (V : (c : Dev nD) → (b : Ref sig .tc) → Buf (Elt Ideal) ((c : Thread nD τ).loc b))

/-! ## The norm of call 0 -/

/-- Where call 0's blocks stand at a grid point. -/
theorem idx0 : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

/-- The blocks of call 0's result cover it. -/
theorem cover0 : (cfg0.win 2).Covers :=
  (cfg0.win 2).covers_of_indexMap_surj rfl (by decide) fun β =>
    ⟨fun a => match a with
      | ⟨0, _⟩ => ⟨(β 0).val, (β 0).isLt⟩, fun a => by
      have h0 : (β 0).val < 4 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of call 0's result at an index. -/
theorem pay0_apply (x : Vec Ideal S256x4096 .f32) (g : Vec Ideal S1x4096 .f32) (r : Fin 256) (n : Fin 4096) :
    k0_pay1 (F := Ideal) x g (ix2 r n) = rnEntry (fun i => x (ix2 r i)) (g (ix2 (0 : Fin 1) n)) n := by
  unfold rnEntry
  pointwise [k0_pay1]

/-- Call 0's result ends at the norm of its array. -/
theorem final0 (c : Dev nD) : (dat0 V c).arrAt 2 cfg0.N = rn (V c main_v0) (V c main_v3) := by
  refine (dat0 V c).arrAt_eq_of_covers 2 _ cover0 fun t hf y => ?_
  blk_simp
  rw [after0_2]
  frame_out
  obtain ⟨r, n, rfl⟩ := exists_ix2 (a := 256) (b := 4096) y
  have h0 : (grid0.coords t 0).val < 4 := (grid0.coords t 0).isLt
  have hemb : (((cfg0.win 2).blk t).view.emb (ix2 r n) : S1024x4096.Idx)
      = ix2 (⟨256 * (grid0.coords t 0).val + r.val, by omega⟩ : Fin 1024) n := by
    blk_ext [idx0 t]
  refine Eq.trans ?_ (congrArg (rn (V c main_v0) (V c main_v3)) hemb.symm)
  rw [rn_apply]
  refine (pay0_apply _ _ r n).trans (congrArg₂ (fun a b => rnEntry a b n) (funext fun i => ?_) ?_)
  · blk_point [iblk0, idx0 t]
  · blk_point [iblk0, idx0 t]

/-! ## The product of call 1 -/

/-- Where call 1's blocks stand at a grid point. -/
theorem idx1 : ∀ t : Fin cfg1.N, win1_0.index t = ![(grid1.coords t 0).val, 0] ∧ win1_1.index t = ![0, (grid1.coords t 1).val] ∧ win1_2.index t = ![(grid1.coords t 0).val, (grid1.coords t 1).val] :=
  (by decide +kernel : ∀ t : Fin grid1.N, _)

/-- The bounds of a grid point of call 1. -/
theorem lt1 (t : Fin cfg1.N) : (grid1.coords t 0).val < 1 ∧ (grid1.coords t 1).val < 5 :=
  ⟨(grid1.coords t 0).isLt, (grid1.coords t 1).isLt⟩

/-- The blocks of window 2 of call 1 cover its array. -/
theorem cover1_2 : (cfg1.win 2).Covers :=
  (cfg1.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 5 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 1 at an index. -/
theorem pay1_2_apply (a : Vec Ideal S1024x4096 .bf16) (w : Vec Ideal S4096x1024 .bf16) (r : Fin 1024) (n : Fin 1024) :
    k1_pay1 (F := Ideal) a w (ix2 r n) = ∑ i : Fin 4096, a (ix2 r i) * w (ix2 i n) := by
  pointwise [k1_pay1]

/-- Window 2 of call 1 ends at the product of the call's two arrays. -/
theorem final1_2 (c : Dev nD) : (dat1 V c).arrAt 2 cfg1.N = mm (V c main_v29) (V c main_v20) := by
  refine (dat1 V c).arrAt_eq_of_covers 2 _ cover1_2 fun t hf y => ?_
  blk_simp
  rw [after1_2]
  frame_out
  obtain ⟨r, n, rfl⟩ := exists_ix2 (a := 1024) (b := 1024) y
  have h0 := (lt1 t).1
  have h1 := (lt1 t).2
  have hemb : (((cfg1.win 2).blk t).view.emb (ix2 r n) : S1024x5120.Idx)
      = ix2 (⟨1024 * (grid1.coords t 0).val + r.val, by omega⟩ : Fin 1024) (⟨1024 * (grid1.coords t 1).val + n.val, by omega⟩ : Fin 5120) := by
    blk_ext [idx1 t]
  refine Eq.trans ?_ (congrArg (mm (V c main_v29) (V c main_v20)) hemb.symm)
  rw [mm_apply]
  refine (pay1_2_apply _ _ r n).trans (Finset.sum_congr rfl fun i _ => congrArg₂ (fun a b : EReal => a * b) ?_ ?_)
  · blk_point [iblk1, idx1 t]
  · blk_point [iblk1, idx1 t]

/-! ## The product of call 2 -/

/-- Where call 2's blocks stand at a grid point. -/
theorem idx2 : ∀ t : Fin cfg2.N, win2_0.index t = ![(grid2.coords t 0).val, 0] ∧ win2_1.index t = ![0, (grid2.coords t 1).val] ∧ win2_2.index t = ![(grid2.coords t 0).val, (grid2.coords t 1).val] ∧ win2_3.index t = ![(grid2.coords t 0).val, (grid2.coords t 1).val] :=
  (by decide +kernel : ∀ t : Fin grid2.N, _)

/-- The bounds of a grid point of call 2. -/
theorem lt2 (t : Fin cfg2.N) : (grid2.coords t 0).val < 1 ∧ (grid2.coords t 1).val < 1 :=
  ⟨(grid2.coords t 0).isLt, (grid2.coords t 1).isLt⟩

/-- The blocks of window 2 of call 2 cover its array. -/
theorem cover2_2 : (cfg2.win 2).Covers :=
  (cfg2.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 2 at an index. -/
theorem pay2_2_apply (a : Vec Ideal S1024x4096 .bf16) (w : Vec Ideal S4096x1024 .bf16) (r : Fin 1024) (n : Fin 1024) :
    k2_pay1 (F := Ideal) a w (ix2 r n) = ∑ i : Fin 4096, a (ix2 r i) * w (ix2 i n) := by
  pointwise [k2_pay1]

/-- Window 2 of call 2 ends at the product of the call's two arrays. -/
theorem final2_2 (c : Dev nD) : (dat2 V c).arrAt 2 cfg2.N = mm (V c main_v29) (V c main_v22) := by
  refine (dat2 V c).arrAt_eq_of_covers 2 _ cover2_2 fun t hf y => ?_
  blk_simp
  rw [after2_2]
  frame_out
  obtain ⟨r, n, rfl⟩ := exists_ix2 (a := 1024) (b := 1024) y
  have h0 := (lt2 t).1
  have h1 := (lt2 t).2
  have hemb : (((cfg2.win 2).blk t).view.emb (ix2 r n) : S1024x1024.Idx)
      = ix2 (⟨1024 * (grid2.coords t 0).val + r.val, by omega⟩ : Fin 1024) (⟨1024 * (grid2.coords t 1).val + n.val, by omega⟩ : Fin 1024) := by
    blk_ext [idx2 t]
  refine Eq.trans ?_ (congrArg (mm (V c main_v29) (V c main_v22)) hemb.symm)
  rw [mm_apply]
  refine (pay2_2_apply _ _ r n).trans (Finset.sum_congr rfl fun i _ => congrArg₂ (fun a b : EReal => a * b) ?_ ?_)
  · blk_point [iblk2, idx2 t]
  · blk_point [iblk2, idx2 t]

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 2 at an index. -/
theorem pay2_3_apply (a : Vec Ideal S1024x4096 .bf16) (w : Vec Ideal S4096x1024 .bf16) (r : Fin 1024) (n : Fin 1024) :
    k2_pay2 (F := Ideal) a w (ix2 r n) = ∑ i : Fin 4096, a (ix2 r i) * w (ix2 i n) := by
  pointwise [k2_pay2, k2_pay1]

/-- Window 3 of call 2 ends at the product of the call's two arrays. -/
theorem final2_3 (c : Dev nD) : (dat2 V c).arrAt 3 cfg2.N = mm (V c main_v29) (V c main_v22) := by
  refine (dat2 V c).arrAt_eq_of_covers 3 _ cover2_3 fun t hf y => ?_
  blk_simp
  rw [after2_3]
  frame_out
  obtain ⟨r, n, rfl⟩ := exists_ix2 (a := 1024) (b := 1024) y
  have h0 := (lt2 t).1
  have h1 := (lt2 t).2
  have hemb : (((cfg2.win 3).blk t).view.emb (ix2 r n) : S1024x1024.Idx)
      = ix2 (⟨1024 * (grid2.coords t 0).val + r.val, by omega⟩ : Fin 1024) (⟨1024 * (grid2.coords t 1).val + n.val, by omega⟩ : Fin 1024) := by
    blk_ext [idx2 t]
  refine Eq.trans ?_ (congrArg (mm (V c main_v29) (V c main_v22)) hemb.symm)
  rw [mm_apply]
  refine (pay2_3_apply _ _ r n).trans (Finset.sum_congr rfl fun i _ => congrArg₂ (fun a b : EReal => a * b) ?_ ?_)
  · blk_point [iblk2, idx2 t]
  · blk_point [iblk2, idx2 t]

/-! ## The product of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] :=
  (by decide +kernel : ∀ t : Fin grid3.N, _)

/-- The bounds of a grid point of call 3. -/
theorem lt3 (t : Fin cfg3.N) : (grid3.coords t 0).val < 1 ∧ (grid3.coords t 1).val < 4 :=
  ⟨(grid3.coords t 0).isLt, (grid3.coords t 1).isLt⟩

/-- The blocks of window 2 of call 3 cover its array. -/
theorem cover3_2 : (cfg3.win 2).Covers :=
  (cfg3.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 3 at an index. -/
theorem pay3_2_apply (a : Vec Ideal S1024x4096 .bf16) (w : Vec Ideal S4096x1024 .bf16) (r : Fin 1024) (n : Fin 1024) :
    k3_pay1 (F := Ideal) a w (ix2 r n) = ∑ i : Fin 4096, a (ix2 r i) * w (ix2 i n) := by
  pointwise [k3_pay1]

/-- Window 2 of call 3 ends at the product of the call's two arrays. -/
theorem final3_2 (c : Dev nD) : (dat3 V c).arrAt 2 cfg3.N = mm (V c main_v29) (V c main_v24) := by
  refine (dat3 V c).arrAt_eq_of_covers 2 _ cover3_2 fun t hf y => ?_
  blk_simp
  rw [after3_2]
  frame_out
  obtain ⟨r, n, rfl⟩ := exists_ix2 (a := 1024) (b := 1024) y
  have h0 := (lt3 t).1
  have h1 := (lt3 t).2
  have hemb : (((cfg3.win 2).blk t).view.emb (ix2 r n) : S1024x4096.Idx)
      = ix2 (⟨1024 * (grid3.coords t 0).val + r.val, by omega⟩ : Fin 1024) (⟨1024 * (grid3.coords t 1).val + n.val, by omega⟩ : Fin 4096) := by
    blk_ext [idx3 t]
  refine Eq.trans ?_ (congrArg (mm (V c main_v29) (V c main_v24)) hemb.symm)
  rw [mm_apply]
  refine (pay3_2_apply _ _ r n).trans (Finset.sum_congr rfl fun i _ => congrArg₂ (fun a b : EReal => a * b) ?_ ?_)
  · blk_point [iblk3, idx3 t]
  · blk_point [iblk3, idx3 t]

/-- The blocks of window 3 of call 3 cover its array. -/
theorem cover3_3 : (cfg3.win 3).Covers :=
  (cfg3.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 3 at an index. -/
theorem pay3_3_apply (a : Vec Ideal S1024x4096 .bf16) (w : Vec Ideal S4096x1024 .bf16) (r : Fin 1024) (n : Fin 1024) :
    k3_pay2 (F := Ideal) a w (ix2 r n) = ∑ i : Fin 4096, a (ix2 r i) * w (ix2 i n) := by
  pointwise [k3_pay2, k3_pay1]

/-- Window 3 of call 3 ends at the product of the call's two arrays. -/
theorem final3_3 (c : Dev nD) : (dat3 V c).arrAt 3 cfg3.N = mm (V c main_v29) (V c main_v24) := by
  refine (dat3 V c).arrAt_eq_of_covers 3 _ cover3_3 fun t hf y => ?_
  blk_simp
  rw [after3_3]
  frame_out
  obtain ⟨r, n, rfl⟩ := exists_ix2 (a := 1024) (b := 1024) y
  have h0 := (lt3 t).1
  have h1 := (lt3 t).2
  have hemb : (((cfg3.win 3).blk t).view.emb (ix2 r n) : S1024x4096.Idx)
      = ix2 (⟨1024 * (grid3.coords t 0).val + r.val, by omega⟩ : Fin 1024) (⟨1024 * (grid3.coords t 1).val + n.val, by omega⟩ : Fin 4096) := by
    blk_ext [idx3 t]
  refine Eq.trans ?_ (congrArg (mm (V c main_v29) (V c main_v24)) hemb.symm)
  rw [mm_apply]
  refine (pay3_3_apply _ _ r n).trans (Finset.sum_congr rfl fun i _ => congrArg₂ (fun a b : EReal => a * b) ?_ ?_)
  · blk_point [iblk3, idx3 t]
  · blk_point [iblk3, idx3 t]

/-! ## The product of call 4 -/

/-- Where call 4's blocks stand at a grid point. -/
theorem idx4 : ∀ t : Fin cfg4.N, win4_0.index t = ![(grid4.coords t 0).val, 0] ∧ win4_1.index t = ![0, (grid4.coords t 1).val] ∧ win4_2.index t = ![(grid4.coords t 0).val, (grid4.coords t 1).val] :=
  (by decide +kernel : ∀ t : Fin grid4.N, _)

/-- The bounds of a grid point of call 4. -/
theorem lt4 (t : Fin cfg4.N) : (grid4.coords t 0).val < 1 ∧ (grid4.coords t 1).val < 1 :=
  ⟨(grid4.coords t 0).isLt, (grid4.coords t 1).isLt⟩

/-- The blocks of window 2 of call 4 cover its array. -/
theorem cover4_2 : (cfg4.win 2).Covers :=
  (cfg4.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 4 at an index. -/
theorem pay4_2_apply (a : Vec Ideal S1024x4096 .bf16) (w : Vec Ideal S4096x128 .bf16) (r : Fin 1024) (n : Fin 128) :
    k4_pay1 (F := Ideal) a w (ix2 r n) = ∑ i : Fin 4096, a (ix2 r i) * w (ix2 i n) := by
  pointwise [k4_pay1]

/-- Window 2 of call 4 ends at the product of the call's two arrays. -/
theorem final4_2 (c : Dev nD) : (dat4 V c).arrAt 2 cfg4.N = mm (V c main_v29) (V c main_v26) := by
  refine (dat4 V c).arrAt_eq_of_covers 2 _ cover4_2 fun t hf y => ?_
  blk_simp
  rw [after4_2]
  frame_out
  obtain ⟨r, n, rfl⟩ := exists_ix2 (a := 1024) (b := 128) y
  have h0 := (lt4 t).1
  have h1 := (lt4 t).2
  have hemb : (((cfg4.win 2).blk t).view.emb (ix2 r n) : S1024x128.Idx)
      = ix2 (⟨1024 * (grid4.coords t 0).val + r.val, by omega⟩ : Fin 1024) (⟨128 * (grid4.coords t 1).val + n.val, by omega⟩ : Fin 128) := by
    blk_ext [idx4 t]
  refine Eq.trans ?_ (congrArg (mm (V c main_v29) (V c main_v26)) hemb.symm)
  rw [mm_apply]
  refine (pay4_2_apply _ _ r n).trans (Finset.sum_congr rfl fun i _ => congrArg₂ (fun a b : EReal => a * b) ?_ ?_)
  · blk_point [iblk4, idx4 t]
  · blk_point [iblk4, idx4 t]

/-! ## The product of call 5 -/

/-- Where call 5's blocks stand at a grid point. -/
theorem idx5 : ∀ t : Fin cfg5.N, win5_0.index t = ![(grid5.coords t 0).val, 0] ∧ win5_1.index t = ![0, (grid5.coords t 1).val] ∧ win5_2.index t = ![(grid5.coords t 0).val, (grid5.coords t 1).val] :=
  (by decide +kernel : ∀ t : Fin grid5.N, _)

/-- The bounds of a grid point of call 5. -/
theorem lt5 (t : Fin cfg5.N) : (grid5.coords t 0).val < 1 ∧ (grid5.coords t 1).val < 4 :=
  ⟨(grid5.coords t 0).isLt, (grid5.coords t 1).isLt⟩

/-- The blocks of window 2 of call 5 cover its array. -/
theorem cover5_2 : (cfg5.win 2).Covers :=
  (cfg5.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 5 at an index. -/
theorem pay5_2_apply (a : Vec Ideal S1024x4096 .bf16) (w : Vec Ideal S4096x1024 .bf16) (r : Fin 1024) (n : Fin 1024) :
    k5_pay1 (F := Ideal) a w (ix2 r n) = ∑ i : Fin 4096, a (ix2 r i) * w (ix2 i n) := by
  pointwise [k5_pay1]

/-- Window 2 of call 5 ends at the product of the call's two arrays. -/
theorem final5_2 (c : Dev nD) : (dat5 V c).arrAt 2 cfg5.N = mm (V c main_v29) (V c main_v28) := by
  refine (dat5 V c).arrAt_eq_of_covers 2 _ cover5_2 fun t hf y => ?_
  blk_simp
  rw [after5_2]
  frame_out
  obtain ⟨r, n, rfl⟩ := exists_ix2 (a := 1024) (b := 1024) y
  have h0 := (lt5 t).1
  have h1 := (lt5 t).2
  have hemb : (((cfg5.win 2).blk t).view.emb (ix2 r n) : S1024x4096.Idx)
      = ix2 (⟨1024 * (grid5.coords t 0).val + r.val, by omega⟩ : Fin 1024) (⟨1024 * (grid5.coords t 1).val + n.val, by omega⟩ : Fin 4096) := by
    blk_ext [idx5 t]
  refine Eq.trans ?_ (congrArg (mm (V c main_v29) (V c main_v28)) hemb.symm)
  rw [mm_apply]
  refine (pay5_2_apply _ _ r n).trans (Finset.sum_congr rfl fun i _ => congrArg₂ (fun a b : EReal => a * b) ?_ ?_)
  · blk_point [iblk5, idx5 t]
  · blk_point [iblk5, idx5 t]

end Cert.Proof.EvenS

end
-- ==== Proof.EvenSValue.lean ====
/-
  The first layer's input on the sample batch: what the host prepares for the calls, and each call's array at an index.
-/
module

public import proofs.«01_k».proof.Proof.EvenMath
public import proofs.«01_k».proof.Proof.EvenSRegions
public import Idealize.ShloMosaic.Lib.StableHlo.RunRead

@[expose] public section

set_option maxRecDepth 16384

noncomputable section

namespace Cert.Proof.EvenS

open Cert.InEvenSIdeal Cert.InEvenSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![16, 64, 4096]⟩ : Shape).Idx → EReal := m ((c.tc : Thread nD τ).loc main_arg0)
/-- The norms' gains. -/
abbrev argN (c : Dev nD) : (⟨2, ![2, 4096]⟩ : Shape).Idx → EReal := m ((c.tc : Thread nD τ).loc main_arg1)
/-- The layer's weights. -/
abbrev argW (c : Dev nD) : (⟨3, ![1, 4096, 14416]⟩ : Shape).Idx → EReal := m ((c.tc : Thread nD τ).loc main_arg2)

/-- The rows the norm is given. -/
theorem rows_apply (c : Dev nD) (b : Fin 16) (r : Fin 64) (n : Fin 4096) :
    (show Vec Ideal S1024x4096 .f32 from W1 m ρ c (Proc.devRef .tc main_v0)) (ix2 (⟨b.val * 64 + r.val, by omega⟩ : Fin 1024) n) = argX m c (ix3 b r n) := by
  after_results_simp
  pointwise
  blk_ext

/-- The gains the norm is given. -/
theorem gains_apply (c : Dev nD) (n : Fin 4096) :
    (show Vec Ideal S1x4096 .f32 from W1 m ρ c (Proc.devRef .tc main_v3)) (ix2 (0 : Fin 1) n) = argN m c (ix2 (0 : Fin 2) n) := by
  after_results_simp
  pointwise
  try blk_ext

/-- The normed rows the products are given. -/
theorem normed_apply (c : Dev nD) (b : Fin 16) (r : Fin 64) (n : Fin 4096) :
    (show Vec Ideal S1024x4096 .bf16 from W3 m ρ c (Proc.devRef .tc main_v29)) (ix2 (⟨b.val * 64 + r.val, by omega⟩ : Fin 1024) n)
      = rnEntry (fun i => argX m c (ix3 b r i)) (argN m c (ix2 (0 : Fin 2) n)) n := by
  have e : (show Vec Ideal S1024x4096 .bf16 from W3 m ρ c (Proc.devRef .tc main_v29)) (ix2 (⟨b.val * 64 + r.val, by omega⟩ : Fin 1024) n)
      = (show Vec Ideal S1024x4096 .bf16 from W2 m ρ c (Proc.devRef .tc main_v4)) (ix2 (⟨b.val * 64 + r.val, by omega⟩ : Fin 1024) n) := by
    after_results_simp
    pointwise
    try blk_ext
  refine e.trans ((congrFun ((W2_arr m ρ c 2).trans (final0 (V1 m ρ) c)) _).trans ?_)
  rw [rn_apply]
  exact congrArg₂ (fun a b => rnEntry a b n) (funext fun i => rows_apply m ρ c b r i) (gains_apply m ρ c n)

/-- The queries' weights, of the three groups of columns. -/
def catQ (a : FVec Ideal S4096x2048 .f32) (b : FVec Ideal S4096x1024 .f32) (c : FVec Ideal S4096x2048 .f32) : FVec Ideal S4096x5120 .f32 :=
  concatenate S4096x5120 1 [⟨S4096x2048, a⟩, ⟨S4096x1024, b⟩, ⟨S4096x2048, c⟩] concatenates_S4096x2048_S4096x1024_S4096x2048_S4096x5120_d1

/-- The indexer's weights, of the two groups of columns and the zeros. -/
def catK (a : FVec Ideal S4096x64 .f32) (b : FVec Ideal S4096x16 .f32) (c : FVec Ideal S4096x48 .f32) : FVec Ideal S4096x128 .f32 :=
  concatenate S4096x128 1 [⟨S4096x64, a⟩, ⟨S4096x16, b⟩, ⟨S4096x48, c⟩] concatenates_S4096x64_S4096x16_S4096x48_S4096x128_d1

/-- The weights as a matrix. -/
def matW (w : FVec Ideal S1x4096x14416 .f32) : FVec Ideal S4096x14416 .f32 := shapeCast _ w shapeCasts_S1x4096x14416_S4096x14416

/-- The queries' weights as the host prepares them. -/
theorem wq_read (c : Dev nD) : (show Vec Ideal S4096x5120 .bf16 from W3 m ρ c (Proc.devRef .tc main_v20))
    = truncf .bf16 (catQ (extractStridedSlice S4096x2048 ![0, 0] (matW (W2 m ρ c (Proc.devRef .tc main_arg2))) slices_S4096x14416_S4096x2048_0_0)
        (extractStridedSlice S4096x1024 ![0, 3072] (matW (W2 m ρ c (Proc.devRef .tc main_arg2))) slices_S4096x14416_S4096x1024_0_3072)
        (extractStridedSlice S4096x2048 ![0, 6224] (matW (W2 m ρ c (Proc.devRef .tc main_arg2))) slices_S4096x14416_S4096x2048_0_6224)) bitsLt_bf16_f32 := rfl

/-- The indexer's weights as the host prepares them. -/
theorem wk_read (c : Dev nD) : (show Vec Ideal S4096x128 .bf16 from W3 m ρ c (Proc.devRef .tc main_v26))
    = truncf .bf16 (catK (extractStridedSlice S4096x64 ![0, 4096] (matW (W2 m ρ c (Proc.devRef .tc main_arg2))) slices_S4096x14416_S4096x64_0_4096)
        (extractStridedSlice S4096x16 ![0, 4160] (matW (W2 m ρ c (Proc.devRef .tc main_arg2))) slices_S4096x14416_S4096x16_0_4160)
        (broadcastInDim S4096x48 ![] bcast_S_S4096x48 (constant (F := Ideal) S_ .f32 0x00000000#32))) bitsLt_bf16_f32 := rfl

/-- The third argument before the second stretch of host operations. -/
theorem w2_arg (c : Dev nD) : W2 m ρ c (Proc.devRef .tc main_arg2) = m ((c.tc : Thread nD τ).loc main_arg2) :=
  W2_args m ρ c main_arg2 (by decide)

/-- The queries' weights. -/
theorem wq_apply (c : Dev nD) (i : Fin 4096) (n : Fin 5120) :
    (show Vec Ideal S4096x5120 .bf16 from W3 m ρ c (Proc.devRef .tc main_v20)) (ix2 i n) = argW m c (ix3 (0 : Fin 1) i (colQ n)) := by
  rw [wq_read, w2_arg]
  pointwise [catQ, matW]
  split_ifs
  all_goals first
    | omega
    | exact congrArg (fun k => argW m c (ix3 (0 : Fin 1) i k)) (Fin.ext (by first | rfl | (rw [colQ_val]; try dsimp only; split_ifs <;> omega)))

/-- The first heads' keys' and values' weights. -/
theorem wa_apply (c : Dev nD) (i : Fin 4096) (n : Fin 1024) :
    (show Vec Ideal S4096x1024 .bf16 from W3 m ρ c (Proc.devRef .tc main_v22)) (ix2 i n) = argW m c (ix3 (0 : Fin 1) i (colA n)) := by
  after_results
  rw [w2_arg]
  pointwise
  split_ifs
  all_goals first
    | omega
    | exact congrArg (fun k => argW m c (ix3 (0 : Fin 1) i k)) (Fin.ext (by first | rfl | (unfold colA; dsimp only; omega)))

/-- The second heads' keys' and values' weights. -/
theorem wb_apply (c : Dev nD) (i : Fin 4096) (n : Fin 4096) :
    (show Vec Ideal S4096x4096 .bf16 from W3 m ρ c (Proc.devRef .tc main_v24)) (ix2 i n) = argW m c (ix3 (0 : Fin 1) i (colB n)) := by
  after_results
  rw [w2_arg]
  pointwise
  split_ifs
  all_goals first
    | omega
    | exact congrArg (fun k => argW m c (ix3 (0 : Fin 1) i k)) (Fin.ext (by first | rfl | (unfold colB; dsimp only; omega)))

/-- The indexer's weights, beside zeros. -/
theorem wk_apply (c : Dev nD) (i : Fin 4096) (n : Fin 128) :
    (show Vec Ideal S4096x128 .bf16 from W3 m ρ c (Proc.devRef .tc main_v26)) (ix2 i n) = if h : n.val < 80 then argW m c (ix3 (0 : Fin 1) i (colK ⟨n.val, h⟩)) else 0 := by
  rw [wk_read, w2_arg]
  by_cases h : n.val < 80
  · rw [dif_pos h]
    pointwise [catK, matW]
    split_ifs
    all_goals first
      | omega
      | exact congrArg (fun k => argW m c (ix3 (0 : Fin 1) i k)) (Fin.ext (by first | rfl | (unfold colK; dsimp only; omega)))
  · rw [dif_neg h]
    pointwise [catK, matW]
    split_ifs
    all_goals first
      | omega
      | exact Ideal.ofBits_zero_f32
      | rfl

/-- The gates' weights. -/
theorem wg_apply (c : Dev nD) (i : Fin 4096) (n : Fin 4096) :
    (show Vec Ideal S4096x4096 .bf16 from W3 m ρ c (Proc.devRef .tc main_v28)) (ix2 i n) = argW m c (ix3 (0 : Fin 1) i (colG n)) := by
  after_results
  rw [w2_arg]
  pointwise
  split_ifs
  all_goals first
    | omega
    | exact congrArg (fun k => argW m c (ix3 (0 : Fin 1) i k)) (Fin.ext (by first | rfl | (rw [colG_val]; try dsimp only; split_ifs <;> omega)))

/-- The rows every product is given are the normed rows: no call writes them. -/
theorem rows4 (c : Dev nD) : W4 m ρ c (Proc.devRef .tc main_v29) = W3 m ρ c (Proc.devRef .tc main_v29) := W4_of m ρ c main_v29 (by decide)
theorem rows5 (c : Dev nD) : W5 m ρ c (Proc.devRef .tc main_v29) = W3 m ρ c (Proc.devRef .tc main_v29) := (W5_of m ρ c main_v29 (by decide)).trans (rows4 m ρ c)
theorem rows6 (c : Dev nD) : W6 m ρ c (Proc.devRef .tc main_v29) = W3 m ρ c (Proc.devRef .tc main_v29) := (W6_of m ρ c main_v29 (by decide)).trans (rows5 m ρ c)
theorem rows7 (c : Dev nD) : W7 m ρ c (Proc.devRef .tc main_v29) = W3 m ρ c (Proc.devRef .tc main_v29) := (W7_of m ρ c main_v29 (by decide)).trans (rows6 m ρ c)

/-- The queries. -/
theorem q_apply (c : Dev nD) (b : Fin 16) (r : Fin 64) (n : Fin 5120) :
    (show Vec Ideal S1024x5120 .bf16 from W8 m ρ c (Proc.devRef .tc main_v30)) (ix2 (⟨b.val * 64 + r.val, by omega⟩ : Fin 1024) n) = evenProd (argX m c) (argN m c) (argW m c) b r (colQ n) := by
  refine (congrFun (((((W8_of m ρ c main_v30 (by decide)).trans (W7_of m ρ c main_v30 (by decide))).trans (W6_of m ρ c main_v30 (by decide))).trans (W5_of m ρ c main_v30 (by decide))).trans ((W4_arr m ρ c 2).trans (final1_2 (V3 m ρ) c))) _).trans ?_
  exact mm_eq _ _ _ _ _ _ (fun i => (rfl).trans (normed_apply m ρ c b r i)) (fun i => (rfl).trans (wq_apply m ρ c i n))

/-- The first heads' keys and values. -/
theorem a_apply (c : Dev nD) (b : Fin 16) (r : Fin 64) (n : Fin 1024) :
    (show Vec Ideal S1024x1024 .f32 from W8 m ρ c (Proc.devRef .tc main_v31_0)) (ix2 (⟨b.val * 64 + r.val, by omega⟩ : Fin 1024) n) = evenProd (argX m c) (argN m c) (argW m c) b r (colA n) := by
  refine (congrFun ((((W8_of m ρ c main_v31_0 (by decide)).trans (W7_of m ρ c main_v31_0 (by decide))).trans (W6_of m ρ c main_v31_0 (by decide))).trans ((W5_arr m ρ c 2).trans (final2_2 (V4 m ρ) c))) _).trans ?_
  exact mm_eq _ _ _ _ _ _ (fun i => (congrFun (rows4 m ρ c) _).trans (normed_apply m ρ c b r i)) (fun i => (congrFun (W4_of m ρ c main_v22 (by decide)) _).trans (wa_apply m ρ c i n))

/-- The first heads' keys and values, in the shorter type. -/
theorem a2_apply (c : Dev nD) (b : Fin 16) (r : Fin 64) (n : Fin 1024) :
    (show Vec Ideal S1024x1024 .bf16 from W8 m ρ c (Proc.devRef .tc main_v31_1)) (ix2 (⟨b.val * 64 + r.val, by omega⟩ : Fin 1024) n) = evenProd (argX m c) (argN m c) (argW m c) b r (colA n) := by
  refine (congrFun ((((W8_of m ρ c main_v31_1 (by decide)).trans (W7_of m ρ c main_v31_1 (by decide))).trans (W6_of m ρ c main_v31_1 (by decide))).trans ((W5_arr m ρ c 3).trans (final2_3 (V4 m ρ) c))) _).trans ?_
  exact mm_eq _ _ _ _ _ _ (fun i => (congrFun (rows4 m ρ c) _).trans (normed_apply m ρ c b r i)) (fun i => (congrFun (W4_of m ρ c main_v22 (by decide)) _).trans (wa_apply m ρ c i n))

/-- The second heads' keys and values. -/
theorem b_apply (c : Dev nD) (b : Fin 16) (r : Fin 64) (n : Fin 4096) :
    (show Vec Ideal S1024x4096 .f32 from W8 m ρ c (Proc.devRef .tc main_v32_0)) (ix2 (⟨b.val * 64 + r.val, by omega⟩ : Fin 1024) n) = evenProd (argX m c) (argN m c) (argW m c) b r (colB n) := by
  refine (congrFun (((W8_of m ρ c main_v32_0 (by decide)).trans (W7_of m ρ c main_v32_0 (by decide))).trans ((W6_arr m ρ c 2).trans (final3_2 (V5 m ρ) c))) _).trans ?_
  exact mm_eq _ _ _ _ _ _ (fun i => (congrFun (rows5 m ρ c) _).trans (normed_apply m ρ c b r i)) (fun i => (congrFun ((W5_of m ρ c main_v24 (by decide)).trans (W4_of m ρ c main_v24 (by decide))) _).trans (wb_apply m ρ c i n))

/-- The second heads' keys and values, in the shorter type. -/
theorem b2_apply (c : Dev nD) (b : Fin 16) (r : Fin 64) (n : Fin 4096) :
    (show Vec Ideal S1024x4096 .bf16 from W8 m ρ c (Proc.devRef .tc main_v32_1)) (ix2 (⟨b.val * 64 + r.val, by omega⟩ : Fin 1024) n) = evenProd (argX m c) (argN m c) (argW m c) b r (colB n) := by
  refine (congrFun (((W8_of m ρ c main_v32_1 (by decide)).trans (W7_of m ρ c main_v32_1 (by decide))).trans ((W6_arr m ρ c 3).trans (final3_3 (V5 m ρ) c))) _).trans ?_
  exact mm_eq _ _ _ _ _ _ (fun i => (congrFun (rows5 m ρ c) _).trans (normed_apply m ρ c b r i)) (fun i => (congrFun ((W5_of m ρ c main_v24 (by decide)).trans (W4_of m ρ c main_v24 (by decide))) _).trans (wb_apply m ρ c i n))

/-- The indexer's key and weights, beside zeros. -/
theorem k_apply (c : Dev nD) (b : Fin 16) (r : Fin 64) (n : Fin 128) :
    (show Vec Ideal S1024x128 .f32 from W8 m ρ c (Proc.devRef .tc main_v33)) (ix2 (⟨b.val * 64 + r.val, by omega⟩ : Fin 1024) n) = if h : n.val < 80 then evenProd (argX m c) (argN m c) (argW m c) b r (colK ⟨n.val, h⟩) else 0 := by
  refine (congrFun ((W8_of m ρ c main_v33 (by decide)).trans ((W7_arr m ρ c 2).trans (final4_2 (V6 m ρ) c))) _).trans ?_
  refine (mm_eq _ _ _ _ _ _ (fun i => (congrFun (rows6 m ρ c) _).trans (normed_apply m ρ c b r i)) (fun i => (congrFun (((W6_of m ρ c main_v26 (by decide)).trans (W5_of m ρ c main_v26 (by decide))).trans (W4_of m ρ c main_v26 (by decide))) _).trans (wk_apply m ρ c i n))).trans ?_
  by_cases h : n.val < 80
  · simp only [dif_pos h]
    rfl
  · simp only [dif_neg h]
    exact Finset.sum_eq_zero fun i _ => mul_zero _

/-- The gates. -/
theorem g_apply (c : Dev nD) (b : Fin 16) (r : Fin 64) (n : Fin 4096) :
    (show Vec Ideal S1024x4096 .f32 from W8 m ρ c (Proc.devRef .tc main_v34)) (ix2 (⟨b.val * 64 + r.val, by omega⟩ : Fin 1024) n) = evenProd (argX m c) (argN m c) (argW m c) b r (colG n) := by
  refine (congrFun ((W8_arr m ρ c 2).trans (final5_2 (V7 m ρ) c)) _).trans ?_
  exact mm_eq _ _ _ _ _ _ (fun i => (congrFun (rows7 m ρ c) _).trans (normed_apply m ρ c b r i)) (fun i => (congrFun ((((W7_of m ρ c main_v28 (by decide)).trans (W6_of m ρ c main_v28 (by decide))).trans (W5_of m ρ c main_v28 (by decide))).trans (W4_of m ρ c main_v28 (by decide))) _).trans (wg_apply m ρ c i n))

end Cert.Proof.EvenS

end
-- ==== Proof.EvenSFinal.lean ====
/-
  The first layer's input on the sample batch: each of the kernel's eight results is the reference's.
-/
module

public import proofs.«01_k».proof.Proof.EvenSValue
public import proofs.«01_k».proof.Proof.EvenSRun
public import proofs.«01_k».proof.Proof.EvenSRef

@[expose] public section

set_option maxRecDepth 16384

noncomputable section

namespace Cert.Proof.EvenS

open Cert.InEvenSIdeal Cert.InEvenSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The queries are the reference's. -/
theorem res_q (c : Dev nD) : (show Vec Ideal S16x64x5120 .bf16 from W9 m ρ c (Proc.devRef .tc main_v35)) = refQ (refY (argX m c) (argN m c) (argW m c)) := by
  funext y
  obtain ⟨b, r, n, rfl⟩ := exists_ix3 (a := 16) (b := 64) (d := 5120) y
  have e : (show Vec Ideal S16x64x5120 .bf16 from W9 m ρ c (Proc.devRef .tc main_v35)) (ix3 b r n)
      = (show Vec Ideal S1024x5120 .bf16 from W8 m ρ c (Proc.devRef .tc main_v30)) (ix2 (⟨b.val * 64 + r.val, by omega⟩ : Fin 1024) n) := by
    after_results_simp
    pointwise
    try blk_ext
  refine e.trans ((q_apply m ρ c b r n).trans ?_)
  rw [refQ_apply]
  exact (refY_apply _ _ _ b r _).symm

/-- The first heads' keys and values are the reference's. -/
theorem res_a (c : Dev nD) : (show Vec Ideal S16x64x2x4x128 .f32 from W9 m ρ c (Proc.devRef .tc main_v41)) = refA (refY (argX m c) (argN m c) (argW m c)) := by
  funext y
  obtain ⟨b, r, k, h, d, rfl⟩ := exists_ix5 (a := 16) (b := 64) (d := 2) (e := 4) (f := 128) y
  have e : (show Vec Ideal S16x64x2x4x128 .f32 from W9 m ρ c (Proc.devRef .tc main_v41)) (ix5 b r k h d)
      = (show Vec Ideal S1024x1024 .f32 from W8 m ρ c (Proc.devRef .tc main_v31_0)) (ix2 (⟨b.val * 64 + r.val, by omega⟩ : Fin 1024) (⟨512 * k.val + (128 * h.val + d.val), by omega⟩ : Fin 1024)) := by
    after_results_simp
    pointwise
    try blk_ext
  refine e.trans ((a_apply m ρ c b r _).trans ?_)
  rw [refA_apply]
  exact (refY_apply _ _ _ b r _).symm

/-- So they are in the shorter type. -/
theorem res_a2 (c : Dev nD) : (show Vec Ideal S16x64x1024 .bf16 from W9 m ρ c (Proc.devRef .tc main_v36)) = refA2 (refY (argX m c) (argN m c) (argW m c)) := by
  funext y
  obtain ⟨b, r, n, rfl⟩ := exists_ix3 (a := 16) (b := 64) (d := 1024) y
  have e : (show Vec Ideal S16x64x1024 .bf16 from W9 m ρ c (Proc.devRef .tc main_v36)) (ix3 b r n)
      = (show Vec Ideal S1024x1024 .bf16 from W8 m ρ c (Proc.devRef .tc main_v31_1)) (ix2 (⟨b.val * 64 + r.val, by omega⟩ : Fin 1024) n) := by
    after_results_simp
    pointwise
    try blk_ext
  refine e.trans ((a2_apply m ρ c b r n).trans ?_)
  rw [refA2_apply]
  exact (refY_apply _ _ _ b r _).symm

/-- The second heads' keys and values are the reference's. -/
theorem res_b (c : Dev nD) : (show Vec Ideal S16x64x2x8x256 .f32 from W9 m ρ c (Proc.devRef .tc main_v42)) = refB (refY (argX m c) (argN m c) (argW m c)) := by
  funext y
  obtain ⟨b, r, k, h, d, rfl⟩ := exists_ix5 (a := 16) (b := 64) (d := 2) (e := 8) (f := 256) y
  have e : (show Vec Ideal S16x64x2x8x256 .f32 from W9 m ρ c (Proc.devRef .tc main_v42)) (ix5 b r k h d)
      = (show Vec Ideal S1024x4096 .f32 from W8 m ρ c (Proc.devRef .tc main_v32_0)) (ix2 (⟨b.val * 64 + r.val, by omega⟩ : Fin 1024) (⟨2048 * k.val + (256 * h.val + d.val), by omega⟩ : Fin 4096)) := by
    after_results_simp
    pointwise
    try blk_ext
  refine e.trans ((b_apply m ρ c b r _).trans ?_)
  rw [refB_apply]
  exact (refY_apply _ _ _ b r _).symm

/-- So they are in the shorter type. -/
theorem res_b2 (c : Dev nD) : (show Vec Ideal S16x64x4096 .bf16 from W9 m ρ c (Proc.devRef .tc main_v37)) = refB2 (refY (argX m c) (argN m c) (argW m c)) := by
  funext y
  obtain ⟨b, r, n, rfl⟩ := exists_ix3 (a := 16) (b := 64) (d := 4096) y
  have e : (show Vec Ideal S16x64x4096 .bf16 from W9 m ρ c (Proc.devRef .tc main_v37)) (ix3 b r n)
      = (show Vec Ideal S1024x4096 .bf16 from W8 m ρ c (Proc.devRef .tc main_v32_1)) (ix2 (⟨b.val * 64 + r.val, by omega⟩ : Fin 1024) n) := by
    after_results_simp
    pointwise
    try blk_ext
  refine e.trans ((b2_apply m ρ c b r n).trans ?_)
  rw [refB2_apply]
  exact (refY_apply _ _ _ b r _).symm

/-- The indexer's key and weights are the reference's. -/
theorem res_k (c : Dev nD) : (show Vec Ideal S16x64x128 .f32 from W9 m ρ c (Proc.devRef .tc main_v38)) = refK (refY (argX m c) (argN m c) (argW m c)) := by
  funext y
  obtain ⟨b, r, n, rfl⟩ := exists_ix3 (a := 16) (b := 64) (d := 128) y
  have e : (show Vec Ideal S16x64x128 .f32 from W9 m ρ c (Proc.devRef .tc main_v38)) (ix3 b r n)
      = (show Vec Ideal S1024x128 .f32 from W8 m ρ c (Proc.devRef .tc main_v33)) (ix2 (⟨b.val * 64 + r.val, by omega⟩ : Fin 1024) n) := by
    after_results_simp
    pointwise
    try blk_ext
  refine e.trans ((k_apply m ρ c b r n).trans ?_)
  rw [refK_apply]
  split_ifs
  · exact (refY_apply _ _ _ b r _).symm
  · rfl

/-- The indexer's key alone is the reference's. -/
theorem res_i (c : Dev nD) : (show Vec Ideal S16x64x64 .f32 from W9 m ρ c (Proc.devRef .tc main_v40))
    = refI (refY (argX m c) (argN m c) (argW m c)) := by
  funext y
  obtain ⟨b, r, n, rfl⟩ := exists_ix3 (a := 16) (b := 64) (d := 64) y
  have e : (show Vec Ideal S16x64x64 .f32 from W9 m ρ c (Proc.devRef .tc main_v40)) (ix3 b r n)
      = (show Vec Ideal S1024x128 .f32 from W8 m ρ c (Proc.devRef .tc main_v33)) (ix2 (⟨b.val * 64 + r.val, by omega⟩ : Fin 1024) (⟨n.val, by omega⟩ : Fin 128)) := by
    after_results_simp
    pointwise
    try blk_ext
  refine e.trans ((k_apply m ρ c b r _).trans ((dif_pos (by dsimp only; omega)).trans ?_))
  rw [refI_apply]
  exact (refY_apply _ _ _ b r _).symm

/-- The gates are the reference's. -/
theorem res_g (c : Dev nD) : (show Vec Ideal S16x64x4096 .f32 from W9 m ρ c (Proc.devRef .tc main_v39)) = refG (refY (argX m c) (argN m c) (argW m c)) := by
  funext y
  obtain ⟨b, r, n, rfl⟩ := exists_ix3 (a := 16) (b := 64) (d := 4096) y
  have e : (show Vec Ideal S16x64x4096 .f32 from W9 m ρ c (Proc.devRef .tc main_v39)) (ix3 b r n)
      = (show Vec Ideal S1024x4096 .f32 from W8 m ρ c (Proc.devRef .tc main_v34)) (ix2 (⟨b.val * 64 + r.val, by omega⟩ : Fin 1024) n) := by
    after_results_simp
    pointwise
    try blk_ext
  refine e.trans ((g_apply m ρ c b r n).trans ?_)
  rw [refG_apply]
  exact (refY_apply _ _ _ b r _).symm

/-- From equal arguments the reference's product is that of the kernel's arguments. -/
theorem runY_eq (m' : (ℓ : Loc Cert.InEvenSRefIdeal.nD Cert.InEvenSRefIdeal.τ Cert.InEvenSRefIdeal.sig) → Buf (Elt Ideal) ℓ) (c : Dev nD)
    (h0 : m' ((c.tc : Thread Cert.InEvenSRefIdeal.nD Cert.InEvenSRefIdeal.τ).loc Cert.InEvenSRefIdeal.main_arg0) = m ((c.tc : Thread nD τ).loc main_arg0))
    (h1 : m' ((c.tc : Thread Cert.InEvenSRefIdeal.nD Cert.InEvenSRefIdeal.τ).loc Cert.InEvenSRefIdeal.main_arg1) = m ((c.tc : Thread nD τ).loc main_arg1))
    (h2 : m' ((c.tc : Thread Cert.InEvenSRefIdeal.nD Cert.InEvenSRefIdeal.τ).loc Cert.InEvenSRefIdeal.main_arg2) = m ((c.tc : Thread nD τ).loc main_arg2)) :
    runY m' c = (refY (argX m c) (argN m c) (argW m c)) :=
  congr (congr (congrArg refY h0) h1) h2

end Cert.Proof.EvenS

end
-- ==== Proof.OddMath.lean ====
/-
  The second layer's input as one product: its entries, and the column of the weights each result's place takes.
-/
module

public import proofs.«01_k».proof.Proof.LayerMath

@[expose] public section

noncomputable section

namespace Cert.Proof.Layer

open Idealize.ShloMosaic

/-- Column `n` of the product of the normed row `(b, r)` with the second layer's weights. -/
def oddProd {B T : ℕ} (x : (⟨3, ![B, T, 4096]⟩ : Shape).Idx → EReal) (g : (⟨2, ![2, 4096]⟩ : Shape).Idx → EReal)
    (w : (⟨3, ![1, 4096, 16384]⟩ : Shape).Idx → EReal) (b : Fin B) (r : Fin T) (n : Fin 16384) : EReal :=
  ∑ i : Fin 4096, rnEntry (fun i => x (ix3 b r i)) (g (ix2 (1 : Fin 2) i)) i * w (ix3 (0 : Fin 1) i n)

/-- The weights' column of the queries' column `n`: the first heads' block, then the second heads'. -/
def ocolQ (n : Fin 4096) : Fin 16384 := if h : n.val < 2048 then ⟨n.val, by omega⟩ else ⟨n.val + 6144, by omega⟩

/-- It as a number. -/
theorem ocolQ_val (n : Fin 4096) : (ocolQ n).val = if n.val < 2048 then n.val else n.val + 6144 := by
  unfold ocolQ
  split_ifs <;> rfl

/-- The weights' column of column `n` of the first heads' keys and values. -/
def ocolC (n : Fin 4096) : Fin 16384 := ⟨2048 + n.val, by omega⟩

/-- The weights' column of column `n` of the second heads' keys and values. -/
def ocolD (n : Fin 4096) : Fin 16384 := ⟨10240 + n.val, by omega⟩

/-- The weights' column of the gates' column `n`. -/
def ocolG (n : Fin 4096) : Fin 16384 := if h : n.val < 2048 then ⟨6144 + n.val, by omega⟩ else ⟨12288 + n.val, by omega⟩

/-- It as a number. -/
theorem ocolG_val (n : Fin 4096) : (ocolG n).val = if n.val < 2048 then 6144 + n.val else 12288 + n.val := by
  unfold ocolG
  split_ifs <;> rfl

end Cert.Proof.Layer

end
-- ==== Proof.OddRef.lean ====
/-
  The reference of the second layer's input at an index: each result's entry is one entry of the product of the
  normed rows with the layer's weights, at the column its place in the result stands for.
-/
module

public import proofs.«01_k».proof.Proof.OddMath
public import proofs.«01_k».proof.Proof.Gen.InOddRefIdeal.Run
public import Idealize.ShloMosaic.Lib.Pipeline.ValueKit
public import Idealize.ShloMosaic.Lib.Claim

@[expose] public section

set_option maxRecDepth 16384

noncomputable section

namespace Cert.Proof.Odd

open Cert.InOddRefIdeal Cert.InOddRefIdeal.Gen Cert.Proof.Layer Idealize.ShloMosaic Idealize.ShloMosaic.TcCoe Idealize.SL.Sem

/-- The reference's normed rows. -/
def refH (x : FVec Ideal S1x8192x4096 .f32) (g : FVec Ideal S2x4096 .f32) : FVec Ideal S1x8192x4096 .f32 :=
  (mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 (shapeCast _ (extractStridedSlice S1x4096 ![1, 0] g slices_S2x4096_S1x4096_1_0) shapeCasts_S1x4096_S4096))))

/-- The reference's product of the normed rows with the layer's weights. -/
def refY (x : FVec Ideal S1x8192x4096 .f32) (g : FVec Ideal S2x4096 .f32) (w : FVec Ideal S1x4096x16384 .f32) : FVec Ideal S1x8192x16384 .f32 :=
  Host.dotGeneral dot_S1x8192x4096_S4096x16384_S1x8192x16384_2_0_01_1_n_n none (refH x g) (shapeCast _ w shapeCasts_S1x4096x16384_S4096x16384)

/-- The product at an index. -/
theorem refY_apply (x : FVec Ideal S1x8192x4096 .f32) (g : FVec Ideal S2x4096 .f32) (w : FVec Ideal S1x4096x16384 .f32) (b : Fin 1) (r : Fin 8192) (n : Fin 16384) :
    refY x g w (ix3 b r n) = oddProd x g w b r n := by
  obtain rfl : b = 0 := Subsingleton.elim _ _
  have e : ∀ i : Fin 4096, refH x g (ix3 (0 : Fin 1) r i) = rnEntry (fun i => x (ix3 (0 : Fin 1) r i)) (g (ix2 (1 : Fin 2) i)) i := fun i => by
    unfold rnEntry
    pointwise [refH]
  unfold oddProd
  simp only [← e]
  pointwise [refY]

/-- The queries, of the product `y`. -/
def refQ (y : FVec Ideal S1x8192x16384 .f32) : FVec Ideal S1x8192x4096 .bf16 :=
  truncf .bf16 (concatenate S1x8192x4096 2 [⟨S1x8192x2048, (extractStridedSlice S1x8192x2048 ![0, 0, 0] y slices_S1x8192x16384_S1x8192x2048_0_0_0)⟩, ⟨S1x8192x2048, (extractStridedSlice S1x8192x2048 ![0, 0, 8192] y slices_S1x8192x16384_S1x8192x2048_0_0_8192)⟩] concatenates_S1x8192x2048_S1x8192x2048_S1x8192x4096_d2) bitsLt_bf16_f32

/-- The queries, at an index. -/
theorem refQ_apply (y : FVec Ideal S1x8192x16384 .f32) (b : Fin 1) (r : Fin 8192) (n : Fin 4096) :
    refQ y (ix3 b r n) = y (ix3 b r (ocolQ n)) := by
  obtain rfl : b = 0 := Subsingleton.elim _ _
  pointwise [refQ]
  split_ifs
  all_goals first
    | omega
    | exact congrArg (fun c => y (ix3 (0 : Fin 1) r c)) (Fin.ext (by rw [ocolQ_val]; try dsimp only; split_ifs <;> omega))

/-- The first heads' keys and values, of the product `y`. -/
def refC (y : FVec Ideal S1x8192x16384 .f32) : FVec Ideal S1x8192x2x16x128 .f32 :=
  concatenate S1x8192x2x16x128 2 [⟨S1x8192x1x16x128, (broadcastInDim S1x8192x1x16x128 ![0, 1, 3, 4] bcast_S1x8192x16x128_S1x8192x1x16x128_0_1_3_4 (shapeCast _ (extractStridedSlice S1x8192x2048 ![0, 0, 2048] y slices_S1x8192x16384_S1x8192x2048_0_0_2048) shapeCasts_S1x8192x2048_S1x8192x16x128))⟩, ⟨S1x8192x1x16x128, (broadcastInDim S1x8192x1x16x128 ![0, 1, 3, 4] bcast_S1x8192x16x128_S1x8192x1x16x128_0_1_3_4 (shapeCast _ (extractStridedSlice S1x8192x2048 ![0, 0, 4096] y slices_S1x8192x16384_S1x8192x2048_0_0_4096) shapeCasts_S1x8192x2048_S1x8192x16x128))⟩] concatenates_S1x8192x1x16x128_S1x8192x1x16x128_S1x8192x2x16x128_d2

/-- The first heads' keys and values, at an index. -/
theorem refC_apply (y : FVec Ideal S1x8192x16384 .f32) (b : Fin 1) (r : Fin 8192) (k : Fin 2) (h : Fin 16) (d : Fin 128) :
    refC y (ix5 b r k h d) = y (ix3 b r (ocolC ⟨2048 * k.val + (128 * h.val + d.val), by omega⟩)) := by
  obtain rfl : b = 0 := Subsingleton.elim _ _
  pointwise [refC]
  split_ifs
  all_goals exact congrArg (fun c => y (ix3 (0 : Fin 1) r c)) (Fin.ext (by unfold ocolC; dsimp only; omega))

/-- They side by side, in the shorter type. -/
def refC2 (y : FVec Ideal S1x8192x16384 .f32) : FVec Ideal S1x8192x4096 .bf16 :=
  shapeCast _ (truncf .bf16 (refC y) bitsLt_bf16_f32) shapeCasts_S1x8192x2x16x128_S1x8192x4096

/-- They at an index. -/
theorem refC2_apply (y : FVec Ideal S1x8192x16384 .f32) (b : Fin 1) (r : Fin 8192) (n : Fin 4096) :
    refC2 y (ix3 b r n) = y (ix3 b r (ocolC n)) := by
  have e : refC2 y (ix3 b r n) = refC y (ix5 b r (⟨n.val / 2048, by omega⟩ : Fin 2) (⟨n.val % 2048 / 128, by omega⟩ : Fin 16) (⟨n.val % 128, by omega⟩ : Fin 128)) := by
    obtain rfl : b = 0 := Subsingleton.elim _ _
    pointwise [refC2]
    try blk_ext
  rw [e, refC_apply]
  exact congrArg (fun c => y (ix3 b r c)) (Fin.ext (by unfold ocolC; dsimp only; omega))

/-- The second heads' keys and values, of the product `y`. -/
def refD (y : FVec Ideal S1x8192x16384 .f32) : FVec Ideal S1x8192x2x16x128 .f32 :=
  concatenate S1x8192x2x16x128 2 [⟨S1x8192x1x16x128, (broadcastInDim S1x8192x1x16x128 ![0, 1, 3, 4] bcast_S1x8192x16x128_S1x8192x1x16x128_0_1_3_4 (shapeCast _ (extractStridedSlice S1x8192x2048 ![0, 0, 10240] y slices_S1x8192x16384_S1x8192x2048_0_0_10240) shapeCasts_S1x8192x2048_S1x8192x16x128))⟩, ⟨S1x8192x1x16x128, (broadcastInDim S1x8192x1x16x128 ![0, 1, 3, 4] bcast_S1x8192x16x128_S1x8192x1x16x128_0_1_3_4 (shapeCast _ (extractStridedSlice S1x8192x2048 ![0, 0, 12288] y slices_S1x8192x16384_S1x8192x2048_0_0_12288) shapeCasts_S1x8192x2048_S1x8192x16x128))⟩] concatenates_S1x8192x1x16x128_S1x8192x1x16x128_S1x8192x2x16x128_d2

/-- The second heads' keys and values, at an index. -/
theorem refD_apply (y : FVec Ideal S1x8192x16384 .f32) (b : Fin 1) (r : Fin 8192) (k : Fin 2) (h : Fin 16) (d : Fin 128) :
    refD y (ix5 b r k h d) = y (ix3 b r (ocolD ⟨2048 * k.val + (128 * h.val + d.val), by omega⟩)) := by
  obtain rfl : b = 0 := Subsingleton.elim _ _
  pointwise [refD]
  split_ifs
  all_goals exact congrArg (fun c => y (ix3 (0 : Fin 1) r c)) (Fin.ext (by unfold ocolD; dsimp only; omega))

/-- They side by side, in the shorter type. -/
def refD2 (y : FVec Ideal S1x8192x16384 .f32) : FVec Ideal S1x8192x4096 .bf16 :=
  shapeCast _ (truncf .bf16 (refD y) bitsLt_bf16_f32) shapeCasts_S1x8192x2x16x128_S1x8192x4096

/-- They at an index. -/
theorem refD2_apply (y : FVec Ideal S1x8192x16384 .f32) (b : Fin 1) (r : Fin 8192) (n : Fin 4096) :
    refD2 y (ix3 b r n) = y (ix3 b r (ocolD n)) := by
  have e : refD2 y (ix3 b r n) = refD y (ix5 b r (⟨n.val / 2048, by omega⟩ : Fin 2) (⟨n.val % 2048 / 128, by omega⟩ : Fin 16) (⟨n.val % 128, by omega⟩ : Fin 128)) := by
    obtain rfl : b = 0 := Subsingleton.elim _ _
    pointwise [refD2]
    try blk_ext
  rw [e, refD_apply]
  exact congrArg (fun c => y (ix3 b r c)) (Fin.ext (by unfold ocolD; dsimp only; omega))

/-- The gates, of the product `y`. -/
def refG (y : FVec Ideal S1x8192x16384 .f32) : FVec Ideal S1x8192x4096 .f32 :=
  concatenate S1x8192x4096 2 [⟨S1x8192x2048, (extractStridedSlice S1x8192x2048 ![0, 0, 6144] y slices_S1x8192x16384_S1x8192x2048_0_0_6144)⟩, ⟨S1x8192x2048, (extractStridedSlice S1x8192x2048 ![0, 0, 14336] y slices_S1x8192x16384_S1x8192x2048_0_0_14336)⟩] concatenates_S1x8192x2048_S1x8192x2048_S1x8192x4096_d2

/-- The gates, at an index. -/
theorem refG_apply (y : FVec Ideal S1x8192x16384 .f32) (b : Fin 1) (r : Fin 8192) (n : Fin 4096) :
    refG y (ix3 b r n) = y (ix3 b r (ocolG n)) := by
  obtain rfl : b = 0 := Subsingleton.elim _ _
  pointwise [refG]
  split_ifs
  all_goals first
    | omega
    | exact congrArg (fun c => y (ix3 (0 : Fin 1) r c)) (Fin.ext (by rw [ocolG_val]; try dsimp only; split_ifs <;> omega))

/-- The second heads' keys and values of the last 512 rows, of the product `y`. -/
def refE (y : FVec Ideal S1x8192x16384 .f32) : FVec Ideal S1x512x2x16x128 .f32 :=
  extractStridedSlice S1x512x2x16x128 ![0, 7680, 0, 0, 0] (refD y) slices_S1x8192x2x16x128_S1x512x2x16x128_0_7680_0_0_0

/-- They at an index. -/
theorem refE_apply (y : FVec Ideal S1x8192x16384 .f32) (b : Fin 1) (r : Fin 512) (k : Fin 2) (h : Fin 16) (d : Fin 128) :
    refE y (ix5 b r k h d) = y (ix3 b (⟨7680 + r.val, by omega⟩ : Fin 8192) (ocolD ⟨2048 * k.val + (128 * h.val + d.val), by omega⟩)) := by
  refine Eq.trans ?_ (refD_apply y b ⟨7680 + r.val, by omega⟩ k h d)
  obtain rfl : b = 0 := Subsingleton.elim _ _
  pointwise [refE]
  try blk_ext

variable (m : (ℓ : Loc nD τ sig) → Buf (Elt Ideal) ℓ)

/-- The reference's product of a run's arguments. -/
abbrev runY (c : Dev nD) : FVec Ideal S1x8192x16384 .f32 :=
  refY (m ((c.tc : Thread nD τ).loc main_arg0)) (m ((c.tc : Thread nD τ).loc main_arg1)) (m ((c.tc : Thread nD τ).loc main_arg2))

/-- The reference runs to its end, at its six results, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v36) = refQ (runY m c)
      ∧ r.2.mem ((c.tc : Thread nD τ).loc main_v29) = refC (runY m c)
      ∧ r.2.mem ((c.tc : Thread nD τ).loc main_v38) = refC2 (runY m c)
      ∧ r.2.mem ((c.tc : Thread nD τ).loc main_v42) = refE (runY m c)
      ∧ r.2.mem ((c.tc : Thread nD τ).loc main_v40) = refD2 (runY m c)
      ∧ r.2.mem ((c.tc : Thread nD τ).loc main_v41) = refG (runY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.InOddRefIdeal.Value.run m ρ

end Cert.Proof.Odd

end
-- ==== Proof.OddRun.lean ====
/-
  The run of the second layer's input: what every buffer holds at the end.
-/
module

public import proofs.«01_k».proof.Proof.Gen.InOddIdeal.Frame
public import Idealize.ShloMosaic.Lib.Pipeline.ValueKit

@[expose] public section

noncomputable section

namespace Cert.Proof.Odd

open Cert.InOddIdeal Cert.InOddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c b hb => h c _ (mem_uc b hb))

end Cert.Proof.Odd

end
-- ==== Proof.OddRegions.lean ====
/-
  The arrays the five calls of the second layer's input leave, of the arrays each is given: the norm of every row,
  and the products with the four groups of weights.
-/
module

public import proofs.«01_k».proof.Proof.LayerMath
public import proofs.«01_k».proof.Proof.Gen.InOddIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.Odd

open Cert.InOddIdeal Cert.InOddIdeal.Gen Cert.Proof.Layer Idealize.ShloMosaic Idealize.ShloMosaic.TcCoe Idealize.SL.Sem

variable (V : (c : Dev nD) → (b : Ref sig .tc) → Buf (Elt Ideal) ((c : Thread nD τ).loc b))

/-! ## The norm of call 0 -/

/-- Where call 0's blocks stand at a grid point. -/
theorem idx0 : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

/-- The blocks of call 0's result cover it. -/
theorem cover0 : (cfg0.win 2).Covers :=
  (cfg0.win 2).covers_of_indexMap_surj rfl (by decide) fun β =>
    ⟨fun a => match a with
      | ⟨0, _⟩ => ⟨(β 0).val, (β 0).isLt⟩, fun a => by
      have h0 : (β 0).val < 32 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of call 0's result at an index. -/
theorem pay0_apply (x : Vec Ideal S256x4096 .f32) (g : Vec Ideal S1x4096 .f32) (r : Fin 256) (n : Fin 4096) :
    k0_pay1 (F := Ideal) x g (ix2 r n) = rnEntry (fun i => x (ix2 r i)) (g (ix2 (0 : Fin 1) n)) n := by
  unfold rnEntry
  pointwise [k0_pay1]

/-- Call 0's result ends at the norm of its array. -/
theorem final0 (c : Dev nD) : (dat0 V c).arrAt 2 cfg0.N = rn (V c main_v0) (V c main_v3) := by
  refine (dat0 V c).arrAt_eq_of_covers 2 _ cover0 fun t hf y => ?_
  blk_simp
  rw [after0_2]
  frame_out
  obtain ⟨r, n, rfl⟩ := exists_ix2 (a := 256) (b := 4096) y
  have h0 : (grid0.coords t 0).val < 32 := (grid0.coords t 0).isLt
  have hemb : (((cfg0.win 2).blk t).view.emb (ix2 r n) : S8192x4096.Idx)
      = ix2 (⟨256 * (grid0.coords t 0).val + r.val, by omega⟩ : Fin 8192) n := by
    blk_ext [idx0 t]
  refine Eq.trans ?_ (congrArg (rn (V c main_v0) (V c main_v3)) hemb.symm)
  rw [rn_apply]
  refine (pay0_apply _ _ r n).trans (congrArg₂ (fun a b => rnEntry a b n) (funext fun i => ?_) ?_)
  · blk_point [iblk0, idx0 t]
  · blk_point [iblk0, idx0 t]

/-! ## The product of call 1 -/

/-- Where call 1's blocks stand at a grid point. -/
theorem idx1 : ∀ t : Fin cfg1.N, win1_0.index t = ![(grid1.coords t 0).val, 0] ∧ win1_1.index t = ![0, (grid1.coords t 1).val] ∧ win1_2.index t = ![(grid1.coords t 0).val, (grid1.coords t 1).val] :=
  (by decide +kernel : ∀ t : Fin grid1.N, _)

/-- The bounds of a grid point of call 1. -/
theorem lt1 (t : Fin cfg1.N) : (grid1.coords t 0).val < 8 ∧ (grid1.coords t 1).val < 4 :=
  ⟨(grid1.coords t 0).isLt, (grid1.coords t 1).isLt⟩

/-- The blocks of window 2 of call 1 cover its array. -/
theorem cover1_2 : (cfg1.win 2).Covers :=
  (cfg1.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 1 at an index. -/
theorem pay1_2_apply (a : Vec Ideal S1024x4096 .bf16) (w : Vec Ideal S4096x1024 .bf16) (r : Fin 1024) (n : Fin 1024) :
    k1_pay1 (F := Ideal) a w (ix2 r n) = ∑ i : Fin 4096, a (ix2 r i) * w (ix2 i n) := by
  pointwise [k1_pay1]

/-- Window 2 of call 1 ends at the product of the call's two arrays. -/
theorem final1_2 (c : Dev nD) : (dat1 V c).arrAt 2 cfg1.N = mm (V c main_v23) (V c main_v16) := by
  refine (dat1 V c).arrAt_eq_of_covers 2 _ cover1_2 fun t hf y => ?_
  blk_simp
  rw [after1_2]
  frame_out
  obtain ⟨r, n, rfl⟩ := exists_ix2 (a := 1024) (b := 1024) y
  have h0 := (lt1 t).1
  have h1 := (lt1 t).2
  have hemb : (((cfg1.win 2).blk t).view.emb (ix2 r n) : S8192x4096.Idx)
      = ix2 (⟨1024 * (grid1.coords t 0).val + r.val, by omega⟩ : Fin 8192) (⟨1024 * (grid1.coords t 1).val + n.val, by omega⟩ : Fin 4096) := by
    blk_ext [idx1 t]
  refine Eq.trans ?_ (congrArg (mm (V c main_v23) (V c main_v16)) hemb.symm)
  rw [mm_apply]
  refine (pay1_2_apply _ _ r n).trans (Finset.sum_congr rfl fun i _ => congrArg₂ (fun a b : EReal => a * b) ?_ ?_)
  · blk_point [iblk1, idx1 t]
  · blk_point [iblk1, idx1 t]

/-! ## The product of call 2 -/

/-- Where call 2's blocks stand at a grid point. -/
theorem idx2 : ∀ t : Fin cfg2.N, win2_0.index t = ![(grid2.coords t 0).val, 0] ∧ win2_1.index t = ![0, (grid2.coords t 1).val] ∧ win2_2.index t = ![(grid2.coords t 0).val, (grid2.coords t 1).val] ∧ win2_3.index t = ![(grid2.coords t 0).val, (grid2.coords t 1).val] :=
  (by decide +kernel : ∀ t : Fin grid2.N, _)

/-- The bounds of a grid point of call 2. -/
theorem lt2 (t : Fin cfg2.N) : (grid2.coords t 0).val < 8 ∧ (grid2.coords t 1).val < 4 :=
  ⟨(grid2.coords t 0).isLt, (grid2.coords t 1).isLt⟩

/-- The blocks of window 2 of call 2 cover its array. -/
theorem cover2_2 : (cfg2.win 2).Covers :=
  (cfg2.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 2 at an index. -/
theorem pay2_2_apply (a : Vec Ideal S1024x4096 .bf16) (w : Vec Ideal S4096x1024 .bf16) (r : Fin 1024) (n : Fin 1024) :
    k2_pay1 (F := Ideal) a w (ix2 r n) = ∑ i : Fin 4096, a (ix2 r i) * w (ix2 i n) := by
  pointwise [k2_pay1]

/-- Window 2 of call 2 ends at the product of the call's two arrays. -/
theorem final2_2 (c : Dev nD) : (dat2 V c).arrAt 2 cfg2.N = mm (V c main_v23) (V c main_v18) := by
  refine (dat2 V c).arrAt_eq_of_covers 2 _ cover2_2 fun t hf y => ?_
  blk_simp
  rw [after2_2]
  frame_out
  obtain ⟨r, n, rfl⟩ := exists_ix2 (a := 1024) (b := 1024) y
  have h0 := (lt2 t).1
  have h1 := (lt2 t).2
  have hemb : (((cfg2.win 2).blk t).view.emb (ix2 r n) : S8192x4096.Idx)
      = ix2 (⟨1024 * (grid2.coords t 0).val + r.val, by omega⟩ : Fin 8192) (⟨1024 * (grid2.coords t 1).val + n.val, by omega⟩ : Fin 4096) := by
    blk_ext [idx2 t]
  refine Eq.trans ?_ (congrArg (mm (V c main_v23) (V c main_v18)) hemb.symm)
  rw [mm_apply]
  refine (pay2_2_apply _ _ r n).trans (Finset.sum_congr rfl fun i _ => congrArg₂ (fun a b : EReal => a * b) ?_ ?_)
  · blk_point [iblk2, idx2 t]
  · blk_point [iblk2, idx2 t]

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 2 at an index. -/
theorem pay2_3_apply (a : Vec Ideal S1024x4096 .bf16) (w : Vec Ideal S4096x1024 .bf16) (r : Fin 1024) (n : Fin 1024) :
    k2_pay2 (F := Ideal) a w (ix2 r n) = ∑ i : Fin 4096, a (ix2 r i) * w (ix2 i n) := by
  pointwise [k2_pay2, k2_pay1]

/-- Window 3 of call 2 ends at the product of the call's two arrays. -/
theorem final2_3 (c : Dev nD) : (dat2 V c).arrAt 3 cfg2.N = mm (V c main_v23) (V c main_v18) := by
  refine (dat2 V c).arrAt_eq_of_covers 3 _ cover2_3 fun t hf y => ?_
  blk_simp
  rw [after2_3]
  frame_out
  obtain ⟨r, n, rfl⟩ := exists_ix2 (a := 1024) (b := 1024) y
  have h0 := (lt2 t).1
  have h1 := (lt2 t).2
  have hemb : (((cfg2.win 3).blk t).view.emb (ix2 r n) : S8192x4096.Idx)
      = ix2 (⟨1024 * (grid2.coords t 0).val + r.val, by omega⟩ : Fin 8192) (⟨1024 * (grid2.coords t 1).val + n.val, by omega⟩ : Fin 4096) := by
    blk_ext [idx2 t]
  refine Eq.trans ?_ (congrArg (mm (V c main_v23) (V c main_v18)) hemb.symm)
  rw [mm_apply]
  refine (pay2_3_apply _ _ r n).trans (Finset.sum_congr rfl fun i _ => congrArg₂ (fun a b : EReal => a * b) ?_ ?_)
  · blk_point [iblk2, idx2 t]
  · blk_point [iblk2, idx2 t]

/-! ## The product of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] :=
  (by decide +kernel : ∀ t : Fin grid3.N, _)

/-- The bounds of a grid point of call 3. -/
theorem lt3 (t : Fin cfg3.N) : (grid3.coords t 0).val < 8 ∧ (grid3.coords t 1).val < 4 :=
  ⟨(grid3.coords t 0).isLt, (grid3.coords t 1).isLt⟩

/-- The blocks of window 2 of call 3 cover its array. -/
theorem cover3_2 : (cfg3.win 2).Covers :=
  (cfg3.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 3 at an index. -/
theorem pay3_2_apply (a : Vec Ideal S1024x4096 .bf16) (w : Vec Ideal S4096x1024 .bf16) (r : Fin 1024) (n : Fin 1024) :
    k3_pay1 (F := Ideal) a w (ix2 r n) = ∑ i : Fin 4096, a (ix2 r i) * w (ix2 i n) := by
  pointwise [k3_pay1]

/-- Window 2 of call 3 ends at the product of the call's two arrays. -/
theorem final3_2 (c : Dev nD) : (dat3 V c).arrAt 2 cfg3.N = mm (V c main_v23) (V c main_v20) := by
  refine (dat3 V c).arrAt_eq_of_covers 2 _ cover3_2 fun t hf y => ?_
  blk_simp
  rw [after3_2]
  frame_out
  obtain ⟨r, n, rfl⟩ := exists_ix2 (a := 1024) (b := 1024) y
  have h0 := (lt3 t).1
  have h1 := (lt3 t).2
  have hemb : (((cfg3.win 2).blk t).view.emb (ix2 r n) : S8192x4096.Idx)
      = ix2 (⟨1024 * (grid3.coords t 0).val + r.val, by omega⟩ : Fin 8192) (⟨1024 * (grid3.coords t 1).val + n.val, by omega⟩ : Fin 4096) := by
    blk_ext [idx3 t]
  refine Eq.trans ?_ (congrArg (mm (V c main_v23) (V c main_v20)) hemb.symm)
  rw [mm_apply]
  refine (pay3_2_apply _ _ r n).trans (Finset.sum_congr rfl fun i _ => congrArg₂ (fun a b : EReal => a * b) ?_ ?_)
  · blk_point [iblk3, idx3 t]
  · blk_point [iblk3, idx3 t]

/-- The blocks of window 3 of call 3 cover its array. -/
theorem cover3_3 : (cfg3.win 3).Covers :=
  (cfg3.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 3 at an index. -/
theorem pay3_3_apply (a : Vec Ideal S1024x4096 .bf16) (w : Vec Ideal S4096x1024 .bf16) (r : Fin 1024) (n : Fin 1024) :
    k3_pay2 (F := Ideal) a w (ix2 r n) = ∑ i : Fin 4096, a (ix2 r i) * w (ix2 i n) := by
  pointwise [k3_pay2, k3_pay1]

/-- Window 3 of call 3 ends at the product of the call's two arrays. -/
theorem final3_3 (c : Dev nD) : (dat3 V c).arrAt 3 cfg3.N = mm (V c main_v23) (V c main_v20) := by
  refine (dat3 V c).arrAt_eq_of_covers 3 _ cover3_3 fun t hf y => ?_
  blk_simp
  rw [after3_3]
  frame_out
  obtain ⟨r, n, rfl⟩ := exists_ix2 (a := 1024) (b := 1024) y
  have h0 := (lt3 t).1
  have h1 := (lt3 t).2
  have hemb : (((cfg3.win 3).blk t).view.emb (ix2 r n) : S8192x4096.Idx)
      = ix2 (⟨1024 * (grid3.coords t 0).val + r.val, by omega⟩ : Fin 8192) (⟨1024 * (grid3.coords t 1).val + n.val, by omega⟩ : Fin 4096) := by
    blk_ext [idx3 t]
  refine Eq.trans ?_ (congrArg (mm (V c main_v23) (V c main_v20)) hemb.symm)
  rw [mm_apply]
  refine (pay3_3_apply _ _ r n).trans (Finset.sum_congr rfl fun i _ => congrArg₂ (fun a b : EReal => a * b) ?_ ?_)
  · blk_point [iblk3, idx3 t]
  · blk_point [iblk3, idx3 t]

/-! ## The product of call 4 -/

/-- Where call 4's blocks stand at a grid point. -/
theorem idx4 : ∀ t : Fin cfg4.N, win4_0.index t = ![(grid4.coords t 0).val, 0] ∧ win4_1.index t = ![0, (grid4.coords t 1).val] ∧ win4_2.index t = ![(grid4.coords t 0).val, (grid4.coords t 1).val] :=
  (by decide +kernel : ∀ t : Fin grid4.N, _)

/-- The bounds of a grid point of call 4. -/
theorem lt4 (t : Fin cfg4.N) : (grid4.coords t 0).val < 8 ∧ (grid4.coords t 1).val < 4 :=
  ⟨(grid4.coords t 0).isLt, (grid4.coords t 1).isLt⟩

/-- The blocks of window 2 of call 4 cover its array. -/
theorem cover4_2 : (cfg4.win 2).Covers :=
  (cfg4.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 4 at an index. -/
theorem pay4_2_apply (a : Vec Ideal S1024x4096 .bf16) (w : Vec Ideal S4096x1024 .bf16) (r : Fin 1024) (n : Fin 1024) :
    k4_pay1 (F := Ideal) a w (ix2 r n) = ∑ i : Fin 4096, a (ix2 r i) * w (ix2 i n) := by
  pointwise [k4_pay1]

/-- Window 2 of call 4 ends at the product of the call's two arrays. -/
theorem final4_2 (c : Dev nD) : (dat4 V c).arrAt 2 cfg4.N = mm (V c main_v23) (V c main_v22) := by
  refine (dat4 V c).arrAt_eq_of_covers 2 _ cover4_2 fun t hf y => ?_
  blk_simp
  rw [after4_2]
  frame_out
  obtain ⟨r, n, rfl⟩ := exists_ix2 (a := 1024) (b := 1024) y
  have h0 := (lt4 t).1
  have h1 := (lt4 t).2
  have hemb : (((cfg4.win 2).blk t).view.emb (ix2 r n) : S8192x4096.Idx)
      = ix2 (⟨1024 * (grid4.coords t 0).val + r.val, by omega⟩ : Fin 8192) (⟨1024 * (grid4.coords t 1).val + n.val, by omega⟩ : Fin 4096) := by
    blk_ext [idx4 t]
  refine Eq.trans ?_ (congrArg (mm (V c main_v23) (V c main_v22)) hemb.symm)
  rw [mm_apply]
  refine (pay4_2_apply _ _ r n).trans (Finset.sum_congr rfl fun i _ => congrArg₂ (fun a b : EReal => a * b) ?_ ?_)
  · blk_point [iblk4, idx4 t]
  · blk_point [iblk4, idx4 t]

end Cert.Proof.Odd

end
-- ==== Proof.OddValue.lean ====
/-
  The second layer's input: what the host prepares for the calls, and each call's array at an index.
-/
module

public import proofs.«01_k».proof.Proof.OddMath
public import proofs.«01_k».proof.Proof.OddRegions
public import Idealize.ShloMosaic.Lib.StableHlo.RunRead

@[expose] public section

set_option maxRecDepth 16384

noncomputable section

namespace Cert.Proof.Odd

open Cert.InOddIdeal Cert.InOddIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![1, 8192, 4096]⟩ : Shape).Idx → EReal := m ((c.tc : Thread nD τ).loc main_arg0)
/-- The norms' gains. -/
abbrev argN (c : Dev nD) : (⟨2, ![2, 4096]⟩ : Shape).Idx → EReal := m ((c.tc : Thread nD τ).loc main_arg1)
/-- The layer's weights. -/
abbrev argW (c : Dev nD) : (⟨3, ![1, 4096, 16384]⟩ : Shape).Idx → EReal := m ((c.tc : Thread nD τ).loc main_arg2)

/-- The rows the norm is given. -/
theorem rows_apply (c : Dev nD) (b : Fin 1) (r : Fin 8192) (n : Fin 4096) :
    (show Vec Ideal S8192x4096 .f32 from W1 m ρ c (Proc.devRef .tc main_v0)) (ix2 r n) = argX m c (ix3 b r n) := by
  obtain rfl : b = 0 := Subsingleton.elim _ _
  after_results_simp
  pointwise
  blk_ext

/-- The gains the norm is given. -/
theorem gains_apply (c : Dev nD) (n : Fin 4096) :
    (show Vec Ideal S1x4096 .f32 from W1 m ρ c (Proc.devRef .tc main_v3)) (ix2 (0 : Fin 1) n) = argN m c (ix2 (1 : Fin 2) n) := by
  after_results_simp
  pointwise
  try blk_ext

/-- The normed rows the products are given. -/
theorem normed_apply (c : Dev nD) (b : Fin 1) (r : Fin 8192) (n : Fin 4096) :
    (show Vec Ideal S8192x4096 .bf16 from W3 m ρ c (Proc.devRef .tc main_v23)) (ix2 r n)
      = rnEntry (fun i => argX m c (ix3 b r i)) (argN m c (ix2 (1 : Fin 2) n)) n := by
  have e : (show Vec Ideal S8192x4096 .bf16 from W3 m ρ c (Proc.devRef .tc main_v23)) (ix2 r n)
      = (show Vec Ideal S8192x4096 .bf16 from W2 m ρ c (Proc.devRef .tc main_v4)) (ix2 r n) := by
    after_results_simp
    pointwise
    try blk_ext
  refine e.trans ((congrFun ((W2_arr m ρ c 2).trans (final0 (V1 m ρ) c)) _).trans ?_)
  rw [rn_apply]
  exact congrArg₂ (fun a b => rnEntry a b n) (funext fun i => rows_apply m ρ c b r i) (gains_apply m ρ c n)

/-- The third argument before the second stretch of host operations. -/
theorem w2_arg (c : Dev nD) : W2 m ρ c (Proc.devRef .tc main_arg2) = m ((c.tc : Thread nD τ).loc main_arg2) :=
  W2_args m ρ c main_arg2 (by decide)

/-- The queries' weights. -/
theorem wq_apply (c : Dev nD) (i : Fin 4096) (n : Fin 4096) :
    (show Vec Ideal S4096x4096 .bf16 from W3 m ρ c (Proc.devRef .tc main_v16)) (ix2 i n) = argW m c (ix3 (0 : Fin 1) i (ocolQ n)) := by
  after_results
  rw [w2_arg]
  pointwise
  split_ifs
  all_goals first
    | omega
    | exact congrArg (fun k => argW m c (ix3 (0 : Fin 1) i k)) (Fin.ext (by first | rfl | (rw [ocolQ_val]; try dsimp only; split_ifs <;> omega)))

/-- The first heads' keys' and values' weights. -/
theorem wc_apply (c : Dev nD) (i : Fin 4096) (n : Fin 4096) :
    (show Vec Ideal S4096x4096 .bf16 from W3 m ρ c (Proc.devRef .tc main_v18)) (ix2 i n) = argW m c (ix3 (0 : Fin 1) i (ocolC n)) := by
  after_results
  rw [w2_arg]
  pointwise
  split_ifs
  all_goals first
    | omega
    | exact congrArg (fun k => argW m c (ix3 (0 : Fin 1) i k)) (Fin.ext (by first | rfl | (unfold ocolC; dsimp only; omega)))

/-- The second heads' keys' and values' weights. -/
theorem wd_apply (c : Dev nD) (i : Fin 4096) (n : Fin 4096) :
    (show Vec Ideal S4096x4096 .bf16 from W3 m ρ c (Proc.devRef .tc main_v20)) (ix2 i n) = argW m c (ix3 (0 : Fin 1) i (ocolD n)) := by
  after_results
  rw [w2_arg]
  pointwise
  split_ifs
  all_goals first
    | omega
    | exact congrArg (fun k => argW m c (ix3 (0 : Fin 1) i k)) (Fin.ext (by first | rfl | (unfold ocolD; dsimp only; omega)))

/-- The gates' weights. -/
theorem wg_apply (c : Dev nD) (i : Fin 4096) (n : Fin 4096) :
    (show Vec Ideal S4096x4096 .bf16 from W3 m ρ c (Proc.devRef .tc main_v22)) (ix2 i n) = argW m c (ix3 (0 : Fin 1) i (ocolG n)) := by
  after_results
  rw [w2_arg]
  pointwise
  split_ifs
  all_goals first
    | omega
    | exact congrArg (fun k => argW m c (ix3 (0 : Fin 1) i k)) (Fin.ext (by first | rfl | (rw [ocolG_val]; try dsimp only; split_ifs <;> omega)))

/-- The rows every product is given are the normed rows: no call writes them. -/
theorem rows4 (c : Dev nD) : W4 m ρ c (Proc.devRef .tc main_v23) = W3 m ρ c (Proc.devRef .tc main_v23) := W4_of m ρ c main_v23 (by decide)
theorem rows5 (c : Dev nD) : W5 m ρ c (Proc.devRef .tc main_v23) = W3 m ρ c (Proc.devRef .tc main_v23) := (W5_of m ρ c main_v23 (by decide)).trans (rows4 m ρ c)
theorem rows6 (c : Dev nD) : W6 m ρ c (Proc.devRef .tc main_v23) = W3 m ρ c (Proc.devRef .tc main_v23) := (W6_of m ρ c main_v23 (by decide)).trans (rows5 m ρ c)

/-- The queries. -/
theorem q_apply (c : Dev nD) (b : Fin 1) (r : Fin 8192) (n : Fin 4096) :
    (show Vec Ideal S8192x4096 .bf16 from W7 m ρ c (Proc.devRef .tc main_v24)) (ix2 r n) = oddProd (argX m c) (argN m c) (argW m c) b r (ocolQ n) := by
  refine (congrFun ((((W7_of m ρ c main_v24 (by decide)).trans (W6_of m ρ c main_v24 (by decide))).trans (W5_of m ρ c main_v24 (by decide))).trans ((W4_arr m ρ c 2).trans (final1_2 (V3 m ρ) c))) _).trans ?_
  exact mm_eq _ _ _ _ _ _ (fun i => (rfl).trans (normed_apply m ρ c b r i)) (fun i => (rfl).trans (wq_apply m ρ c i n))

/-- The first heads' keys and values. -/
theorem c_apply (c : Dev nD) (b : Fin 1) (r : Fin 8192) (n : Fin 4096) :
    (show Vec Ideal S8192x4096 .f32 from W7 m ρ c (Proc.devRef .tc main_v25_0)) (ix2 r n) = oddProd (argX m c) (argN m c) (argW m c) b r (ocolC n) := by
  refine (congrFun (((W7_of m ρ c main_v25_0 (by decide)).trans (W6_of m ρ c main_v25_0 (by decide))).trans ((W5_arr m ρ c 2).trans (final2_2 (V4 m ρ) c))) _).trans ?_
  exact mm_eq _ _ _ _ _ _ (fun i => (congrFun (rows4 m ρ c) _).trans (normed_apply m ρ c b r i)) (fun i => (congrFun (W4_of m ρ c main_v18 (by decide)) _).trans (wc_apply m ρ c i n))

/-- The first heads' keys and values, in the shorter type. -/
theorem c2_apply (c : Dev nD) (b : Fin 1) (r : Fin 8192) (n : Fin 4096) :
    (show Vec Ideal S8192x4096 .bf16 from W7 m ρ c (Proc.devRef .tc main_v25_1)) (ix2 r n) = oddProd (argX m c) (argN m c) (argW m c) b r (ocolC n) := by
  refine (congrFun (((W7_of m ρ c main_v25_1 (by decide)).trans (W6_of m ρ c main_v25_1 (by decide))).trans ((W5_arr m ρ c 3).trans (final2_3 (V4 m ρ) c))) _).trans ?_
  exact mm_eq _ _ _ _ _ _ (fun i => (congrFun (rows4 m ρ c) _).trans (normed_apply m ρ c b r i)) (fun i => (congrFun (W4_of m ρ c main_v18 (by decide)) _).trans (wc_apply m ρ c i n))

/-- The second heads' keys and values. -/
theorem d_apply (c : Dev nD) (b : Fin 1) (r : Fin 8192) (n : Fin 4096) :
    (show Vec Ideal S8192x4096 .f32 from W7 m ρ c (Proc.devRef .tc main_v26_0)) (ix2 r n) = oddProd (argX m c) (argN m c) (argW m c) b r (ocolD n) := by
  refine (congrFun ((W7_of m ρ c main_v26_0 (by decide)).trans ((W6_arr m ρ c 2).trans (final3_2 (V5 m ρ) c))) _).trans ?_
  exact mm_eq _ _ _ _ _ _ (fun i => (congrFun (rows5 m ρ c) _).trans (normed_apply m ρ c b r i)) (fun i => (congrFun ((W5_of m ρ c main_v20 (by decide)).trans (W4_of m ρ c main_v20 (by decide))) _).trans (wd_apply m ρ c i n))

/-- The second heads' keys and values, in the shorter type. -/
theorem d2_apply (c : Dev nD) (b : Fin 1) (r : Fin 8192) (n : Fin 4096) :
    (show Vec Ideal S8192x4096 .bf16 from W7 m ρ c (Proc.devRef .tc main_v26_1)) (ix2 r n) = oddProd (argX m c) (argN m c) (argW m c) b r (ocolD n) := by
  refine (congrFun ((W7_of m ρ c main_v26_1 (by decide)).trans ((W6_arr m ρ c 3).trans (final3_3 (V5 m ρ) c))) _).trans ?_
  exact mm_eq _ _ _ _ _ _ (fun i => (congrFun (rows5 m ρ c) _).trans (normed_apply m ρ c b r i)) (fun i => (congrFun ((W5_of m ρ c main_v20 (by decide)).trans (W4_of m ρ c main_v20 (by decide))) _).trans (wd_apply m ρ c i n))

/-- The gates. -/
theorem g_apply (c : Dev nD) (b : Fin 1) (r : Fin 8192) (n : Fin 4096) :
    (show Vec Ideal S8192x4096 .f32 from W7 m ρ c (Proc.devRef .tc main_v27)) (ix2 r n) = oddProd (argX m c) (argN m c) (argW m c) b r (ocolG n) := by
  refine (congrFun ((W7_arr m ρ c 2).trans (final4_2 (V6 m ρ) c)) _).trans ?_
  exact mm_eq _ _ _ _ _ _ (fun i => (congrFun (rows6 m ρ c) _).trans (normed_apply m ρ c b r i)) (fun i => (congrFun (((W6_of m ρ c main_v22 (by decide)).trans (W5_of m ρ c main_v22 (by decide))).trans (W4_of m ρ c main_v22 (by decide))) _).trans (wg_apply m ρ c i n))

end Cert.Proof.Odd

end
-- ==== Proof.OddFinal.lean ====
/-
  The second layer's input: each of the kernel's six results is the reference's.
-/
module

public import proofs.«01_k».proof.Proof.OddValue
public import proofs.«01_k».proof.Proof.OddRun
public import proofs.«01_k».proof.Proof.OddRef

@[expose] public section

set_option maxRecDepth 16384

noncomputable section

namespace Cert.Proof.Odd

open Cert.InOddIdeal Cert.InOddIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The queries are the reference's. -/
theorem res_q (c : Dev nD) : (show Vec Ideal S1x8192x4096 .bf16 from W8 m ρ c (Proc.devRef .tc main_v28)) = refQ (refY (argX m c) (argN m c) (argW m c)) := by
  funext y
  obtain ⟨b, r, n, rfl⟩ := exists_ix3 (a := 1) (b := 8192) (d := 4096) y
  have e : (show Vec Ideal S1x8192x4096 .bf16 from W8 m ρ c (Proc.devRef .tc main_v28)) (ix3 b r n)
      = (show Vec Ideal S8192x4096 .bf16 from W7 m ρ c (Proc.devRef .tc main_v24)) (ix2 r n) := by
    obtain rfl : b = 0 := Subsingleton.elim _ _
    after_results_simp
    pointwise
    try blk_ext
  refine e.trans ((q_apply m ρ c b r n).trans ?_)
  rw [refQ_apply]
  exact (refY_apply _ _ _ b r _).symm

/-- The first heads' keys and values are the reference's. -/
theorem res_c (c : Dev nD) : (show Vec Ideal S1x8192x2x16x128 .f32 from W8 m ρ c (Proc.devRef .tc main_v34)) = refC (refY (argX m c) (argN m c) (argW m c)) := by
  funext y
  obtain ⟨b, r, k, h, d, rfl⟩ := exists_ix5 (a := 1) (b := 8192) (d := 2) (e := 16) (f := 128) y
  have e : (show Vec Ideal S1x8192x2x16x128 .f32 from W8 m ρ c (Proc.devRef .tc main_v34)) (ix5 b r k h d)
      = (show Vec Ideal S8192x4096 .f32 from W7 m ρ c (Proc.devRef .tc main_v25_0)) (ix2 r (⟨2048 * k.val + (128 * h.val + d.val), by omega⟩ : Fin 4096)) := by
    obtain rfl : b = 0 := Subsingleton.elim _ _
    after_results_simp
    pointwise
    try blk_ext
  refine e.trans ((c_apply m ρ c b r _).trans ?_)
  rw [refC_apply]
  exact (refY_apply _ _ _ b r _).symm

/-- So they are in the shorter type. -/
theorem res_c2 (c : Dev nD) : (show Vec Ideal S1x8192x4096 .bf16 from W8 m ρ c (Proc.devRef .tc main_v29)) = refC2 (refY (argX m c) (argN m c) (argW m c)) := by
  funext y
  obtain ⟨b, r, n, rfl⟩ := exists_ix3 (a := 1) (b := 8192) (d := 4096) y
  have e : (show Vec Ideal S1x8192x4096 .bf16 from W8 m ρ c (Proc.devRef .tc main_v29)) (ix3 b r n)
      = (show Vec Ideal S8192x4096 .bf16 from W7 m ρ c (Proc.devRef .tc main_v25_1)) (ix2 r n) := by
    obtain rfl : b = 0 := Subsingleton.elim _ _
    after_results_simp
    pointwise
    try blk_ext
  refine e.trans ((c2_apply m ρ c b r n).trans ?_)
  rw [refC2_apply]
  exact (refY_apply _ _ _ b r _).symm

/-- The second heads' keys and values of the last rows are the reference's. -/
theorem res_d (c : Dev nD) : (show Vec Ideal S1x512x2x16x128 .f32 from W8 m ρ c (Proc.devRef .tc main_v36)) = refE (refY (argX m c) (argN m c) (argW m c)) := by
  funext y
  obtain ⟨b, r, k, h, d, rfl⟩ := exists_ix5 (a := 1) (b := 512) (d := 2) (e := 16) (f := 128) y
  have e : (show Vec Ideal S1x512x2x16x128 .f32 from W8 m ρ c (Proc.devRef .tc main_v36)) (ix5 b r k h d)
      = (show Vec Ideal S8192x4096 .f32 from W7 m ρ c (Proc.devRef .tc main_v26_0)) (ix2 (⟨7680 + r.val, by omega⟩ : Fin 8192) (⟨2048 * k.val + (128 * h.val + d.val), by omega⟩ : Fin 4096)) := by
    obtain rfl : b = 0 := Subsingleton.elim _ _
    after_results_simp
    pointwise
    try blk_ext
  refine e.trans ((d_apply m ρ c b _ _).trans ?_)
  rw [refE_apply]
  exact (refY_apply _ _ _ b _ _).symm

/-- So all of them are in the shorter type. -/
theorem res_d2 (c : Dev nD) : (show Vec Ideal S1x8192x4096 .bf16 from W8 m ρ c (Proc.devRef .tc main_v30)) = refD2 (refY (argX m c) (argN m c) (argW m c)) := by
  funext y
  obtain ⟨b, r, n, rfl⟩ := exists_ix3 (a := 1) (b := 8192) (d := 4096) y
  have e : (show Vec Ideal S1x8192x4096 .bf16 from W8 m ρ c (Proc.devRef .tc main_v30)) (ix3 b r n)
      = (show Vec Ideal S8192x4096 .bf16 from W7 m ρ c (Proc.devRef .tc main_v26_1)) (ix2 r n) := by
    obtain rfl : b = 0 := Subsingleton.elim _ _
    after_results_simp
    pointwise
    try blk_ext
  refine e.trans ((d2_apply m ρ c b r n).trans ?_)
  rw [refD2_apply]
  exact (refY_apply _ _ _ b r _).symm

/-- The gates are the reference's. -/
theorem res_g (c : Dev nD) : (show Vec Ideal S1x8192x4096 .f32 from W8 m ρ c (Proc.devRef .tc main_v31)) = refG (refY (argX m c) (argN m c) (argW m c)) := by
  funext y
  obtain ⟨b, r, n, rfl⟩ := exists_ix3 (a := 1) (b := 8192) (d := 4096) y
  have e : (show Vec Ideal S1x8192x4096 .f32 from W8 m ρ c (Proc.devRef .tc main_v31)) (ix3 b r n)
      = (show Vec Ideal S8192x4096 .f32 from W7 m ρ c (Proc.devRef .tc main_v27)) (ix2 r n) := by
    obtain rfl : b = 0 := Subsingleton.elim _ _
    after_results_simp
    pointwise
    try blk_ext
  refine e.trans ((g_apply m ρ c b r n).trans ?_)
  rw [refG_apply]
  exact (refY_apply _ _ _ b r _).symm

/-- From equal arguments the reference's product is that of the kernel's arguments. -/
theorem runY_eq (m' : (ℓ : Loc Cert.InOddRefIdeal.nD Cert.InOddRefIdeal.τ Cert.InOddRefIdeal.sig) → Buf (Elt Ideal) ℓ) (c : Dev nD)
    (h0 : m' ((c.tc : Thread Cert.InOddRefIdeal.nD Cert.InOddRefIdeal.τ).loc Cert.InOddRefIdeal.main_arg0) = m ((c.tc : Thread nD τ).loc main_arg0))
    (h1 : m' ((c.tc : Thread Cert.InOddRefIdeal.nD Cert.InOddRefIdeal.τ).loc Cert.InOddRefIdeal.main_arg1) = m ((c.tc : Thread nD τ).loc main_arg1))
    (h2 : m' ((c.tc : Thread Cert.InOddRefIdeal.nD Cert.InOddRefIdeal.τ).loc Cert.InOddRefIdeal.main_arg2) = m ((c.tc : Thread nD τ).loc main_arg2)) :
    runY m' c = (refY (argX m c) (argN m c) (argW m c)) :=
  congr (congr (congrArg refY h0) h1) h2

end Cert.Proof.Odd

end
-- ==== Proof.OddSRef.lean ====
/-
  The reference of the second layer's input on the sample batch at an index: each result's entry is one entry of the product of the
  normed rows with the layer's weights, at the column its place in the result stands for.
-/
module

public import proofs.«01_k».proof.Proof.OddMath
public import proofs.«01_k».proof.Proof.Gen.InOddSRefIdeal.Run
public import Idealize.ShloMosaic.Lib.Pipeline.ValueKit
public import Idealize.ShloMosaic.Lib.Claim

@[expose] public section

set_option maxRecDepth 16384

noncomputable section

namespace Cert.Proof.OddS

open Cert.InOddSRefIdeal Cert.InOddSRefIdeal.Gen Cert.Proof.Layer Idealize.ShloMosaic Idealize.ShloMosaic.TcCoe Idealize.SL.Sem

/-- The reference's normed rows. -/
def refH (x : FVec Ideal S16x64x4096 .f32) (g : FVec Ideal S2x4096 .f32) : FVec Ideal S16x64x4096 .f32 :=
  (mulf (mulf x (broadcastInDim S16x64x4096 ![0, 1, 2] bcast_S16x64x1_S16x64x4096_0_1_2 (Host.rsqrt (addf (Host.divf (broadcastInDim S16x64x1 ![0, 1] bcast_S16x64_S16x64x1_0_1 (Host.reduceAdd (mulf x x) (constant S_ .f32 0x00000000#32) reducesTo_S16x64x4096_S16x64_d2 h_S_)) (broadcastInDim S16x64x1 ![] bcast_S_S16x64x1 (constant S_ .f32 0x45800000#32))) (broadcastInDim S16x64x1 ![] bcast_S_S16x64x1 (constant S_ .f32 0x358637BD#32)))))) (broadcastInDim S16x64x4096 ![0, 1, 2] bcast_S1x1x4096_S16x64x4096_0_1_2 (broadcastInDim S1x1x4096 ![2] bcast_S4096_S1x1x4096_2 (shapeCast _ (extractStridedSlice S1x4096 ![1, 0] g slices_S2x4096_S1x4096_1_0) shapeCasts_S1x4096_S4096))))

/-- The reference's product of the normed rows with the layer's weights. -/
def refY (x : FVec Ideal S16x64x4096 .f32) (g : FVec Ideal S2x4096 .f32) (w : FVec Ideal S1x4096x16384 .f32) : FVec Ideal S16x64x16384 .f32 :=
  Host.dotGeneral dot_S16x64x4096_S4096x16384_S16x64x16384_2_0_01_1_n_n none (refH x g) (shapeCast _ w shapeCasts_S1x4096x16384_S4096x16384)

/-- The product at an index. -/
theorem refY_apply (x : FVec Ideal S16x64x4096 .f32) (g : FVec Ideal S2x4096 .f32) (w : FVec Ideal S1x4096x16384 .f32) (b : Fin 16) (r : Fin 64) (n : Fin 16384) :
    refY x g w (ix3 b r n) = oddProd x g w b r n := by
  have e : ∀ i : Fin 4096, refH x g (ix3 b r i) = rnEntry (fun i => x (ix3 b r i)) (g (ix2 (1 : Fin 2) i)) i := fun i => by
    unfold rnEntry
    pointwise [refH]
  unfold oddProd
  simp only [← e]
  pointwise [refY]

/-- The queries, of the product `y`. -/
def refQ (y : FVec Ideal S16x64x16384 .f32) : FVec Ideal S16x64x4096 .bf16 :=
  truncf .bf16 (concatenate S16x64x4096 2 [⟨S16x64x2048, (extractStridedSlice S16x64x2048 ![0, 0, 0] y slices_S16x64x16384_S16x64x2048_0_0_0)⟩, ⟨S16x64x2048, (extractStridedSlice S16x64x2048 ![0, 0, 8192] y slices_S16x64x16384_S16x64x2048_0_0_8192)⟩] concatenates_S16x64x2048_S16x64x2048_S16x64x4096_d2) bitsLt_bf16_f32

/-- The queries, at an index. -/
theorem refQ_apply (y : FVec Ideal S16x64x16384 .f32) (b : Fin 16) (r : Fin 64) (n : Fin 4096) :
    refQ y (ix3 b r n) = y (ix3 b r (ocolQ n)) := by
  pointwise [refQ]
  split_ifs
  all_goals first
    | omega
    | exact congrArg (fun c => y (ix3 b r c)) (Fin.ext (by rw [ocolQ_val]; try dsimp only; split_ifs <;> omega))

/-- The first heads' keys and values, of the product `y`. -/
def refC (y : FVec Ideal S16x64x16384 .f32) : FVec Ideal S16x64x2x16x128 .f32 :=
  concatenate S16x64x2x16x128 2 [⟨S16x64x1x16x128, (broadcastInDim S16x64x1x16x128 ![0, 1, 3, 4] bcast_S16x64x16x128_S16x64x1x16x128_0_1_3_4 (shapeCast _ (extractStridedSlice S16x64x2048 ![0, 0, 2048] y slices_S16x64x16384_S16x64x2048_0_0_2048) shapeCasts_S16x64x2048_S16x64x16x128))⟩, ⟨S16x64x1x16x128, (broadcastInDim S16x64x1x16x128 ![0, 1, 3, 4] bcast_S16x64x16x128_S16x64x1x16x128_0_1_3_4 (shapeCast _ (extractStridedSlice S16x64x2048 ![0, 0, 4096] y slices_S16x64x16384_S16x64x2048_0_0_4096) shapeCasts_S16x64x2048_S16x64x16x128))⟩] concatenates_S16x64x1x16x128_S16x64x1x16x128_S16x64x2x16x128_d2

/-- The first heads' keys and values, at an index. -/
theorem refC_apply (y : FVec Ideal S16x64x16384 .f32) (b : Fin 16) (r : Fin 64) (k : Fin 2) (h : Fin 16) (d : Fin 128) :
    refC y (ix5 b r k h d) = y (ix3 b r (ocolC ⟨2048 * k.val + (128 * h.val + d.val), by omega⟩)) := by
  pointwise [refC]
  split_ifs
  all_goals exact congrArg (fun c => y (ix3 b r c)) (Fin.ext (by unfold ocolC; dsimp only; omega))

/-- They side by side, in the shorter type. -/
def refC2 (y : FVec Ideal S16x64x16384 .f32) : FVec Ideal S16x64x4096 .bf16 :=
  shapeCast _ (truncf .bf16 (refC y) bitsLt_bf16_f32) shapeCasts_S16x64x2x16x128_S16x64x4096

/-- They at an index. -/
theorem refC2_apply (y : FVec Ideal S16x64x16384 .f32) (b : Fin 16) (r : Fin 64) (n : Fin 4096) :
    refC2 y (ix3 b r n) = y (ix3 b r (ocolC n)) := by
  have e : refC2 y (ix3 b r n) = refC y (ix5 b r (⟨n.val / 2048, by omega⟩ : Fin 2) (⟨n.val % 2048 / 128, by omega⟩ : Fin 16) (⟨n.val % 128, by omega⟩ : Fin 128)) := by
    pointwise [refC2]
    try blk_ext
  rw [e, refC_apply]
  exact congrArg (fun c => y (ix3 b r c)) (Fin.ext (by unfold ocolC; dsimp only; omega))

/-- The second heads' keys and values, of the product `y`. -/
def refD (y : FVec Ideal S16x64x16384 .f32) : FVec Ideal S16x64x2x16x128 .f32 :=
  concatenate S16x64x2x16x128 2 [⟨S16x64x1x16x128, (broadcastInDim S16x64x1x16x128 ![0, 1, 3, 4] bcast_S16x64x16x128_S16x64x1x16x128_0_1_3_4 (shapeCast _ (extractStridedSlice S16x64x2048 ![0, 0, 10240] y slices_S16x64x16384_S16x64x2048_0_0_10240) shapeCasts_S16x64x2048_S16x64x16x128))⟩, ⟨S16x64x1x16x128, (broadcastInDim S16x64x1x16x128 ![0, 1, 3, 4] bcast_S16x64x16x128_S16x64x1x16x128_0_1_3_4 (shapeCast _ (extractStridedSlice S16x64x2048 ![0, 0, 12288] y slices_S16x64x16384_S16x64x2048_0_0_12288) shapeCasts_S16x64x2048_S16x64x16x128))⟩] concatenates_S16x64x1x16x128_S16x64x1x16x128_S16x64x2x16x128_d2

/-- The second heads' keys and values, at an index. -/
theorem refD_apply (y : FVec Ideal S16x64x16384 .f32) (b : Fin 16) (r : Fin 64) (k : Fin 2) (h : Fin 16) (d : Fin 128) :
    refD y (ix5 b r k h d) = y (ix3 b r (ocolD ⟨2048 * k.val + (128 * h.val + d.val), by omega⟩)) := by
  pointwise [refD]
  split_ifs
  all_goals exact congrArg (fun c => y (ix3 b r c)) (Fin.ext (by unfold ocolD; dsimp only; omega))

/-- They side by side, in the shorter type. -/
def refD2 (y : FVec Ideal S16x64x16384 .f32) : FVec Ideal S16x64x4096 .bf16 :=
  shapeCast _ (truncf .bf16 (refD y) bitsLt_bf16_f32) shapeCasts_S16x64x2x16x128_S16x64x4096

/-- They at an index. -/
theorem refD2_apply (y : FVec Ideal S16x64x16384 .f32) (b : Fin 16) (r : Fin 64) (n : Fin 4096) :
    refD2 y (ix3 b r n) = y (ix3 b r (ocolD n)) := by
  have e : refD2 y (ix3 b r n) = refD y (ix5 b r (⟨n.val / 2048, by omega⟩ : Fin 2) (⟨n.val % 2048 / 128, by omega⟩ : Fin 16) (⟨n.val % 128, by omega⟩ : Fin 128)) := by
    pointwise [refD2]
    try blk_ext
  rw [e, refD_apply]
  exact congrArg (fun c => y (ix3 b r c)) (Fin.ext (by unfold ocolD; dsimp only; omega))

/-- The gates, of the product `y`. -/
def refG (y : FVec Ideal S16x64x16384 .f32) : FVec Ideal S16x64x4096 .f32 :=
  concatenate S16x64x4096 2 [⟨S16x64x2048, (extractStridedSlice S16x64x2048 ![0, 0, 6144] y slices_S16x64x16384_S16x64x2048_0_0_6144)⟩, ⟨S16x64x2048, (extractStridedSlice S16x64x2048 ![0, 0, 14336] y slices_S16x64x16384_S16x64x2048_0_0_14336)⟩] concatenates_S16x64x2048_S16x64x2048_S16x64x4096_d2

/-- The gates, at an index. -/
theorem refG_apply (y : FVec Ideal S16x64x16384 .f32) (b : Fin 16) (r : Fin 64) (n : Fin 4096) :
    refG y (ix3 b r n) = y (ix3 b r (ocolG n)) := by
  pointwise [refG]
  split_ifs
  all_goals first
    | omega
    | exact congrArg (fun c => y (ix3 b r c)) (Fin.ext (by rw [ocolG_val]; try dsimp only; split_ifs <;> omega))

/-- The second heads' newest 512 rows: the cache `k`'s last 448 and the product's 64. -/
def refE (y : FVec Ideal S16x64x16384 .f32) (k : FVec Ideal S1x16x512x2x16x128 .f32) : FVec Ideal S16x512x2x16x128 .f32 :=
  extractStridedSlice S16x512x2x16x128 ![0, 64, 0, 0, 0] (concatenate S16x576x2x16x128 1 [⟨S16x512x2x16x128, (shapeCast _ k shapeCasts_S1x16x512x2x16x128_S16x512x2x16x128)⟩, ⟨S16x64x2x16x128, refD y⟩] concatenates_S16x512x2x16x128_S16x64x2x16x128_S16x576x2x16x128_d1) slices_S16x576x2x16x128_S16x512x2x16x128_0_64_0_0_0

/-- They at an index. -/
theorem refE_apply (y : FVec Ideal S16x64x16384 .f32) (k : FVec Ideal S1x16x512x2x16x128 .f32) (b : Fin 16) (r : Fin 512) (e : Fin 2) (h : Fin 16) (d : Fin 128) :
    refE y k (ix5 b r e h d) = if hr : r.val < 448 then k (ix6 (0 : Fin 1) b (⟨64 + r.val, by omega⟩ : Fin 512) e h d)
      else y (ix3 b (⟨r.val - 448, by omega⟩ : Fin 64) (ocolD ⟨2048 * e.val + (128 * h.val + d.val), by omega⟩)) := by
  by_cases hr : r.val < 448
  · rw [dif_pos hr]
    pointwise [refE]
    split_ifs
    all_goals first
      | omega
      | exact absurd rfl (by assumption)
      | blk_ext
  · rw [dif_neg hr]
    refine Eq.trans ?_ (refD_apply y b ⟨r.val - 448, by omega⟩ e h d)
    pointwise [refE]
    split_ifs
    all_goals first
      | omega
      | exact absurd rfl (by assumption)
      | blk_ext

variable (m : (ℓ : Loc nD τ sig) → Buf (Elt Ideal) ℓ)

/-- The reference's product of a run's arguments. -/
abbrev runY (c : Dev nD) : FVec Ideal S16x64x16384 .f32 :=
  refY (m ((c.tc : Thread nD τ).loc main_arg0)) (m ((c.tc : Thread nD τ).loc main_arg1)) (m ((c.tc : Thread nD τ).loc main_arg2))

/-- The reference runs to its end, at its six results, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v36) = refQ (runY m c)
      ∧ r.2.mem ((c.tc : Thread nD τ).loc main_v29) = refC (runY m c)
      ∧ r.2.mem ((c.tc : Thread nD τ).loc main_v38) = refC2 (runY m c)
      ∧ r.2.mem ((c.tc : Thread nD τ).loc main_v44) = refE (runY m c) (m ((c.tc : Thread nD τ).loc main_arg3))
      ∧ r.2.mem ((c.tc : Thread nD τ).loc main_v40) = refD2 (runY m c)
      ∧ r.2.mem ((c.tc : Thread nD τ).loc main_v41) = refG (runY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.InOddSRefIdeal.Value.run m ρ

end Cert.Proof.OddS

end
-- ==== Proof.OddSRun.lean ====
/-
  The run of the second layer's input on the sample batch: what every buffer holds at the end.
-/
module

public import proofs.«01_k».proof.Proof.Gen.InOddSIdeal.Frame
public import Idealize.ShloMosaic.Lib.Pipeline.ValueKit

@[expose] public section

noncomputable section

namespace Cert.Proof.OddS

open Cert.InOddSIdeal Cert.InOddSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c b hb => h c _ (mem_uc b hb))

end Cert.Proof.OddS

end
-- ==== Proof.OddSRegions.lean ====
/-
  The arrays the five calls of the second layer's input leave on the sample batch, of the arrays each is given: the norm of every row,
  and the products with the four groups of weights.
-/
module

public import proofs.«01_k».proof.Proof.LayerMath
public import proofs.«01_k».proof.Proof.Gen.InOddSIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.OddS

open Cert.InOddSIdeal Cert.InOddSIdeal.Gen Cert.Proof.Layer Idealize.ShloMosaic Idealize.ShloMosaic.TcCoe Idealize.SL.Sem

variable (V : (c : Dev nD) → (b : Ref sig .tc) → Buf (Elt Ideal) ((c : Thread nD τ).loc b))

/-! ## The norm of call 0 -/

/-- Where call 0's blocks stand at a grid point. -/
theorem idx0 : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

/-- The blocks of call 0's result cover it. -/
theorem cover0 : (cfg0.win 2).Covers :=
  (cfg0.win 2).covers_of_indexMap_surj rfl (by decide) fun β =>
    ⟨fun a => match a with
      | ⟨0, _⟩ => ⟨(β 0).val, (β 0).isLt⟩, fun a => by
      have h0 : (β 0).val < 4 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of call 0's result at an index. -/
theorem pay0_apply (x : Vec Ideal S256x4096 .f32) (g : Vec Ideal S1x4096 .f32) (r : Fin 256) (n : Fin 4096) :
    k0_pay1 (F := Ideal) x g (ix2 r n) = rnEntry (fun i => x (ix2 r i)) (g (ix2 (0 : Fin 1) n)) n := by
  unfold rnEntry
  pointwise [k0_pay1]

/-- Call 0's result ends at the norm of its array. -/
theorem final0 (c : Dev nD) : (dat0 V c).arrAt 2 cfg0.N = rn (V c main_v0) (V c main_v3) := by
  refine (dat0 V c).arrAt_eq_of_covers 2 _ cover0 fun t hf y => ?_
  blk_simp
  rw [after0_2]
  frame_out
  obtain ⟨r, n, rfl⟩ := exists_ix2 (a := 256) (b := 4096) y
  have h0 : (grid0.coords t 0).val < 4 := (grid0.coords t 0).isLt
  have hemb : (((cfg0.win 2).blk t).view.emb (ix2 r n) : S1024x4096.Idx)
      = ix2 (⟨256 * (grid0.coords t 0).val + r.val, by omega⟩ : Fin 1024) n := by
    blk_ext [idx0 t]
  refine Eq.trans ?_ (congrArg (rn (V c main_v0) (V c main_v3)) hemb.symm)
  rw [rn_apply]
  refine (pay0_apply _ _ r n).trans (congrArg₂ (fun a b => rnEntry a b n) (funext fun i => ?_) ?_)
  · blk_point [iblk0, idx0 t]
  · blk_point [iblk0, idx0 t]

/-! ## The product of call 1 -/

/-- Where call 1's blocks stand at a grid point. -/
theorem idx1 : ∀ t : Fin cfg1.N, win1_0.index t = ![(grid1.coords t 0).val, 0] ∧ win1_1.index t = ![0, (grid1.coords t 1).val] ∧ win1_2.index t = ![(grid1.coords t 0).val, (grid1.coords t 1).val] :=
  (by decide +kernel : ∀ t : Fin grid1.N, _)

/-- The bounds of a grid point of call 1. -/
theorem lt1 (t : Fin cfg1.N) : (grid1.coords t 0).val < 1 ∧ (grid1.coords t 1).val < 4 :=
  ⟨(grid1.coords t 0).isLt, (grid1.coords t 1).isLt⟩

/-- The blocks of window 2 of call 1 cover its array. -/
theorem cover1_2 : (cfg1.win 2).Covers :=
  (cfg1.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 1 at an index. -/
theorem pay1_2_apply (a : Vec Ideal S1024x4096 .bf16) (w : Vec Ideal S4096x1024 .bf16) (r : Fin 1024) (n : Fin 1024) :
    k1_pay1 (F := Ideal) a w (ix2 r n) = ∑ i : Fin 4096, a (ix2 r i) * w (ix2 i n) := by
  pointwise [k1_pay1]

/-- Window 2 of call 1 ends at the product of the call's two arrays. -/
theorem final1_2 (c : Dev nD) : (dat1 V c).arrAt 2 cfg1.N = mm (V c main_v23) (V c main_v16) := by
  refine (dat1 V c).arrAt_eq_of_covers 2 _ cover1_2 fun t hf y => ?_
  blk_simp
  rw [after1_2]
  frame_out
  obtain ⟨r, n, rfl⟩ := exists_ix2 (a := 1024) (b := 1024) y
  have h0 := (lt1 t).1
  have h1 := (lt1 t).2
  have hemb : (((cfg1.win 2).blk t).view.emb (ix2 r n) : S1024x4096.Idx)
      = ix2 (⟨1024 * (grid1.coords t 0).val + r.val, by omega⟩ : Fin 1024) (⟨1024 * (grid1.coords t 1).val + n.val, by omega⟩ : Fin 4096) := by
    blk_ext [idx1 t]
  refine Eq.trans ?_ (congrArg (mm (V c main_v23) (V c main_v16)) hemb.symm)
  rw [mm_apply]
  refine (pay1_2_apply _ _ r n).trans (Finset.sum_congr rfl fun i _ => congrArg₂ (fun a b : EReal => a * b) ?_ ?_)
  · blk_point [iblk1, idx1 t]
  · blk_point [iblk1, idx1 t]

/-! ## The product of call 2 -/

/-- Where call 2's blocks stand at a grid point. -/
theorem idx2 : ∀ t : Fin cfg2.N, win2_0.index t = ![(grid2.coords t 0).val, 0] ∧ win2_1.index t = ![0, (grid2.coords t 1).val] ∧ win2_2.index t = ![(grid2.coords t 0).val, (grid2.coords t 1).val] ∧ win2_3.index t = ![(grid2.coords t 0).val, (grid2.coords t 1).val] :=
  (by decide +kernel : ∀ t : Fin grid2.N, _)

/-- The bounds of a grid point of call 2. -/
theorem lt2 (t : Fin cfg2.N) : (grid2.coords t 0).val < 1 ∧ (grid2.coords t 1).val < 4 :=
  ⟨(grid2.coords t 0).isLt, (grid2.coords t 1).isLt⟩

/-- The blocks of window 2 of call 2 cover its array. -/
theorem cover2_2 : (cfg2.win 2).Covers :=
  (cfg2.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 2 at an index. -/
theorem pay2_2_apply (a : Vec Ideal S1024x4096 .bf16) (w : Vec Ideal S4096x1024 .bf16) (r : Fin 1024) (n : Fin 1024) :
    k2_pay1 (F := Ideal) a w (ix2 r n) = ∑ i : Fin 4096, a (ix2 r i) * w (ix2 i n) := by
  pointwise [k2_pay1]

/-- Window 2 of call 2 ends at the product of the call's two arrays. -/
theorem final2_2 (c : Dev nD) : (dat2 V c).arrAt 2 cfg2.N = mm (V c main_v23) (V c main_v18) := by
  refine (dat2 V c).arrAt_eq_of_covers 2 _ cover2_2 fun t hf y => ?_
  blk_simp
  rw [after2_2]
  frame_out
  obtain ⟨r, n, rfl⟩ := exists_ix2 (a := 1024) (b := 1024) y
  have h0 := (lt2 t).1
  have h1 := (lt2 t).2
  have hemb : (((cfg2.win 2).blk t).view.emb (ix2 r n) : S1024x4096.Idx)
      = ix2 (⟨1024 * (grid2.coords t 0).val + r.val, by omega⟩ : Fin 1024) (⟨1024 * (grid2.coords t 1).val + n.val, by omega⟩ : Fin 4096) := by
    blk_ext [idx2 t]
  refine Eq.trans ?_ (congrArg (mm (V c main_v23) (V c main_v18)) hemb.symm)
  rw [mm_apply]
  refine (pay2_2_apply _ _ r n).trans (Finset.sum_congr rfl fun i _ => congrArg₂ (fun a b : EReal => a * b) ?_ ?_)
  · blk_point [iblk2, idx2 t]
  · blk_point [iblk2, idx2 t]

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 2 at an index. -/
theorem pay2_3_apply (a : Vec Ideal S1024x4096 .bf16) (w : Vec Ideal S4096x1024 .bf16) (r : Fin 1024) (n : Fin 1024) :
    k2_pay2 (F := Ideal) a w (ix2 r n) = ∑ i : Fin 4096, a (ix2 r i) * w (ix2 i n) := by
  pointwise [k2_pay2, k2_pay1]

/-- Window 3 of call 2 ends at the product of the call's two arrays. -/
theorem final2_3 (c : Dev nD) : (dat2 V c).arrAt 3 cfg2.N = mm (V c main_v23) (V c main_v18) := by
  refine (dat2 V c).arrAt_eq_of_covers 3 _ cover2_3 fun t hf y => ?_
  blk_simp
  rw [after2_3]
  frame_out
  obtain ⟨r, n, rfl⟩ := exists_ix2 (a := 1024) (b := 1024) y
  have h0 := (lt2 t).1
  have h1 := (lt2 t).2
  have hemb : (((cfg2.win 3).blk t).view.emb (ix2 r n) : S1024x4096.Idx)
      = ix2 (⟨1024 * (grid2.coords t 0).val + r.val, by omega⟩ : Fin 1024) (⟨1024 * (grid2.coords t 1).val + n.val, by omega⟩ : Fin 4096) := by
    blk_ext [idx2 t]
  refine Eq.trans ?_ (congrArg (mm (V c main_v23) (V c main_v18)) hemb.symm)
  rw [mm_apply]
  refine (pay2_3_apply _ _ r n).trans (Finset.sum_congr rfl fun i _ => congrArg₂ (fun a b : EReal => a * b) ?_ ?_)
  · blk_point [iblk2, idx2 t]
  · blk_point [iblk2, idx2 t]

/-! ## The product of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] :=
  (by decide +kernel : ∀ t : Fin grid3.N, _)

/-- The bounds of a grid point of call 3. -/
theorem lt3 (t : Fin cfg3.N) : (grid3.coords t 0).val < 1 ∧ (grid3.coords t 1).val < 4 :=
  ⟨(grid3.coords t 0).isLt, (grid3.coords t 1).isLt⟩

/-- The blocks of window 2 of call 3 cover its array. -/
theorem cover3_2 : (cfg3.win 2).Covers :=
  (cfg3.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 3 at an index. -/
theorem pay3_2_apply (a : Vec Ideal S1024x4096 .bf16) (w : Vec Ideal S4096x1024 .bf16) (r : Fin 1024) (n : Fin 1024) :
    k3_pay1 (F := Ideal) a w (ix2 r n) = ∑ i : Fin 4096, a (ix2 r i) * w (ix2 i n) := by
  pointwise [k3_pay1]

/-- Window 2 of call 3 ends at the product of the call's two arrays. -/
theorem final3_2 (c : Dev nD) : (dat3 V c).arrAt 2 cfg3.N = mm (V c main_v23) (V c main_v20) := by
  refine (dat3 V c).arrAt_eq_of_covers 2 _ cover3_2 fun t hf y => ?_
  blk_simp
  rw [after3_2]
  frame_out
  obtain ⟨r, n, rfl⟩ := exists_ix2 (a := 1024) (b := 1024) y
  have h0 := (lt3 t).1
  have h1 := (lt3 t).2
  have hemb : (((cfg3.win 2).blk t).view.emb (ix2 r n) : S1024x4096.Idx)
      = ix2 (⟨1024 * (grid3.coords t 0).val + r.val, by omega⟩ : Fin 1024) (⟨1024 * (grid3.coords t 1).val + n.val, by omega⟩ : Fin 4096) := by
    blk_ext [idx3 t]
  refine Eq.trans ?_ (congrArg (mm (V c main_v23) (V c main_v20)) hemb.symm)
  rw [mm_apply]
  refine (pay3_2_apply _ _ r n).trans (Finset.sum_congr rfl fun i _ => congrArg₂ (fun a b : EReal => a * b) ?_ ?_)
  · blk_point [iblk3, idx3 t]
  · blk_point [iblk3, idx3 t]

/-- The blocks of window 3 of call 3 cover its array. -/
theorem cover3_3 : (cfg3.win 3).Covers :=
  (cfg3.win 3).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 3 of call 3 at an index. -/
theorem pay3_3_apply (a : Vec Ideal S1024x4096 .bf16) (w : Vec Ideal S4096x1024 .bf16) (r : Fin 1024) (n : Fin 1024) :
    k3_pay2 (F := Ideal) a w (ix2 r n) = ∑ i : Fin 4096, a (ix2 r i) * w (ix2 i n) := by
  pointwise [k3_pay2, k3_pay1]

/-- Window 3 of call 3 ends at the product of the call's two arrays. -/
theorem final3_3 (c : Dev nD) : (dat3 V c).arrAt 3 cfg3.N = mm (V c main_v23) (V c main_v20) := by
  refine (dat3 V c).arrAt_eq_of_covers 3 _ cover3_3 fun t hf y => ?_
  blk_simp
  rw [after3_3]
  frame_out
  obtain ⟨r, n, rfl⟩ := exists_ix2 (a := 1024) (b := 1024) y
  have h0 := (lt3 t).1
  have h1 := (lt3 t).2
  have hemb : (((cfg3.win 3).blk t).view.emb (ix2 r n) : S1024x4096.Idx)
      = ix2 (⟨1024 * (grid3.coords t 0).val + r.val, by omega⟩ : Fin 1024) (⟨1024 * (grid3.coords t 1).val + n.val, by omega⟩ : Fin 4096) := by
    blk_ext [idx3 t]
  refine Eq.trans ?_ (congrArg (mm (V c main_v23) (V c main_v20)) hemb.symm)
  rw [mm_apply]
  refine (pay3_3_apply _ _ r n).trans (Finset.sum_congr rfl fun i _ => congrArg₂ (fun a b : EReal => a * b) ?_ ?_)
  · blk_point [iblk3, idx3 t]
  · blk_point [iblk3, idx3 t]

/-! ## The product of call 4 -/

/-- Where call 4's blocks stand at a grid point. -/
theorem idx4 : ∀ t : Fin cfg4.N, win4_0.index t = ![(grid4.coords t 0).val, 0] ∧ win4_1.index t = ![0, (grid4.coords t 1).val] ∧ win4_2.index t = ![(grid4.coords t 0).val, (grid4.coords t 1).val] :=
  (by decide +kernel : ∀ t : Fin grid4.N, _)

/-- The bounds of a grid point of call 4. -/
theorem lt4 (t : Fin cfg4.N) : (grid4.coords t 0).val < 1 ∧ (grid4.coords t 1).val < 4 :=
  ⟨(grid4.coords t 0).isLt, (grid4.coords t 1).isLt⟩

/-- The blocks of window 2 of call 4 cover its array. -/
theorem cover4_2 : (cfg4.win 2).Covers :=
  (cfg4.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 4 at an index. -/
theorem pay4_2_apply (a : Vec Ideal S1024x4096 .bf16) (w : Vec Ideal S4096x1024 .bf16) (r : Fin 1024) (n : Fin 1024) :
    k4_pay1 (F := Ideal) a w (ix2 r n) = ∑ i : Fin 4096, a (ix2 r i) * w (ix2 i n) := by
  pointwise [k4_pay1]

/-- Window 2 of call 4 ends at the product of the call's two arrays. -/
theorem final4_2 (c : Dev nD) : (dat4 V c).arrAt 2 cfg4.N = mm (V c main_v23) (V c main_v22) := by
  refine (dat4 V c).arrAt_eq_of_covers 2 _ cover4_2 fun t hf y => ?_
  blk_simp
  rw [after4_2]
  frame_out
  obtain ⟨r, n, rfl⟩ := exists_ix2 (a := 1024) (b := 1024) y
  have h0 := (lt4 t).1
  have h1 := (lt4 t).2
  have hemb : (((cfg4.win 2).blk t).view.emb (ix2 r n) : S1024x4096.Idx)
      = ix2 (⟨1024 * (grid4.coords t 0).val + r.val, by omega⟩ : Fin 1024) (⟨1024 * (grid4.coords t 1).val + n.val, by omega⟩ : Fin 4096) := by
    blk_ext [idx4 t]
  refine Eq.trans ?_ (congrArg (mm (V c main_v23) (V c main_v22)) hemb.symm)
  rw [mm_apply]
  refine (pay4_2_apply _ _ r n).trans (Finset.sum_congr rfl fun i _ => congrArg₂ (fun a b : EReal => a * b) ?_ ?_)
  · blk_point [iblk4, idx4 t]
  · blk_point [iblk4, idx4 t]

end Cert.Proof.OddS

end
-- ==== Proof.OddSValue.lean ====
/-
  The second layer's input on the sample batch: what the host prepares for the calls, and each call's array at an index.
-/
module

public import proofs.«01_k».proof.Proof.OddMath
public import proofs.«01_k».proof.Proof.OddSRegions
public import Idealize.ShloMosaic.Lib.StableHlo.RunRead

@[expose] public section

set_option maxRecDepth 16384

noncomputable section

namespace Cert.Proof.OddS

open Cert.InOddSIdeal Cert.InOddSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![16, 64, 4096]⟩ : Shape).Idx → EReal := m ((c.tc : Thread nD τ).loc main_arg0)
/-- The norms' gains. -/
abbrev argN (c : Dev nD) : (⟨2, ![2, 4096]⟩ : Shape).Idx → EReal := m ((c.tc : Thread nD τ).loc main_arg1)
/-- The layer's weights. -/
abbrev argW (c : Dev nD) : (⟨3, ![1, 4096, 16384]⟩ : Shape).Idx → EReal := m ((c.tc : Thread nD τ).loc main_arg2)

/-- The rows the norm is given. -/
theorem rows_apply (c : Dev nD) (b : Fin 16) (r : Fin 64) (n : Fin 4096) :
    (show Vec Ideal S1024x4096 .f32 from W1 m ρ c (Proc.devRef .tc main_v0)) (ix2 (⟨b.val * 64 + r.val, by omega⟩ : Fin 1024) n) = argX m c (ix3 b r n) := by
  after_results_simp
  pointwise
  blk_ext

/-- The gains the norm is given. -/
theorem gains_apply (c : Dev nD) (n : Fin 4096) :
    (show Vec Ideal S1x4096 .f32 from W1 m ρ c (Proc.devRef .tc main_v3)) (ix2 (0 : Fin 1) n) = argN m c (ix2 (1 : Fin 2) n) := by
  after_results_simp
  pointwise
  try blk_ext

/-- The normed rows the products are given. -/
theorem normed_apply (c : Dev nD) (b : Fin 16) (r : Fin 64) (n : Fin 4096) :
    (show Vec Ideal S1024x4096 .bf16 from W3 m ρ c (Proc.devRef .tc main_v23)) (ix2 (⟨b.val * 64 + r.val, by omega⟩ : Fin 1024) n)
      = rnEntry (fun i => argX m c (ix3 b r i)) (argN m c (ix2 (1 : Fin 2) n)) n := by
  have e : (show Vec Ideal S1024x4096 .bf16 from W3 m ρ c (Proc.devRef .tc main_v23)) (ix2 (⟨b.val * 64 + r.val, by omega⟩ : Fin 1024) n)
      = (show Vec Ideal S1024x4096 .bf16 from W2 m ρ c (Proc.devRef .tc main_v4)) (ix2 (⟨b.val * 64 + r.val, by omega⟩ : Fin 1024) n) := by
    after_results_simp
    pointwise
    try blk_ext
  refine e.trans ((congrFun ((W2_arr m ρ c 2).trans (final0 (V1 m ρ) c)) _).trans ?_)
  rw [rn_apply]
  exact congrArg₂ (fun a b => rnEntry a b n) (funext fun i => rows_apply m ρ c b r i) (gains_apply m ρ c n)

/-- The third argument before the second stretch of host operations. -/
theorem w2_arg (c : Dev nD) : W2 m ρ c (Proc.devRef .tc main_arg2) = m ((c.tc : Thread nD τ).loc main_arg2) :=
  W2_args m ρ c main_arg2 (by decide)

/-- The queries' weights. -/
theorem wq_apply (c : Dev nD) (i : Fin 4096) (n : Fin 4096) :
    (show Vec Ideal S4096x4096 .bf16 from W3 m ρ c (Proc.devRef .tc main_v16)) (ix2 i n) = argW m c (ix3 (0 : Fin 1) i (ocolQ n)) := by
  after_results
  rw [w2_arg]
  pointwise
  split_ifs
  all_goals first
    | omega
    | exact congrArg (fun k => argW m c (ix3 (0 : Fin 1) i k)) (Fin.ext (by first | rfl | (rw [ocolQ_val]; try dsimp only; split_ifs <;> omega)))

/-- The first heads' keys' and values' weights. -/
theorem wc_apply (c : Dev nD) (i : Fin 4096) (n : Fin 4096) :
    (show Vec Ideal S4096x4096 .bf16 from W3 m ρ c (Proc.devRef .tc main_v18)) (ix2 i n) = argW m c (ix3 (0 : Fin 1) i (ocolC n)) := by
  after_results
  rw [w2_arg]
  pointwise
  split_ifs
  all_goals first
    | omega
    | exact congrArg (fun k => argW m c (ix3 (0 : Fin 1) i k)) (Fin.ext (by first | rfl | (unfold ocolC; dsimp only; omega)))

/-- The second heads' keys' and values' weights. -/
theorem wd_apply (c : Dev nD) (i : Fin 4096) (n : Fin 4096) :
    (show Vec Ideal S4096x4096 .bf16 from W3 m ρ c (Proc.devRef .tc main_v20)) (ix2 i n) = argW m c (ix3 (0 : Fin 1) i (ocolD n)) := by
  after_results
  rw [w2_arg]
  pointwise
  split_ifs
  all_goals first
    | omega
    | exact congrArg (fun k => argW m c (ix3 (0 : Fin 1) i k)) (Fin.ext (by first | rfl | (unfold ocolD; dsimp only; omega)))

/-- The gates' weights. -/
theorem wg_apply (c : Dev nD) (i : Fin 4096) (n : Fin 4096) :
    (show Vec Ideal S4096x4096 .bf16 from W3 m ρ c (Proc.devRef .tc main_v22)) (ix2 i n) = argW m c (ix3 (0 : Fin 1) i (ocolG n)) := by
  after_results
  rw [w2_arg]
  pointwise
  split_ifs
  all_goals first
    | omega
    | exact congrArg (fun k => argW m c (ix3 (0 : Fin 1) i k)) (Fin.ext (by first | rfl | (rw [ocolG_val]; try dsimp only; split_ifs <;> omega)))

/-- The rows every product is given are the normed rows: no call writes them. -/
theorem rows4 (c : Dev nD) : W4 m ρ c (Proc.devRef .tc main_v23) = W3 m ρ c (Proc.devRef .tc main_v23) := W4_of m ρ c main_v23 (by decide)
theorem rows5 (c : Dev nD) : W5 m ρ c (Proc.devRef .tc main_v23) = W3 m ρ c (Proc.devRef .tc main_v23) := (W5_of m ρ c main_v23 (by decide)).trans (rows4 m ρ c)
theorem rows6 (c : Dev nD) : W6 m ρ c (Proc.devRef .tc main_v23) = W3 m ρ c (Proc.devRef .tc main_v23) := (W6_of m ρ c main_v23 (by decide)).trans (rows5 m ρ c)

/-- The queries. -/
theorem q_apply (c : Dev nD) (b : Fin 16) (r : Fin 64) (n : Fin 4096) :
    (show Vec Ideal S1024x4096 .bf16 from W7 m ρ c (Proc.devRef .tc main_v24)) (ix2 (⟨b.val * 64 + r.val, by omega⟩ : Fin 1024) n) = oddProd (argX m c) (argN m c) (argW m c) b r (ocolQ n) := by
  refine (congrFun ((((W7_of m ρ c main_v24 (by decide)).trans (W6_of m ρ c main_v24 (by decide))).trans (W5_of m ρ c main_v24 (by decide))).trans ((W4_arr m ρ c 2).trans (final1_2 (V3 m ρ) c))) _).trans ?_
  exact mm_eq _ _ _ _ _ _ (fun i => (rfl).trans (normed_apply m ρ c b r i)) (fun i => (rfl).trans (wq_apply m ρ c i n))

/-- The first heads' keys and values. -/
theorem c_apply (c : Dev nD) (b : Fin 16) (r : Fin 64) (n : Fin 4096) :
    (show Vec Ideal S1024x4096 .f32 from W7 m ρ c (Proc.devRef .tc main_v25_0)) (ix2 (⟨b.val * 64 + r.val, by omega⟩ : Fin 1024) n) = oddProd (argX m c) (argN m c) (argW m c) b r (ocolC n) := by
  refine (congrFun (((W7_of m ρ c main_v25_0 (by decide)).trans (W6_of m ρ c main_v25_0 (by decide))).trans ((W5_arr m ρ c 2).trans (final2_2 (V4 m ρ) c))) _).trans ?_
  exact mm_eq _ _ _ _ _ _ (fun i => (congrFun (rows4 m ρ c) _).trans (normed_apply m ρ c b r i)) (fun i => (congrFun (W4_of m ρ c main_v18 (by decide)) _).trans (wc_apply m ρ c i n))

/-- The first heads' keys and values, in the shorter type. -/
theorem c2_apply (c : Dev nD) (b : Fin 16) (r : Fin 64) (n : Fin 4096) :
    (show Vec Ideal S1024x4096 .bf16 from W7 m ρ c (Proc.devRef .tc main_v25_1)) (ix2 (⟨b.val * 64 + r.val, by omega⟩ : Fin 1024) n) = oddProd (argX m c) (argN m c) (argW m c) b r (ocolC n) := by
  refine (congrFun (((W7_of m ρ c main_v25_1 (by decide)).trans (W6_of m ρ c main_v25_1 (by decide))).trans ((W5_arr m ρ c 3).trans (final2_3 (V4 m ρ) c))) _).trans ?_
  exact mm_eq _ _ _ _ _ _ (fun i => (congrFun (rows4 m ρ c) _).trans (normed_apply m ρ c b r i)) (fun i => (congrFun (W4_of m ρ c main_v18 (by decide)) _).trans (wc_apply m ρ c i n))

/-- The second heads' keys and values. -/
theorem d_apply (c : Dev nD) (b : Fin 16) (r : Fin 64) (n : Fin 4096) :
    (show Vec Ideal S1024x4096 .f32 from W7 m ρ c (Proc.devRef .tc main_v26_0)) (ix2 (⟨b.val * 64 + r.val, by omega⟩ : Fin 1024) n) = oddProd (argX m c) (argN m c) (argW m c) b r (ocolD n) := by
  refine (congrFun ((W7_of m ρ c main_v26_0 (by decide)).trans ((W6_arr m ρ c 2).trans (final3_2 (V5 m ρ) c))) _).trans ?_
  exact mm_eq _ _ _ _ _ _ (fun i => (congrFun (rows5 m ρ c) _).trans (normed_apply m ρ c b r i)) (fun i => (congrFun ((W5_of m ρ c main_v20 (by decide)).trans (W4_of m ρ c main_v20 (by decide))) _).trans (wd_apply m ρ c i n))

/-- The second heads' keys and values, in the shorter type. -/
theorem d2_apply (c : Dev nD) (b : Fin 16) (r : Fin 64) (n : Fin 4096) :
    (show Vec Ideal S1024x4096 .bf16 from W7 m ρ c (Proc.devRef .tc main_v26_1)) (ix2 (⟨b.val * 64 + r.val, by omega⟩ : Fin 1024) n) = oddProd (argX m c) (argN m c) (argW m c) b r (ocolD n) := by
  refine (congrFun ((W7_of m ρ c main_v26_1 (by decide)).trans ((W6_arr m ρ c 3).trans (final3_3 (V5 m ρ) c))) _).trans ?_
  exact mm_eq _ _ _ _ _ _ (fun i => (congrFun (rows5 m ρ c) _).trans (normed_apply m ρ c b r i)) (fun i => (congrFun ((W5_of m ρ c main_v20 (by decide)).trans (W4_of m ρ c main_v20 (by decide))) _).trans (wd_apply m ρ c i n))

/-- The gates. -/
theorem g_apply (c : Dev nD) (b : Fin 16) (r : Fin 64) (n : Fin 4096) :
    (show Vec Ideal S1024x4096 .f32 from W7 m ρ c (Proc.devRef .tc main_v27)) (ix2 (⟨b.val * 64 + r.val, by omega⟩ : Fin 1024) n) = oddProd (argX m c) (argN m c) (argW m c) b r (ocolG n) := by
  refine (congrFun ((W7_arr m ρ c 2).trans (final4_2 (V6 m ρ) c)) _).trans ?_
  exact mm_eq _ _ _ _ _ _ (fun i => (congrFun (rows6 m ρ c) _).trans (normed_apply m ρ c b r i)) (fun i => (congrFun (((W6_of m ρ c main_v22 (by decide)).trans (W5_of m ρ c main_v22 (by decide))).trans (W4_of m ρ c main_v22 (by decide))) _).trans (wg_apply m ρ c i n))

end Cert.Proof.OddS

end
-- ==== Proof.OddSFinal.lean ====
/-
  The second layer's input on the sample batch: each of the kernel's six results is the reference's.
-/
module

public import proofs.«01_k».proof.Proof.OddSValue
public import proofs.«01_k».proof.Proof.OddSRun
public import proofs.«01_k».proof.Proof.OddSRef

@[expose] public section

set_option maxRecDepth 16384

noncomputable section

namespace Cert.Proof.OddS

open Cert.InOddSIdeal Cert.InOddSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The queries are the reference's. -/
theorem res_q (c : Dev nD) : (show Vec Ideal S16x64x4096 .bf16 from W8 m ρ c (Proc.devRef .tc main_v28)) = refQ (refY (argX m c) (argN m c) (argW m c)) := by
  funext y
  obtain ⟨b, r, n, rfl⟩ := exists_ix3 (a := 16) (b := 64) (d := 4096) y
  have e : (show Vec Ideal S16x64x4096 .bf16 from W8 m ρ c (Proc.devRef .tc main_v28)) (ix3 b r n)
      = (show Vec Ideal S1024x4096 .bf16 from W7 m ρ c (Proc.devRef .tc main_v24)) (ix2 (⟨b.val * 64 + r.val, by omega⟩ : Fin 1024) n) := by
    after_results_simp
    pointwise
    try blk_ext
  refine e.trans ((q_apply m ρ c b r n).trans ?_)
  rw [refQ_apply]
  exact (refY_apply _ _ _ b r _).symm

/-- The first heads' keys and values are the reference's. -/
theorem res_c (c : Dev nD) : (show Vec Ideal S16x64x2x16x128 .f32 from W8 m ρ c (Proc.devRef .tc main_v37)) = refC (refY (argX m c) (argN m c) (argW m c)) := by
  funext y
  obtain ⟨b, r, k, h, d, rfl⟩ := exists_ix5 (a := 16) (b := 64) (d := 2) (e := 16) (f := 128) y
  have e : (show Vec Ideal S16x64x2x16x128 .f32 from W8 m ρ c (Proc.devRef .tc main_v37)) (ix5 b r k h d)
      = (show Vec Ideal S1024x4096 .f32 from W7 m ρ c (Proc.devRef .tc main_v25_0)) (ix2 (⟨b.val * 64 + r.val, by omega⟩ : Fin 1024) (⟨2048 * k.val + (128 * h.val + d.val), by omega⟩ : Fin 4096)) := by
    after_results_simp
    pointwise
    try blk_ext
  refine e.trans ((c_apply m ρ c b r _).trans ?_)
  rw [refC_apply]
  exact (refY_apply _ _ _ b r _).symm

/-- So they are in the shorter type. -/
theorem res_c2 (c : Dev nD) : (show Vec Ideal S16x64x4096 .bf16 from W8 m ρ c (Proc.devRef .tc main_v29)) = refC2 (refY (argX m c) (argN m c) (argW m c)) := by
  funext y
  obtain ⟨b, r, n, rfl⟩ := exists_ix3 (a := 16) (b := 64) (d := 4096) y
  have e : (show Vec Ideal S16x64x4096 .bf16 from W8 m ρ c (Proc.devRef .tc main_v29)) (ix3 b r n)
      = (show Vec Ideal S1024x4096 .bf16 from W7 m ρ c (Proc.devRef .tc main_v25_1)) (ix2 (⟨b.val * 64 + r.val, by omega⟩ : Fin 1024) n) := by
    after_results_simp
    pointwise
    try blk_ext
  refine e.trans ((c2_apply m ρ c b r n).trans ?_)
  rw [refC2_apply]
  exact (refY_apply _ _ _ b r _).symm

/-- The cache in a run's arguments. -/
abbrev argK (c : Dev nD) : (⟨6, ![1, 16, 512, 2, 16, 128]⟩ : Shape).Idx → EReal := m ((c.tc : Thread nD τ).loc main_arg3)

/-- The fourth argument before the last stretch of host operations. -/
theorem w7_arg (c : Dev nD) : W7 m ρ c (Proc.devRef .tc main_arg3) = m ((c.tc : Thread nD τ).loc main_arg3) :=
  W7_args m ρ c main_arg3 (by decide)

/-- The second heads' newest rows are the reference's. -/
theorem res_d (c : Dev nD) : (show Vec Ideal S16x512x2x16x128 .f32 from W8 m ρ c (Proc.devRef .tc main_v38)) = refE (refY (argX m c) (argN m c) (argW m c)) (argK m c) := by
  funext y
  obtain ⟨b, r, k, h, d, rfl⟩ := exists_ix5 (a := 16) (b := 512) (d := 2) (e := 16) (f := 128) y
  rw [refE_apply]
  by_cases hr : r.val < 448
  · rw [dif_pos hr]
    after_results
    rw [w7_arg]
    pointwise
    split_ifs
    all_goals first
      | omega
      | exact absurd rfl (by assumption)
      | blk_ext
  · rw [dif_neg hr]
    have e : (show Vec Ideal S16x512x2x16x128 .f32 from W8 m ρ c (Proc.devRef .tc main_v38)) (ix5 b r k h d)
        = (show Vec Ideal S1024x4096 .f32 from W7 m ρ c (Proc.devRef .tc main_v26_0)) (ix2 (⟨b.val * 64 + (r.val - 448), by omega⟩ : Fin 1024) (⟨2048 * k.val + (128 * h.val + d.val), by omega⟩ : Fin 4096)) := by
      after_results
      pointwise
      split_ifs
      all_goals first
        | omega
        | exact absurd rfl (by assumption)
        | blk_ext
    refine e.trans ((d_apply m ρ c b (⟨r.val - 448, by omega⟩ : Fin 64) _).trans ?_)
    exact (refY_apply _ _ _ b _ _).symm

/-- So all of them are in the shorter type. -/
theorem res_d2 (c : Dev nD) : (show Vec Ideal S16x64x4096 .bf16 from W8 m ρ c (Proc.devRef .tc main_v30)) = refD2 (refY (argX m c) (argN m c) (argW m c)) := by
  funext y
  obtain ⟨b, r, n, rfl⟩ := exists_ix3 (a := 16) (b := 64) (d := 4096) y
  have e : (show Vec Ideal S16x64x4096 .bf16 from W8 m ρ c (Proc.devRef .tc main_v30)) (ix3 b r n)
      = (show Vec Ideal S1024x4096 .bf16 from W7 m ρ c (Proc.devRef .tc main_v26_1)) (ix2 (⟨b.val * 64 + r.val, by omega⟩ : Fin 1024) n) := by
    after_results_simp
    pointwise
    try blk_ext
  refine e.trans ((d2_apply m ρ c b r n).trans ?_)
  rw [refD2_apply]
  exact (refY_apply _ _ _ b r _).symm

/-- The gates are the reference's. -/
theorem res_g (c : Dev nD) : (show Vec Ideal S16x64x4096 .f32 from W8 m ρ c (Proc.devRef .tc main_v31)) = refG (refY (argX m c) (argN m c) (argW m c)) := by
  funext y
  obtain ⟨b, r, n, rfl⟩ := exists_ix3 (a := 16) (b := 64) (d := 4096) y
  have e : (show Vec Ideal S16x64x4096 .f32 from W8 m ρ c (Proc.devRef .tc main_v31)) (ix3 b r n)
      = (show Vec Ideal S1024x4096 .f32 from W7 m ρ c (Proc.devRef .tc main_v27)) (ix2 (⟨b.val * 64 + r.val, by omega⟩ : Fin 1024) n) := by
    after_results_simp
    pointwise
    try blk_ext
  refine e.trans ((g_apply m ρ c b r n).trans ?_)
  rw [refG_apply]
  exact (refY_apply _ _ _ b r _).symm

/-- From equal arguments the reference's product is that of the kernel's arguments. -/
theorem runY_eq (m' : (ℓ : Loc Cert.InOddSRefIdeal.nD Cert.InOddSRefIdeal.τ Cert.InOddSRefIdeal.sig) → Buf (Elt Ideal) ℓ) (c : Dev nD)
    (h0 : m' ((c.tc : Thread Cert.InOddSRefIdeal.nD Cert.InOddSRefIdeal.τ).loc Cert.InOddSRefIdeal.main_arg0) = m ((c.tc : Thread nD τ).loc main_arg0))
    (h1 : m' ((c.tc : Thread Cert.InOddSRefIdeal.nD Cert.InOddSRefIdeal.τ).loc Cert.InOddSRefIdeal.main_arg1) = m ((c.tc : Thread nD τ).loc main_arg1))
    (h2 : m' ((c.tc : Thread Cert.InOddSRefIdeal.nD Cert.InOddSRefIdeal.τ).loc Cert.InOddSRefIdeal.main_arg2) = m ((c.tc : Thread nD τ).loc main_arg2)) :
    runY m' c = (refY (argX m c) (argN m c) (argW m c)) :=
  congr (congr (congrArg refY h0) h1) h2

end Cert.Proof.OddS

end
-- ==== Proof.FinishMath.lean ====
/-
  The layer's end: the entries of its mixed rows, its first sum, its per-layer embedding, and its gated sum.
-/
module

public import proofs.«01_k».proof.Proof.LayerMath

@[expose] public section

noncomputable section

namespace Cert.Proof.Layer

open Idealize.ShloMosaic

/-- A gated sum: `x + e · sigmoid(l)`. -/
def gateEntry (x e l : EReal) : EReal := x + e * Ideal.div 1 (1 + Ideal.exp (-l))

/-- Every entry plus the norm of a second matrix's row. -/
def resn {a : ℕ} (X M : (⟨2, ![a, 4096]⟩ : Shape).Idx → EReal) (G : (⟨2, ![1, 4096]⟩ : Shape).Idx → EReal) :
    (⟨2, ![a, 4096]⟩ : Shape).Idx → EReal := fun y => X y + rn M G y

/-- It at an index. -/
theorem resn_apply {a : ℕ} (X M : (⟨2, ![a, 4096]⟩ : Shape).Idx → EReal) (G : (⟨2, ![1, 4096]⟩ : Shape).Idx → EReal)
    (r : Fin a) (n : Fin 4096) :
    resn X M G (ix2 r n) = X (ix2 r n) + rnEntry (fun i => M (ix2 r i)) (G (ix2 (0 : Fin 1) n)) n := rfl

/-- The norm of a product's rows. -/
def embn {a k : ℕ} (P : (⟨2, ![a, k]⟩ : Shape).Idx → EReal) (W : (⟨2, ![k, 4096]⟩ : Shape).Idx → EReal)
    (G : (⟨2, ![1, 4096]⟩ : Shape).Idx → EReal) : (⟨2, ![a, 4096]⟩ : Shape).Idx → EReal := rn (mm P W) G

/-- It at an index. -/
theorem embn_apply {a k : ℕ} (P : (⟨2, ![a, k]⟩ : Shape).Idx → EReal) (W : (⟨2, ![k, 4096]⟩ : Shape).Idx → EReal)
    (G : (⟨2, ![1, 4096]⟩ : Shape).Idx → EReal) (r : Fin a) (n : Fin 4096) :
    embn P W G (ix2 r n) = rnEntry (fun i => ∑ j : Fin k, P (ix2 r j) * W (ix2 j i)) (G (ix2 (0 : Fin 1) n)) n := rfl

/-- The sum of two matrices, the second gated by a product. -/
def gmm {a k b : ℕ} (A : (⟨2, ![a, k]⟩ : Shape).Idx → EReal) (W : (⟨2, ![k, b]⟩ : Shape).Idx → EReal)
    (X E : (⟨2, ![a, b]⟩ : Shape).Idx → EReal) : (⟨2, ![a, b]⟩ : Shape).Idx → EReal :=
  fun y => gateEntry (X y) (E y) (mm A W y)

/-- It at an index. -/
theorem gmm_apply {a k b : ℕ} (A : (⟨2, ![a, k]⟩ : Shape).Idx → EReal) (W : (⟨2, ![k, b]⟩ : Shape).Idx → EReal)
    (X E : (⟨2, ![a, b]⟩ : Shape).Idx → EReal) (r : Fin a) (n : Fin b) :
    gmm A W X E (ix2 r n) = gateEntry (X (ix2 r n)) (E (ix2 r n)) (∑ i : Fin k, A (ix2 r i) * W (ix2 i n)) := rfl

section Entries

variable {B T : ℕ}

/-- Entry `n` of the row `(b, r)` of the two groups of heads' outputs, side by side. -/
def joined (p q : (⟨3, ![B, T, 2048]⟩ : Shape).Idx → EReal) (b : Fin B) (r : Fin T) (n : Fin 4096) : EReal :=
  if h : n.val < 2048 then p (ix3 b r (⟨n.val, h⟩ : Fin 2048)) else q (ix3 b r (⟨n.val - 2048, by omega⟩ : Fin 2048))

/-- Entry `n` of the row's mixture: the joined row times the output weights. -/
def finMix (p q : (⟨3, ![B, T, 2048]⟩ : Shape).Idx → EReal) (w : (⟨3, ![1, 4096, 4096]⟩ : Shape).Idx → EReal)
    (b : Fin B) (r : Fin T) (n : Fin 4096) : EReal := ∑ i : Fin 4096, joined p q b r i * w (ix3 (0 : Fin 1) i n)

/-- Entry `n` of the first sum: the layer's input and the mixture's norm. -/
def finX (x : (⟨3, ![B, T, 4096]⟩ : Shape).Idx → EReal) (p q : (⟨3, ![B, T, 2048]⟩ : Shape).Idx → EReal)
    (w : (⟨3, ![1, 4096, 4096]⟩ : Shape).Idx → EReal) (g : (⟨2, ![2, 4096]⟩ : Shape).Idx → EReal)
    (b : Fin B) (r : Fin T) (n : Fin 4096) : EReal :=
  x (ix3 b r n) + rnEntry (fun i => finMix p q w b r i) (g (ix2 (1 : Fin 2) n)) n

/-- Entry `n` of the per-layer embedding: the norm of its projection. -/
def finE (e : (⟨4, ![2, B, T, 256]⟩ : Shape).Idx → EReal) (w : (⟨3, ![2, 256, 4096]⟩ : Shape).Idx → EReal)
    (g : (⟨2, ![2, 4096]⟩ : Shape).Idx → EReal) (b : Fin B) (r : Fin T) (n : Fin 4096) : EReal :=
  rnEntry (fun i => ∑ j : Fin 256, e (ix4 (1 : Fin 2) b r j) * w (ix3 (1 : Fin 2) j i)) (g (ix2 (1 : Fin 2) n)) n

/-- Entry `n` of the layer's output. -/
def finOut (x : (⟨3, ![B, T, 4096]⟩ : Shape).Idx → EReal) (p q : (⟨3, ![B, T, 2048]⟩ : Shape).Idx → EReal)
    (w : (⟨3, ![1, 4096, 4096]⟩ : Shape).Idx → EReal) (e : (⟨4, ![2, B, T, 256]⟩ : Shape).Idx → EReal)
    (g : (⟨2, ![2, 4096]⟩ : Shape).Idx → EReal) (we : (⟨3, ![2, 256, 4096]⟩ : Shape).Idx → EReal)
    (ge : (⟨2, ![2, 4096]⟩ : Shape).Idx → EReal) (wg : (⟨3, ![2, 4096, 4096]⟩ : Shape).Idx → EReal)
    (b : Fin B) (r : Fin T) (n : Fin 4096) : EReal :=
  gateEntry (finX x p q w g b r n) (finE e we ge b r n) (∑ i : Fin 4096, finX x p q w g b r i * wg (ix3 (1 : Fin 2) i n))

end Entries

end Cert.Proof.Layer

end
-- ==== Proof.FinishRegions.lean ====
/-
  The arrays the four calls of the second layer's end leave, of the arrays each is given: the mixture, the first sum,
  the per-layer embedding, and the gated sum.
-/
module

public import proofs.«01_k».proof.Proof.FinishMath
public import proofs.«01_k».proof.Proof.Gen.FinishIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.Finish

open Cert.FinishIdeal Cert.FinishIdeal.Gen Cert.Proof.Layer Idealize.ShloMosaic Idealize.ShloMosaic.TcCoe Idealize.SL.Sem

variable (V : (c : Dev nD) → (b : Ref sig .tc) → Buf (Elt Ideal) ((c : Thread nD τ).loc b))

/-! ## The product of call 0 -/

/-- Where call 0's blocks stand at a grid point. -/
theorem idx0 : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- The bounds of a grid point of call 0. -/
theorem lt0 (t : Fin cfg0.N) : (grid0.coords t 0).val < 8 ∧ (grid0.coords t 1).val < 4 :=
  ⟨(grid0.coords t 0).isLt, (grid0.coords t 1).isLt⟩

/-- The blocks of window 2 of call 0 cover its array. -/
theorem cover0_2 : (cfg0.win 2).Covers :=
  (cfg0.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 8 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 0 at an index. -/
theorem pay0_2_apply (a : Vec Ideal S1024x4096 .bf16) (w : Vec Ideal S4096x1024 .bf16) (r : Fin 1024) (n : Fin 1024) :
    k0_pay1 (F := Ideal) a w (ix2 r n) = ∑ i : Fin 4096, a (ix2 r i) * w (ix2 i n) := by
  pointwise [k0_pay1]

/-- Window 2 of call 0 ends at the product of the call's two arrays. -/
theorem final0_2 (c : Dev nD) : (dat0 V c).arrAt 2 cfg0.N = mm (V c main_v1) (V c main_v3) := by
  refine (dat0 V c).arrAt_eq_of_covers 2 _ cover0_2 fun t hf y => ?_
  blk_simp
  rw [after0_2]
  frame_out
  obtain ⟨r, n, rfl⟩ := exists_ix2 (a := 1024) (b := 1024) y
  have h0 := (lt0 t).1
  have h1 := (lt0 t).2
  have hemb : (((cfg0.win 2).blk t).view.emb (ix2 r n) : S8192x4096.Idx)
      = ix2 (⟨1024 * (grid0.coords t 0).val + r.val, by omega⟩ : Fin 8192) (⟨1024 * (grid0.coords t 1).val + n.val, by omega⟩ : Fin 4096) := by
    blk_ext [idx0 t]
  refine Eq.trans ?_ (congrArg (mm (V c main_v1) (V c main_v3)) hemb.symm)
  rw [mm_apply]
  refine (pay0_2_apply _ _ r n).trans (Finset.sum_congr rfl fun i _ => congrArg₂ (fun a b : EReal => a * b) ?_ ?_)
  · blk_point [iblk0, idx0 t]
  · blk_point [iblk0, idx0 t]

/-! ## The first sum, of call 1 -/

/-- Where call 1's blocks stand at a grid point. -/
theorem idx1 : ∀ t : Fin cfg1.N, win1_0.index t = ![(grid1.coords t 0).val, 0] ∧ win1_1.index t = ![(grid1.coords t 0).val, 0] ∧ win1_2.index t = ![0, 0] ∧ win1_3.index t = ![(grid1.coords t 0).val, 0] ∧ win1_4.index t = ![(grid1.coords t 0).val, 0] :=
  (by decide +kernel : ∀ t : Fin grid1.N, _)

/-- The blocks of window 3 of call 1 cover its array. -/
theorem cover1_3 : (cfg1.win 3).Covers :=
  (cfg1.win 3).covers_of_indexMap_surj rfl (by decide) fun β =>
    ⟨fun a => match a with
      | ⟨0, _⟩ => ⟨(β 0).val, (β 0).isLt⟩, fun a => by
      have h0 : (β 0).val < 32 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- The blocks of window 4 of call 1 cover its array. -/
theorem cover1_4 : (cfg1.win 4).Covers :=
  (cfg1.win 4).covers_of_indexMap_surj rfl (by decide) fun β =>
    ⟨fun a => match a with
      | ⟨0, _⟩ => ⟨(β 0).val, (β 0).isLt⟩, fun a => by
      have h0 : (β 0).val < 32 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of window 3 of call 1 at an index. -/
theorem pay1_3_apply (x m : Vec Ideal S256x4096 .f32) (g : Vec Ideal S1x4096 .f32) (r : Fin 256) (n : Fin 4096) :
    k1_pay1 (F := Ideal) m x g (ix2 r n) = x (ix2 r n) + rnEntry (fun i => m (ix2 r i)) (g (ix2 (0 : Fin 1) n)) n := by
  unfold rnEntry
  pointwise [k1_pay1]

/-- Window 3 of call 1 ends at its function of the call's arrays. -/
theorem final1_3 (c : Dev nD) : (dat1 V c).arrAt 3 cfg1.N = resn (V c main_v14) (V c main_v18) (V c main_v19) := by
  refine (dat1 V c).arrAt_eq_of_covers 3 _ cover1_3 fun t hf y => ?_
  blk_simp
  rw [after1_3]
  frame_out
  obtain ⟨r, n, rfl⟩ := exists_ix2 (a := 256) (b := 4096) y
  have h0 : (grid1.coords t 0).val < 32 := (grid1.coords t 0).isLt
  have hemb : (((cfg1.win 3).blk t).view.emb (ix2 r n) : S8192x4096.Idx)
      = ix2 (⟨256 * (grid1.coords t 0).val + r.val, by omega⟩ : Fin 8192) n := by
    blk_ext [idx1 t]
  refine Eq.trans ?_ (congrArg (resn (V c main_v14) (V c main_v18) (V c main_v19)) hemb.symm)
  rw [resn_apply]
  refine (pay1_3_apply _ _ _ r n).trans (congrArg₂ (fun a b : EReal => a + b) ?_
    (congrArg₂ (fun a b => rnEntry a b n) (funext fun i => ?_) ?_))
  · blk_point [iblk1, idx1 t]
  · blk_point [iblk1, idx1 t]
  · blk_point [iblk1, idx1 t]

/-- A block of window 4 of call 1 at an index. -/
theorem pay1_4_apply (x m : Vec Ideal S256x4096 .f32) (g : Vec Ideal S1x4096 .f32) (r : Fin 256) (n : Fin 4096) :
    k1_pay2 (F := Ideal) m x g (ix2 r n) = x (ix2 r n) + rnEntry (fun i => m (ix2 r i)) (g (ix2 (0 : Fin 1) n)) n := by
  unfold rnEntry
  pointwise [k1_pay2, k1_pay1]

/-- Window 4 of call 1 ends at its function of the call's arrays. -/
theorem final1_4 (c : Dev nD) : (dat1 V c).arrAt 4 cfg1.N = resn (V c main_v14) (V c main_v18) (V c main_v19) := by
  refine (dat1 V c).arrAt_eq_of_covers 4 _ cover1_4 fun t hf y => ?_
  blk_simp
  rw [after1_4]
  frame_out
  obtain ⟨r, n, rfl⟩ := exists_ix2 (a := 256) (b := 4096) y
  have h0 : (grid1.coords t 0).val < 32 := (grid1.coords t 0).isLt
  have hemb : (((cfg1.win 4).blk t).view.emb (ix2 r n) : S8192x4096.Idx)
      = ix2 (⟨256 * (grid1.coords t 0).val + r.val, by omega⟩ : Fin 8192) n := by
    blk_ext [idx1 t]
  refine Eq.trans ?_ (congrArg (resn (V c main_v14) (V c main_v18) (V c main_v19)) hemb.symm)
  rw [resn_apply]
  refine (pay1_4_apply _ _ _ r n).trans (congrArg₂ (fun a b : EReal => a + b) ?_
    (congrArg₂ (fun a b => rnEntry a b n) (funext fun i => ?_) ?_))
  · blk_point [iblk1, idx1 t]
  · blk_point [iblk1, idx1 t]
  · blk_point [iblk1, idx1 t]

/-! ## The embedding, of call 2 -/

/-- Where call 2's blocks stand at a grid point. -/
theorem idx2 : ∀ t : Fin cfg2.N, win2_0.index t = ![(grid2.coords t 0).val, 0] ∧ win2_1.index t = ![0, 0] ∧ win2_2.index t = ![0, 0] ∧ win2_3.index t = ![(grid2.coords t 0).val, 0] :=
  (by decide +kernel : ∀ t : Fin grid2.N, _)

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩, fun a => by
      have h0 : (β 0).val < 32 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of the embedding at an index. -/
theorem pay2_3_apply (a : Vec Ideal S256x256 .bf16) (w : Vec Ideal S256x4096 .bf16) (g : Vec Ideal S1x4096 .f32) (r : Fin 256) (n : Fin 4096) :
    k2_pay1 (F := Ideal) a w g (ix2 r n)
      = rnEntry (fun i => ∑ j : Fin 256, a (ix2 r j) * w (ix2 j i)) (g (ix2 (0 : Fin 1) n)) n := by
  unfold rnEntry
  pointwise [k2_pay1]

/-- Window 3 of call 2 ends at its function of the call's arrays. -/
theorem final2_3 (c : Dev nD) : (dat2 V c).arrAt 3 cfg2.N = embn (V c main_v21) (V c main_v8) (V c main_v22) := by
  refine (dat2 V c).arrAt_eq_of_covers 3 _ cover2_3 fun t hf y => ?_
  blk_simp
  rw [after2_3]
  frame_out
  obtain ⟨r, n, rfl⟩ := exists_ix2 (a := 256) (b := 4096) y
  have h0 : (grid2.coords t 0).val < 32 := (grid2.coords t 0).isLt
  have hemb : (((cfg2.win 3).blk t).view.emb (ix2 r n) : S8192x4096.Idx)
      = ix2 (⟨256 * (grid2.coords t 0).val + r.val, by omega⟩ : Fin 8192) n := by
    blk_ext [idx2 t]
  refine Eq.trans ?_ (congrArg (embn (V c main_v21) (V c main_v8) (V c main_v22)) hemb.symm)
  rw [embn_apply]
  refine (pay2_3_apply _ _ _ r n).trans (congrArg₂ (fun a b => rnEntry a b n)
    (funext fun i => Finset.sum_congr rfl fun j _ => congrArg₂ (fun a b : EReal => a * b) ?_ ?_) ?_)
  · blk_point [iblk2, idx2 t]
  · blk_point [iblk2, idx2 t]
  · blk_point [iblk2, idx2 t]

/-! ## The gated sum, of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] ∧ win3_4.index t = ![(grid3.coords t 0).val, (grid3.coords t 1).val] :=
  (by decide +kernel : ∀ t : Fin grid3.N, _)

/-- The bounds of a grid point of call 3. -/
theorem lt3 (t : Fin cfg3.N) : (grid3.coords t 0).val < 16 ∧ (grid3.coords t 1).val < 4 :=
  ⟨(grid3.coords t 0).isLt, (grid3.coords t 1).isLt⟩

/-- The blocks of window 4 of call 3 cover its array. -/
theorem cover3_4 : (cfg3.win 4).Covers :=
  (cfg3.win 4).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 16 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of the gated sum at an index. -/
theorem pay3_4_apply (a : Vec Ideal S512x4096 .bf16) (w : Vec Ideal S4096x1024 .bf16) (x e : Vec Ideal S512x1024 .f32) (r : Fin 512) (n : Fin 1024) :
    k3_pay1 (F := Ideal) a w x e (ix2 r n)
      = gateEntry (x (ix2 r n)) (e (ix2 r n)) (∑ i : Fin 4096, a (ix2 r i) * w (ix2 i n)) := by
  unfold gateEntry
  pointwise [k3_pay1]
  rw [zero_sub]

/-- Window 4 of call 3 ends at the gated sum of the call's arrays. -/
theorem final3_4 (c : Dev nD) : (dat3 V c).arrAt 4 cfg3.N = gmm (V c main_v20_1) (V c main_v13) (V c main_v20_0) (V c main_v23) := by
  refine (dat3 V c).arrAt_eq_of_covers 4 _ cover3_4 fun t hf y => ?_
  blk_simp
  rw [after3_4]
  frame_out
  obtain ⟨r, n, rfl⟩ := exists_ix2 (a := 512) (b := 1024) y
  have h0 := (lt3 t).1
  have h1 := (lt3 t).2
  have hemb : (((cfg3.win 4).blk t).view.emb (ix2 r n) : S8192x4096.Idx)
      = ix2 (⟨512 * (grid3.coords t 0).val + r.val, by omega⟩ : Fin 8192) (⟨1024 * (grid3.coords t 1).val + n.val, by omega⟩ : Fin 4096) := by
    blk_ext [idx3 t]
  refine Eq.trans ?_ (congrArg (gmm (V c main_v20_1) (V c main_v13) (V c main_v20_0) (V c main_v23)) hemb.symm)
  rw [gmm_apply]
  have hs : ∀ (a : Fin 4096 → EReal) (b : Fin 4096 → EReal) (a' : Fin 4096 → EReal) (b' : Fin 4096 → EReal),
      (∀ i, a i = a' i) → (∀ i, b i = b' i) → (∑ i, a i * b i) = ∑ i, a' i * b' i := fun a b a' b' ha hb => by
    simp only [ha, hb]
  refine (pay3_4_apply _ _ _ _ r n).trans (congr (congrArg₂ gateEntry ?_ ?_) (hs _ _ _ _ (fun i => ?_) (fun i => ?_)))
  · blk_point [iblk3, idx3 t]
  · blk_point [iblk3, idx3 t]
  · blk_point [iblk3, idx3 t]
  · blk_point [iblk3, idx3 t]

end Cert.Proof.Finish

end
-- ==== Proof.FinishRef.lean ====
/-
  The reference of the second layer's end at an index.
-/
module

public import proofs.«01_k».proof.Proof.FinishMath
public import proofs.«01_k».proof.Proof.Gen.FinishRefIdeal.Run
public import Idealize.ShloMosaic.Lib.Pipeline.ValueKit
public import Idealize.ShloMosaic.Lib.Claim

@[expose] public section

set_option maxRecDepth 16384

noncomputable section

namespace Cert.Proof.Finish

open Cert.FinishRefIdeal Cert.FinishRefIdeal.Gen Cert.Proof.Layer Idealize.ShloMosaic Idealize.ShloMosaic.TcCoe Idealize.SL.Sem

/-- The reference's norm of every row, with the second layer's gains. -/
def refRn (x : FVec Ideal S1x8192x4096 .f32) (g : FVec Ideal S2x4096 .f32) : FVec Ideal S1x8192x4096 .f32 :=
  (mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 (shapeCast _ (extractStridedSlice S1x4096 ![1, 0] g slices_S2x4096_S1x4096_1_0) shapeCasts_S1x4096_S4096))))

/-- The norm at an index. -/
theorem refRn_apply (x : FVec Ideal S1x8192x4096 .f32) (g : FVec Ideal S2x4096 .f32) (b : Fin 1) (r : Fin 8192) (n : Fin 4096) :
    refRn x g (ix3 b r n) = rnEntry (fun i => x (ix3 b r i)) (g (ix2 (1 : Fin 2) n)) n := by
  obtain rfl : b = 0 := Subsingleton.elim _ _
  unfold rnEntry
  pointwise [refRn]

/-- The two groups of heads' outputs side by side. -/
def refJ (p q : FVec Ideal S1x8192x2048 .bf16) : FVec Ideal S1x8192x4096 .f32 :=
  extf .f32 (concatenate S1x8192x4096 2 [⟨S1x8192x2048, p⟩, ⟨S1x8192x2048, q⟩] concatenates_S1x8192x2048_S1x8192x2048_S1x8192x4096_d2) bitsLt_bf16_f32

/-- They at an index. -/
theorem refJ_apply (p q : FVec Ideal S1x8192x2048 .bf16) (b : Fin 1) (r : Fin 8192) (n : Fin 4096) : refJ p q (ix3 b r n) = joined p q b r n := by
  obtain rfl : b = 0 := Subsingleton.elim _ _
  unfold joined
  pointwise [refJ]
  all_goals try split_ifs
  all_goals first
    | omega
    | rfl
    | exact absurd rfl (by assumption)
    | blk_ext

/-- The rows' mixture. -/
def refMix (p q : FVec Ideal S1x8192x2048 .bf16) (w : FVec Ideal S1x4096x4096 .f32) : FVec Ideal S1x8192x4096 .f32 :=
  Host.dotGeneral dot_S1x8192x4096_S4096x4096_S1x8192x4096_2_0_01_1_n_n none (refJ p q) (shapeCast _ w shapeCasts_S1x4096x4096_S4096x4096)

/-- The mixture at an index. -/
theorem refMix_apply (p q : FVec Ideal S1x8192x2048 .bf16) (w : FVec Ideal S1x4096x4096 .f32) (b : Fin 1) (r : Fin 8192) (n : Fin 4096) :
    refMix p q w (ix3 b r n) = finMix p q w b r n := by
  obtain rfl : b = 0 := Subsingleton.elim _ _
  unfold finMix
  simp only [← refJ_apply]
  pointwise [refMix]

/-- The first sum. -/
def refX (x : FVec Ideal S1x8192x4096 .f32) (p q : FVec Ideal S1x8192x2048 .bf16) (w : FVec Ideal S1x4096x4096 .f32) (g : FVec Ideal S2x4096 .f32) : FVec Ideal S1x8192x4096 .f32 := addf x (refRn (refMix p q w) g)

/-- The first sum at an index. -/
theorem refX_apply (x : FVec Ideal S1x8192x4096 .f32) (p q : FVec Ideal S1x8192x2048 .bf16) (w : FVec Ideal S1x4096x4096 .f32) (g : FVec Ideal S2x4096 .f32) (b : Fin 1) (r : Fin 8192) (n : Fin 4096) :
    refX x p q w g (ix3 b r n) = finX x p q w g b r n := by
  refine congrArg (fun a : EReal => x (ix3 b r n) + a) ((refRn_apply _ g b r n).trans ?_)
  exact congrArg (fun a => rnEntry a _ n) (funext fun i => refMix_apply p q w b r i)

/-- The projection of the per-layer input. -/
def refP (e : FVec Ideal S2x1x8192x256 .f32) (w : FVec Ideal S2x256x4096 .f32) : FVec Ideal S1x8192x4096 .f32 :=
  Host.dotGeneral dot_S1x8192x256_S256x4096_S1x8192x4096_2_0_01_1_n_n none (shapeCast _ (extractStridedSlice S1x1x8192x256 ![1, 0, 0, 0] e slices_S2x1x8192x256_S1x1x8192x256_1_0_0_0) shapeCasts_S1x1x8192x256_S1x8192x256) (shapeCast _ (extractStridedSlice S1x256x4096 ![1, 0, 0] w slices_S2x256x4096_S1x256x4096_1_0_0) shapeCasts_S1x256x4096_S256x4096)

/-- The projection at an index. -/
theorem refP_apply (e : FVec Ideal S2x1x8192x256 .f32) (w : FVec Ideal S2x256x4096 .f32) (b : Fin 1) (r : Fin 8192) (n : Fin 4096) :
    refP e w (ix3 b r n) = ∑ j : Fin 256, e (ix4 (1 : Fin 2) b r j) * w (ix3 (1 : Fin 2) j n) := by
  obtain rfl : b = 0 := Subsingleton.elim _ _
  pointwise [refP]

/-- The embedding at an index. -/
theorem refE_apply (e : FVec Ideal S2x1x8192x256 .f32) (w : FVec Ideal S2x256x4096 .f32) (g : FVec Ideal S2x4096 .f32) (b : Fin 1) (r : Fin 8192) (n : Fin 4096) :
    refRn (refP e w) g (ix3 b r n) = finE e w g b r n :=
  (refRn_apply _ g b r n).trans (congrArg (fun a => rnEntry a _ n) (funext fun i => refP_apply e w b r i))

/-- The gate's product. -/
def refL (x : FVec Ideal S1x8192x4096 .f32) (w : FVec Ideal S2x4096x4096 .f32) : FVec Ideal S1x8192x4096 .f32 :=
  Host.dotGeneral dot_S1x8192x4096_S4096x4096_S1x8192x4096_2_0_01_1_n_n none x (shapeCast _ (extractStridedSlice S1x4096x4096 ![1, 0, 0] w slices_S2x4096x4096_S1x4096x4096_1_0_0) shapeCasts_S1x4096x4096_S4096x4096)

/-- The gate's product at an index. -/
theorem refL_apply (x : FVec Ideal S1x8192x4096 .f32) (w : FVec Ideal S2x4096x4096 .f32) (b : Fin 1) (r : Fin 8192) (n : Fin 4096) :
    refL x w (ix3 b r n) = ∑ i : Fin 4096, x (ix3 b r i) * w (ix3 (1 : Fin 2) i n) := by
  obtain rfl : b = 0 := Subsingleton.elim _ _
  pointwise [refL]

/-- The gated sum. -/
def refS (x e l : FVec Ideal S1x8192x4096 .f32) : FVec Ideal S1x8192x4096 .f32 :=
  addf x (mulf e (Host.divf (broadcastInDim S1x8192x4096 ![] bcast_S_S1x8192x4096 (constant S_ .f32 0x3F800000#32)) (addf (broadcastInDim S1x8192x4096 ![] bcast_S_S1x8192x4096 (constant S_ .f32 0x3F800000#32)) (Host.exp (Host.negf l)))))

/-- The gated sum at an index. -/
theorem refS_apply (x e l : FVec Ideal S1x8192x4096 .f32) (b : Fin 1) (r : Fin 8192) (n : Fin 4096) :
    refS x e l (ix3 b r n) = gateEntry (x (ix3 b r n)) (e (ix3 b r n)) (l (ix3 b r n)) := by
  obtain rfl : b = 0 := Subsingleton.elim _ _
  unfold gateEntry
  pointwise [refS]

/-- The layer's output. -/
def refOut (x : FVec Ideal S1x8192x4096 .f32) (p q : FVec Ideal S1x8192x2048 .bf16) (w : FVec Ideal S1x4096x4096 .f32) (e : FVec Ideal S2x1x8192x256 .f32) (g : FVec Ideal S2x4096 .f32)
    (we : FVec Ideal S2x256x4096 .f32) (ge : FVec Ideal S2x4096 .f32) (wg : FVec Ideal S2x4096x4096 .f32) : FVec Ideal S1x8192x4096 .f32 :=
  refS (refX x p q w g) (refRn (refP e we) ge) (refL (refX x p q w g) wg)

/-- The layer's output at an index. -/
theorem refOut_apply (x : FVec Ideal S1x8192x4096 .f32) (p q : FVec Ideal S1x8192x2048 .bf16) (w : FVec Ideal S1x4096x4096 .f32) (e : FVec Ideal S2x1x8192x256 .f32) (g : FVec Ideal S2x4096 .f32)
    (we : FVec Ideal S2x256x4096 .f32) (ge : FVec Ideal S2x4096 .f32) (wg : FVec Ideal S2x4096x4096 .f32) (b : Fin 1) (r : Fin 8192) (n : Fin 4096) :
    refOut x p q w e g we ge wg (ix3 b r n) = finOut x p q w e g we ge wg b r n := by
  unfold refOut finOut
  rw [refS_apply, refX_apply, refE_apply, refL_apply]
  simp only [refX_apply]

variable (m : (ℓ : Loc nD τ sig) → Buf (Elt Ideal) ℓ)

/-- The reference's output of a run's arguments. -/
abbrev runOut (c : Dev nD) : FVec Ideal S1x8192x4096 .f32 :=
  refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The reference runs to its end, at its result, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v50) = runOut m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) :=
  Cert.FinishRefIdeal.Value.run m ρ

end Cert.Proof.Finish

end
-- ==== Proof.FinishRun.lean ====
/-
  The run of the second layer's end: what every buffer holds at the end.
-/
module

public import proofs.«01_k».proof.Proof.Gen.FinishIdeal.Frame
public import Idealize.ShloMosaic.Lib.Pipeline.ValueKit

@[expose] public section

noncomputable section

namespace Cert.Proof.Finish

open Cert.FinishIdeal Cert.FinishIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c b hb => h c _ (mem_uc b hb))

end Cert.Proof.Finish

end
-- ==== Proof.FinishValue.lean ====
/-
  The second layer's end: what the host prepares for the calls, and each call's array at an index.
-/
module

public import proofs.«01_k».proof.Proof.FinishMath
public import proofs.«01_k».proof.Proof.FinishRegions
public import Idealize.ShloMosaic.Lib.StableHlo.RunRead

@[expose] public section

set_option maxRecDepth 16384

noncomputable section

namespace Cert.Proof.Finish

open Cert.FinishIdeal Cert.FinishIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![1, 8192, 4096]⟩ : Shape).Idx → EReal := m ((c.tc : Thread nD τ).loc main_arg0)
/-- The first heads' outputs in a run's arguments. -/
abbrev argC (c : Dev nD) : (⟨3, ![1, 8192, 2048]⟩ : Shape).Idx → EReal := m ((c.tc : Thread nD τ).loc main_arg1)
/-- The second heads' outputs in a run's arguments. -/
abbrev argD (c : Dev nD) : (⟨3, ![1, 8192, 2048]⟩ : Shape).Idx → EReal := m ((c.tc : Thread nD τ).loc main_arg2)
/-- The output weights in a run's arguments. -/
abbrev argW (c : Dev nD) : (⟨3, ![1, 4096, 4096]⟩ : Shape).Idx → EReal := m ((c.tc : Thread nD τ).loc main_arg3)
/-- The per-layer inputs in a run's arguments. -/
abbrev argP (c : Dev nD) : (⟨4, ![2, 1, 8192, 256]⟩ : Shape).Idx → EReal := m ((c.tc : Thread nD τ).loc main_arg4)
/-- The first norms' gains in a run's arguments. -/
abbrev argN (c : Dev nD) : (⟨2, ![2, 4096]⟩ : Shape).Idx → EReal := m ((c.tc : Thread nD τ).loc main_arg5)
/-- The projections' weights in a run's arguments. -/
abbrev argU (c : Dev nD) : (⟨3, ![2, 256, 4096]⟩ : Shape).Idx → EReal := m ((c.tc : Thread nD τ).loc main_arg6)
/-- The embeddings' gains in a run's arguments. -/
abbrev argH (c : Dev nD) : (⟨2, ![2, 4096]⟩ : Shape).Idx → EReal := m ((c.tc : Thread nD τ).loc main_arg7)
/-- The gates' weights in a run's arguments. -/
abbrev argZ (c : Dev nD) : (⟨3, ![2, 4096, 4096]⟩ : Shape).Idx → EReal := m ((c.tc : Thread nD τ).loc main_arg8)

/-- The joined rows of the two groups' outputs, before the product. -/
theorem join_apply (c : Dev nD) (b : Fin 1) (r : Fin 8192) (n : Fin 4096) :
    (show Vec Ideal S8192x4096 .bf16 from W1 m ρ c (Proc.devRef .tc main_v1)) (ix2 r n) = joined (argC m c) (argD m c) b r n := by
  obtain rfl : b = 0 := Subsingleton.elim _ _
  unfold joined
  after_results_simp
  pointwise
  all_goals try split_ifs
  all_goals first
    | omega
    | exact absurd rfl (by assumption)
    | blk_ext

/-- The output weights the first call is given. -/
theorem wout_apply (c : Dev nD) (i n : Fin 4096) :
    (show Vec Ideal S4096x4096 .bf16 from W1 m ρ c (Proc.devRef .tc main_v3)) (ix2 i n) = argW m c (ix3 (0 : Fin 1) i n) := by
  after_results_simp
  pointwise
  try blk_ext

/-- The input's rows. -/
theorem x1in_apply (c : Dev nD) (b : Fin 1) (r : Fin 8192) (n : Fin 4096) :
    (show Vec Ideal S8192x4096 .f32 from W1 m ρ c (Proc.devRef .tc main_v14)) (ix2 r n) = argX m c (ix3 b r n) := by
  obtain rfl : b = 0 := Subsingleton.elim _ _
  after_results_simp
  pointwise
  try blk_ext

/-- The first norm's gains. -/
theorem gpost1_apply (c : Dev nD) (n : Fin 4096) :
    (show Vec Ideal S4096 .f32 from W1 m ρ c (Proc.devRef .tc main_v5)) (ix1 n) = argN m c (ix2 (1 : Fin 2) n) := by
  after_results_simp
  pointwise
  try blk_ext

/-- The projection's weights. -/
theorem wproj1_apply (c : Dev nD) (j : Fin 256) (n : Fin 4096) :
    (show Vec Ideal S256x4096 .bf16 from W1 m ρ c (Proc.devRef .tc main_v8)) (ix2 j n) = argU m c (ix3 (1 : Fin 2) j n) := by
  after_results_simp
  pointwise
  try blk_ext

/-- The embedding's gains. -/
theorem gemb1_apply (c : Dev nD) (n : Fin 4096) :
    (show Vec Ideal S4096 .f32 from W1 m ρ c (Proc.devRef .tc main_v10)) (ix1 n) = argH m c (ix2 (1 : Fin 2) n) := by
  after_results_simp
  pointwise
  try blk_ext

/-- The gate's weights. -/
theorem wgate1_apply (c : Dev nD) (i n : Fin 4096) :
    (show Vec Ideal S4096x4096 .bf16 from W1 m ρ c (Proc.devRef .tc main_v13)) (ix2 i n) = argZ m c (ix3 (1 : Fin 2) i n) := by
  after_results_simp
  pointwise
  try blk_ext

/-- The per-layer input's rows. -/
theorem p1_apply (c : Dev nD) (b : Fin 1) (r : Fin 8192) (j : Fin 256) :
    (show Vec Ideal S8192x256 .f32 from W1 m ρ c (Proc.devRef .tc main_v17)) (ix2 r j) = argP m c (ix4 (1 : Fin 2) b r j) := by
  obtain rfl : b = 0 := Subsingleton.elim _ _
  after_results_simp
  pointwise
  try blk_ext

/-- The mixture of the first call. -/
theorem mix_apply (c : Dev nD) (b : Fin 1) (r : Fin 8192) (n : Fin 4096) :
    (show Vec Ideal S8192x4096 .f32 from W3 m ρ c (Proc.devRef .tc main_v18)) (ix2 r n) = finMix (argC m c) (argD m c) (argW m c) b r n := by
  refine (congrFun ((W3_of m ρ c main_v18 (by decide)).trans ((W2_arr m ρ c 2).trans (final0_2 (V1 m ρ) c))) _).trans ?_
  exact mm_eq _ _ _ _ _ _ (fun i => join_apply m ρ c b r i) (fun i => wout_apply m ρ c i n)

/-- The first norm's gains, as the second call is given them. -/
theorem gpost_apply (c : Dev nD) (n : Fin 4096) :
    (show Vec Ideal S1x4096 .f32 from W3 m ρ c (Proc.devRef .tc main_v19)) (ix2 (0 : Fin 1) n) = argN m c (ix2 (1 : Fin 2) n) := by
  have e : (show Vec Ideal S1x4096 .f32 from W3 m ρ c (Proc.devRef .tc main_v19)) (ix2 (0 : Fin 1) n)
      = (show Vec Ideal S4096 .f32 from W2 m ρ c (Proc.devRef .tc main_v5)) (ix1 n) := by
    after_results_simp
    pointwise
    try blk_ext
  exact e.trans ((congrFun (W2_of m ρ c main_v5 (by decide)) _).trans (gpost1_apply m ρ c n))

/-- The first sum of the input and the mixture's norm, entry by entry. -/
theorem sum_apply (c : Dev nD) (b : Fin 1) (r : Fin 8192) (n : Fin 4096) :
    resn (V3 m ρ c main_v14) (V3 m ρ c main_v18) (V3 m ρ c main_v19) (ix2 r n)
      = finX (argX m c) (argC m c) (argD m c) (argW m c) (argN m c) b r n := by
  rw [resn_apply]
  exact congrArg₂ (fun a b : EReal => a + b) ((congrFun ((W3_of m ρ c main_v14 (by decide)).trans (W2_of m ρ c main_v14 (by decide))) _).trans (x1in_apply m ρ c b r n))
    (congrArg₂ (fun a b => rnEntry a b n) (funext fun i => mix_apply m ρ c b r i) (gpost_apply m ρ c n))

/-- The first sum, as the last call is given it. -/
theorem x1_apply (c : Dev nD) (b : Fin 1) (r : Fin 8192) (n : Fin 4096) :
    (show Vec Ideal S8192x4096 .f32 from W6 m ρ c (Proc.devRef .tc main_v20_0)) (ix2 r n)
      = finX (argX m c) (argC m c) (argD m c) (argW m c) (argN m c) b r n :=
  (congrFun (((W6_of m ρ c main_v20_0 (by decide)).trans (W5_of m ρ c main_v20_0 (by decide))).trans ((W4_arr m ρ c 3).trans (final1_3 (V3 m ρ) c))) _).trans (sum_apply m ρ c b r n)

/-- The first sum in the shorter type, as the last call is given it. -/
theorem x1b_apply (c : Dev nD) (b : Fin 1) (r : Fin 8192) (n : Fin 4096) :
    (show Vec Ideal S8192x4096 .bf16 from W6 m ρ c (Proc.devRef .tc main_v20_1)) (ix2 r n)
      = finX (argX m c) (argC m c) (argD m c) (argW m c) (argN m c) b r n :=
  (congrFun (((W6_of m ρ c main_v20_1 (by decide)).trans (W5_of m ρ c main_v20_1 (by decide))).trans ((W4_arr m ρ c 4).trans (final1_4 (V3 m ρ) c))) _).trans (sum_apply m ρ c b r n)

/-- The per-layer input's rows, as the third call is given them. -/
theorem p_apply (c : Dev nD) (b : Fin 1) (r : Fin 8192) (j : Fin 256) :
    (show Vec Ideal S8192x256 .bf16 from W5 m ρ c (Proc.devRef .tc main_v21)) (ix2 r j) = argP m c (ix4 (1 : Fin 2) b r j) := by
  have e : (show Vec Ideal S8192x256 .bf16 from W5 m ρ c (Proc.devRef .tc main_v21)) (ix2 r j)
      = (show Vec Ideal S8192x256 .f32 from W4 m ρ c (Proc.devRef .tc main_v17)) (ix2 r j) := by
    after_results_simp
    pointwise
    try blk_ext
  exact e.trans ((congrFun (((W4_of m ρ c main_v17 (by decide)).trans (W3_of m ρ c main_v17 (by decide))).trans (W2_of m ρ c main_v17 (by decide))) _).trans (p1_apply m ρ c b r j))

/-- The embedding's gains, as the third call is given them. -/
theorem gemb_apply (c : Dev nD) (n : Fin 4096) :
    (show Vec Ideal S1x4096 .f32 from W5 m ρ c (Proc.devRef .tc main_v22)) (ix2 (0 : Fin 1) n) = argH m c (ix2 (1 : Fin 2) n) := by
  have e : (show Vec Ideal S1x4096 .f32 from W5 m ρ c (Proc.devRef .tc main_v22)) (ix2 (0 : Fin 1) n)
      = (show Vec Ideal S4096 .f32 from W4 m ρ c (Proc.devRef .tc main_v10)) (ix1 n) := by
    after_results_simp
    pointwise
    try blk_ext
  exact e.trans ((congrFun (((W4_of m ρ c main_v10 (by decide)).trans (W3_of m ρ c main_v10 (by decide))).trans (W2_of m ρ c main_v10 (by decide))) _).trans (gemb1_apply m ρ c n))

/-- The projection's weights, as the third call is given them. -/
theorem wproj_apply (c : Dev nD) (j : Fin 256) (n : Fin 4096) :
    (show Vec Ideal S256x4096 .bf16 from W5 m ρ c (Proc.devRef .tc main_v8)) (ix2 j n) = argU m c (ix3 (1 : Fin 2) j n) :=
  (congrFun ((((W5_of m ρ c main_v8 (by decide)).trans (W4_of m ρ c main_v8 (by decide))).trans (W3_of m ρ c main_v8 (by decide))).trans (W2_of m ρ c main_v8 (by decide))) _).trans (wproj1_apply m ρ c j n)

/-- The norm of the projection, entry by entry. -/
theorem proj_apply (c : Dev nD) (b : Fin 1) (r : Fin 8192) (n : Fin 4096) :
    embn (V5 m ρ c main_v21) (V5 m ρ c main_v8) (V5 m ρ c main_v22) (ix2 r n) = finE (argP m c) (argU m c) (argH m c) b r n := by
  have h : ∀ i : Fin 4096, mm (V5 m ρ c main_v21) (V5 m ρ c main_v8) (ix2 r i)
      = ∑ j : Fin 256, argP m c (ix4 (1 : Fin 2) b r j) * argU m c (ix3 (1 : Fin 2) j i) := fun i =>
    mm_eq _ _ _ _ _ _ (fun j => p_apply m ρ c b r j) (fun j => wproj_apply m ρ c j i)
  rw [embn_apply]
  exact congrArg₂ (fun a b => rnEntry a b n) (funext h) (gemb_apply m ρ c n)

/-- The embedding of the third call. -/
theorem emb_apply (c : Dev nD) (b : Fin 1) (r : Fin 8192) (n : Fin 4096) :
    (show Vec Ideal S8192x4096 .f32 from W6 m ρ c (Proc.devRef .tc main_v23)) (ix2 r n) = finE (argP m c) (argU m c) (argH m c) b r n :=
  (congrFun ((W6_arr m ρ c 3).trans (final2_3 (V5 m ρ) c)) _).trans (proj_apply m ρ c b r n)

/-- The layer's output, of the last call. -/
theorem out_apply (c : Dev nD) (b : Fin 1) (r : Fin 8192) (n : Fin 4096) :
    (show Vec Ideal S8192x4096 .f32 from W7 m ρ c (Proc.devRef .tc main_v24)) (ix2 r n)
      = finOut (argX m c) (argC m c) (argD m c) (argW m c) (argP m c) (argN m c) (argU m c) (argH m c) (argZ m c) b r n := by
  have h : mm (V6 m ρ c main_v20_1) (V6 m ρ c main_v13) (ix2 r n)
      = ∑ i : Fin 4096, finX (argX m c) (argC m c) (argD m c) (argW m c) (argN m c) b r i * argZ m c (ix3 (1 : Fin 2) i n) :=
    mm_eq _ _ _ _ _ _ (fun i => x1b_apply m ρ c b r i) (fun i => (congrFun (((((W6_of m ρ c main_v13 (by decide)).trans (W5_of m ρ c main_v13 (by decide))).trans (W4_of m ρ c main_v13 (by decide))).trans (W3_of m ρ c main_v13 (by decide))).trans (W2_of m ρ c main_v13 (by decide))) _).trans (wgate1_apply m ρ c i n))
  exact (congrFun ((W7_arr m ρ c 4).trans (final3_4 (V6 m ρ) c)) _).trans
    (congr (congrArg₂ gateEntry (x1_apply m ρ c b r n) (emb_apply m ρ c b r n)) h)

end Cert.Proof.Finish

end
-- ==== Proof.FinishFinal.lean ====
/-
  The second layer's end: the kernel's result is the reference's.
-/
module

public import proofs.«01_k».proof.Proof.FinishValue
public import proofs.«01_k».proof.Proof.FinishRun
public import proofs.«01_k».proof.Proof.FinishRef

@[expose] public section

set_option maxRecDepth 16384

noncomputable section

namespace Cert.Proof.Finish

open Cert.FinishIdeal Cert.FinishIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's output is the reference's. -/
theorem res_out (c : Dev nD) : (show Vec Ideal S1x8192x4096 .f32 from W8 m ρ c (Proc.devRef .tc main_v25)) = refOut (argX m c) (argC m c) (argD m c) (argW m c) (argP m c) (argN m c) (argU m c) (argH m c) (argZ m c) := by
  funext y
  obtain ⟨b, r, n, rfl⟩ := exists_ix3 (a := 1) (b := 8192) (d := 4096) y
  have e : (show Vec Ideal S1x8192x4096 .f32 from W8 m ρ c (Proc.devRef .tc main_v25)) (ix3 b r n)
      = (show Vec Ideal S8192x4096 .f32 from W7 m ρ c (Proc.devRef .tc main_v24)) (ix2 r n) := by
    obtain rfl : b = 0 := Subsingleton.elim _ _
    after_results_simp
    pointwise
    try blk_ext
  exact e.trans ((out_apply m ρ c b r n).trans (refOut_apply _ _ _ _ _ _ _ _ _ b r n).symm)

/-- From equal arguments the reference's output is that of the kernel's arguments. -/
theorem runOut_eq (m' : (ℓ : Loc Cert.FinishRefIdeal.nD Cert.FinishRefIdeal.τ Cert.FinishRefIdeal.sig) → Buf (Elt Ideal) ℓ) (c : Dev nD)
    (h0 : m' ((c.tc : Thread Cert.FinishRefIdeal.nD Cert.FinishRefIdeal.τ).loc Cert.FinishRefIdeal.main_arg0) = m ((c.tc : Thread nD τ).loc main_arg0))
    (h1 : m' ((c.tc : Thread Cert.FinishRefIdeal.nD Cert.FinishRefIdeal.τ).loc Cert.FinishRefIdeal.main_arg1) = m ((c.tc : Thread nD τ).loc main_arg1))
    (h2 : m' ((c.tc : Thread Cert.FinishRefIdeal.nD Cert.FinishRefIdeal.τ).loc Cert.FinishRefIdeal.main_arg2) = m ((c.tc : Thread nD τ).loc main_arg2))
    (h3 : m' ((c.tc : Thread Cert.FinishRefIdeal.nD Cert.FinishRefIdeal.τ).loc Cert.FinishRefIdeal.main_arg3) = m ((c.tc : Thread nD τ).loc main_arg3))
    (h4 : m' ((c.tc : Thread Cert.FinishRefIdeal.nD Cert.FinishRefIdeal.τ).loc Cert.FinishRefIdeal.main_arg4) = m ((c.tc : Thread nD τ).loc main_arg4))
    (h5 : m' ((c.tc : Thread Cert.FinishRefIdeal.nD Cert.FinishRefIdeal.τ).loc Cert.FinishRefIdeal.main_arg5) = m ((c.tc : Thread nD τ).loc main_arg5))
    (h6 : m' ((c.tc : Thread Cert.FinishRefIdeal.nD Cert.FinishRefIdeal.τ).loc Cert.FinishRefIdeal.main_arg6) = m ((c.tc : Thread nD τ).loc main_arg6))
    (h7 : m' ((c.tc : Thread Cert.FinishRefIdeal.nD Cert.FinishRefIdeal.τ).loc Cert.FinishRefIdeal.main_arg7) = m ((c.tc : Thread nD τ).loc main_arg7))
    (h8 : m' ((c.tc : Thread Cert.FinishRefIdeal.nD Cert.FinishRefIdeal.τ).loc Cert.FinishRefIdeal.main_arg8) = m ((c.tc : Thread nD τ).loc main_arg8)) :
    runOut m' c = refOut (argX m c) (argC m c) (argD m c) (argW m c) (argP m c) (argN m c) (argU m c) (argH m c) (argZ m c) :=
  congr (congr (congr (congr (congr (congr (congr (congr (congrArg refOut h0) h1) h2) h3) h4) h5) h6) h7) h8

end Cert.Proof.Finish

end
-- ==== Proof.FinishSRegions.lean ====
/-
  The arrays the four calls of the second layer's end leave on the sample batch, of the arrays each is given: the mixture, the first sum,
  the per-layer embedding, and the gated sum.
-/
module

public import proofs.«01_k».proof.Proof.FinishMath
public import proofs.«01_k».proof.Proof.Gen.FinishSIdeal.Frame
public import Idealize.ShloMosaic.Lib.Pipeline.Covers
public import Idealize.ShloMosaic.Lib.Pipeline.ValueKit
public import Idealize.ShloMosaic.Lib.Claim

@[expose] public section

set_option maxRecDepth 16384

noncomputable section

namespace Cert.Proof.FinishS

open Cert.FinishSIdeal Cert.FinishSIdeal.Gen Cert.Proof.Layer Idealize.ShloMosaic Idealize.ShloMosaic.TcCoe Idealize.SL.Sem

variable (V : (c : Dev nD) → (b : Ref sig .tc) → Buf (Elt Ideal) ((c : Thread nD τ).loc b))

/-! ## The product of call 0 -/

/-- Where call 0's blocks stand at a grid point. -/
theorem idx0 : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- The bounds of a grid point of call 0. -/
theorem lt0 (t : Fin cfg0.N) : (grid0.coords t 0).val < 1 ∧ (grid0.coords t 1).val < 4 :=
  ⟨(grid0.coords t 0).isLt, (grid0.coords t 1).isLt⟩

/-- The blocks of window 2 of call 0 cover its array. -/
theorem cover0_2 : (cfg0.win 2).Covers :=
  (cfg0.win 2).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 1 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of window 2 of call 0 at an index. -/
theorem pay0_2_apply (a : Vec Ideal S1024x4096 .bf16) (w : Vec Ideal S4096x1024 .bf16) (r : Fin 1024) (n : Fin 1024) :
    k0_pay1 (F := Ideal) a w (ix2 r n) = ∑ i : Fin 4096, a (ix2 r i) * w (ix2 i n) := by
  pointwise [k0_pay1]

/-- Window 2 of call 0 ends at the product of the call's two arrays. -/
theorem final0_2 (c : Dev nD) : (dat0 V c).arrAt 2 cfg0.N = mm (V c main_v1) (V c main_v3) := by
  refine (dat0 V c).arrAt_eq_of_covers 2 _ cover0_2 fun t hf y => ?_
  blk_simp
  rw [after0_2]
  frame_out
  obtain ⟨r, n, rfl⟩ := exists_ix2 (a := 1024) (b := 1024) y
  have h0 := (lt0 t).1
  have h1 := (lt0 t).2
  have hemb : (((cfg0.win 2).blk t).view.emb (ix2 r n) : S1024x4096.Idx)
      = ix2 (⟨1024 * (grid0.coords t 0).val + r.val, by omega⟩ : Fin 1024) (⟨1024 * (grid0.coords t 1).val + n.val, by omega⟩ : Fin 4096) := by
    blk_ext [idx0 t]
  refine Eq.trans ?_ (congrArg (mm (V c main_v1) (V c main_v3)) hemb.symm)
  rw [mm_apply]
  refine (pay0_2_apply _ _ r n).trans (Finset.sum_congr rfl fun i _ => congrArg₂ (fun a b : EReal => a * b) ?_ ?_)
  · blk_point [iblk0, idx0 t]
  · blk_point [iblk0, idx0 t]

/-! ## The first sum, of call 1 -/

/-- Where call 1's blocks stand at a grid point. -/
theorem idx1 : ∀ t : Fin cfg1.N, win1_0.index t = ![(grid1.coords t 0).val, 0] ∧ win1_1.index t = ![(grid1.coords t 0).val, 0] ∧ win1_2.index t = ![0, 0] ∧ win1_3.index t = ![(grid1.coords t 0).val, 0] ∧ win1_4.index t = ![(grid1.coords t 0).val, 0] :=
  (by decide +kernel : ∀ t : Fin grid1.N, _)

/-- The blocks of window 3 of call 1 cover its array. -/
theorem cover1_3 : (cfg1.win 3).Covers :=
  (cfg1.win 3).covers_of_indexMap_surj rfl (by decide) fun β =>
    ⟨fun a => match a with
      | ⟨0, _⟩ => ⟨(β 0).val, (β 0).isLt⟩, fun a => by
      have h0 : (β 0).val < 4 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- The blocks of window 4 of call 1 cover its array. -/
theorem cover1_4 : (cfg1.win 4).Covers :=
  (cfg1.win 4).covers_of_indexMap_surj rfl (by decide) fun β =>
    ⟨fun a => match a with
      | ⟨0, _⟩ => ⟨(β 0).val, (β 0).isLt⟩, fun a => by
      have h0 : (β 0).val < 4 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of window 3 of call 1 at an index. -/
theorem pay1_3_apply (x m : Vec Ideal S256x4096 .f32) (g : Vec Ideal S1x4096 .f32) (r : Fin 256) (n : Fin 4096) :
    k1_pay1 (F := Ideal) m x g (ix2 r n) = x (ix2 r n) + rnEntry (fun i => m (ix2 r i)) (g (ix2 (0 : Fin 1) n)) n := by
  unfold rnEntry
  pointwise [k1_pay1]

/-- Window 3 of call 1 ends at its function of the call's arrays. -/
theorem final1_3 (c : Dev nD) : (dat1 V c).arrAt 3 cfg1.N = resn (V c main_v14) (V c main_v18) (V c main_v19) := by
  refine (dat1 V c).arrAt_eq_of_covers 3 _ cover1_3 fun t hf y => ?_
  blk_simp
  rw [after1_3]
  frame_out
  obtain ⟨r, n, rfl⟩ := exists_ix2 (a := 256) (b := 4096) y
  have h0 : (grid1.coords t 0).val < 4 := (grid1.coords t 0).isLt
  have hemb : (((cfg1.win 3).blk t).view.emb (ix2 r n) : S1024x4096.Idx)
      = ix2 (⟨256 * (grid1.coords t 0).val + r.val, by omega⟩ : Fin 1024) n := by
    blk_ext [idx1 t]
  refine Eq.trans ?_ (congrArg (resn (V c main_v14) (V c main_v18) (V c main_v19)) hemb.symm)
  rw [resn_apply]
  refine (pay1_3_apply _ _ _ r n).trans (congrArg₂ (fun a b : EReal => a + b) ?_
    (congrArg₂ (fun a b => rnEntry a b n) (funext fun i => ?_) ?_))
  · blk_point [iblk1, idx1 t]
  · blk_point [iblk1, idx1 t]
  · blk_point [iblk1, idx1 t]

/-- A block of window 4 of call 1 at an index. -/
theorem pay1_4_apply (x m : Vec Ideal S256x4096 .f32) (g : Vec Ideal S1x4096 .f32) (r : Fin 256) (n : Fin 4096) :
    k1_pay2 (F := Ideal) m x g (ix2 r n) = x (ix2 r n) + rnEntry (fun i => m (ix2 r i)) (g (ix2 (0 : Fin 1) n)) n := by
  unfold rnEntry
  pointwise [k1_pay2, k1_pay1]

/-- Window 4 of call 1 ends at its function of the call's arrays. -/
theorem final1_4 (c : Dev nD) : (dat1 V c).arrAt 4 cfg1.N = resn (V c main_v14) (V c main_v18) (V c main_v19) := by
  refine (dat1 V c).arrAt_eq_of_covers 4 _ cover1_4 fun t hf y => ?_
  blk_simp
  rw [after1_4]
  frame_out
  obtain ⟨r, n, rfl⟩ := exists_ix2 (a := 256) (b := 4096) y
  have h0 : (grid1.coords t 0).val < 4 := (grid1.coords t 0).isLt
  have hemb : (((cfg1.win 4).blk t).view.emb (ix2 r n) : S1024x4096.Idx)
      = ix2 (⟨256 * (grid1.coords t 0).val + r.val, by omega⟩ : Fin 1024) n := by
    blk_ext [idx1 t]
  refine Eq.trans ?_ (congrArg (resn (V c main_v14) (V c main_v18) (V c main_v19)) hemb.symm)
  rw [resn_apply]
  refine (pay1_4_apply _ _ _ r n).trans (congrArg₂ (fun a b : EReal => a + b) ?_
    (congrArg₂ (fun a b => rnEntry a b n) (funext fun i => ?_) ?_))
  · blk_point [iblk1, idx1 t]
  · blk_point [iblk1, idx1 t]
  · blk_point [iblk1, idx1 t]

/-! ## The embedding, of call 2 -/

/-- Where call 2's blocks stand at a grid point. -/
theorem idx2 : ∀ t : Fin cfg2.N, win2_0.index t = ![(grid2.coords t 0).val, 0] ∧ win2_1.index t = ![0, 0] ∧ win2_2.index t = ![0, 0] ∧ win2_3.index t = ![(grid2.coords t 0).val, 0] :=
  (by decide +kernel : ∀ t : Fin grid2.N, _)

/-- The blocks of window 3 of call 2 cover its array. -/
theorem cover2_3 : (cfg2.win 3).Covers :=
  (cfg2.win 3).covers_of_indexMap_surj rfl (by decide) fun β =>
    ⟨fun a => match a with
      | ⟨0, _⟩ => ⟨(β 0).val, (β 0).isLt⟩, fun a => by
      have h0 : (β 0).val < 4 := (β 0).isLt
      have h1 : (β 1).val < 1 := (β 1).isLt
      match a with
      | ⟨0, _⟩ => show (BitVec.ofNat 32 (β 0).val).toNat = (β 0).val; rw [BitVec.toNat_ofNat]; omega
      | ⟨1, _⟩ => show (BitVec.ofNat 32 0).toNat = (β 1).val; rw [BitVec.toNat_ofNat]; omega⟩

/-- A block of the embedding at an index. -/
theorem pay2_3_apply (a : Vec Ideal S256x256 .bf16) (w : Vec Ideal S256x4096 .bf16) (g : Vec Ideal S1x4096 .f32) (r : Fin 256) (n : Fin 4096) :
    k2_pay1 (F := Ideal) a w g (ix2 r n)
      = rnEntry (fun i => ∑ j : Fin 256, a (ix2 r j) * w (ix2 j i)) (g (ix2 (0 : Fin 1) n)) n := by
  unfold rnEntry
  pointwise [k2_pay1]

/-- Window 3 of call 2 ends at its function of the call's arrays. -/
theorem final2_3 (c : Dev nD) : (dat2 V c).arrAt 3 cfg2.N = embn (V c main_v21) (V c main_v8) (V c main_v22) := by
  refine (dat2 V c).arrAt_eq_of_covers 3 _ cover2_3 fun t hf y => ?_
  blk_simp
  rw [after2_3]
  frame_out
  obtain ⟨r, n, rfl⟩ := exists_ix2 (a := 256) (b := 4096) y
  have h0 : (grid2.coords t 0).val < 4 := (grid2.coords t 0).isLt
  have hemb : (((cfg2.win 3).blk t).view.emb (ix2 r n) : S1024x4096.Idx)
      = ix2 (⟨256 * (grid2.coords t 0).val + r.val, by omega⟩ : Fin 1024) n := by
    blk_ext [idx2 t]
  refine Eq.trans ?_ (congrArg (embn (V c main_v21) (V c main_v8) (V c main_v22)) hemb.symm)
  rw [embn_apply]
  refine (pay2_3_apply _ _ _ r n).trans (congrArg₂ (fun a b => rnEntry a b n)
    (funext fun i => Finset.sum_congr rfl fun j _ => congrArg₂ (fun a b : EReal => a * b) ?_ ?_) ?_)
  · blk_point [iblk2, idx2 t]
  · blk_point [iblk2, idx2 t]
  · blk_point [iblk2, idx2 t]

/-! ## The gated sum, of call 3 -/

/-- Where call 3's blocks stand at a grid point. -/
theorem idx3 : ∀ t : Fin cfg3.N, win3_0.index t = ![(grid3.coords t 0).val, 0] ∧ win3_1.index t = ![0, (grid3.coords t 1).val] ∧ win3_2.index t = ![(grid3.coords t 0).val, (grid3.coords t 1).val] ∧ win3_3.index t = ![(grid3.coords t 0).val, (grid3.coords t 1).val] ∧ win3_4.index t = ![(grid3.coords t 0).val, (grid3.coords t 1).val] :=
  (by decide +kernel : ∀ t : Fin grid3.N, _)

/-- The bounds of a grid point of call 3. -/
theorem lt3 (t : Fin cfg3.N) : (grid3.coords t 0).val < 2 ∧ (grid3.coords t 1).val < 4 :=
  ⟨(grid3.coords t 0).isLt, (grid3.coords t 1).isLt⟩

/-- The blocks of window 4 of call 3 cover its array. -/
theorem cover3_4 : (cfg3.win 4).Covers :=
  (cfg3.win 4).covers_of_indexMap_surj rfl (by decide) fun β =>
    ⟨fun a => match a with
      | ⟨0, _⟩ => ⟨(β 0).val, (β 0).isLt⟩
      | ⟨1, _⟩ => ⟨(β 1).val, (β 1).isLt⟩, fun a => by
      have h0 : (β 0).val < 2 := (β 0).isLt
      have h1 : (β 1).val < 4 := (β 1).isLt
      match a with
      | ⟨0, _⟩ => show (BitVec.ofNat 32 (β 0).val).toNat = (β 0).val; rw [BitVec.toNat_ofNat]; omega
      | ⟨1, _⟩ => show (BitVec.ofNat 32 (β 1).val).toNat = (β 1).val; rw [BitVec.toNat_ofNat]; omega⟩

/-- A block of the gated sum at an index. -/
theorem pay3_4_apply (a : Vec Ideal S512x4096 .bf16) (w : Vec Ideal S4096x1024 .bf16) (x e : Vec Ideal S512x1024 .f32) (r : Fin 512) (n : Fin 1024) :
    k3_pay1 (F := Ideal) a w x e (ix2 r n)
      = gateEntry (x (ix2 r n)) (e (ix2 r n)) (∑ i : Fin 4096, a (ix2 r i) * w (ix2 i n)) := by
  unfold gateEntry
  pointwise [k3_pay1]
  rw [zero_sub]

/-- Window 4 of call 3 ends at the gated sum of the call's arrays. -/
theorem final3_4 (c : Dev nD) : (dat3 V c).arrAt 4 cfg3.N = gmm (V c main_v20_1) (V c main_v13) (V c main_v20_0) (V c main_v23) := by
  refine (dat3 V c).arrAt_eq_of_covers 4 _ cover3_4 fun t hf y => ?_
  blk_simp
  rw [after3_4]
  frame_out
  obtain ⟨r, n, rfl⟩ := exists_ix2 (a := 512) (b := 1024) y
  have h0 := (lt3 t).1
  have h1 := (lt3 t).2
  have hemb : (((cfg3.win 4).blk t).view.emb (ix2 r n) : S1024x4096.Idx)
      = ix2 (⟨512 * (grid3.coords t 0).val + r.val, by omega⟩ : Fin 1024) (⟨1024 * (grid3.coords t 1).val + n.val, by omega⟩ : Fin 4096) := by
    blk_ext [idx3 t]
  refine Eq.trans ?_ (congrArg (gmm (V c main_v20_1) (V c main_v13) (V c main_v20_0) (V c main_v23)) hemb.symm)
  rw [gmm_apply]
  have hs : ∀ (a : Fin 4096 → EReal) (b : Fin 4096 → EReal) (a' : Fin 4096 → EReal) (b' : Fin 4096 → EReal),
      (∀ i, a i = a' i) → (∀ i, b i = b' i) → (∑ i, a i * b i) = ∑ i, a' i * b' i := fun a b a' b' ha hb => by
    simp only [ha, hb]
  refine (pay3_4_apply _ _ _ _ r n).trans (congr (congrArg₂ gateEntry ?_ ?_) (hs _ _ _ _ (fun i => ?_) (fun i => ?_)))
  · blk_point [iblk3, idx3 t]
  · blk_point [iblk3, idx3 t]
  · blk_point [iblk3, idx3 t]
  · blk_point [iblk3, idx3 t]

end Cert.Proof.FinishS

end
-- ==== Proof.FinishSRef.lean ====
/-
  The reference of the second layer's end on the sample batch at an index.
-/
module

public import proofs.«01_k».proof.Proof.FinishMath
public import proofs.«01_k».proof.Proof.Gen.FinishSRefIdeal.Run
public import Idealize.ShloMosaic.Lib.Pipeline.ValueKit
public import Idealize.ShloMosaic.Lib.Claim

@[expose] public section

set_option maxRecDepth 16384

noncomputable section

namespace Cert.Proof.FinishS

open Cert.FinishSRefIdeal Cert.FinishSRefIdeal.Gen Cert.Proof.Layer Idealize.ShloMosaic Idealize.ShloMosaic.TcCoe Idealize.SL.Sem

/-- The reference's norm of every row, with the second layer's gains. -/
def refRn (x : FVec Ideal S16x64x4096 .f32) (g : FVec Ideal S2x4096 .f32) : FVec Ideal S16x64x4096 .f32 :=
  (mulf (mulf x (broadcastInDim S16x64x4096 ![0, 1, 2] bcast_S16x64x1_S16x64x4096_0_1_2 (Host.rsqrt (addf (Host.divf (broadcastInDim S16x64x1 ![0, 1] bcast_S16x64_S16x64x1_0_1 (Host.reduceAdd (mulf x x) (constant S_ .f32 0x00000000#32) reducesTo_S16x64x4096_S16x64_d2 h_S_)) (broadcastInDim S16x64x1 ![] bcast_S_S16x64x1 (constant S_ .f32 0x45800000#32))) (broadcastInDim S16x64x1 ![] bcast_S_S16x64x1 (constant S_ .f32 0x358637BD#32)))))) (broadcastInDim S16x64x4096 ![0, 1, 2] bcast_S1x1x4096_S16x64x4096_0_1_2 (broadcastInDim S1x1x4096 ![2] bcast_S4096_S1x1x4096_2 (shapeCast _ (extractStridedSlice S1x4096 ![1, 0] g slices_S2x4096_S1x4096_1_0) shapeCasts_S1x4096_S4096))))

/-- The norm at an index. -/
theorem refRn_apply (x : FVec Ideal S16x64x4096 .f32) (g : FVec Ideal S2x4096 .f32) (b : Fin 16) (r : Fin 64) (n : Fin 4096) :
    refRn x g (ix3 b r n) = rnEntry (fun i => x (ix3 b r i)) (g (ix2 (1 : Fin 2) n)) n := by
  unfold rnEntry
  pointwise [refRn]

/-- The two groups of heads' outputs side by side. -/
def refJ (p q : FVec Ideal S16x64x2048 .bf16) : FVec Ideal S16x64x4096 .f32 :=
  extf .f32 (concatenate S16x64x4096 2 [⟨S16x64x2048, p⟩, ⟨S16x64x2048, q⟩] concatenates_S16x64x2048_S16x64x2048_S16x64x4096_d2) bitsLt_bf16_f32

/-- They at an index. -/
theorem refJ_apply (p q : FVec Ideal S16x64x2048 .bf16) (b : Fin 16) (r : Fin 64) (n : Fin 4096) : refJ p q (ix3 b r n) = joined p q b r n := by
  unfold joined
  pointwise [refJ]
  all_goals try split_ifs
  all_goals first
    | omega
    | rfl
    | exact absurd rfl (by assumption)
    | blk_ext

/-- The rows' mixture. -/
def refMix (p q : FVec Ideal S16x64x2048 .bf16) (w : FVec Ideal S1x4096x4096 .f32) : FVec Ideal S16x64x4096 .f32 :=
  Host.dotGeneral dot_S16x64x4096_S4096x4096_S16x64x4096_2_0_01_1_n_n none (refJ p q) (shapeCast _ w shapeCasts_S1x4096x4096_S4096x4096)

/-- The mixture at an index. -/
theorem refMix_apply (p q : FVec Ideal S16x64x2048 .bf16) (w : FVec Ideal S1x4096x4096 .f32) (b : Fin 16) (r : Fin 64) (n : Fin 4096) :
    refMix p q w (ix3 b r n) = finMix p q w b r n := by
  unfold finMix
  simp only [← refJ_apply]
  pointwise [refMix]

/-- The first sum. -/
def refX (x : FVec Ideal S16x64x4096 .f32) (p q : FVec Ideal S16x64x2048 .bf16) (w : FVec Ideal S1x4096x4096 .f32) (g : FVec Ideal S2x4096 .f32) : FVec Ideal S16x64x4096 .f32 := addf x (refRn (refMix p q w) g)

/-- The first sum at an index. -/
theorem refX_apply (x : FVec Ideal S16x64x4096 .f32) (p q : FVec Ideal S16x64x2048 .bf16) (w : FVec Ideal S1x4096x4096 .f32) (g : FVec Ideal S2x4096 .f32) (b : Fin 16) (r : Fin 64) (n : Fin 4096) :
    refX x p q w g (ix3 b r n) = finX x p q w g b r n := by
  refine congrArg (fun a : EReal => x (ix3 b r n) + a) ((refRn_apply _ g b r n).trans ?_)
  exact congrArg (fun a => rnEntry a _ n) (funext fun i => refMix_apply p q w b r i)

/-- The projection of the per-layer input. -/
def refP (e : FVec Ideal S2x16x64x256 .f32) (w : FVec Ideal S2x256x4096 .f32) : FVec Ideal S16x64x4096 .f32 :=
  Host.dotGeneral dot_S16x64x256_S256x4096_S16x64x4096_2_0_01_1_n_n none (shapeCast _ (extractStridedSlice S1x16x64x256 ![1, 0, 0, 0] e slices_S2x16x64x256_S1x16x64x256_1_0_0_0) shapeCasts_S1x16x64x256_S16x64x256) (shapeCast _ (extractStridedSlice S1x256x4096 ![1, 0, 0] w slices_S2x256x4096_S1x256x4096_1_0_0) shapeCasts_S1x256x4096_S256x4096)

/-- The projection at an index. -/
theorem refP_apply (e : FVec Ideal S2x16x64x256 .f32) (w : FVec Ideal S2x256x4096 .f32) (b : Fin 16) (r : Fin 64) (n : Fin 4096) :
    refP e w (ix3 b r n) = ∑ j : Fin 256, e (ix4 (1 : Fin 2) b r j) * w (ix3 (1 : Fin 2) j n) := by
  pointwise [refP]

/-- The embedding at an index. -/
theorem refE_apply (e : FVec Ideal S2x16x64x256 .f32) (w : FVec Ideal S2x256x4096 .f32) (g : FVec Ideal S2x4096 .f32) (b : Fin 16) (r : Fin 64) (n : Fin 4096) :
    refRn (refP e w) g (ix3 b r n) = finE e w g b r n :=
  (refRn_apply _ g b r n).trans (congrArg (fun a => rnEntry a _ n) (funext fun i => refP_apply e w b r i))

/-- The gate's product. -/
def refL (x : FVec Ideal S16x64x4096 .f32) (w : FVec Ideal S2x4096x4096 .f32) : FVec Ideal S16x64x4096 .f32 :=
  Host.dotGeneral dot_S16x64x4096_S4096x4096_S16x64x4096_2_0_01_1_n_n none x (shapeCast _ (extractStridedSlice S1x4096x4096 ![1, 0, 0] w slices_S2x4096x4096_S1x4096x4096_1_0_0) shapeCasts_S1x4096x4096_S4096x4096)

/-- The gate's product at an index. -/
theorem refL_apply (x : FVec Ideal S16x64x4096 .f32) (w : FVec Ideal S2x4096x4096 .f32) (b : Fin 16) (r : Fin 64) (n : Fin 4096) :
    refL x w (ix3 b r n) = ∑ i : Fin 4096, x (ix3 b r i) * w (ix3 (1 : Fin 2) i n) := by
  pointwise [refL]

/-- The gated sum. -/
def refS (x e l : FVec Ideal S16x64x4096 .f32) : FVec Ideal S16x64x4096 .f32 :=
  addf x (mulf e (Host.divf (broadcastInDim S16x64x4096 ![] bcast_S_S16x64x4096 (constant S_ .f32 0x3F800000#32)) (addf (broadcastInDim S16x64x4096 ![] bcast_S_S16x64x4096 (constant S_ .f32 0x3F800000#32)) (Host.exp (Host.negf l)))))

/-- The gated sum at an index. -/
theorem refS_apply (x e l : FVec Ideal S16x64x4096 .f32) (b : Fin 16) (r : Fin 64) (n : Fin 4096) :
    refS x e l (ix3 b r n) = gateEntry (x (ix3 b r n)) (e (ix3 b r n)) (l (ix3 b r n)) := by
  unfold gateEntry
  pointwise [refS]

/-- The layer's output. -/
def refOut (x : FVec Ideal S16x64x4096 .f32) (p q : FVec Ideal S16x64x2048 .bf16) (w : FVec Ideal S1x4096x4096 .f32) (e : FVec Ideal S2x16x64x256 .f32) (g : FVec Ideal S2x4096 .f32)
    (we : FVec Ideal S2x256x4096 .f32) (ge : FVec Ideal S2x4096 .f32) (wg : FVec Ideal S2x4096x4096 .f32) : FVec Ideal S16x64x4096 .f32 :=
  refS (refX x p q w g) (refRn (refP e we) ge) (refL (refX x p q w g) wg)

/-- The layer's output at an index. -/
theorem refOut_apply (x : FVec Ideal S16x64x4096 .f32) (p q : FVec Ideal S16x64x2048 .bf16) (w : FVec Ideal S1x4096x4096 .f32) (e : FVec Ideal S2x16x64x256 .f32) (g : FVec Ideal S2x4096 .f32)
    (we : FVec Ideal S2x256x4096 .f32) (ge : FVec Ideal S2x4096 .f32) (wg : FVec Ideal S2x4096x4096 .f32) (b : Fin 16) (r : Fin 64) (n : Fin 4096) :
    refOut x p q w e g we ge wg (ix3 b r n) = finOut x p q w e g we ge wg b r n := by
  unfold refOut finOut
  rw [refS_apply, refX_apply, refE_apply, refL_apply]
  simp only [refX_apply]

variable (m : (ℓ : Loc nD τ sig) → Buf (Elt Ideal) ℓ)

/-- The reference's output of a run's arguments. -/
abbrev runOut (c : Dev nD) : FVec Ideal S16x64x4096 .f32 :=
  refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The reference runs to its end, at its result, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v50) = runOut m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) :=
  Cert.FinishSRefIdeal.Value.run m ρ

end Cert.Proof.FinishS

end
-- ==== Proof.FinishSRun.lean ====
/-
  The run of the second layer's end on the sample batch: what every buffer holds at the end.
-/
module

public import proofs.«01_k».proof.Proof.Gen.FinishSIdeal.Frame
public import Idealize.ShloMosaic.Lib.Pipeline.ValueKit

@[expose] public section

noncomputable section

namespace Cert.Proof.FinishS

open Cert.FinishSIdeal Cert.FinishSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end, and every buffer the calls share ends at the last boundary's contents. -/
theorem ends : θ_run defs (onTc (τ := τ) (main (F := Ideal))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c b hb => h c _ (mem_uc b hb))

end Cert.Proof.FinishS

end
-- ==== Proof.FinishSValue.lean ====
/-
  The second layer's end on the sample batch: what the host prepares for the calls, and each call's array at an index.
-/
module

public import proofs.«01_k».proof.Proof.FinishMath
public import proofs.«01_k».proof.Proof.FinishSRegions
public import Idealize.ShloMosaic.Lib.StableHlo.RunRead

@[expose] public section

set_option maxRecDepth 16384

noncomputable section

namespace Cert.Proof.FinishS

open Cert.FinishSIdeal Cert.FinishSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's input in a run's arguments. -/
abbrev argX (c : Dev nD) : (⟨3, ![16, 64, 4096]⟩ : Shape).Idx → EReal := m ((c.tc : Thread nD τ).loc main_arg0)
/-- The first heads' outputs in a run's arguments. -/
abbrev argC (c : Dev nD) : (⟨3, ![16, 64, 2048]⟩ : Shape).Idx → EReal := m ((c.tc : Thread nD τ).loc main_arg1)
/-- The second heads' outputs in a run's arguments. -/
abbrev argD (c : Dev nD) : (⟨3, ![16, 64, 2048]⟩ : Shape).Idx → EReal := m ((c.tc : Thread nD τ).loc main_arg2)
/-- The output weights in a run's arguments. -/
abbrev argW (c : Dev nD) : (⟨3, ![1, 4096, 4096]⟩ : Shape).Idx → EReal := m ((c.tc : Thread nD τ).loc main_arg3)
/-- The per-layer inputs in a run's arguments. -/
abbrev argP (c : Dev nD) : (⟨4, ![2, 16, 64, 256]⟩ : Shape).Idx → EReal := m ((c.tc : Thread nD τ).loc main_arg4)
/-- The first norms' gains in a run's arguments. -/
abbrev argN (c : Dev nD) : (⟨2, ![2, 4096]⟩ : Shape).Idx → EReal := m ((c.tc : Thread nD τ).loc main_arg5)
/-- The projections' weights in a run's arguments. -/
abbrev argU (c : Dev nD) : (⟨3, ![2, 256, 4096]⟩ : Shape).Idx → EReal := m ((c.tc : Thread nD τ).loc main_arg6)
/-- The embeddings' gains in a run's arguments. -/
abbrev argH (c : Dev nD) : (⟨2, ![2, 4096]⟩ : Shape).Idx → EReal := m ((c.tc : Thread nD τ).loc main_arg7)
/-- The gates' weights in a run's arguments. -/
abbrev argZ (c : Dev nD) : (⟨3, ![2, 4096, 4096]⟩ : Shape).Idx → EReal := m ((c.tc : Thread nD τ).loc main_arg8)

/-- The joined rows of the two groups' outputs, before the product. -/
theorem join_apply (c : Dev nD) (b : Fin 16) (r : Fin 64) (n : Fin 4096) :
    (show Vec Ideal S1024x4096 .bf16 from W1 m ρ c (Proc.devRef .tc main_v1)) (ix2 (⟨b.val * 64 + r.val, by omega⟩ : Fin 1024) n) = joined (argC m c) (argD m c) b r n := by
  unfold joined
  after_results_simp
  pointwise
  all_goals try split_ifs
  all_goals first
    | omega
    | exact absurd rfl (by assumption)
    | blk_ext

/-- The output weights the first call is given. -/
theorem wout_apply (c : Dev nD) (i n : Fin 4096) :
    (show Vec Ideal S4096x4096 .bf16 from W1 m ρ c (Proc.devRef .tc main_v3)) (ix2 i n) = argW m c (ix3 (0 : Fin 1) i n) := by
  after_results_simp
  pointwise
  try blk_ext

/-- The input's rows. -/
theorem x1in_apply (c : Dev nD) (b : Fin 16) (r : Fin 64) (n : Fin 4096) :
    (show Vec Ideal S1024x4096 .f32 from W1 m ρ c (Proc.devRef .tc main_v14)) (ix2 (⟨b.val * 64 + r.val, by omega⟩ : Fin 1024) n) = argX m c (ix3 b r n) := by
  after_results_simp
  pointwise
  try blk_ext

/-- The first norm's gains. -/
theorem gpost1_apply (c : Dev nD) (n : Fin 4096) :
    (show Vec Ideal S4096 .f32 from W1 m ρ c (Proc.devRef .tc main_v5)) (ix1 n) = argN m c (ix2 (1 : Fin 2) n) := by
  after_results_simp
  pointwise
  try blk_ext

/-- The projection's weights. -/
theorem wproj1_apply (c : Dev nD) (j : Fin 256) (n : Fin 4096) :
    (show Vec Ideal S256x4096 .bf16 from W1 m ρ c (Proc.devRef .tc main_v8)) (ix2 j n) = argU m c (ix3 (1 : Fin 2) j n) := by
  after_results_simp
  pointwise
  try blk_ext

/-- The embedding's gains. -/
theorem gemb1_apply (c : Dev nD) (n : Fin 4096) :
    (show Vec Ideal S4096 .f32 from W1 m ρ c (Proc.devRef .tc main_v10)) (ix1 n) = argH m c (ix2 (1 : Fin 2) n) := by
  after_results_simp
  pointwise
  try blk_ext

/-- The gate's weights. -/
theorem wgate1_apply (c : Dev nD) (i n : Fin 4096) :
    (show Vec Ideal S4096x4096 .bf16 from W1 m ρ c (Proc.devRef .tc main_v13)) (ix2 i n) = argZ m c (ix3 (1 : Fin 2) i n) := by
  after_results_simp
  pointwise
  try blk_ext

/-- The per-layer input's rows. -/
theorem p1_apply (c : Dev nD) (b : Fin 16) (r : Fin 64) (j : Fin 256) :
    (show Vec Ideal S1024x256 .f32 from W1 m ρ c (Proc.devRef .tc main_v17)) (ix2 (⟨b.val * 64 + r.val, by omega⟩ : Fin 1024) j) = argP m c (ix4 (1 : Fin 2) b r j) := by
  after_results_simp
  pointwise
  try blk_ext

/-- The mixture of the first call. -/
theorem mix_apply (c : Dev nD) (b : Fin 16) (r : Fin 64) (n : Fin 4096) :
    (show Vec Ideal S1024x4096 .f32 from W3 m ρ c (Proc.devRef .tc main_v18)) (ix2 (⟨b.val * 64 + r.val, by omega⟩ : Fin 1024) n) = finMix (argC m c) (argD m c) (argW m c) b r n := by
  refine (congrFun ((W3_of m ρ c main_v18 (by decide)).trans ((W2_arr m ρ c 2).trans (final0_2 (V1 m ρ) c))) _).trans ?_
  exact mm_eq _ _ _ _ _ _ (fun i => join_apply m ρ c b r i) (fun i => wout_apply m ρ c i n)

/-- The first norm's gains, as the second call is given them. -/
theorem gpost_apply (c : Dev nD) (n : Fin 4096) :
    (show Vec Ideal S1x4096 .f32 from W3 m ρ c (Proc.devRef .tc main_v19)) (ix2 (0 : Fin 1) n) = argN m c (ix2 (1 : Fin 2) n) := by
  have e : (show Vec Ideal S1x4096 .f32 from W3 m ρ c (Proc.devRef .tc main_v19)) (ix2 (0 : Fin 1) n)
      = (show Vec Ideal S4096 .f32 from W2 m ρ c (Proc.devRef .tc main_v5)) (ix1 n) := by
    after_results_simp
    pointwise
    try blk_ext
  exact e.trans ((congrFun (W2_of m ρ c main_v5 (by decide)) _).trans (gpost1_apply m ρ c n))

/-- The first sum of the input and the mixture's norm, entry by entry. -/
theorem sum_apply (c : Dev nD) (b : Fin 16) (r : Fin 64) (n : Fin 4096) :
    resn (V3 m ρ c main_v14) (V3 m ρ c main_v18) (V3 m ρ c main_v19) (ix2 (⟨b.val * 64 + r.val, by omega⟩ : Fin 1024) n)
      = finX (argX m c) (argC m c) (argD m c) (argW m c) (argN m c) b r n := by
  rw [resn_apply]
  exact congrArg₂ (fun a b : EReal => a + b) ((congrFun ((W3_of m ρ c main_v14 (by decide)).trans (W2_of m ρ c main_v14 (by decide))) _).trans (x1in_apply m ρ c b r n))
    (congrArg₂ (fun a b => rnEntry a b n) (funext fun i => mix_apply m ρ c b r i) (gpost_apply m ρ c n))

/-- The first sum, as the last call is given it. -/
theorem x1_apply (c : Dev nD) (b : Fin 16) (r : Fin 64) (n : Fin 4096) :
    (show Vec Ideal S1024x4096 .f32 from W6 m ρ c (Proc.devRef .tc main_v20_0)) (ix2 (⟨b.val * 64 + r.val, by omega⟩ : Fin 1024) n)
      = finX (argX m c) (argC m c) (argD m c) (argW m c) (argN m c) b r n :=
  (congrFun (((W6_of m ρ c main_v20_0 (by decide)).trans (W5_of m ρ c main_v20_0 (by decide))).trans ((W4_arr m ρ c 3).trans (final1_3 (V3 m ρ) c))) _).trans (sum_apply m ρ c b r n)

/-- The first sum in the shorter type, as the last call is given it. -/
theorem x1b_apply (c : Dev nD) (b : Fin 16) (r : Fin 64) (n : Fin 4096) :
    (show Vec Ideal S1024x4096 .bf16 from W6 m ρ c (Proc.devRef .tc main_v20_1)) (ix2 (⟨b.val * 64 + r.val, by omega⟩ : Fin 1024) n)
      = finX (argX m c) (argC m c) (argD m c) (argW m c) (argN m c) b r n :=
  (congrFun (((W6_of m ρ c main_v20_1 (by decide)).trans (W5_of m ρ c main_v20_1 (by decide))).trans ((W4_arr m ρ c 4).trans (final1_4 (V3 m ρ) c))) _).trans (sum_apply m ρ c b r n)

/-- The per-layer input's rows, as the third call is given them. -/
theorem p_apply (c : Dev nD) (b : Fin 16) (r : Fin 64) (j : Fin 256) :
    (show Vec Ideal S1024x256 .bf16 from W5 m ρ c (Proc.devRef .tc main_v21)) (ix2 (⟨b.val * 64 + r.val, by omega⟩ : Fin 1024) j) = argP m c (ix4 (1 : Fin 2) b r j) := by
  have e : (show Vec Ideal S1024x256 .bf16 from W5 m ρ c (Proc.devRef .tc main_v21)) (ix2 (⟨b.val * 64 + r.val, by omega⟩ : Fin 1024) j)
      = (show Vec Ideal S1024x256 .f32 from W4 m ρ c (Proc.devRef .tc main_v17)) (ix2 (⟨b.val * 64 + r.val, by omega⟩ : Fin 1024) j) := by
    after_results_simp
    pointwise
    try blk_ext
  exact e.trans ((congrFun (((W4_of m ρ c main_v17 (by decide)).trans (W3_of m ρ c main_v17 (by decide))).trans (W2_of m ρ c main_v17 (by decide))) _).trans (p1_apply m ρ c b r j))

/-- The embedding's gains, as the third call is given them. -/
theorem gemb_apply (c : Dev nD) (n : Fin 4096) :
    (show Vec Ideal S1x4096 .f32 from W5 m ρ c (Proc.devRef .tc main_v22)) (ix2 (0 : Fin 1) n) = argH m c (ix2 (1 : Fin 2) n) := by
  have e : (show Vec Ideal S1x4096 .f32 from W5 m ρ c (Proc.devRef .tc main_v22)) (ix2 (0 : Fin 1) n)
      = (show Vec Ideal S4096 .f32 from W4 m ρ c (Proc.devRef .tc main_v10)) (ix1 n) := by
    after_results_simp
    pointwise
    try blk_ext
  exact e.trans ((congrFun (((W4_of m ρ c main_v10 (by decide)).trans (W3_of m ρ c main_v10 (by decide))).trans (W2_of m ρ c main_v10 (by decide))) _).trans (gemb1_apply m ρ c n))

/-- The projection's weights, as the third call is given them. -/
theorem wproj_apply (c : Dev nD) (j : Fin 256) (n : Fin 4096) :
    (show Vec Ideal S256x4096 .bf16 from W5 m ρ c (Proc.devRef .tc main_v8)) (ix2 j n) = argU m c (ix3 (1 : Fin 2) j n) :=
  (congrFun ((((W5_of m ρ c main_v8 (by decide)).trans (W4_of m ρ c main_v8 (by decide))).trans (W3_of m ρ c main_v8 (by decide))).trans (W2_of m ρ c main_v8 (by decide))) _).trans (wproj1_apply m ρ c j n)

/-- The norm of the projection, entry by entry. -/
theorem proj_apply (c : Dev nD) (b : Fin 16) (r : Fin 64) (n : Fin 4096) :
    embn (V5 m ρ c main_v21) (V5 m ρ c main_v8) (V5 m ρ c main_v22) (ix2 (⟨b.val * 64 + r.val, by omega⟩ : Fin 1024) n) = finE (argP m c) (argU m c) (argH m c) b r n := by
  have h : ∀ i : Fin 4096, mm (V5 m ρ c main_v21) (V5 m ρ c main_v8) (ix2 (⟨b.val * 64 + r.val, by omega⟩ : Fin 1024) i)
      = ∑ j : Fin 256, argP m c (ix4 (1 : Fin 2) b r j) * argU m c (ix3 (1 : Fin 2) j i) := fun i =>
    mm_eq _ _ _ _ _ _ (fun j => p_apply m ρ c b r j) (fun j => wproj_apply m ρ c j i)
  rw [embn_apply]
  exact congrArg₂ (fun a b => rnEntry a b n) (funext h) (gemb_apply m ρ c n)

/-- The embedding of the third call. -/
theorem emb_apply (c : Dev nD) (b : Fin 16) (r : Fin 64) (n : Fin 4096) :
    (show Vec Ideal S1024x4096 .f32 from W6 m ρ c (Proc.devRef .tc main_v23)) (ix2 (⟨b.val * 64 + r.val, by omega⟩ : Fin 1024) n) = finE (argP m c) (argU m c) (argH m c) b r n :=
  (congrFun ((W6_arr m ρ c 3).trans (final2_3 (V5 m ρ) c)) _).trans (proj_apply m ρ c b r n)

/-- The layer's output, of the last call. -/
theorem out_apply (c : Dev nD) (b : Fin 16) (r : Fin 64) (n : Fin 4096) :
    (show Vec Ideal S1024x4096 .f32 from W7 m ρ c (Proc.devRef .tc main_v24)) (ix2 (⟨b.val * 64 + r.val, by omega⟩ : Fin 1024) n)
      = finOut (argX m c) (argC m c) (argD m c) (argW m c) (argP m c) (argN m c) (argU m c) (argH m c) (argZ m c) b r n := by
  have h : mm (V6 m ρ c main_v20_1) (V6 m ρ c main_v13) (ix2 (⟨b.val * 64 + r.val, by omega⟩ : Fin 1024) n)
      = ∑ i : Fin 4096, finX (argX m c) (argC m c) (argD m c) (argW m c) (argN m c) b r i * argZ m c (ix3 (1 : Fin 2) i n) :=
    mm_eq _ _ _ _ _ _ (fun i => x1b_apply m ρ c b r i) (fun i => (congrFun (((((W6_of m ρ c main_v13 (by decide)).trans (W5_of m ρ c main_v13 (by decide))).trans (W4_of m ρ c main_v13 (by decide))).trans (W3_of m ρ c main_v13 (by decide))).trans (W2_of m ρ c main_v13 (by decide))) _).trans (wgate1_apply m ρ c i n))
  exact (congrFun ((W7_arr m ρ c 4).trans (final3_4 (V6 m ρ) c)) _).trans
    (congr (congrArg₂ gateEntry (x1_apply m ρ c b r n) (emb_apply m ρ c b r n)) h)

end Cert.Proof.FinishS

end
-- ==== Proof.FinishSFinal.lean ====
/-
  The second layer's end on the sample batch: the kernel's result is the reference's.
-/
module

public import proofs.«01_k».proof.Proof.FinishSValue
public import proofs.«01_k».proof.Proof.FinishSRun
public import proofs.«01_k».proof.Proof.FinishSRef

@[expose] public section

set_option maxRecDepth 16384

noncomputable section

namespace Cert.Proof.FinishS

open Cert.FinishSIdeal Cert.FinishSIdeal.Gen Cert.Proof.Layer Idealize.ShloMosaic Idealize.ShloMosaic.TcCoe Idealize.SL.Sem Idealize.ShloMosaic.StableHlo

variable (m : (ℓ : Loc nD τ sig) → Buf (Elt Ideal) ℓ) (ρ : Dev nD → PrngReg)

/-- The layer's output is the reference's. -/
theorem res_out (c : Dev nD) : (show Vec Ideal S16x64x4096 .f32 from W8 m ρ c (Proc.devRef .tc main_v25)) = refOut (argX m c) (argC m c) (argD m c) (argW m c) (argP m c) (argN m c) (argU m c) (argH m c) (argZ m c) := by
  funext y
  obtain ⟨b, r, n, rfl⟩ := exists_ix3 (a := 16) (b := 64) (d := 4096) y
  have e : (show Vec Ideal S16x64x4096 .f32 from W8 m ρ c (Proc.devRef .tc main_v25)) (ix3 b r n)
      = (show Vec Ideal S1024x4096 .f32 from W7 m ρ c (Proc.devRef .tc main_v24)) (ix2 (⟨b.val * 64 + r.val, by omega⟩ : Fin 1024) n) := by
    after_results_simp
    pointwise
    try blk_ext
  exact e.trans ((out_apply m ρ c b r n).trans (refOut_apply _ _ _ _ _ _ _ _ _ b r n).symm)

/-- From equal arguments the reference's output is that of the kernel's arguments. -/
theorem runOut_eq (m' : (ℓ : Loc Cert.FinishSRefIdeal.nD Cert.FinishSRefIdeal.τ Cert.FinishSRefIdeal.sig) → Buf (Elt Ideal) ℓ) (c : Dev nD)
    (h0 : m' ((c.tc : Thread Cert.FinishSRefIdeal.nD Cert.FinishSRefIdeal.τ).loc Cert.FinishSRefIdeal.main_arg0) = m ((c.tc : Thread nD τ).loc main_arg0))
    (h1 : m' ((c.tc : Thread Cert.FinishSRefIdeal.nD Cert.FinishSRefIdeal.τ).loc Cert.FinishSRefIdeal.main_arg1) = m ((c.tc : Thread nD τ).loc main_arg1))
    (h2 : m' ((c.tc : Thread Cert.FinishSRefIdeal.nD Cert.FinishSRefIdeal.τ).loc Cert.FinishSRefIdeal.main_arg2) = m ((c.tc : Thread nD τ).loc main_arg2))
    (h3 : m' ((c.tc : Thread Cert.FinishSRefIdeal.nD Cert.FinishSRefIdeal.τ).loc Cert.FinishSRefIdeal.main_arg3) = m ((c.tc : Thread nD τ).loc main_arg3))
    (h4 : m' ((c.tc : Thread Cert.FinishSRefIdeal.nD Cert.FinishSRefIdeal.τ).loc Cert.FinishSRefIdeal.main_arg4) = m ((c.tc : Thread nD τ).loc main_arg4))
    (h5 : m' ((c.tc : Thread Cert.FinishSRefIdeal.nD Cert.FinishSRefIdeal.τ).loc Cert.FinishSRefIdeal.main_arg5) = m ((c.tc : Thread nD τ).loc main_arg5))
    (h6 : m' ((c.tc : Thread Cert.FinishSRefIdeal.nD Cert.FinishSRefIdeal.τ).loc Cert.FinishSRefIdeal.main_arg6) = m ((c.tc : Thread nD τ).loc main_arg6))
    (h7 : m' ((c.tc : Thread Cert.FinishSRefIdeal.nD Cert.FinishSRefIdeal.τ).loc Cert.FinishSRefIdeal.main_arg7) = m ((c.tc : Thread nD τ).loc main_arg7))
    (h8 : m' ((c.tc : Thread Cert.FinishSRefIdeal.nD Cert.FinishSRefIdeal.τ).loc Cert.FinishSRefIdeal.main_arg8) = m ((c.tc : Thread nD τ).loc main_arg8)) :
    runOut m' c = refOut (argX m c) (argC m c) (argD m c) (argW m c) (argP m c) (argN m c) (argU m c) (argH m c) (argZ m c) :=
  congr (congr (congr (congr (congr (congr (congr (congr (congrArg refOut h0) h1) h2) h3) h4) h5) h6) h7) h8

end Cert.Proof.FinishS

end
-- ==== Proof.DiffMath.lean ====
/-
  The arithmetic of an online softmax over the extended reals: the running maximum of the scores, the mass and the
  weighted sum relative to it, what a new block of scores does to the three, and how the quotient of the weighted sums
  becomes the sum by the normalised weights.
-/
module

public import Idealize.ShloMosaic.Lib.Pipeline.ValueKit

@[expose] public section

noncomputable section

namespace Cert.Proof.Diff

open Idealize.ShloMosaic

/-- The largest of the first `n` scores. -/
def top (z : ℕ → EReal) (n : ℕ) : EReal := (Finset.range n).sup z

/-- The mass of the first `n` scores relative to `M`. -/
def mass (z : ℕ → EReal) (M : EReal) (n : ℕ) : EReal := ∑ s ∈ Finset.range n, Ideal.exp (z s - M)

/-- The values weighted by the first `n` scores relative to `M`. -/
def pull (z v : ℕ → EReal) (M : EReal) (n : ℕ) : EReal := ∑ s ∈ Finset.range n, Ideal.exp (z s - M) * v s

theorem le_top (z : ℕ → EReal) {n s : ℕ} (hs : s < n) : z s ≤ top z n := Finset.le_sup (f := z) (Finset.mem_range.2 hs)

theorem top_mono (z : ℕ → EReal) {n n' : ℕ} (h : n ≤ n') : top z n ≤ top z n' :=
  Finset.sup_mono (Finset.range_mono h)

theorem top_ne_top {z : ℕ → EReal} (hz : ∀ s, z s ≠ ⊤) (n : ℕ) : top z n ≠ ⊤ :=
  ((Finset.sup_lt_iff _root_.bot_lt_top).2 fun s _ => lt_top_iff_ne_top.2 (hz s)).ne

/-- The exponential is never negative. -/
theorem exp_nonneg (x : EReal) : 0 ≤ Ideal.exp x := by
  induction x with
  | bot => exact le_rfl
  | top => exact le_top'
  | coe r => exact EReal.coe_nonneg.2 (Real.exp_pos r).le
where le_top' : (0 : EReal) ≤ ⊤ := _root_.le_top

/-- The difference of a smaller and a larger value below plus infinity is below plus infinity. -/
theorem sub_ne_top {M M' : EReal} (h : M ≤ M') (ht : M' ≠ ⊤) : M - M' ≠ ⊤ := by
  induction M' with
  | bot => rw [le_bot_iff.1 h]; exact _root_.bot_ne_top
  | top => exact absurd rfl ht
  | coe r =>
    induction M with
    | bot => exact _root_.bot_ne_top
    | top => exact absurd (top_le_iff.1 h) ht
    | coe q => rw [← EReal.coe_sub]; exact EReal.coe_ne_top _

theorem exp_ne_top {x : EReal} (h : x ≠ ⊤) : Ideal.exp x ≠ ⊤ := by
  induction x with
  | bot => exact EReal.zero_ne_top
  | top => exact absurd rfl h
  | coe r => exact EReal.coe_ne_top _

/-- Moving a weight to a larger maximum. -/
theorem exp_shift {x M M' : EReal} (hx : x ≤ M) (h : M ≤ M') (ht : M' ≠ ⊤) :
    Ideal.exp (M - M') * Ideal.exp (x - M) = Ideal.exp (x - M') := by
  induction M' with
  | bot =>
    obtain rfl := le_bot_iff.1 h
    obtain rfl := le_bot_iff.1 hx
    rw [EReal.bot_sub, Ideal.exp_bot, zero_mul]
  | top => exact absurd rfl ht
  | coe r =>
    induction M with
    | bot =>
      obtain rfl := le_bot_iff.1 hx
      rw [EReal.bot_sub, EReal.bot_sub, Ideal.exp_bot, zero_mul]
    | top => exact absurd (top_le_iff.1 h) ht
    | coe q =>
      induction x with
      | bot => rw [EReal.bot_sub, EReal.bot_sub, Ideal.exp_bot, mul_zero]
      | top => exact absurd (top_le_iff.1 hx) (EReal.coe_ne_top q)
      | coe y =>
        rw [← EReal.coe_sub, ← EReal.coe_sub, ← EReal.coe_sub, Ideal.exp_coe, Ideal.exp_coe, Ideal.exp_coe, ← EReal.coe_mul,
          ← Real.exp_add]
        congr 2
        ring

/-- A factor that is neither negative nor plus infinity distributes over a sum. -/
theorem mul_sum_of {c : EReal} (h0 : 0 ≤ c) (ht : c ≠ ⊤) (f : ℕ → EReal) (n : ℕ) :
    c * ∑ s ∈ Finset.range n, f s = ∑ s ∈ Finset.range n, c * f s := by
  induction n with
  | zero => simp
  | succ n ih => rw [Finset.sum_range_succ, Finset.sum_range_succ, EReal.left_distrib_of_nonneg_of_ne_top h0 ht, ih]

/-- The mass relative to a larger maximum. -/
theorem mass_shift {z : ℕ → EReal} {M M' : EReal} {n : ℕ} (hz : ∀ s < n, z s ≤ M) (h : M ≤ M') (ht : M' ≠ ⊤) :
    Ideal.exp (M - M') * mass z M n = mass z M' n := by
  unfold mass
  rw [mul_sum_of (exp_nonneg _) (exp_ne_top (sub_ne_top h ht))]
  exact Finset.sum_congr rfl fun s hs => exp_shift (hz s (Finset.mem_range.1 hs)) h ht

/-- The weighted sum relative to a larger maximum. -/
theorem pull_shift {z v : ℕ → EReal} {M M' : EReal} {n : ℕ} (hz : ∀ s < n, z s ≤ M) (h : M ≤ M') (ht : M' ≠ ⊤) :
    Ideal.exp (M - M') * pull z v M n = pull z v M' n := by
  unfold pull
  rw [mul_sum_of (exp_nonneg _) (exp_ne_top (sub_ne_top h ht))]
  refine Finset.sum_congr rfl fun s hs => ?_
  rw [← mul_assoc, exp_shift (hz s (Finset.mem_range.1 hs)) h ht]

/-- A block of 256 terms after the first `256 b`. -/
theorem sum_append (f : ℕ → EReal) (b : ℕ) :
    ∑ s ∈ Finset.range (256 * b), f s + ∑ x : Fin 256, f (256 * b + x.val) = ∑ s ∈ Finset.range (256 * (b + 1)), f s := by
  rw [show 256 * (b + 1) = 256 * b + 256 by ring, Finset.sum_range_add, Fin.sum_univ_eq_sum_range (fun x => f (256 * b + x))]

/-- The maximum extended by a block of 256 scores. -/
theorem top_append (z : ℕ → EReal) (b : ℕ) :
    max (top z (256 * b)) ((Finset.univ : Finset (Fin 256)).fold max ⊥ fun x => z (256 * b + x.val)) = top z (256 * (b + 1)) := by
  show top z (256 * b) ⊔ (Finset.univ : Finset (Fin 256)).sup (fun x => z (256 * b + x.val)) = _
  refine le_antisymm (sup_le (top_mono z (by omega)) (Finset.sup_le fun x _ => le_top z (by have := x.isLt; omega))) ?_
  refine Finset.sup_le fun s hs => ?_
  have hs' := Finset.mem_range.1 hs
  by_cases h : s < 256 * b
  · exact (le_top z h).trans le_sup_left
  · refine le_trans ?_ le_sup_right
    have := Finset.le_sup (f := fun x : Fin 256 => z (256 * b + x.val)) (Finset.mem_univ ⟨s - 256 * b, by omega⟩)
    rwa [show 256 * b + (⟨s - 256 * b, by omega⟩ : Fin 256).val = s by show 256 * b + (s - 256 * b) = s; omega] at this

/-- The mass extended by a block of 256 scores. -/
theorem mass_append {z : ℕ → EReal} (hz : ∀ s, z s ≠ ⊤) (b : ℕ) :
    Ideal.exp (top z (256 * b) - top z (256 * (b + 1))) * mass z (top z (256 * b)) (256 * b)
      + ∑ x : Fin 256, Ideal.exp (z (256 * b + x.val) - top z (256 * (b + 1)))
      = mass z (top z (256 * (b + 1))) (256 * (b + 1)) := by
  rw [mass_shift (fun s hs => le_top z hs) (top_mono z (by omega)) (top_ne_top hz _)]
  exact sum_append (fun s => Ideal.exp (z s - top z (256 * (b + 1)))) b

/-- The weighted sum extended by a block of 256 scores. -/
theorem pull_append {z : ℕ → EReal} (v : ℕ → EReal) (hz : ∀ s, z s ≠ ⊤) (b : ℕ) :
    Ideal.exp (top z (256 * b) - top z (256 * (b + 1))) * pull z v (top z (256 * b)) (256 * b)
      + ∑ x : Fin 256, Ideal.exp (z (256 * b + x.val) - top z (256 * (b + 1))) * v (256 * b + x.val)
      = pull z v (top z (256 * (b + 1))) (256 * (b + 1)) := by
  rw [pull_shift (fun s hs => le_top z hs) (top_mono z (by omega)) (top_ne_top hz _)]
  exact sum_append (fun s => Ideal.exp (z s - top z (256 * (b + 1))) * v s) b

/-! ## Keys that are not seen -/

/-- Scores of minus infinity past the first `n` change neither the maximum, the mass nor the weighted sum. -/
theorem top_extend {z : ℕ → EReal} {n n' : ℕ} (h : n ≤ n') (hz : ∀ s, n ≤ s → z s = ⊥) : top z n = top z n' := by
  refine le_antisymm (top_mono z h) (Finset.sup_le fun s hs => ?_)
  by_cases hs' : s < n
  · exact le_top z hs'
  · rw [hz s (by omega)]; exact bot_le

theorem mass_extend {z : ℕ → EReal} {n n' : ℕ} (M : EReal) (h : n ≤ n') (hz : ∀ s, n ≤ s → z s = ⊥) : mass z M n = mass z M n' := by
  refine Finset.sum_subset (Finset.range_mono h) fun s _ hs => ?_
  rw [hz s (by simpa using hs), EReal.bot_sub, Ideal.exp_bot]

theorem pull_extend {z : ℕ → EReal} {n n' : ℕ} (v : ℕ → EReal) (M : EReal) (h : n ≤ n') (hz : ∀ s, n ≤ s → z s = ⊥) :
    pull z v M n = pull z v M n' := by
  refine Finset.sum_subset (Finset.range_mono h) fun s _ hs => ?_
  rw [hz s (by simpa using hs), EReal.bot_sub, Ideal.exp_bot, zero_mul]

/-! ## The quotient -/

/-- An extended real that is finite. -/
def Fin' (x : EReal) : Prop := ∃ r : ℝ, x = (r : EReal)

theorem fin_of {x : EReal} (h1 : x ≠ ⊤) (h2 : x ≠ ⊥) : Fin' x := ⟨x.toReal, (EReal.coe_toReal h1 h2).symm⟩

theorem Fin'.ne_top {x : EReal} (h : Fin' x) : x ≠ ⊤ := by obtain ⟨r, rfl⟩ := h; exact EReal.coe_ne_top r

theorem Fin'.ne_bot {x : EReal} (h : Fin' x) : x ≠ ⊥ := by obtain ⟨r, rfl⟩ := h; exact EReal.coe_ne_bot r

theorem Fin'.mul {x y : EReal} (hx : Fin' x) (hy : Fin' y) : Fin' (x * y) := by
  obtain ⟨r, rfl⟩ := hx
  obtain ⟨q, rfl⟩ := hy
  exact ⟨r * q, (EReal.coe_mul r q).symm⟩

theorem Fin'.add {x y : EReal} (hx : Fin' x) (hy : Fin' y) : Fin' (x + y) := by
  obtain ⟨r, rfl⟩ := hx
  obtain ⟨q, rfl⟩ := hy
  exact ⟨r + q, (EReal.coe_add r q).symm⟩

theorem Fin'.sub {x y : EReal} (hx : Fin' x) (hy : Fin' y) : Fin' (x - y) := by
  obtain ⟨r, rfl⟩ := hx
  obtain ⟨q, rfl⟩ := hy
  exact ⟨r - q, (EReal.coe_sub r q).symm⟩

theorem Fin'.exp {x : EReal} (hx : Fin' x) : Fin' (Ideal.exp x) := by
  obtain ⟨r, rfl⟩ := hx
  exact ⟨Real.exp r, rfl⟩

theorem Fin'.sum {ι : Type} (t : Finset ι) (f : ι → EReal) (h : ∀ i, Fin' (f i)) : Fin' (∑ i ∈ t, f i) := by
  classical
  induction t using Finset.induction_on with
  | empty => exact ⟨0, by simp⟩
  | insert a t ha ih => rw [Finset.sum_insert ha]; exact (h a).add ih

/-- A score is minus infinity or finite; with one finite score the maximum is finite, the weights are real numbers, and
    the mass is a positive one. -/
theorem weights {z : ℕ → EReal} {n s₀ : ℕ} (hz : ∀ s, z s ≠ ⊤) (h0 : s₀ < n) (hs : z s₀ ≠ ⊥) :
    ∃ (p : ℕ → ℝ) (L : ℝ), (∀ s, Ideal.exp (z s - top z n) = (p s : EReal)) ∧ mass z (top z n) n = (L : EReal)
      ∧ L ≠ 0 := by
  have hM : Fin' (top z n) := fin_of (top_ne_top hz n) fun h => hs (le_bot_iff.1 (h ▸ le_top z h0))
  obtain ⟨M, hM⟩ := hM
  have hp : ∀ s, ∃ r : ℝ, Ideal.exp (z s - top z n) = (r : EReal) ∧ 0 ≤ r ∧ (z s ≠ ⊥ → 0 < r) := fun s => by
    rw [hM]
    by_cases h : z s = ⊥
    · exact ⟨0, by rw [h, EReal.bot_sub, Ideal.exp_bot, EReal.coe_zero], le_rfl, fun h' => absurd h h'⟩
    · obtain ⟨r, hr⟩ := fin_of (hz s) h
      exact ⟨Real.exp (r - M), by rw [hr, ← EReal.coe_sub, Ideal.exp_coe], (Real.exp_pos _).le, fun _ => Real.exp_pos _⟩
  choose p hp using hp
  refine ⟨p, ∑ s ∈ Finset.range n, p s, fun s => (hp s).1, ?_, ?_⟩
  · unfold mass
    rw [Finset.sum_congr rfl fun s _ => (hp s).1]
    exact (map_sum (⟨⟨fun x : ℝ => (x : EReal), EReal.coe_zero⟩, EReal.coe_add⟩ : ℝ →+ EReal) p _).symm
  · exact ((Finset.sum_pos' (fun s _ => (hp s).2.1) ⟨s₀, Finset.mem_range.2 h0, (hp s₀).2.2 hs⟩)).ne'

/-- A sum of real numbers is one. -/
theorem coe_sum (f : ℕ → ℝ) (n : ℕ) : ∑ s ∈ Finset.range n, (f s : EReal) = ((∑ s ∈ Finset.range n, f s : ℝ) : EReal) :=
  (map_sum (⟨⟨fun x : ℝ => (x : EReal), EReal.coe_zero⟩, EReal.coe_add⟩ : ℝ →+ EReal) f _).symm

/-- The difference of the two quotients of weighted sums is the sum weighted by the difference of the normalised
    weights. -/
theorem combine {z0 z1 v : ℕ → EReal} {n s0 s1 : ℕ} {lam : EReal} (hz0 : ∀ s, z0 s ≠ ⊤) (hz1 : ∀ s, z1 s ≠ ⊤)
    (h0 : s0 < n) (hs0 : z0 s0 ≠ ⊥) (h1 : s1 < n) (hs1 : z1 s1 ≠ ⊥) (hv : ∀ s, Fin' (v s)) (hl : Fin' lam) :
    Ideal.div (pull z0 v (top z0 n) n) (mass z0 (top z0 n) n) - lam * Ideal.div (pull z1 v (top z1 n) n) (mass z1 (top z1 n) n)
      = ∑ s ∈ Finset.range n, v s * (Ideal.div (Ideal.exp (z0 s - top z0 n)) (mass z0 (top z0 n) n)
          - lam * Ideal.div (Ideal.exp (z1 s - top z1 n)) (mass z1 (top z1 n) n)) := by
  obtain ⟨p0, L0, hp0, hL0, hn0⟩ := weights hz0 h0 hs0
  obtain ⟨p1, L1, hp1, hL1, hn1⟩ := weights hz1 h1 hs1
  obtain ⟨l, rfl⟩ := hl
  choose w hw using hv
  obtain rfl : v = fun s => (w s : EReal) := funext hw
  unfold pull
  simp only [hL0, hL1, hp0, hp1, Ideal.div_coe hn0, Ideal.div_coe hn1, ← EReal.coe_mul, ← EReal.coe_sub, coe_sum]
  congr 1
  simp only [mul_sub, Finset.sum_sub_distrib, Finset.sum_mul, Finset.mul_sum]
  congr 1
  · exact Finset.sum_congr rfl fun s _ => by ring
  · exact Finset.sum_congr rfl fun s _ => by ring

end Cert.Proof.Diff

end
-- ==== Proof.DiffFine.lean ====
/-
  Differential attention at an index: the scores, the values, the mixing weight, and what the finite arguments make of
  them.
-/
module

public import proofs.«01_k».proof.Proof.DiffMath
public import Idealize.ShloMosaic.Lib.Pipeline.ValueKit

@[expose] public section

set_option maxRecDepth 16384

noncomputable section

namespace Cert.Proof.Diff

open Idealize.ShloMosaic Idealize.ShloMosaic.TcCoe

/-- The score of half `c` of head `h`, query `R`, at key `s`: minus infinity at a key not seen. -/
def score (q : (⟨3, ![1, 8192, 5120]⟩ : Shape).Idx → EReal) (kv : (⟨3, ![1, 8192, 4096]⟩ : Shape).Idx → EReal)
    (b : (⟨4, ![3, 8, 256, 256]⟩ : Shape).Idx → EReal) (h : Fin 8) (c : Fin 2) (R : Fin 8192) (s : ℕ) : EReal :=
  if hs : s < 8192 then if s / 64 ≤ R.val / 64 then
      (∑ x : Fin 128, q (ix3 (0 : Fin 1) R (⟨3072 + (h.val * 256 + c.val * 128 + x.val), by omega⟩ : Fin 5120))
        * kv (ix3 (0 : Fin 1) (⟨s, hs⟩ : Fin 8192) (⟨h.val * 256 + c.val * 128 + x.val, by omega⟩ : Fin 4096))) * Ideal.ofBits FTy.f32 1035273459#32
      + b (ix4 (⟨min (R.val / 256 - s / 256) 2, by omega⟩ : Fin 3) h (⟨R.val % 256, by omega⟩ : Fin 256) (⟨s % 256, by omega⟩ : Fin 256))
    else ⊥
  else ⊥

/-- The value of lane `d` of head `h` at key `s` (zero past the last key). -/
def value (kv : (⟨3, ![1, 8192, 4096]⟩ : Shape).Idx → EReal) (h : Fin 8) (d : Fin 256) (s : ℕ) : EReal :=
  if hs : s < 8192 then kv (ix3 (0 : Fin 1) (⟨s, hs⟩ : Fin 8192) (⟨2048 + (h.val * 256 + d.val), by omega⟩ : Fin 4096)) else 0

/-- The mixing weight of its parameters. -/
def lam (l : (⟨3, ![1, 4, 128]⟩ : Shape).Idx → EReal) : EReal :=
  Ideal.exp (∑ x : Fin 128, l (ix3 (0 : Fin 1) (0 : Fin 4) x) * l (ix3 (0 : Fin 1) (1 : Fin 4) x))
    - Ideal.exp (∑ x : Fin 128, l (ix3 (0 : Fin 1) (2 : Fin 4) x) * l (ix3 (0 : Fin 1) (3 : Fin 4) x)) + Ideal.ofBits FTy.f32 1045220557#32

/-- The difference of two softmaxes' sums of the values, the second times `w`. -/
def mixed (z0 z1 v : ℕ → EReal) (w : EReal) : EReal :=
  Ideal.div (pull z0 v (top z0 8192) 8192) (mass z0 (top z0 8192) 8192) - w * Ideal.div (pull z1 v (top z1 8192) 8192) (mass z1 (top z1 8192) 8192)

/-- A row divided by its root mean square, at lane `d`, scaled and gated. -/
def normed (o : Fin 256 → EReal) (d : Fin 256) (w g : EReal) : EReal :=
  o d * Ideal.rsqrt (Ideal.div (∑ x : Fin 256, o x * o x) (Ideal.ofBits FTy.f32 1132462080#32) + Ideal.ofBits FTy.f32 897988541#32) * w
    * Ideal.ofBits FTy.f32 1061997773#32 * (g * Ideal.div 1 (1 + Ideal.exp (0 - g)))

/-! ## The finite arguments -/

/-- What the precondition says of the arguments: the queries, the keys and values, the bias tiles and the mixing weight's
    parameters are finite. -/
structure Fine (q : (⟨3, ![1, 8192, 5120]⟩ : Shape).Idx → EReal) (kv : (⟨3, ![1, 8192, 4096]⟩ : Shape).Idx → EReal)
    (b : (⟨4, ![3, 8, 256, 256]⟩ : Shape).Idx → EReal) (l : (⟨3, ![1, 4, 128]⟩ : Shape).Idx → EReal) : Prop where
  q : ∀ (R : Fin 8192) (e : Fin 2048), Fin' (q (ix3 (0 : Fin 1) R (⟨3072 + e.val, by omega⟩ : Fin 5120)))
  kv : ∀ (R : Fin 8192) (e : Fin 4096), Fin' (kv (ix3 (0 : Fin 1) R e))
  b : ∀ (n : Fin 3) (h : Fin 8) (r c : Fin 256), Fin' (b (ix4 n h r c))
  l : ∀ (n : Fin 4) (x : Fin 128), Fin' (l (ix3 (0 : Fin 1) n x))

section
variable {q : (⟨3, ![1, 8192, 5120]⟩ : Shape).Idx → EReal} {kv : (⟨3, ![1, 8192, 4096]⟩ : Shape).Idx → EReal}
  {b : (⟨4, ![3, 8, 256, 256]⟩ : Shape).Idx → EReal} {l : (⟨3, ![1, 4, 128]⟩ : Shape).Idx → EReal}

theorem lit_scale : Fin' (Ideal.ofBits FTy.f32 1035273459#32) := by
  have e : Ideal.ofBits FTy.f32 1035273459#32 = ((11863283 : ℝ) : EReal) * (((2 ^ 27)⁻¹ : ℝ) : EReal) := by simp [Ideal.ofBits, Ideal.ieee]
  exact e ▸ Fin'.mul ⟨_, rfl⟩ ⟨_, rfl⟩

theorem lit_lam : Fin' (Ideal.ofBits FTy.f32 1045220557#32) := by
  have e : Ideal.ofBits FTy.f32 1045220557#32 = ((13421773 : ℝ) : EReal) * (((2 ^ 26)⁻¹ : ℝ) : EReal) := by simp [Ideal.ofBits, Ideal.ieee]
  exact e ▸ Fin'.mul ⟨_, rfl⟩ ⟨_, rfl⟩

/-- A seen key's score is finite. -/
theorem Fine.seen (f : Fine q kv b l) (h : Fin 8) (c : Fin 2) (R : Fin 8192) (s : ℕ) (hs : s < 8192) (hv : s / 64 ≤ R.val / 64) :
    Fin' (score q kv b h c R s) := by
  unfold score
  rw [dif_pos hs, if_pos hv]
  refine Fin'.add (Fin'.mul (Fin'.sum _ _ fun x => Fin'.mul ?_ ?_) lit_scale) (f.b _ _ _ _)
  · exact f.q R ⟨h.val * 256 + c.val * 128 + x.val, by omega⟩
  · exact f.kv _ _

/-- No score is plus infinity. -/
theorem Fine.score (f : Fine q kv b l) (h : Fin 8) (c : Fin 2) (R : Fin 8192) (s : ℕ) : score q kv b h c R s ≠ ⊤ := by
  by_cases hs : s < 8192
  · by_cases hv : s / 64 ≤ R.val / 64
    · exact (f.seen h c R s hs hv).ne_top
    · unfold Diff.score
      rw [dif_pos hs, if_neg hv]
      exact _root_.bot_ne_top
  · unfold Diff.score
    rw [dif_neg hs]
    exact _root_.bot_ne_top

/-- The values are finite. -/
theorem Fine.value (f : Fine q kv b l) (h : Fin 8) (d : Fin 256) (s : ℕ) : Fin' (value kv h d s) := by
  unfold Diff.value
  by_cases hs : s < 8192
  · rw [dif_pos hs]
    exact f.kv _ _
  · rw [dif_neg hs]
    exact ⟨0, rfl⟩

/-- The mixing weight is finite. -/
theorem Fine.lam (f : Fine q kv b l) : Fin' (lam l) :=
  (((Fin'.sum _ _ fun x => (f.l _ x).mul (f.l _ x)).exp).sub ((Fin'.sum _ _ fun x => (f.l _ x).mul (f.l _ x)).exp)).add lit_lam

end

end Cert.Proof.Diff

end
-- ==== Proof.DiffPre.lean ====
/-
  What the precondition's comparisons say of the arguments.
-/
module

public import proofs.«01_k».proof.Proof.DiffFine
public import proofs.«01_k».proof.Defs

@[expose] public section

set_option maxRecDepth 16384

noncomputable section

namespace Cert.Proof.Diff

open Idealize.ShloMosaic Idealize.ShloMosaic.TcCoe Idealize.SL.Sem

/-- The shape relations of the precondition's operations. -/
theorem pre_facts : Cert.Pre_finite.Facts :=
  ⟨by decide, by decide, by decide, by decide, by decide, by decide⟩

/-- A value whose magnitude is below plus infinity is finite. -/
theorem fin_abs (x : EReal) (h : BitVec.ofBool (decide ((FloatOps.absf (F := Ideal) (φ := .f32) x : EReal) < Ideal.ofBits FTy.f32 2139095040#32)) = 1#1) : Fin' x := by
  have e : Ideal.ofBits FTy.f32 2139095040#32 = ⊤ := by simp [Ideal.ofBits, Ideal.ieee]
  have h' : max x (-x) < ⊤ := by
    by_contra hn
    have hd : decide ((FloatOps.absf (F := Ideal) (φ := .f32) x : EReal) < Ideal.ofBits FTy.f32 2139095040#32) = false :=
      decide_eq_false (e.symm ▸ hn)
    rw [hd] at h
    exact absurd h (by decide)
  refine fin_of ?_ ?_
  · exact (lt_of_le_of_lt (le_max_left _ _) h').ne
  · rintro rfl
    exact absurd h' (by simp)

section
variable [Cert.Pre_finite.Facts] {q : (⟨3, ![1, 8192, 5120]⟩ : Shape).Idx → EReal} {kv g : (⟨3, ![1, 8192, 4096]⟩ : Shape).Idx → EReal}
  {b : (⟨4, ![3, 8, 256, 256]⟩ : Shape).Idx → EReal} {l : (⟨3, ![1, 4, 128]⟩ : Shape).Idx → EReal} {w : (⟨2, ![1, 256]⟩ : Shape).Idx → EReal}

/-- The queries are finite. -/
theorem pre_q (hp : (Cert.Pre_finite.fn (F := Ideal) q kv g b l w).1 = fun _ => 1#1) (R : Fin 8192) (e : Fin 2048) :
    Fin' (q (ix3 (0 : Fin 1) R (⟨3072 + e.val, by omega⟩ : Fin 5120))) := by
  refine fin_abs _ (Eq.trans (Eq.symm ?_) (congrFun hp (ix3 (0 : Fin 1) R e)))
  pointwise [Cert.Pre_finite.fn]

/-- The keys and values are finite. -/
theorem pre_kv (hp : (Cert.Pre_finite.fn (F := Ideal) q kv g b l w).2.1 = fun _ => 1#1) (R : Fin 8192) (e : Fin 4096) :
    Fin' (kv (ix3 (0 : Fin 1) R e)) := by
  refine fin_abs _ (Eq.trans (Eq.symm ?_) (congrFun hp (ix3 (0 : Fin 1) R e)))
  pointwise [Cert.Pre_finite.fn]

/-- The bias tiles are finite. -/
theorem pre_b (hp : (Cert.Pre_finite.fn (F := Ideal) q kv g b l w).2.2.1 = fun _ => 1#1) (n : Fin 3) (h : Fin 8) (r c : Fin 256) :
    Fin' (b (ix4 n h r c)) := by
  refine fin_abs _ (Eq.trans (Eq.symm ?_) (congrFun hp (ix4 n h r c)))
  pointwise [Cert.Pre_finite.fn]

/-- The mixing weight's parameters are finite. -/
theorem pre_l (hp : (Cert.Pre_finite.fn (F := Ideal) q kv g b l w).2.2.2 = fun _ => 1#1) (n : Fin 4) (x : Fin 128) :
    Fin' (l (ix3 (0 : Fin 1) n x)) := by
  refine fin_abs _ (Eq.trans (Eq.symm ?_) (congrFun hp (ix3 (0 : Fin 1) n x)))
  pointwise [Cert.Pre_finite.fn]

end

/-- The precondition makes the arguments of the kernel finite. -/
theorem fine [Cert.Pre_finite.Facts]
    (m : (ℓ : Loc Cert.DiffIdeal.nD Cert.DiffIdeal.τ Cert.DiffIdeal.sig) → Buf (Elt Ideal) ℓ) (h : Cert.Pre_DiffIdeal_finite m)
    (c : Dev Cert.DiffIdeal.nD) :
    Fine (m ((c.tc : Thread Cert.DiffIdeal.nD Cert.DiffIdeal.τ).loc Cert.DiffIdeal.main_arg0))
      (m ((c.tc : Thread Cert.DiffIdeal.nD Cert.DiffIdeal.τ).loc Cert.DiffIdeal.main_arg1))
      (m ((c.tc : Thread Cert.DiffIdeal.nD Cert.DiffIdeal.τ).loc Cert.DiffIdeal.main_arg3))
      (m ((c.tc : Thread Cert.DiffIdeal.nD Cert.DiffIdeal.τ).loc Cert.DiffIdeal.main_arg4)) :=
  ⟨pre_q (h c).1, pre_kv (h c).2.1, pre_b (h c).2.2.1, pre_l (h c).2.2.2⟩

end Cert.Proof.Diff

end
-- ==== Proof.DiffLoop.lean ====
/-
  The differential attention kernel's scratch buffers read back: each holds both halves' running maximum, mass or
  weighted sum of the values. A key tile updates one half after the other, so after `n` trips the three buffers hold the
  `n`-th term of a plain recursion, and the block the kernel leaves is the gated, normalised difference of the two
  quotients that the recursion ends at after the diagonal tile.
-/
module

public import proofs.«01_k».proof.Proof.Gen.DiffIdeal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Proof.Diff

open Cert.DiffIdeal Cert.DiffIdeal.Gen Idealize.ShloMosaic Idealize.ShloMosaic.TcCoe Idealize.SL.Sem

variable {F : FTy → Type} [FloatOps F] [Named F]

/-- The query block's number as the kernel computes it. -/
abbrev rowBlock (i : grid0.Coords) : BitVec 32 :=
  Scalar.addi (0#32) (Scalar.muli (BitVec.ofNat 32 (i 2).val) 1#32)

/-- The three scratch buffers: the running maxima, the masses, the weighted sums, each of both halves. -/
structure Scratch (F : FTy → Type) where
  m : Vec F S2x256x128 .f32
  l : Vec F S2x256x128 .f32
  a : Vec F S2x256x256 .f32

/-- The first half of a buffer of lanes, and of the buffer of sums; the second halves. -/
abbrev low (x : Vec F S2x256x128 .f32) : Vec F S1x256x128 .f32 :=
  View.ld (Val := Elt F) (e' := .f32) x (Rect.unit ![0, 0, 0] S1x256x128.size inb_S2x256x128_S1x256x128_0_0_0)

abbrev high (x : Vec F S2x256x128 .f32) : Vec F S1x256x128 .f32 :=
  View.ld (Val := Elt F) (e' := .f32) x (Rect.unit ![1, 0, 0] S1x256x128.size inb_S2x256x128_S1x256x128_1_0_0)

abbrev lowA (x : Vec F S2x256x256 .f32) : Vec F S1x256x256 .f32 :=
  View.ld (Val := Elt F) (e' := .f32) x (Rect.unit ![0, 0, 0] S1x256x256.size inb_S2x256x256_S1x256x256_0_0_0)

abbrev highA (x : Vec F S2x256x256 .f32) : Vec F S1x256x256 .f32 :=
  View.ld (Val := Elt F) (e' := .f32) x (Rect.unit ![1, 0, 0] S1x256x256.size inb_S2x256x256_S1x256x256_1_0_0)

/-- Both halves updated by a tile of values `v` and of scores `s0` of the first half, `s1` of the second. -/
def both (s0 s1 : FVec F S256x256 .f32) (v : FVec F S256x256 .bf16) (S : Scratch F) : Scratch F where
  m := VecWindow.put (α := F .f32) (VecWindow.put (α := F .f32) S.m ![0, 0, 0] S1x256x128.size (k0_pay61 s0 (low S.m)))
    ![1, 0, 0] S1x256x128.size (k0_pay61 s1 (high S.m))
  l := VecWindow.put (α := F .f32) (VecWindow.put (α := F .f32) S.l ![0, 0, 0] S1x256x128.size (k0_pay59 s0 (low S.m) (low S.l)))
    ![1, 0, 0] S1x256x128.size (k0_pay59 s1 (high S.m) (high S.l))
  a := VecWindow.put (α := F .f32) (VecWindow.put (α := F .f32) S.a ![0, 0, 0] S1x256x256.size (k0_pay60 v s0 (low S.m) (lowA S.a)))
    ![1, 0, 0] S1x256x256.size (k0_pay60 v s1 (high S.m) (highA S.a))

/-- The two halves of the query block. -/
abbrev q0 (x0 : Vec F S1x256x256 .bf16) : Vec F S1x256x128 .bf16 :=
  View.ld (Val := Elt F) (e' := .bf16) x0 (Rect.unit ![0, 0, 0] S1x256x128.size inb_S1x256x256_S1x256x128_0_0_0)

abbrev q1 (x0 : Vec F S1x256x256 .bf16) : Vec F S1x256x128 .bf16 :=
  View.ld (Val := Elt F) (e' := .bf16) x0 (Rect.unit ![0, 0, 128] S1x256x128.size inb_S1x256x256_S1x256x128_0_0_128)

/-- A tile before the diagonal: its bias, its keys' two halves, its values. -/
abbrev tileB (i : grid0.Coords) (x4 : Vec F S3x1x256x256 .f32) (k : Fin (k0_t1_loop i).trips) : FVec F S256x256 .f32 :=
  k0_pay2 (View.ld (Val := Elt F) (e' := .f32) x4 (Rect.unit (k0_off1 i k) S1x1x256x256.size (k0_off1_inb i k)))

abbrev tileV (i : grid0.Coords) (x2 : Vec F S1x8192x256 .bf16) (k : Fin (k0_t1_loop i).trips) : FVec F S256x256 .bf16 :=
  k0_pay45 (View.ld (Val := Elt F) (e' := .bf16) x2 (Rect.unit (k0_off2 i k) S1x256x256.size (k0_off2_inb i k)))

abbrev tileK0 (i : grid0.Coords) (x1 : Vec F S1x8192x256 .bf16) (k : Fin (k0_t1_loop i).trips) : Vec F S1x256x128 .bf16 :=
  View.ld (Val := Elt F) (e' := .bf16) x1 (Rect.unit (k0_off3 i k) S1x256x128.size (k0_off3_inb i k))

abbrev tileK1 (i : grid0.Coords) (x1 : Vec F S1x8192x256 .bf16) (k : Fin (k0_t1_loop i).trips) : Vec F S1x256x128 .bf16 :=
  View.ld (Val := Elt F) (e' := .bf16) x1 (Rect.unit (k0_off4 i k) S1x256x128.size (k0_off4_inb i k))

/-- One trip: the tile's keys and values taken into both halves. -/
def trip (i : grid0.Coords) (x0 : Vec F S1x256x256 .bf16) (x1 x2 : Vec F S1x8192x256 .bf16) (x4 : Vec F S3x1x256x256 .f32) (k : Fin (k0_t1_loop i).trips) (S : Scratch F) : Scratch F :=
  both (k0_pay54 (tileB i x4 k) (tileK0 i x1 k) (q0 x0)) (k0_pay54 (tileB i x4 k) (tileK1 i x1 k) (q1 x0)) (tileV i x2 k) S

/-- The three scratch buffers after `n` trips, from the fill the kernel starts with. -/
def state (i : grid0.Coords) (x0 : Vec F S1x256x256 .bf16) (x1 x2 : Vec F S1x8192x256 .bf16) (x4 : Vec F S3x1x256x256 .f32) : ℕ → Scratch F
  | 0 => ⟨k0_pay33, k0_pay34, k0_pay35⟩
  | n + 1 => if h : n < (k0_t1_loop i).trips then trip i x0 x1 x2 x4 ⟨n, h⟩ (state i x0 x1 x2 x4 n)
      else state i x0 x1 x2 x4 n

/-- The diagonal tile's masked bias, and the scratch buffers after the tile. -/
abbrev diagB (i : grid0.Coords) (x4 : Vec F S3x1x256x256 .f32) : FVec F S256x256 .f32 :=
  k0_pay44 (rowBlock i) (k0_pay32 i) (iota Kind.tc S256x256 32 [1] iota_S256x256_d1_w32)
    (View.ld (Val := Elt F) (e' := .f32) x4 (Rect.unit (k0_off9 i) S1x1x256x256.size (k0_off9_inb i)))

abbrev diagV (i : grid0.Coords) (x2 : Vec F S1x8192x256 .bf16) : FVec F S256x256 .bf16 :=
  k0_pay45 (View.ld (Val := Elt F) (e' := .bf16) x2 (Rect.unit (k0_off10 i) S1x256x256.size (k0_off10_inb i)))

abbrev diagK0 (i : grid0.Coords) (x1 : Vec F S1x8192x256 .bf16) : Vec F S1x256x128 .bf16 :=
  View.ld (Val := Elt F) (e' := .bf16) x1 (Rect.unit (k0_off11 i) S1x256x128.size (k0_off11_inb i))

abbrev diagK1 (i : grid0.Coords) (x1 : Vec F S1x8192x256 .bf16) : Vec F S1x256x128 .bf16 :=
  View.ld (Val := Elt F) (e' := .bf16) x1 (Rect.unit (k0_off12 i) S1x256x128.size (k0_off12_inb i))

def diag (i : grid0.Coords) (x0 : Vec F S1x256x256 .bf16) (x1 x2 : Vec F S1x8192x256 .bf16) (x4 : Vec F S3x1x256x256 .f32) (S : Scratch F) : Scratch F :=
  both (k0_pay54 (diagB i x4) (diagK0 i x1) (q0 x0)) (k0_pay54 (diagB i x4) (diagK1 i x1) (q1 x0)) (diagV i x2) S

/-- A store at an offset over earlier stores, with the offset as it stands. -/
theorem put_store {s : Shape} {e : EltTy} (v : View sig .tc .vmem s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L))
      = VecWindow.put (v.read (Elt F) (v.writes (Elt F) f L)) off size w :=
  View.read_writes_cons_put v f inb w L rfl

section words

variable (i : grid0.Coords) (arg3 : Memref sig .tc .vmem S1x256x256 .bf16) (arg4 arg5 : Memref sig .tc .vmem S1x8192x256 .bf16)
  (arg7 : Memref sig .tc .vmem S3x1x256x256 .f32) (arg11 arg12 : Memref sig .tc .vmem S2x256x128 .f32) (arg13 : Memref sig .tc .vmem S2x256x256 .f32)
  (X3 : BufTy.Contents (Elt F) arg3.view.ty) (X4 : BufTy.Contents (Elt F) arg4.view.ty) (X5 : BufTy.Contents (Elt F) arg5.view.ty)
  (X7 : BufTy.Contents (Elt F) arg7.view.ty) (k : Fin (k0_t1_loop i).trips)
  (f11 : BufTy.Contents (Elt F) arg11.view.ty) (f12 : BufTy.Contents (Elt F) arg12.view.ty) (f13 : BufTy.Contents (Elt F) arg13.view.ty)

/-- A trip's bias and values, and the scores of its two halves. -/
theorem word_v : trip_k0_t1.sl.v207 i arg5 X5 k
    = k0_pay45 (View.ld (Val := Elt F) (e' := .bf16) (arg5.view.read (Elt F) X5) (Rect.unit (k0_off2 i k) S1x256x256.size (k0_off2_inb i k))) := by
  rw [← View.readAt_eq_ld]; rfl

theorem word_s0 : trip_k0_t1.sl.v216 i arg3 arg4 arg7 X3 X4 X7 k
    = k0_pay54 (tileB i (arg7.view.read (Elt F) X7) k) (tileK0 i (arg4.view.read (Elt F) X4) k) (q0 (arg3.view.read (Elt F) X3)) := by
  unfold tileB tileK0 q0
  rw [← View.readAt_eq_ld, ← View.readAt_eq_ld, ← View.readAt_eq_ld]; rfl

theorem word_s1 : trip_k0_t1.sl.v259 i arg3 arg4 arg7 X3 X4 X7 k
    = k0_pay54 (tileB i (arg7.view.read (Elt F) X7) k) (tileK1 i (arg4.view.read (Elt F) X4) k) (q1 (arg3.view.read (Elt F) X3)) := by
  unfold tileB tileK1 q1
  rw [← View.readAt_eq_ld, ← View.readAt_eq_ld, ← View.readAt_eq_ld]; rfl

/-- What a trip stores in the first half, from the half's scores and what the buffers held. -/
theorem word_m0 : trip_k0_t1.sl.v250 i arg3 arg4 arg7 arg11 X3 X4 X7 k f11
    = k0_pay61 (trip_k0_t1.sl.v216 i arg3 arg4 arg7 X3 X4 X7 k) (low (arg11.view.read (Elt F) f11)) := by
  unfold low
  rw [← View.readAt_eq_ld]; rfl

theorem word_l0 : trip_k0_t1.sl.v237 i arg3 arg4 arg7 arg11 arg12 X3 X4 X7 k f11 f12
    = k0_pay59 (trip_k0_t1.sl.v216 i arg3 arg4 arg7 X3 X4 X7 k) (low (arg11.view.read (Elt F) f11)) (low (arg12.view.read (Elt F) f12)) := by
  unfold low
  rw [← View.readAt_eq_ld, ← View.readAt_eq_ld]; rfl

theorem word_a0 : trip_k0_t1.sl.v247 i arg3 arg4 arg5 arg7 arg11 arg13 X3 X4 X5 X7 k f11 f13
    = k0_pay60 (trip_k0_t1.sl.v207 i arg5 X5 k) (trip_k0_t1.sl.v216 i arg3 arg4 arg7 X3 X4 X7 k) (low (arg11.view.read (Elt F) f11)) (lowA (arg13.view.read (Elt F) f13)) := by
  unfold low lowA
  rw [← View.readAt_eq_ld, ← View.readAt_eq_ld]; rfl

/-- The second half's new maximum and the factor of its old terms. -/
theorem word_n1 : trip_k0_t1.sl.v265 i arg3 arg4 arg7 arg11 X3 X4 X7 k f11
    = k0_pay56 (trip_k0_t1.sl.v259 i arg3 arg4 arg7 X3 X4 X7 k) (high (arg11.view.read (Elt F) f11)) := by
  unfold high
  rw [← View.readAt_eq_ld]; rfl

theorem word_f1 : trip_k0_t1.sl.v267 i arg3 arg4 arg7 arg11 X3 X4 X7 k f11
    = k0_pay57 (trip_k0_t1.sl.v259 i arg3 arg4 arg7 X3 X4 X7 k) (high (arg11.view.read (Elt F) f11)) := by
  unfold high
  rw [← View.readAt_eq_ld]; rfl

theorem word_l1 : trip_k0_t1.sl.v271 arg12 f12 = high (arg12.view.read (Elt F) f12) := by
  unfold high
  rw [← View.readAt_eq_ld]; rfl

theorem word_a1 : trip_k0_t1.sl.v284 arg13 f13 = highA (arg13.view.read (Elt F) f13) := by
  unfold highA
  rw [← View.readAt_eq_ld]; rfl

end words

/-- The second half's stores are the first half's functions of its own scores and contents. -/
theorem pay37_eq (s : FVec F S256x256 .f32) (M L : Vec F S1x256x128 .f32) :
    k0_pay37 s (k0_pay56 s M) (k0_pay57 s M) L = k0_pay59 s M L := rfl

theorem pay38_eq (v : FVec F S256x256 .bf16) (s : FVec F S256x256 .f32) (M : Vec F S1x256x128 .f32) (A : Vec F S1x256x256 .f32) :
    k0_pay38 v s (k0_pay56 s M) (k0_pay57 s M) A = k0_pay60 v s M A := rfl

theorem pay39_eq (s : FVec F S256x256 .f32) (M : Vec F S1x256x128 .f32) : k0_pay39 (k0_pay56 s M) = k0_pay61 s M := rfl

/-- What one trip stores, over what it finds: the recursion's next term, in each buffer. -/
theorem trip_pieces (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S3x1x256x256 .f32) (harg7 : arg7.IsWhole) (arg8 : Memref sig .tc .vmem S4x128 .f32) (harg8 : arg8.IsWhole) (arg9 : Memref sig .tc .vmem S1x256 .f32) (harg9 : arg9.IsWhole) (arg10 : Memref sig .tc .vmem S1x256x256 .bf16) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x256x256 .f32) (harg13 : arg13.IsWhole) (v3 : BitVec 32)
    (x0 : Vec F S1x256x256 .bf16) (x1 x2 : Vec F S1x8192x256 .bf16) (x4 : Vec F S3x1x256x256 .f32) (k : Fin (k0_t1_loop i).trips)
    (g11 : BufTy.Contents (Elt F) arg11.view.ty) (g12 : BufTy.Contents (Elt F) arg12.view.ty) (g13 : BufTy.Contents (Elt F) arg13.view.ty)
    (P11 P12 : List (View.Piece (Elt F) S2x256x128 .f32)) (P13 : List (View.Piece (Elt F) S2x256x256 .f32)) :
    arg11.view.read (Elt F) (arg11.view.writes (Elt F) g11 ((tripL_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) k (arg11.view.writes (Elt F) g11 P11) (arg12.view.writes (Elt F) g12 P12) (arg13.view.writes (Elt F) g13 P13)).1 ++ P11))
      = (trip i x0 x1 x2 x4 k ⟨arg11.view.read (Elt F) (arg11.view.writes (Elt F) g11 P11), arg12.view.read (Elt F) (arg12.view.writes (Elt F) g12 P12), arg13.view.read (Elt F) (arg13.view.writes (Elt F) g13 P13)⟩).m
    ∧ arg12.view.read (Elt F) (arg12.view.writes (Elt F) g12 ((tripL_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) k (arg11.view.writes (Elt F) g11 P11) (arg12.view.writes (Elt F) g12 P12) (arg13.view.writes (Elt F) g13 P13)).2.1 ++ P12))
      = (trip i x0 x1 x2 x4 k ⟨arg11.view.read (Elt F) (arg11.view.writes (Elt F) g11 P11), arg12.view.read (Elt F) (arg12.view.writes (Elt F) g12 P12), arg13.view.read (Elt F) (arg13.view.writes (Elt F) g13 P13)⟩).l
    ∧ arg13.view.read (Elt F) (arg13.view.writes (Elt F) g13 ((tripL_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) k (arg11.view.writes (Elt F) g11 P11) (arg12.view.writes (Elt F) g12 P12) (arg13.view.writes (Elt F) g13 P13)).2.2 ++ P13))
      = (trip i x0 x1 x2 x4 k ⟨arg11.view.read (Elt F) (arg11.view.writes (Elt F) g11 P11), arg12.view.read (Elt F) (arg12.view.writes (Elt F) g12 P12), arg13.view.read (Elt F) (arg13.view.writes (Elt F) g13 P13)⟩).a := by
  unfold tripL_k0_t1 trip_k0_t1
  dsimp only
  simp only [List.singleton_append, List.cons_append, List.nil_append]
  refine ⟨?_, ?_, ?_⟩ <;>
  · rw [put_store, put_store]
    simp only [word_m0, word_l0, word_a0, word_n1, word_f1, word_l1, word_a1, word_s0, word_s1, word_v, pay37_eq, pay38_eq, pay39_eq,
      Memref.IsWhole.read_unread]
    rfl

/-- Before trip `n` the scratch buffers read the recursion's `n`-th term, when they do at the loop's entry. -/
theorem loop_read (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S3x1x256x256 .f32) (harg7 : arg7.IsWhole) (arg8 : Memref sig .tc .vmem S4x128 .f32) (harg8 : arg8.IsWhole) (arg9 : Memref sig .tc .vmem S1x256 .f32) (harg9 : arg9.IsWhole) (arg10 : Memref sig .tc .vmem S1x256x256 .bf16) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x256x256 .f32) (harg13 : arg13.IsWhole) (v3 : BitVec 32)
    (x0 : Vec F S1x256x256 .bf16) (x1 x2 : Vec F S1x8192x256 .bf16) (x4 : Vec F S3x1x256x256 .f32)
    (G11 : BufTy.Contents (Elt F) arg11.view.ty) (G12 : BufTy.Contents (Elt F) arg12.view.ty) (G13 : BufTy.Contents (Elt F) arg13.view.ty)
    (h11 : arg11.view.read (Elt F) G11 = k0_pay33) (h12 : arg12.view.read (Elt F) G12 = k0_pay34) (h13 : arg13.view.read (Elt F) G13 = k0_pay35) :
    ∀ n, n ≤ (k0_t1_loop i).trips →
    arg11.view.read (Elt F) (arg11.view.writes (Elt F) G11 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).1) = (state i x0 x1 x2 x4 n).m
    ∧ arg12.view.read (Elt F) (arg12.view.writes (Elt F) G12 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).2.1) = (state i x0 x1 x2 x4 n).l
    ∧ arg13.view.read (Elt F) (arg13.view.writes (Elt F) G13 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).2.2) = (state i x0 x1 x2 x4 n).a
  | 0, _ => ⟨h11, h12, h13⟩
  | n + 1, hn => by
    obtain ⟨ih1, ih2, ih3⟩ := loop_read c i arg3 harg3 arg4 harg4 arg5 harg5 arg6 harg6 arg7 harg7 arg8 harg8 arg9 harg9 arg10 harg10 arg11 harg11 arg12 harg12 arg13 harg13 v3 x0 x1 x2 x4 G11 G12 G13 h11 h12 h13 n (Nat.le_of_succ_le hn)
    have hs := pb_k0_t1_succ (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 ⟨n, hn⟩
    have ht := trip_pieces c i arg3 harg3 arg4 harg4 arg5 harg5 arg6 harg6 arg7 harg7 arg8 harg8 arg9 harg9 arg10 harg10 arg11 harg11 arg12 harg12 arg13 harg13 v3 x0 x1 x2 x4 ⟨n, hn⟩ G11 G12 G13 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).1 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).2.1 (pb_k0_t1 (F := F) Variants.none c none i arg3 harg3 arg4 harg4 arg5 harg5 arg6 harg6 arg7 harg7 arg8 harg8 arg9 harg9 arg10 harg10 arg11 harg11 arg12 harg12 arg13 harg13 v3 (harg3.unread x0) (harg4.unread x1) (harg5.unread x2) (harg7.unread x4) G11 G12 G13 n).2.2
    rw [ih1, ih2, ih3] at ht
    have hst : state i x0 x1 x2 x4 (n + 1) = trip i x0 x1 x2 x4 ⟨n, hn⟩ (state i x0 x1 x2 x4 n) := dif_pos hn
    rw [hst]
    refine ⟨(congrArg (fun L => arg11.view.read (Elt F) (arg11.view.writes (Elt F) G11 L)) (congrArg Prod.fst hs)).trans ht.1,
      (congrArg (fun L => arg12.view.read (Elt F) (arg12.view.writes (Elt F) G12 L)) (congrArg (fun p => p.2.1) hs)).trans ht.2.1,
      (congrArg (fun L => arg13.view.read (Elt F) (arg13.view.writes (Elt F) G13 L)) (congrArg (fun p => p.2.2) hs)).trans ht.2.2⟩

/-- The remainder loop runs no trip, whatever the query block. -/
theorem trips2 : ∀ q : Fin 32, Scf.trips
    (Scalar.addi (0#32) (Scalar.muli (Scalar.divsi (Scalar.subi (Scalar.addi (0#32) (Scalar.muli (BitVec.ofNat 32 q.val) 1#32)) 0#32) 1#32) 1#32))
    (Scalar.addi (0#32) (Scalar.subi (Scalar.addi (0#32) (Scalar.muli (BitVec.ofNat 32 q.val) 1#32)) 0#32)) 1#32 = 0 := by
  decide +kernel

/-- The four rows of the mixing weight's parameters. -/
abbrev lamRow0 (x5 : Vec F S4x128 .f32) : Vec F S1x128 .f32 :=
  View.ld (Val := Elt F) (e' := .f32) x5 (Rect.unit ![0, 0] S1x128.size inb_S4x128_S1x128_0_0)

abbrev lamRow1 (x5 : Vec F S4x128 .f32) : Vec F S1x128 .f32 :=
  View.ld (Val := Elt F) (e' := .f32) x5 (Rect.unit ![1, 0] S1x128.size inb_S4x128_S1x128_1_0)

abbrev lamRow2 (x5 : Vec F S4x128 .f32) : Vec F S1x128 .f32 :=
  View.ld (Val := Elt F) (e' := .f32) x5 (Rect.unit ![2, 0] S1x128.size inb_S4x128_S1x128_2_0)

abbrev lamRow3 (x5 : Vec F S4x128 .f32) : Vec F S1x128 .f32 :=
  View.ld (Val := Elt F) (e' := .f32) x5 (Rect.unit ![3, 0] S1x128.size inb_S4x128_S1x128_3_0)

/-- The block left from the scratch buffers: the difference of the quotients, normalised and gated. -/
def leave (x5 : Vec F S4x128 .f32) (x6 : Vec F S1x256 .f32) (x3 : Vec F S1x256x256 .f32) (S : Scratch F) : FVec F S1x256x256 .bf16 :=
  k0_pay1 (k0_pay63 (k0_pay62 (lamRow0 x5)) (lamRow1 x5) (lamRow2 x5) (lamRow3 x5) (lowA S.a) (low S.l) (highA S.a) (high S.l))
    (k0_pay64 (k0_pay62 (lamRow0 x5)) (lamRow1 x5) (lamRow2 x5) (lamRow3 x5) (lowA S.a) (low S.l) (highA S.a) (high S.l)) x6 x3

/-- A read of part of a buffer over stores that cover it is that part of what the stores leave. -/
theorem readCov_eq {s : Shape} {e : EltTy} (v : View sig .tc .vmem s e) (L : List (View.Piece (Elt F) s e)) {off size : Fin s.rank → ℕ}
    (inb : ∀ a, off a + size a ≤ s.size a) :
    v.readCov L (Rect.unit off size inb).toLoadRect = View.ld (Val := Elt F) (v.read (Elt F) (v.writes (Elt F) v.junk L)) (Rect.unit off size inb) := by
  unfold View.readCov
  rw [View.readAt_eq_ld]

/-- A store of the first half leaves the second half as it was. -/
theorem high_put (x : Vec F S2x256x128 .f32) (w : Vec F S1x256x128 .f32) :
    high (VecWindow.put (α := F .f32) x ![0, 0, 0] S1x256x128.size w) = high x := by
  have h := VecWindow.window_put_of_disjoint (α := F .f32) x ![0, 0, 0] S1x256x128.size ![1, 0, 0] S1x256x128.size inb_S2x256x128_S1x256x128_1_0_0 w 0 (by decide)
  exact h

theorem highA_put (x : Vec F S2x256x256 .f32) (w : Vec F S1x256x256 .f32) :
    highA (VecWindow.put (α := F .f32) x ![0, 0, 0] S1x256x256.size w) = highA x := by
  have h := VecWindow.window_put_of_disjoint (α := F .f32) x ![0, 0, 0] S1x256x256.size ![1, 0, 0] S1x256x256.size inb_S2x256x256_S1x256x256_1_0_0 w 0 (by decide)
  exact h

section point

variable (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S3x1x256x256 .f32) (harg7 : arg7.IsWhole) (arg8 : Memref sig .tc .vmem S4x128 .f32) (harg8 : arg8.IsWhole) (arg9 : Memref sig .tc .vmem S1x256 .f32) (harg9 : arg9.IsWhole) (arg10 : Memref sig .tc .vmem S1x256x256 .bf16) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x256x256 .f32) (harg13 : arg13.IsWhole) (x0 : Vec F S1x256x256 .bf16) (x1 x2 : Vec F S1x8192x256 .bf16) (x4 : Vec F S3x1x256x256 .f32)

/-- What the loop leaves in the three scratch buffers, as read back from its stores. -/
theorem ends :
    arg11.view.read (Elt F) (arg11.view.writes (Elt F) arg11.view.junk ((pb_k0_t1 (F := F) Variants.none c none i arg3 harg3 arg4 harg4 arg5 harg5 arg6 harg6 arg7 harg7 arg8 harg8 arg9 harg9 arg10 harg10 arg11 harg11 arg12 harg12 arg13 harg13 (rowBlock i) (harg3.unread x0) (harg4.unread x1) (harg5.unread x2) (harg7.unread x4) (arg11.view.writes (Elt F) arg11.view.junk kernelRun0_A.sl.HS0_1) (arg12.view.writes (Elt F) arg12.view.junk kernelRun0_A.sl.HS1_1) (arg13.view.writes (Elt F) arg13.view.junk kernelRun0_A.sl.HS2_1) (k0_t1_loop i).trips).1 ++ kernelRun0_A.sl.HS0_1)) = (state i x0 x1 x2 x4 (k0_t1_loop i).trips).m
    ∧ arg12.view.read (Elt F) (arg12.view.writes (Elt F) arg12.view.junk ((pb_k0_t1 (F := F) Variants.none c none i arg3 harg3 arg4 harg4 arg5 harg5 arg6 harg6 arg7 harg7 arg8 harg8 arg9 harg9 arg10 harg10 arg11 harg11 arg12 harg12 arg13 harg13 (rowBlock i) (harg3.unread x0) (harg4.unread x1) (harg5.unread x2) (harg7.unread x4) (arg11.view.writes (Elt F) arg11.view.junk kernelRun0_A.sl.HS0_1) (arg12.view.writes (Elt F) arg12.view.junk kernelRun0_A.sl.HS1_1) (arg13.view.writes (Elt F) arg13.view.junk kernelRun0_A.sl.HS2_1) (k0_t1_loop i).trips).2.1 ++ kernelRun0_A.sl.HS1_1)) = (state i x0 x1 x2 x4 (k0_t1_loop i).trips).l
    ∧ arg13.view.read (Elt F) (arg13.view.writes (Elt F) arg13.view.junk ((pb_k0_t1 (F := F) Variants.none c none i arg3 harg3 arg4 harg4 arg5 harg5 arg6 harg6 arg7 harg7 arg8 harg8 arg9 harg9 arg10 harg10 arg11 harg11 arg12 harg12 arg13 harg13 (rowBlock i) (harg3.unread x0) (harg4.unread x1) (harg5.unread x2) (harg7.unread x4) (arg11.view.writes (Elt F) arg11.view.junk kernelRun0_A.sl.HS0_1) (arg12.view.writes (Elt F) arg12.view.junk kernelRun0_A.sl.HS1_1) (arg13.view.writes (Elt F) arg13.view.junk kernelRun0_A.sl.HS2_1) (k0_t1_loop i).trips).2.2 ++ kernelRun0_A.sl.HS2_1)) = (state i x0 x1 x2 x4 (k0_t1_loop i).trips).a := by
  have hr := loop_read c i arg3 harg3 arg4 harg4 arg5 harg5 arg6 harg6 arg7 harg7 arg8 harg8 arg9 harg9 arg10 harg10 arg11 harg11 arg12 harg12 arg13 harg13 (rowBlock i) x0 x1 x2 x4
    (arg11.view.writes (Elt F) arg11.view.junk [⟨Rect.unit ![0, 0, 0] S2x256x128.size inb_S2x256x128_S2x256x128_0_0_0, k0_pay33⟩])
    (arg12.view.writes (Elt F) arg12.view.junk [⟨Rect.unit ![0, 0, 0] S2x256x128.size inb_S2x256x128_S2x256x128_0_0_0, k0_pay34⟩])
    (arg13.view.writes (Elt F) arg13.view.junk [⟨Rect.unit ![0, 0, 0] S2x256x256.size inb_S2x256x256_S2x256x256_0_0_0, k0_pay35⟩])
    (View.read_writes_full (s := S2x256x128) arg11.view _ inb_S2x256x128_S2x256x128_0_0_0 _ _)
    (View.read_writes_full (s := S2x256x128) arg12.view _ inb_S2x256x128_S2x256x128_0_0_0 _ _)
    (View.read_writes_full (s := S2x256x256) arg13.view _ inb_S2x256x256_S2x256x256_0_0_0 _ _) (k0_t1_loop i).trips le_rfl
  simp only [← View.writes_append] at hr
  exact hr

/-- The remainder loop runs no trip. -/
theorem rest_trips (i : grid0.Coords) : Scf.trips (k0_t2_loop i).lb (k0_t2_loop i).ub (k0_t2_loop i).st = 0 := trips2 (i 2)

theorem old_m : kernelRun0_A.sl.v56 c i arg3 harg3 arg4 harg4 arg5 harg5 arg6 harg6 arg7 harg7 arg8 harg8 arg9 harg9 arg10 harg10 arg11 harg11 arg12 harg12 arg13 harg13 x0 x1 x2 x4 = low (state i x0 x1 x2 x4 (k0_t1_loop i).trips).m := by
  unfold kernelRun0_A.sl.v56
  rw [rest_trips]
  simp only [pb_k0_t2, List.nil_append]
  rw [readCov_eq]
  exact congrArg low (ends c i arg3 harg3 arg4 harg4 arg5 harg5 arg6 harg6 arg7 harg7 arg8 harg8 arg9 harg9 arg10 harg10 arg11 harg11 arg12 harg12 arg13 harg13 x0 x1 x2 x4).1

theorem old_l : kernelRun0_A.sl.v67 c i arg3 harg3 arg4 harg4 arg5 harg5 arg6 harg6 arg7 harg7 arg8 harg8 arg9 harg9 arg10 harg10 arg11 harg11 arg12 harg12 arg13 harg13 x0 x1 x2 x4 = low (state i x0 x1 x2 x4 (k0_t1_loop i).trips).l := by
  unfold kernelRun0_A.sl.v67
  rw [rest_trips]
  simp only [pb_k0_t2, List.nil_append]
  rw [readCov_eq]
  exact congrArg low (ends c i arg3 harg3 arg4 harg4 arg5 harg5 arg6 harg6 arg7 harg7 arg8 harg8 arg9 harg9 arg10 harg10 arg11 harg11 arg12 harg12 arg13 harg13 x0 x1 x2 x4).2.1

theorem old_a : kernelRun0_A.sl.v80 c i arg3 harg3 arg4 harg4 arg5 harg5 arg6 harg6 arg7 harg7 arg8 harg8 arg9 harg9 arg10 harg10 arg11 harg11 arg12 harg12 arg13 harg13 x0 x1 x2 x4 = lowA (state i x0 x1 x2 x4 (k0_t1_loop i).trips).a := by
  unfold kernelRun0_A.sl.v80
  rw [rest_trips]
  simp only [pb_k0_t2, List.nil_append]
  rw [readCov_eq]
  exact congrArg lowA (ends c i arg3 harg3 arg4 harg4 arg5 harg5 arg6 harg6 arg7 harg7 arg8 harg8 arg9 harg9 arg10 harg10 arg11 harg11 arg12 harg12 arg13 harg13 x0 x1 x2 x4).2.2

/-- The diagonal tile's scores of the second half, and its values. -/
theorem new_s1 : kernelRun0_A.sl.r_5 i arg3 harg3 arg4 harg4 arg7 harg7 x0 x1 x4 = (k0_pay54 (diagB i x4) (diagK1 i x1) (q1 x0)) := by
  unfold kernelRun0_A.sl.r_5 kernelRun0_A.sl.r
  simp only [View.readAt_eq_ld, Memref.IsWhole.read_unread]
  rfl

theorem new_v : kernelRun0_A.sl.r_1 i arg5 harg5 x2 = diagV i x2 := by
  unfold kernelRun0_A.sl.r_1
  simp only [View.readAt_eq_ld, Memref.IsWhole.read_unread]

/-- The first half's new maximum, its factor and its exponentials at the diagonal tile. -/
theorem new_n0 : kernelRun0_A.sl.r_2 c i arg3 harg3 arg4 harg4 arg5 harg5 arg6 harg6 arg7 harg7 arg8 harg8 arg9 harg9 arg10 harg10 arg11 harg11 arg12 harg12 arg13 harg13 x0 x1 x2 x4 = k0_pay56 (k0_pay54 (diagB i x4) (diagK0 i x1) (q0 x0)) (low (state i x0 x1 x2 x4 (k0_t1_loop i).trips).m) := by
  unfold kernelRun0_A.sl.r_2
  rw [old_m]
  simp only [View.readAt_eq_ld, Memref.IsWhole.read_unread]
  rfl

theorem new_f0 : kernelRun0_A.sl.r_3 c i arg3 harg3 arg4 harg4 arg5 harg5 arg6 harg6 arg7 harg7 arg8 harg8 arg9 harg9 arg10 harg10 arg11 harg11 arg12 harg12 arg13 harg13 x0 x1 x2 x4 = k0_pay57 (k0_pay54 (diagB i x4) (diagK0 i x1) (q0 x0)) (low (state i x0 x1 x2 x4 (k0_t1_loop i).trips).m) := by
  unfold kernelRun0_A.sl.r_3
  rw [old_m]
  simp only [View.readAt_eq_ld, Memref.IsWhole.read_unread]
  rfl

theorem new_e0 : kernelRun0_A.sl.r_4 c i arg3 harg3 arg4 harg4 arg5 harg5 arg6 harg6 arg7 harg7 arg8 harg8 arg9 harg9 arg10 harg10 arg11 harg11 arg12 harg12 arg13 harg13 x0 x1 x2 x4 = k0_pay58 (k0_pay54 (diagB i x4) (diagK0 i x1) (q0 x0)) (low (state i x0 x1 x2 x4 (k0_t1_loop i).trips).m) := by
  unfold kernelRun0_A.sl.r_4
  rw [old_m]
  simp only [View.readAt_eq_ld, Memref.IsWhole.read_unread]
  rfl

theorem put_m : arg11.view.read (Elt F) (arg11.view.writes (Elt F) arg11.view.junk (kernelRun0_A.sl.HS0_1_1 c i arg3 harg3 arg4 harg4 arg5 harg5 arg6 harg6 arg7 harg7 arg8 harg8 arg9 harg9 arg10 harg10 arg11 harg11 arg12 harg12 arg13 harg13 x0 x1 x2 x4))
    = VecWindow.put (α := F .f32) (state i x0 x1 x2 x4 (k0_t1_loop i).trips).m ![0, 0, 0] S1x256x128.size (k0_pay61 (k0_pay54 (diagB i x4) (diagK0 i x1) (q0 x0)) (low (state i x0 x1 x2 x4 (k0_t1_loop i).trips).m)) := by
  unfold kernelRun0_A.sl.HS0_1_1
  rw [rest_trips]
  simp only [pb_k0_t2, List.nil_append]
  rw [put_store, new_n0]
  exact congrArg (fun x => VecWindow.put (α := F .f32) x _ _ _) (ends c i arg3 harg3 arg4 harg4 arg5 harg5 arg6 harg6 arg7 harg7 arg8 harg8 arg9 harg9 arg10 harg10 arg11 harg11 arg12 harg12 arg13 harg13 x0 x1 x2 x4).1

theorem put_l : arg12.view.read (Elt F) (arg12.view.writes (Elt F) arg12.view.junk (kernelRun0_A.sl.HS1_1_1 c i arg3 harg3 arg4 harg4 arg5 harg5 arg6 harg6 arg7 harg7 arg8 harg8 arg9 harg9 arg10 harg10 arg11 harg11 arg12 harg12 arg13 harg13 x0 x1 x2 x4))
    = VecWindow.put (α := F .f32) (state i x0 x1 x2 x4 (k0_t1_loop i).trips).l ![0, 0, 0] S1x256x128.size (k0_pay59 (k0_pay54 (diagB i x4) (diagK0 i x1) (q0 x0)) (low (state i x0 x1 x2 x4 (k0_t1_loop i).trips).m) (low (state i x0 x1 x2 x4 (k0_t1_loop i).trips).l)) := by
  unfold kernelRun0_A.sl.HS1_1_1
  rw [rest_trips]
  simp only [pb_k0_t2, List.nil_append]
  rw [put_store, new_f0, new_e0, old_l]
  exact congrArg (fun x => VecWindow.put (α := F .f32) x _ _ _) (ends c i arg3 harg3 arg4 harg4 arg5 harg5 arg6 harg6 arg7 harg7 arg8 harg8 arg9 harg9 arg10 harg10 arg11 harg11 arg12 harg12 arg13 harg13 x0 x1 x2 x4).2.1

theorem put_a : arg13.view.read (Elt F) (arg13.view.writes (Elt F) arg13.view.junk (kernelRun0_A.sl.HS2_1_1 c i arg3 harg3 arg4 harg4 arg5 harg5 arg6 harg6 arg7 harg7 arg8 harg8 arg9 harg9 arg10 harg10 arg11 harg11 arg12 harg12 arg13 harg13 x0 x1 x2 x4))
    = VecWindow.put (α := F .f32) (state i x0 x1 x2 x4 (k0_t1_loop i).trips).a ![0, 0, 0] S1x256x256.size (k0_pay60 (diagV i x2) (k0_pay54 (diagB i x4) (diagK0 i x1) (q0 x0)) (low (state i x0 x1 x2 x4 (k0_t1_loop i).trips).m) (lowA (state i x0 x1 x2 x4 (k0_t1_loop i).trips).a)) := by
  unfold kernelRun0_A.sl.HS2_1_1
  rw [rest_trips]
  simp only [pb_k0_t2, List.nil_append]
  rw [put_store, new_v, new_f0, new_e0, old_a]
  exact congrArg (fun x => VecWindow.put (α := F .f32) x _ _ _) (ends c i arg3 harg3 arg4 harg4 arg5 harg5 arg6 harg6 arg7 harg7 arg8 harg8 arg9 harg9 arg10 harg10 arg11 harg11 arg12 harg12 arg13 harg13 x0 x1 x2 x4).2.2

theorem hi_m : kernelRun0_A.sl.v99 c i arg3 harg3 arg4 harg4 arg5 harg5 arg6 harg6 arg7 harg7 arg8 harg8 arg9 harg9 arg10 harg10 arg11 harg11 arg12 harg12 arg13 harg13 x0 x1 x2 x4 = high (state i x0 x1 x2 x4 (k0_t1_loop i).trips).m := by
  unfold kernelRun0_A.sl.v99
  rw [readCov_eq, put_m]
  exact high_put _ _

theorem hi_l : kernelRun0_A.sl.v110 c i arg3 harg3 arg4 harg4 arg5 harg5 arg6 harg6 arg7 harg7 arg8 harg8 arg9 harg9 arg10 harg10 arg11 harg11 arg12 harg12 arg13 harg13 x0 x1 x2 x4 = high (state i x0 x1 x2 x4 (k0_t1_loop i).trips).l := by
  unfold kernelRun0_A.sl.v110
  rw [readCov_eq, put_l]
  exact high_put _ _

theorem hi_a : kernelRun0_A.sl.v123 c i arg3 harg3 arg4 harg4 arg5 harg5 arg6 harg6 arg7 harg7 arg8 harg8 arg9 harg9 arg10 harg10 arg11 harg11 arg12 harg12 arg13 harg13 x0 x1 x2 x4 = highA (state i x0 x1 x2 x4 (k0_t1_loop i).trips).a := by
  unfold kernelRun0_A.sl.v123
  rw [readCov_eq, put_a]
  exact highA_put _ _

theorem end_l : arg12.view.read (Elt F) (arg12.view.writes (Elt F) arg12.view.junk (kernelRun0_A.sl.HS1_2 c i arg3 harg3 arg4 harg4 arg5 harg5 arg6 harg6 arg7 harg7 arg8 harg8 arg9 harg9 arg10 harg10 arg11 harg11 arg12 harg12 arg13 harg13 x0 x1 x2 x4))
    = (diag i x0 x1 x2 x4 (state i x0 x1 x2 x4 (k0_t1_loop i).trips)).l := by
  unfold kernelRun0_A.sl.HS1_2
  rw [put_store, put_l, hi_m, hi_l, new_s1]
  rfl

theorem end_a : arg13.view.read (Elt F) (arg13.view.writes (Elt F) arg13.view.junk (kernelRun0_A.sl.HS2_2 c i arg3 harg3 arg4 harg4 arg5 harg5 arg6 harg6 arg7 harg7 arg8 harg8 arg9 harg9 arg10 harg10 arg11 harg11 arg12 harg12 arg13 harg13 x0 x1 x2 x4))
    = (diag i x0 x1 x2 x4 (state i x0 x1 x2 x4 (k0_t1_loop i).trips)).a := by
  unfold kernelRun0_A.sl.HS2_2
  rw [put_store, put_a, hi_m, hi_a, new_s1, new_v]
  rfl

theorem got_a0 : kernelRun0_A.sl.v152 c i arg3 harg3 arg4 harg4 arg5 harg5 arg6 harg6 arg7 harg7 arg8 harg8 arg9 harg9 arg10 harg10 arg11 harg11 arg12 harg12 arg13 harg13 x0 x1 x2 x4 = lowA (diag i x0 x1 x2 x4 (state i x0 x1 x2 x4 (k0_t1_loop i).trips)).a := by
  unfold kernelRun0_A.sl.v152
  rw [readCov_eq, end_a]

theorem got_l0 : kernelRun0_A.sl.v154 c i arg3 harg3 arg4 harg4 arg5 harg5 arg6 harg6 arg7 harg7 arg8 harg8 arg9 harg9 arg10 harg10 arg11 harg11 arg12 harg12 arg13 harg13 x0 x1 x2 x4 = low (diag i x0 x1 x2 x4 (state i x0 x1 x2 x4 (k0_t1_loop i).trips)).l := by
  unfold kernelRun0_A.sl.v154
  rw [readCov_eq, end_l]

theorem got_a1 : kernelRun0_A.sl.v158 c i arg3 harg3 arg4 harg4 arg5 harg5 arg6 harg6 arg7 harg7 arg8 harg8 arg9 harg9 arg10 harg10 arg11 harg11 arg12 harg12 arg13 harg13 x0 x1 x2 x4 = highA (diag i x0 x1 x2 x4 (state i x0 x1 x2 x4 (k0_t1_loop i).trips)).a := by
  unfold kernelRun0_A.sl.v158
  rw [readCov_eq, end_a]

theorem got_l1 : kernelRun0_A.sl.v160 c i arg3 harg3 arg4 harg4 arg5 harg5 arg6 harg6 arg7 harg7 arg8 harg8 arg9 harg9 arg10 harg10 arg11 harg11 arg12 harg12 arg13 harg13 x0 x1 x2 x4 = high (diag i x0 x1 x2 x4 (state i x0 x1 x2 x4 (k0_t1_loop i).trips)).l := by
  unfold kernelRun0_A.sl.v160
  rw [readCov_eq, end_l]

end point

/-- The block a grid point leaves. -/
theorem out_eq (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S3x1x256x256 .f32) (harg7 : arg7.IsWhole) (arg8 : Memref sig .tc .vmem S4x128 .f32) (harg8 : arg8.IsWhole) (arg9 : Memref sig .tc .vmem S1x256 .f32) (harg9 : arg9.IsWhole) (arg10 : Memref sig .tc .vmem S1x256x256 .bf16) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x256x256 .f32) (harg13 : arg13.IsWhole)
    (x0 : Vec F S1x256x256 .bf16) (x1 x2 : Vec F S1x8192x256 .bf16) (x3 : Vec F S1x256x256 .f32) (x4 : Vec F S3x1x256x256 .f32) (x5 : Vec F S4x128 .f32) (x6 : Vec F S1x256 .f32) :
    out0_A_7 c i arg3 harg3 arg4 harg4 arg5 harg5 arg6 harg6 arg7 harg7 arg8 harg8 arg9 harg9 arg10 harg10 arg11 harg11 arg12 harg12 arg13 harg13 x0 x1 x2 x3 x4 x5 x6 = leave x5 x6 x3 (diag i x0 x1 x2 x4 (state i x0 x1 x2 x4 (k0_t1_loop i).trips)) := by
  unfold out0_A_7 kernelRun0_A
  dsimp only
  rw [View.read_writes_full (s := S1x256x256)]
  unfold kernelRun0_A.sl.r_7 kernelRun0_A.sl.r_8 kernelRun0_A.sl.r_6
  rw [got_a0, got_l0, got_a1, got_l1]
  simp only [View.readAt_eq_ld, Memref.IsWhole.read_unread]
  unfold leave
  rw [View.ld_unit_zero, View.ld_unit_zero] <;> (funext a; fin_cases a <;> rfl)

end Cert.Proof.Diff

end
-- ==== Proof.DiffWord.lean ====
/-
  The words both programs of the differential attention compute with: a shift to the right is a division by a power of two.
-/
module

public import Idealize.ShloMosaic.Lib.WordCmp
public import Idealize.ShloMosaic.PureOps

@[expose] public section

namespace Cert.Proof.Diff

open Idealize.ShloMosaic

/-- A shift of a small number's word to the right. -/
theorem shift_ofNat (u : ArithUnit) (k n : ℕ) (hk : k < 32) (hn : n < 2 ^ 31) :
    IntOp.shrsi u (BitVec.ofNat 32 n) (BitVec.ofNat 32 k) = BitVec.ofNat 32 (n / 2 ^ k) := by
  have hk' : (BitVec.ofNat 32 k).toNat = k := by rw [BitVec.toNat_ofNat]; exact Nat.mod_eq_of_lt (by omega)
  have hn' : (BitVec.ofNat 32 n).toNat = n := by rw [BitVec.toNat_ofNat]; exact Nat.mod_eq_of_lt (by omega)
  have hm : (BitVec.ofNat 32 n).msb = false := by
    rw [BitVec.msb_eq_false_iff_two_mul_lt, hn']; omega
  unfold IntOp.shrsi
  rw [if_pos (by rw [hk']; exact hk)]
  apply BitVec.eq_of_toNat_eq
  rw [BitVec.sshiftRight_eq', hk', BitVec.sshiftRight_eq_of_msb_false hm, BitVec.toNat_ushiftRight, hn', Nat.shiftRight_eq_div_pow,
    BitVec.toNat_ofNat, Nat.mod_eq_of_lt]
  exact lt_of_le_of_lt (Nat.div_le_self _ _) (by omega)

end Cert.Proof.Diff
-- ==== Proof.DiffStep.lean ====
/-
  The differential attention kernel's recursion at an index: after `n` key tiles a row's running maximum, its mass and its
  weighted sum of the values are those of the row's scores over the keys read so far, in each of the two halves.
-/
module

public import proofs.«01_k».proof.Proof.DiffLoop
public import proofs.«01_k».proof.Proof.DiffMath
public import proofs.«01_k».proof.Proof.DiffWord
public import Idealize.ShloMosaic.Lib.WordCmp

@[expose] public section

set_option maxRecDepth 16384

noncomputable section

namespace Cert.Proof.Diff

open Cert.DiffIdeal Cert.DiffIdeal.Gen Idealize.ShloMosaic Idealize.ShloMosaic.TcCoe Idealize.SL.Sem

/-- A query block makes as many trips as there are key tiles before it. -/
theorem trips_eq (i : grid0.Coords) : (k0_t1_loop i).trips = (i 2).val :=
  (by decide +kernel : ∀ q : Fin 32, Scf.trips 0#32 (Scalar.addi (0#32) (Scalar.muli (Scalar.divsi (Scalar.subi (Scalar.addi (0#32) (Scalar.muli (BitVec.ofNat 32 q.val) 1#32)) 0#32) 1#32) 1#32)) 1#32 = q.val) (i 2)

/-- The word of minus infinity, and the mask's named constant. -/
theorem word_bot : Ideal.ofBits FTy.f32 4286578688#32 = (⊥ : EReal) := by
  simp [Ideal.ofBits, Ideal.ieee]

theorem mask_bot : Named.named (F := Ideal) κ "mask" (φ := .f32) 4048155338#32 = (⊥ : EReal) :=
  IdealRules.named_const.ideal_named_scalar _ _ _ _ rfl

/-! ## The payloads at an index -/

/-- A tile's scores, its bias block, its values. -/
theorem pay54_apply (B : FVec Ideal S256x256 .f32) (k q : Vec Ideal S1x256x128 .bf16) (r l : Fin 256) :
    k0_pay54 (F := Ideal) B k q (ix2 r l)
      = (∑ x : Fin 128, q (ix3 (0 : Fin 1) r x) * k (ix3 (0 : Fin 1) l x)) * Ideal.ofBits FTy.f32 1035273459#32 + B (ix2 r l) := by
  pointwise [k0_pay54]

theorem pay2_apply (B : Vec Ideal S1x1x256x256 .f32) (r l : Fin 256) :
    k0_pay2 (F := Ideal) B (ix2 r l) = B (ix4 (0 : Fin 1) (0 : Fin 1) r l) := by
  pointwise [k0_pay2]

theorem pay45_apply (v : Vec Ideal S1x256x256 .bf16) (r l : Fin 256) :
    k0_pay45 (F := Ideal) v (ix2 r l) = v (ix3 (0 : Fin 1) r l) := by
  pointwise [k0_pay45]

/-- The new running maximum. -/
theorem pay56_apply (s : FVec Ideal S256x256 .f32) (M : Vec Ideal S1x256x128 .f32) (r : Fin 256) (e : Fin 128) :
    k0_pay56 (F := Ideal) s M (ix2 r e)
      = max (M (ix3 (0 : Fin 1) r e)) (Finset.univ.fold max ⊥ fun x : Fin 256 => s (ix2 r x)) := by
  rw [← word_bot]
  pointwise [k0_pay56, k0_pay55]

theorem pay61_apply (s : FVec Ideal S256x256 .f32) (M : Vec Ideal S1x256x128 .f32) (r : Fin 256) (e : Fin 128) :
    k0_pay61 (F := Ideal) s M (ix3 (0 : Fin 1) r e) = k0_pay56 (F := Ideal) s M (ix2 r e) := by
  pointwise [k0_pay61]

/-- The factor of the old terms, and the tile's exponentials. -/
theorem pay57_apply (s : FVec Ideal S256x256 .f32) (M : Vec Ideal S1x256x128 .f32) (r : Fin 256) (e : Fin 128) :
    k0_pay57 (F := Ideal) s M (ix2 r e) = Ideal.exp (M (ix3 (0 : Fin 1) r e) - k0_pay56 (F := Ideal) s M (ix2 r e)) := by
  pointwise [k0_pay57, k0_pay55]

theorem pay58_apply (s : FVec Ideal S256x256 .f32) (M : Vec Ideal S1x256x128 .f32) (r l : Fin 256) (c : EReal)
    (hc : ∀ e : Fin 128, k0_pay56 (F := Ideal) s M (ix2 r e) = c) :
    k0_pay58 (F := Ideal) s M (ix2 r l) = Ideal.exp (s (ix2 r l) - c) := by
  pointwise [k0_pay58]
  simp only [hc, ite_self, dite_eq_ite]

/-- The new mass and the new weighted sum. -/
theorem pay59_apply (s : FVec Ideal S256x256 .f32) (M L : Vec Ideal S1x256x128 .f32) (r : Fin 256) (e : Fin 128) :
    k0_pay59 (F := Ideal) s M L (ix3 (0 : Fin 1) r e)
      = k0_pay57 (F := Ideal) s M (ix2 r e) * L (ix3 (0 : Fin 1) r e) + ∑ x : Fin 256, k0_pay58 (F := Ideal) s M (ix2 r x) := by
  pointwise [k0_pay59]

theorem pay60_apply (v : FVec Ideal S256x256 .bf16) (s : FVec Ideal S256x256 .f32) (M : Vec Ideal S1x256x128 .f32) (A : Vec Ideal S1x256x256 .f32)
    (r d : Fin 256) (c : EReal) (hc : ∀ e : Fin 128, k0_pay57 (F := Ideal) s M (ix2 r e) = c) :
    k0_pay60 (F := Ideal) v s M A (ix3 (0 : Fin 1) r d)
      = c * A (ix3 (0 : Fin 1) r d) + ∑ x : Fin 256, k0_pay58 (F := Ideal) s M (ix2 r x) * v (ix2 x d) := by
  pointwise [k0_pay60]
  simp only [hc, ite_self, dite_eq_ite]

/-- The fill the kernel starts with. -/
theorem pay33_apply (h : Fin 2) (r : Fin 256) (e : Fin 128) : k0_pay33 (F := Ideal) (ix3 h r e) = ⊥ := by
  rw [← mask_bot]
  pointwise [k0_pay33]

theorem pay34_apply (h : Fin 2) (r : Fin 256) (e : Fin 128) : k0_pay34 (F := Ideal) (ix3 h r e) = 0 := by
  pointwise [k0_pay34]

theorem pay35_apply (h : Fin 2) (r d : Fin 256) : k0_pay35 (F := Ideal) (ix3 h r d) = 0 := by
  pointwise [k0_pay35]

/-- The diagonal tile's bias: minus infinity at the keys of a later chunk than the query's. -/
theorem pay44_apply (i : grid0.Coords) (B : Vec Ideal S1x1x256x256 .f32) (r l : Fin 256) :
    k0_pay44 (F := Ideal) (rowBlock i) (k0_pay32 i) (iota Kind.tc S256x256 32 [1] iota_S256x256_d1_w32) B (ix2 r l)
      = B (ix4 (0 : Fin 1) (0 : Fin 1) r l)
        + if (256 * (i 2).val + l.val) / 64 ≤ (256 * (i 2).val + r.val) / 64 then 0 else ⊥ := by
  have e : k0_pay44 (F := Ideal) (rowBlock i) (k0_pay32 i) (iota Kind.tc S256x256 32 [1] iota_S256x256_d1_w32) B (ix2 r l)
      = B (ix4 (0 : Fin 1) (0 : Fin 1) r l) + Scalar.select (IntOp.cmpi .sle
          (IntOp.shrsi ArithUnit.vector (BitVec.ofNat 32 (256 * (i 2).val + l.val)) 6#32)
          (IntOp.shrsi ArithUnit.vector (BitVec.ofNat 32 (256 * (i 2).val + r.val)) 6#32)) 0
        (Named.named (F := Ideal) κ "mask" (φ := .f32) 4048155338#32) := by
    pointwise [k0_pay44, k0_pay32, rowBlock]
    congr 4 <;> (apply BitVec.eq_of_toNat_eq; simp [Scalar.addi, Scalar.muli, IntOp.addi, IntOp.muli]; try ring_nf)
  have hi : (i 2).val < 32 := (i 2).isLt
  have hs : ∀ n, n < 8192 → IntOp.shrsi ArithUnit.vector (BitVec.ofNat 32 n) 6#32 = BitVec.ofNat 32 (n / 64) :=
    fun n hn => shift_ofNat .vector 6 n (by omega) (by omega)
  rw [e, hs _ (by omega), hs _ (by omega), mask_bot]
  congr 1
  by_cases hc : (256 * (i 2).val + l.val) / 64 ≤ (256 * (i 2).val + r.val) / 64
  · rw [if_pos hc, WordCmp.select_of_eq_one ((WordCmp.cmpi_sle_ofNat_eq_one_iff (by omega) (by omega)).2 hc)]
  · rw [if_neg hc, WordCmp.select_of_eq_zero ((WordCmp.cmpi_sle_ofNat_eq_zero_iff (by omega) (by omega)).2 hc)]

/-! ## One tile -/

/-- Row `r` of a half holds the maximum, the mass and, in lane `d`, the weighted sum over the first `256 b` keys. -/
structure Holds (z v : ℕ → EReal) (r d : Fin 256) (b : ℕ) (M L : Vec Ideal S1x256x128 .f32) (A : Vec Ideal S1x256x256 .f32) : Prop where
  m : ∀ e : Fin 128, M (ix3 (0 : Fin 1) r e) = top z (256 * b)
  l : ∀ e : Fin 128, L (ix3 (0 : Fin 1) r e) = mass z (top z (256 * b)) (256 * b)
  a : A (ix3 (0 : Fin 1) r d) = pull z v (top z (256 * b)) (256 * b)

/-- A tile extends what a half holds by the tile's 256 keys. -/
theorem Holds.step {z v : ℕ → EReal} {r d : Fin 256} {b : ℕ} {M L : Vec Ideal S1x256x128 .f32} {A : Vec Ideal S1x256x256 .f32}
    (h : Holds z v r d b M L A) (hz : ∀ s, z s ≠ ⊤) (s : FVec Ideal S256x256 .f32) (w : FVec Ideal S256x256 .bf16)
    (hs : ∀ l : Fin 256, s (ix2 r l) = z (256 * b + l.val)) (hw : ∀ l : Fin 256, w (ix2 l d) = v (256 * b + l.val)) :
    Holds z v r d (b + 1) (k0_pay61 s M) (k0_pay59 s M L) (k0_pay60 w s M A) := by
  have hm : ∀ e : Fin 128, k0_pay56 (F := Ideal) s M (ix2 r e) = top z (256 * (b + 1)) := fun e => by
    rw [pay56_apply, h.m]
    simp only [hs]
    exact top_append z b
  have hf : ∀ e : Fin 128, k0_pay57 (F := Ideal) s M (ix2 r e) = Ideal.exp (top z (256 * b) - top z (256 * (b + 1))) := fun e => by
    rw [pay57_apply, hm, h.m]
  have he : ∀ l : Fin 256, k0_pay58 (F := Ideal) s M (ix2 r l) = Ideal.exp (z (256 * b + l.val) - top z (256 * (b + 1))) := fun l => by
    rw [pay58_apply s M r l _ hm, hs]
  refine ⟨fun e => ?_, fun e => ?_, ?_⟩
  · rw [pay61_apply, hm]
  · rw [pay59_apply, hf, h.l]
    simp only [he]
    exact mass_append hz b
  · rw [pay60_apply w s M A r d _ hf, h.a]
    simp only [he, hw]
    exact pull_append v hz b

/-- The halves of the buffers after a tile. -/
theorem low_put_both (x : Vec Ideal S2x256x128 .f32) (w0 w1 : Vec Ideal S1x256x128 .f32) :
    low (VecWindow.put (α := Ideal .f32) (VecWindow.put (α := Ideal .f32) x ![0, 0, 0] S1x256x128.size w0) ![1, 0, 0] S1x256x128.size w1) = w0 :=
  (VecWindow.window_put_of_disjoint (α := Ideal .f32) (VecWindow.put (α := Ideal .f32) x ![0, 0, 0] S1x256x128.size w0) ![1, 0, 0] S1x256x128.size ![0, 0, 0] S1x256x128.size inb_S2x256x128_S1x256x128_0_0_0 w1 0 (by decide)).trans
    (VecWindow.window_put_same (α := Ideal .f32) x ![0, 0, 0] S1x256x128.size inb_S2x256x128_S1x256x128_0_0_0 w0)

theorem high_put_both (x : Vec Ideal S2x256x128 .f32) (w1 : Vec Ideal S1x256x128 .f32) :
    high (VecWindow.put (α := Ideal .f32) x ![1, 0, 0] S1x256x128.size w1) = w1 :=
  VecWindow.window_put_same (α := Ideal .f32) x ![1, 0, 0] S1x256x128.size inb_S2x256x128_S1x256x128_1_0_0 w1

theorem lowA_put_both (x : Vec Ideal S2x256x256 .f32) (w0 w1 : Vec Ideal S1x256x256 .f32) :
    lowA (VecWindow.put (α := Ideal .f32) (VecWindow.put (α := Ideal .f32) x ![0, 0, 0] S1x256x256.size w0) ![1, 0, 0] S1x256x256.size w1) = w0 :=
  (VecWindow.window_put_of_disjoint (α := Ideal .f32) (VecWindow.put (α := Ideal .f32) x ![0, 0, 0] S1x256x256.size w0) ![1, 0, 0] S1x256x256.size ![0, 0, 0] S1x256x256.size inb_S2x256x256_S1x256x256_0_0_0 w1 0 (by decide)).trans
    (VecWindow.window_put_same (α := Ideal .f32) x ![0, 0, 0] S1x256x256.size inb_S2x256x256_S1x256x256_0_0_0 w0)

theorem highA_put_both (x : Vec Ideal S2x256x256 .f32) (w1 : Vec Ideal S1x256x256 .f32) :
    highA (VecWindow.put (α := Ideal .f32) x ![1, 0, 0] S1x256x256.size w1) = w1 :=
  VecWindow.window_put_same (α := Ideal .f32) x ![1, 0, 0] S1x256x256.size inb_S2x256x256_S1x256x256_1_0_0 w1

/-- Both halves hold their sums over the first `256 b` keys. -/
def Both (z0 z1 v : ℕ → EReal) (r d : Fin 256) (b : ℕ) (S : Scratch Ideal) : Prop :=
  Holds z0 v r d b (low S.m) (low S.l) (lowA S.a) ∧ Holds z1 v r d b (high S.m) (high S.l) (highA S.a)

/-- A tile extends both. -/
theorem Both.step {z0 z1 v : ℕ → EReal} {r d : Fin 256} {b : ℕ} {S : Scratch Ideal} (h : Both z0 z1 v r d b S)
    (hz0 : ∀ s, z0 s ≠ ⊤) (hz1 : ∀ s, z1 s ≠ ⊤) (s0 s1 : FVec Ideal S256x256 .f32) (w : FVec Ideal S256x256 .bf16)
    (hs0 : ∀ l : Fin 256, s0 (ix2 r l) = z0 (256 * b + l.val)) (hs1 : ∀ l : Fin 256, s1 (ix2 r l) = z1 (256 * b + l.val))
    (hw : ∀ l : Fin 256, w (ix2 l d) = v (256 * b + l.val)) : Both z0 z1 v r d (b + 1) (both s0 s1 w S) := by
  have h0 := h.1.step hz0 s0 w hs0 hw
  have h1 := h.2.step hz1 s1 w hs1 hw
  unfold Both both
  dsimp only
  rw [low_put_both, low_put_both, lowA_put_both, high_put_both, high_put_both, highA_put_both]
  exact ⟨h0, h1⟩

/-- An entry of a half of a buffer. -/
theorem low_apply (x : Vec Ideal S2x256x128 .f32) (r : Fin 256) (e : Fin 128) : low x (ix3 (0 : Fin 1) r e) = x (ix3 (0 : Fin 2) r e) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem high_apply (x : Vec Ideal S2x256x128 .f32) (r : Fin 256) (e : Fin 128) : high x (ix3 (0 : Fin 1) r e) = x (ix3 (1 : Fin 2) r e) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem lowA_apply (x : Vec Ideal S2x256x256 .f32) (r d : Fin 256) : lowA x (ix3 (0 : Fin 1) r d) = x (ix3 (0 : Fin 2) r d) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem highA_apply (x : Vec Ideal S2x256x256 .f32) (r d : Fin 256) : highA x (ix3 (0 : Fin 1) r d) = x (ix3 (1 : Fin 2) r d) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- The fill holds the sums over no keys. -/
theorem both_zero (z0 z1 v : ℕ → EReal) (r d : Fin 256) :
    Both z0 z1 v r d 0 ⟨k0_pay33 (F := Ideal), k0_pay34 (F := Ideal), k0_pay35 (F := Ideal)⟩ := by
  refine ⟨⟨fun e => ?_, fun e => ?_, ?_⟩, ⟨fun e => ?_, fun e => ?_, ?_⟩⟩
  · dsimp only; rw [low_apply, pay33_apply]; rfl
  · dsimp only; rw [low_apply, pay34_apply]; simp [mass]
  · dsimp only; rw [lowA_apply, pay35_apply]; simp [pull]
  · dsimp only; rw [high_apply, pay33_apply]; rfl
  · dsimp only; rw [high_apply, pay34_apply]; simp [mass]
  · dsimp only; rw [highA_apply, pay35_apply]; simp [pull]

/-! ## Where the tiles are read -/

/-- Trip `k` reads the bias block of its distance from the diagonal, two or more being one block. -/
theorem off1_eq (i : grid0.Coords) (k : Fin (k0_t1_loop i).trips) : k0_off1 i k = ![min ((i 2).val - k.val) 2, 0, 0, 0] := by
  have hk : k.val < (i 2).val := lt_of_lt_of_eq k.isLt (trips_eq i)
  have hi : (i 2).val < 32 := (i 2).isLt
  have h := (by decide +kernel : ∀ q k : Fin 32, k.val < q.val →
    (Scalar.indexCast (Scalar.minsi (Scalar.subi (Scalar.addi (0#32) (Scalar.muli (BitVec.ofNat 32 q.val) 1#32))
      (Scf.iv 0#32 1#32 k.val)) 2#32) : Index).toNat = min (q.val - k.val) 2) (i 2) ⟨k.val, by omega⟩ hk
  unfold k0_off1
  dsimp only
  rw [h]

theorem tile_row (i : grid0.Coords) (k : Fin (k0_t1_loop i).trips) :
    (Scalar.indexCast (Scalar.muli (Scf.iv 0#32 1#32 k.val) 256#32) : Index).toNat = 256 * k.val := by
  have hk : k.val < (i 2).val := lt_of_lt_of_eq k.isLt (trips_eq i)
  have hi : (i 2).val < 32 := (i 2).isLt
  exact (by decide +kernel : ∀ k : Fin 32, (Scalar.indexCast (Scalar.muli (Scf.iv 0#32 1#32 k.val) 256#32) : Index).toNat = 256 * k.val) ⟨k.val, by omega⟩

/-- Trip `k` reads the keys and values of tile `k`. -/
theorem off2_eq (i : grid0.Coords) (k : Fin (k0_t1_loop i).trips) : k0_off2 i k = ![0, 256 * k.val, 0] := by
  unfold k0_off2
  dsimp only
  rw [tile_row]

theorem off3_eq (i : grid0.Coords) (k : Fin (k0_t1_loop i).trips) : k0_off3 i k = ![0, 256 * k.val, 0] := by
  unfold k0_off3
  dsimp only
  rw [tile_row]

theorem off4_eq (i : grid0.Coords) (k : Fin (k0_t1_loop i).trips) : k0_off4 i k = ![0, 256 * k.val, 128] := by
  unfold k0_off4
  dsimp only
  rw [tile_row]

/-- The diagonal tile stands at the query block's own rows, and reads the first bias block. -/
theorem off9_eq (i : grid0.Coords) : k0_off9 i = ![0, 0, 0, 0] := by
  have h := (by decide +kernel : ∀ q : Fin 32, (Scalar.indexCast (Scalar.minsi (Scalar.subi
      (Scalar.addi (0#32) (Scalar.muli (BitVec.ofNat 32 q.val) 1#32)) (Scalar.addi (0#32) (Scalar.muli (BitVec.ofNat 32 q.val) 1#32))) 2#32) : Index).toNat = 0) (i 2)
  unfold k0_off9
  dsimp only
  rw [h]

theorem diag_row (i : grid0.Coords) :
    (Scalar.indexCast (Scalar.muli (Scalar.addi (0#32) (Scalar.muli (BitVec.ofNat 32 (i 2).val) 1#32)) 256#32) : Index).toNat = 256 * (i 2).val :=
  (by decide +kernel : ∀ q : Fin 32, (Scalar.indexCast (Scalar.muli (Scalar.addi (0#32) (Scalar.muli (BitVec.ofNat 32 q.val) 1#32)) 256#32) : Index).toNat = 256 * q.val) (i 2)

theorem off10_eq (i : grid0.Coords) : k0_off10 i = ![0, 256 * (i 2).val, 0] := by
  unfold k0_off10
  dsimp only
  rw [diag_row]

theorem off11_eq (i : grid0.Coords) : k0_off11 i = ![0, 256 * (i 2).val, 0] := by
  unfold k0_off11
  dsimp only
  rw [diag_row]

theorem off12_eq (i : grid0.Coords) : k0_off12 i = ![0, 256 * (i 2).val, 128] := by
  unfold k0_off12
  dsimp only
  rw [diag_row]

/-- A tile of the values at rows `256 b`, at an index. -/
theorem ld_val {off : Fin 3 → ℕ} {inb} (x : Vec Ideal S1x8192x256 .bf16) (b : ℕ) (hoff : off = ![0, 256 * b, 0]) (l d : Fin 256) (hb : b < 32) :
    View.ld (Val := Elt Ideal) (e' := .bf16) x (Rect.unit off S1x256x256.size inb) (ix3 (0 : Fin 1) l d)
      = x (ix3 (0 : Fin 1) (⟨256 * b + l.val, by omega⟩ : Fin 8192) d) := by
  subst hoff
  refine View.ld_unit_apply_of _ _ _ _ _ _ fun a => ?_
  match a with
  | ⟨0, _⟩ => rfl
  | ⟨1, _⟩ => rfl
  | ⟨2, _⟩ => exact (Nat.zero_add _).symm

/-- A tile of half `h` of the keys at rows `256 b`, at an index. -/
theorem ld_key {off : Fin 3 → ℕ} {inb} (x : Vec Ideal S1x8192x256 .bf16) (b o : ℕ) (hoff : off = ![0, 256 * b, o]) (ho : o + 128 ≤ 256) (l : Fin 256) (d : Fin 128) (hb : b < 32) :
    View.ld (Val := Elt Ideal) (e' := .bf16) x (Rect.unit off S1x256x128.size inb) (ix3 (0 : Fin 1) l d)
      = x (ix3 (0 : Fin 1) (⟨256 * b + l.val, by omega⟩ : Fin 8192) (⟨o + d.val, by omega⟩ : Fin 256)) := by
  subst hoff
  refine View.ld_unit_apply_of _ _ _ _ _ _ fun a => ?_
  match a with
  | ⟨0, _⟩ => rfl
  | ⟨1, _⟩ => rfl
  | ⟨2, _⟩ => rfl

/-- A bias block, at an index. -/
theorem ld_bias {off : Fin 4 → ℕ} {inb} (x : Vec Ideal S3x1x256x256 .f32) (t : Fin 3) (hoff : off = ![t.val, 0, 0, 0]) (r l : Fin 256) :
    View.ld (Val := Elt Ideal) (e' := .f32) x (Rect.unit off S1x1x256x256.size inb) (ix4 (0 : Fin 1) (0 : Fin 1) r l) = x (ix4 t (0 : Fin 1) r l) := by
  subst hoff
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

/-- The halves of the query block at an index. -/
theorem q0_apply (x : Vec Ideal S1x256x256 .bf16) (r : Fin 256) (d : Fin 128) :
    q0 x (ix3 (0 : Fin 1) r d) = x (ix3 (0 : Fin 1) r (⟨0 + d.val, by omega⟩ : Fin 256)) := by
  refine View.ld_unit_apply_of _ _ _ _ _ _ fun a => ?_
  match a with
  | ⟨0, _⟩ => rfl
  | ⟨1, _⟩ => exact (Nat.zero_add _).symm
  | ⟨2, _⟩ => rfl

theorem q1_apply (x : Vec Ideal S1x256x256 .bf16) (r : Fin 256) (d : Fin 128) :
    q1 x (ix3 (0 : Fin 1) r d) = x (ix3 (0 : Fin 1) r (⟨128 + d.val, by omega⟩ : Fin 256)) := by
  refine View.ld_unit_apply_of _ _ _ _ _ _ fun a => ?_
  match a with
  | ⟨0, _⟩ => rfl
  | ⟨1, _⟩ => exact (Nat.zero_add _).symm
  | ⟨2, _⟩ => rfl

/-- The product of a query row's half with a key tile's row. -/
theorem dot0 {off : Fin 3 → ℕ} {inb} (x0 : Vec Ideal S1x256x256 .bf16) (x1 : Vec Ideal S1x8192x256 .bf16) (b : ℕ) (hoff : off = ![0, 256 * b, 0]) (r l : Fin 256) (hb : b < 32) :
    (∑ x : Fin 128, q0 x0 (ix3 (0 : Fin 1) r x) * View.ld (Val := Elt Ideal) (e' := .bf16) x1 (Rect.unit off S1x256x128.size inb) (ix3 (0 : Fin 1) l x))
      = ∑ x : Fin 128, x0 (ix3 (0 : Fin 1) r (⟨0 + x.val, by omega⟩ : Fin 256))
        * x1 (ix3 (0 : Fin 1) (⟨256 * b + l.val, by omega⟩ : Fin 8192) (⟨0 + x.val, by omega⟩ : Fin 256)) :=
  Finset.sum_congr rfl fun x _ => congrArg₂ (· * ·) (q0_apply x0 r x) (ld_key x1 b 0 hoff (by omega) l x hb)

theorem dot1 {off : Fin 3 → ℕ} {inb} (x0 : Vec Ideal S1x256x256 .bf16) (x1 : Vec Ideal S1x8192x256 .bf16) (b : ℕ) (hoff : off = ![0, 256 * b, 128]) (r l : Fin 256) (hb : b < 32) :
    (∑ x : Fin 128, q1 x0 (ix3 (0 : Fin 1) r x) * View.ld (Val := Elt Ideal) (e' := .bf16) x1 (Rect.unit off S1x256x128.size inb) (ix3 (0 : Fin 1) l x))
      = ∑ x : Fin 128, x0 (ix3 (0 : Fin 1) r (⟨128 + x.val, by omega⟩ : Fin 256))
        * x1 (ix3 (0 : Fin 1) (⟨256 * b + l.val, by omega⟩ : Fin 8192) (⟨128 + x.val, by omega⟩ : Fin 256)) :=
  Finset.sum_congr rfl fun x _ => congrArg₂ (· * ·) (q1_apply x0 r x) (ld_key x1 b 128 hoff (by omega) l x hb)

/-! ## The recursion -/

/-- What the blocks a grid point reads say of row `r`: half `o / 128` scores key `256 b + l` at `z`, minus infinity where the
    key's chunk is a later one. -/
def Scores (i : grid0.Coords) (x0 : Vec Ideal S1x256x256 .bf16) (x1 : Vec Ideal S1x8192x256 .bf16) (x4 : Vec Ideal S3x1x256x256 .f32)
    (z : ℕ → EReal) (r : Fin 256) (o : ℕ) (ho : o + 128 ≤ 256) : Prop :=
  ∀ (b : ℕ) (hb : b < 32) (l : Fin 256), b ≤ (i 2).val →
    z (256 * b + l.val) = if (256 * b + l.val) / 64 ≤ (256 * (i 2).val + r.val) / 64 then
      (∑ x : Fin 128, x0 (ix3 (0 : Fin 1) r (⟨o + x.val, by omega⟩ : Fin 256))
        * x1 (ix3 (0 : Fin 1) (⟨256 * b + l.val, by omega⟩ : Fin 8192) (⟨o + x.val, by omega⟩ : Fin 256))) * Ideal.ofBits FTy.f32 1035273459#32
      + x4 (ix4 (⟨min ((i 2).val - b) 2, by omega⟩ : Fin 3) (0 : Fin 1) r l) else ⊥

/-- After `n` trips. -/
theorem state_eq (i : grid0.Coords) (x0 : Vec Ideal S1x256x256 .bf16) (x1 x2 : Vec Ideal S1x8192x256 .bf16) (x4 : Vec Ideal S3x1x256x256 .f32)
    (z0 z1 v : ℕ → EReal) (r d : Fin 256) (hz0 : ∀ s, z0 s ≠ ⊤) (hz1 : ∀ s, z1 s ≠ ⊤)
    (h0 : Scores i x0 x1 x4 z0 r 0 (by omega)) (h1 : Scores i x0 x1 x4 z1 r 128 (by omega))
    (hv : ∀ s : Fin 8192, x2 (ix3 (0 : Fin 1) s d) = v s.val) :
    ∀ n, n ≤ (i 2).val → Both z0 z1 v r d n (state (F := Ideal) i x0 x1 x2 x4 n)
  | 0, _ => both_zero z0 z1 v r d
  | n + 1, hn => by
    have hi : (i 2).val < 32 := (i 2).isLt
    have ht : n < (k0_t1_loop i).trips := lt_of_lt_of_eq hn (trips_eq i).symm
    have ih := state_eq i x0 x1 x2 x4 z0 z1 v r d hz0 hz1 h0 h1 hv n (Nat.le_of_succ_le hn)
    have hst : state (F := Ideal) i x0 x1 x2 x4 (n + 1) = trip i x0 x1 x2 x4 ⟨n, ht⟩ (state i x0 x1 x2 x4 n) := dif_pos ht
    rw [hst]
    unfold trip tileB tileV tileK0 tileK1
    refine ih.step hz0 hz1 _ _ _ (fun l => ?_) (fun l => ?_) (fun l => ?_)
    · rw [h0 n (by omega) l (by omega), if_pos (by omega), pay54_apply, pay2_apply,
        ld_bias x4 ⟨min ((i 2).val - n) 2, by omega⟩ (off1_eq i ⟨n, ht⟩), dot0 x0 x1 n (off3_eq i ⟨n, ht⟩) r l (by omega)]
    · rw [h1 n (by omega) l (by omega), if_pos (by omega), pay54_apply, pay2_apply,
        ld_bias x4 ⟨min ((i 2).val - n) 2, by omega⟩ (off1_eq i ⟨n, ht⟩), dot1 x0 x1 n (off4_eq i ⟨n, ht⟩) r l (by omega)]
    · rw [pay45_apply, ld_val x2 n (off2_eq i ⟨n, ht⟩) l d (by omega), hv]

/-- A score of the diagonal tile with its masked bias. -/
theorem masked (p : Prop) [Decidable p] (a b : EReal) : a + (b + if p then 0 else ⊥) = if p then a + b else ⊥ := by
  by_cases h : p
  · rw [if_pos h, if_pos h, add_zero]
  · rw [if_neg h, if_neg h, EReal.add_bot, EReal.add_bot]

/-- After the diagonal tile. -/
theorem diag_eq (i : grid0.Coords) (x0 : Vec Ideal S1x256x256 .bf16) (x1 x2 : Vec Ideal S1x8192x256 .bf16) (x4 : Vec Ideal S3x1x256x256 .f32)
    (z0 z1 v : ℕ → EReal) (r d : Fin 256) (hz0 : ∀ s, z0 s ≠ ⊤) (hz1 : ∀ s, z1 s ≠ ⊤)
    (h0 : Scores i x0 x1 x4 z0 r 0 (by omega)) (h1 : Scores i x0 x1 x4 z1 r 128 (by omega))
    (hv : ∀ s : Fin 8192, x2 (ix3 (0 : Fin 1) s d) = v s.val) :
    Both z0 z1 v r d ((i 2).val + 1) (diag (F := Ideal) i x0 x1 x2 x4 (state i x0 x1 x2 x4 (k0_t1_loop i).trips)) := by
  have hi : (i 2).val < 32 := (i 2).isLt
  have hs := state_eq i x0 x1 x2 x4 z0 z1 v r d hz0 hz1 h0 h1 hv (i 2).val le_rfl
  rw [trips_eq]
  have hmin : (⟨min ((i 2).val - (i 2).val) 2, by omega⟩ : Fin 3) = (0 : Fin 3) := Fin.ext (by simp)
  unfold diag diagB diagV diagK0 diagK1
  refine hs.step hz0 hz1 _ _ _ (fun l => ?_) (fun l => ?_) (fun l => ?_)
  · rw [h0 (i 2).val hi l le_rfl, pay54_apply, pay44_apply, ld_bias x4 (0 : Fin 3) (off9_eq i), masked, hmin,
      dot0 x0 x1 (i 2).val (off11_eq i) r l hi]
  · rw [h1 (i 2).val hi l le_rfl, pay54_apply, pay44_apply, ld_bias x4 (0 : Fin 3) (off9_eq i), masked, hmin,
      dot1 x0 x1 (i 2).val (off12_eq i) r l hi]
  · rw [pay45_apply, ld_val x2 (i 2).val (off10_eq i) l d hi, hv]

end Cert.Proof.Diff

end
-- ==== Proof.DiffLeave.lean ====
/-
  The last step of the differential attention kernel at an index: the two halves' quotients, their difference by the
  mixing weight, its normalisation and its gate.
-/
module

public import proofs.«01_k».proof.Proof.DiffStep
public import proofs.«01_k».proof.Proof.DiffFine

@[expose] public section

set_option maxRecDepth 16384

noncomputable section

namespace Cert.Proof.Diff

open Cert.DiffIdeal Cert.DiffIdeal.Gen Idealize.ShloMosaic Idealize.ShloMosaic.TcCoe Idealize.SL.Sem

/-- The difference of the two halves' quotients. -/
theorem pay63_apply (a b e f : Vec Ideal S1x128 .f32) (A0 A1 : Vec Ideal S1x256x256 .f32) (L0 L1 : Vec Ideal S1x256x128 .f32) (r d : Fin 256)
    (c0 c1 : EReal) (h0 : ∀ e : Fin 128, L0 (ix3 (0 : Fin 1) r e) = c0) (h1 : ∀ e : Fin 128, L1 (ix3 (0 : Fin 1) r e) = c1) :
    k0_pay63 (F := Ideal) (k0_pay62 a) b e f A0 L0 A1 L1 (ix2 r d)
      = Ideal.div (A0 (ix3 (0 : Fin 1) r d)) c0
        - (Ideal.exp (∑ x : Fin 128, a (ix2 (0 : Fin 1) x) * b (ix2 (0 : Fin 1) x)) - Ideal.exp (∑ x : Fin 128, e (ix2 (0 : Fin 1) x) * f (ix2 (0 : Fin 1) x))
            + Ideal.ofBits FTy.f32 1045220557#32) * Ideal.div (A1 (ix3 (0 : Fin 1) r d)) c1 := by
  pointwise [k0_pay63, k0_pay62]
  simp only [h0, h1, ite_self, dite_eq_ite]

/-- The mean square of a row of differences. -/
theorem pay64_apply (a b e f : Vec Ideal S1x128 .f32) (A0 A1 : Vec Ideal S1x256x256 .f32) (L0 L1 : Vec Ideal S1x256x128 .f32) (r : Fin 256) :
    k0_pay64 (F := Ideal) (k0_pay62 a) b e f A0 L0 A1 L1 (ix2 r (0 : Fin 1))
      = Ideal.div (∑ x : Fin 256, k0_pay63 (F := Ideal) (k0_pay62 a) b e f A0 L0 A1 L1 (ix2 r x) * k0_pay63 (F := Ideal) (k0_pay62 a) b e f A0 L0 A1 L1 (ix2 r x))
        (Ideal.ofBits FTy.f32 1132462080#32) := by
  pointwise [k0_pay64]

/-- The normalised, scaled and gated difference. -/
theorem pay1_apply (o : FVec Ideal S256x256 .f32) (ms : FVec Ideal S256x1 .f32) (w : Vec Ideal S1x256 .f32) (g : Vec Ideal S1x256x256 .f32) (r d : Fin 256)
    (hms : ms (ix2 r (0 : Fin 1)) = Ideal.div (∑ x : Fin 256, o (ix2 r x) * o (ix2 r x)) (Ideal.ofBits FTy.f32 1132462080#32)) :
    k0_pay1 (F := Ideal) o ms w g (ix3 (0 : Fin 1) r d) = normed (fun x => o (ix2 r x)) d (w (ix2 (0 : Fin 1) d)) (g (ix3 (0 : Fin 1) r d)) := by
  unfold normed
  rw [← hms]
  pointwise [k0_pay1]

/-- The rows of the mixing weight's parameters. -/
theorem row0_apply (x : Vec Ideal S4x128 .f32) (d : Fin 128) : lamRow0 x (ix2 (0 : Fin 1) d) = x (ix2 (0 : Fin 4) d) := by
  refine View.ld_unit_apply_of _ _ _ _ _ _ fun a => ?_
  match a with
  | ⟨0, _⟩ => rfl
  | ⟨1, _⟩ => exact (Nat.zero_add _).symm

theorem row1_apply (x : Vec Ideal S4x128 .f32) (d : Fin 128) : lamRow1 x (ix2 (0 : Fin 1) d) = x (ix2 (1 : Fin 4) d) := by
  refine View.ld_unit_apply_of _ _ _ _ _ _ fun a => ?_
  match a with
  | ⟨0, _⟩ => rfl
  | ⟨1, _⟩ => exact (Nat.zero_add _).symm

theorem row2_apply (x : Vec Ideal S4x128 .f32) (d : Fin 128) : lamRow2 x (ix2 (0 : Fin 1) d) = x (ix2 (2 : Fin 4) d) := by
  refine View.ld_unit_apply_of _ _ _ _ _ _ fun a => ?_
  match a with
  | ⟨0, _⟩ => rfl
  | ⟨1, _⟩ => exact (Nat.zero_add _).symm

theorem row3_apply (x : Vec Ideal S4x128 .f32) (d : Fin 128) : lamRow3 x (ix2 (0 : Fin 1) d) = x (ix2 (3 : Fin 4) d) := by
  refine View.ld_unit_apply_of _ _ _ _ _ _ fun a => ?_
  match a with
  | ⟨0, _⟩ => rfl
  | ⟨1, _⟩ => exact (Nat.zero_add _).symm

/-- The block a grid point leaves, at an index: where both halves hold their sums over the first `256 n` keys and no key
    from there on has a score. -/
theorem leave_apply (x5 : Vec Ideal S4x128 .f32) (x6 : Vec Ideal S1x256 .f32) (x3 : Vec Ideal S1x256x256 .f32) (S : Scratch Ideal)
    (z0 z1 : ℕ → EReal) (v : Fin 256 → ℕ → EReal) (w : EReal) (r d : Fin 256) (n : ℕ) (hn : n ≤ 32)
    (hS : ∀ d, Both z0 z1 (v d) r d n S) (hz0 : ∀ s, 256 * n ≤ s → z0 s = ⊥) (hz1 : ∀ s, 256 * n ≤ s → z1 s = ⊥)
    (hw : w = Ideal.exp (∑ x : Fin 128, x5 (ix2 (0 : Fin 4) x) * x5 (ix2 (1 : Fin 4) x))
      - Ideal.exp (∑ x : Fin 128, x5 (ix2 (2 : Fin 4) x) * x5 (ix2 (3 : Fin 4) x)) + Ideal.ofBits FTy.f32 1045220557#32) :
    leave (F := Ideal) x5 x6 x3 S (ix3 (0 : Fin 1) r d) = normed (fun x => mixed z0 z1 (v x) w) d (x6 (ix2 (0 : Fin 1) d)) (x3 (ix3 (0 : Fin 1) r d)) := by
  have h63 : ∀ x : Fin 256, k0_pay63 (F := Ideal) (k0_pay62 (lamRow0 x5)) (lamRow1 x5) (lamRow2 x5) (lamRow3 x5) (lowA S.a) (low S.l) (highA S.a) (high S.l) (ix2 r x)
      = mixed z0 z1 (v x) w := fun x => by
    have t0 := top_extend (n := 256 * n) (n' := 8192) (by omega) hz0
    have t1 := top_extend (n := 256 * n) (n' := 8192) (by omega) hz1
    rw [pay63_apply _ _ _ _ _ _ _ _ r x _ _ (hS x).1.l (hS x).2.l, (hS x).1.a, (hS x).2.a]
    unfold mixed
    rw [hw, t0, t1, mass_extend (n := 256 * n) (n' := 8192) _ (by omega) hz0, mass_extend (n := 256 * n) (n' := 8192) _ (by omega) hz1,
      pull_extend (n := 256 * n) (n' := 8192) _ _ (by omega) hz0, pull_extend (n := 256 * n) (n' := 8192) _ _ (by omega) hz1]
    rw [Finset.sum_congr rfl fun e _ => congrArg₂ (· * ·) (row0_apply x5 e) (row1_apply x5 e),
      Finset.sum_congr rfl fun e _ => congrArg₂ (· * ·) (row2_apply x5 e) (row3_apply x5 e)]
  unfold leave
  rw [pay1_apply _ _ _ _ r d (pay64_apply _ _ _ _ _ _ _ _ r)]
  exact congrArg (fun o => normed o d (x6 (ix2 (0 : Fin 1) d)) (x3 (ix3 (0 : Fin 1) r d))) (funext h63)

end Cert.Proof.Diff

end
-- ==== Proof.DiffRefDef.lean ====
/-
  The reference of differential attention in named pieces: the two halves' masked scores, their softmaxes, the sum of
  the values by the difference of the softmaxes, its normalisation and its gate.
-/
module

public import proofs.«01_k».proof.Proof.Gen.DiffRefIdeal.Run
public import Idealize.ShloMosaic.Lib.Pipeline.ValueKit

@[expose] public section

set_option maxRecDepth 16384

noncomputable section

namespace Cert.Proof.Diff

open Cert.DiffRefIdeal Cert.DiffRefIdeal.Gen Idealize.ShloMosaic Idealize.ShloMosaic.TcCoe Idealize.SL.Sem

/-- The positions. -/
def refPos : IVec S8192 32 :=
  iotaInDim S8192 32 0

/-- How many blocks of 256 the query stands after the key. -/
def refDist : IVec S8192x8192 32 :=
  subi (broadcastInDim S8192x8192 ![0, 1] bcast_S8192x1_S8192x8192_0_1 (Host.shrsi (broadcastInDim S8192x1 ![0] bcast_S8192_S8192x1_0 refPos) (broadcastInDim S8192x1 ![] bcast_S_S8192x1 (constantI S_ 32 8#32)))) (broadcastInDim S8192x8192 ![0, 1] bcast_S1x8192_S8192x8192_0_1 (Host.shrsi (broadcastInDim S1x8192 ![1] bcast_S8192_S1x8192_1 refPos) (broadcastInDim S1x8192 ![] bcast_S_S1x8192 (constantI S_ 32 8#32))))

/-- The first bias tile of every head, repeated over the pairs of blocks. -/
def refTile0 (b : FVec Ideal S3x8x256x256 .f32) : FVec Ideal S8x8192x8192 .f32 :=
  shapeCast _ (broadcastInDim S8x32x256x32x256 ![0, 1, 2, 3, 4] bcast_S8x1x256x1x256_S8x32x256x32x256_0_1_2_3_4 (broadcastInDim S8x1x256x1x256 ![0, 2, 4] bcast_S8x256x256_S8x1x256x1x256_0_2_4 (shapeCast _ (extractStridedSlice S1x8x256x256 ![0, 0, 0, 0] b slices_S3x8x256x256_S1x8x256x256_0_0_0_0) shapeCasts_S1x8x256x256_S8x256x256))) shapeCasts_S8x32x256x32x256_S8x8192x8192

/-- The second bias tile of every head, repeated over the pairs of blocks. -/
def refTile1 (b : FVec Ideal S3x8x256x256 .f32) : FVec Ideal S8x8192x8192 .f32 :=
  shapeCast _ (broadcastInDim S8x32x256x32x256 ![0, 1, 2, 3, 4] bcast_S8x1x256x1x256_S8x32x256x32x256_0_1_2_3_4 (broadcastInDim S8x1x256x1x256 ![0, 2, 4] bcast_S8x256x256_S8x1x256x1x256_0_2_4 (shapeCast _ (extractStridedSlice S1x8x256x256 ![1, 0, 0, 0] b slices_S3x8x256x256_S1x8x256x256_1_0_0_0) shapeCasts_S1x8x256x256_S8x256x256))) shapeCasts_S8x32x256x32x256_S8x8192x8192

/-- The third bias tile of every head, repeated over the pairs of blocks. -/
def refTile2 (b : FVec Ideal S3x8x256x256 .f32) : FVec Ideal S8x8192x8192 .f32 :=
  shapeCast _ (broadcastInDim S8x32x256x32x256 ![0, 1, 2, 3, 4] bcast_S8x1x256x1x256_S8x32x256x32x256_0_1_2_3_4 (broadcastInDim S8x1x256x1x256 ![0, 2, 4] bcast_S8x256x256_S8x1x256x1x256_0_2_4 (shapeCast _ (extractStridedSlice S1x8x256x256 ![2, 0, 0, 0] b slices_S3x8x256x256_S1x8x256x256_2_0_0_0) shapeCasts_S1x8x256x256_S8x256x256))) shapeCasts_S8x32x256x32x256_S8x8192x8192

/-- The bias of every head, query and key: by the distance of their blocks. -/
def refBias (b : FVec Ideal S3x8x256x256 .f32) : FVec Ideal S1x8x2x8192x8192 .f32 :=
  broadcastInDim S1x8x2x8192x8192 ![0, 1, 2, 3, 4] bcast_S1x8x1x8192x8192_S1x8x2x8192x8192_0_1_2_3_4 (broadcastInDim S1x8x1x8192x8192 ![1, 3, 4] bcast_S8x8192x8192_S1x8x1x8192x8192_1_3_4 (select (broadcastInDim S8x8192x8192 ![1, 2] bcast_S8192x8192_S8x8192x8192_1_2 (cmpi .eq refDist (broadcastInDim S8192x8192 ![] bcast_S_S8192x8192 (constantI S_ 32 0#32)))) (refTile0 b) (select (broadcastInDim S8x8192x8192 ![1, 2] bcast_S8192x8192_S8x8192x8192_1_2 (cmpi .eq refDist (broadcastInDim S8192x8192 ![] bcast_S_S8192x8192 (constantI S_ 32 1#32)))) (refTile1 b) (refTile2 b))))

/-- Which keys a query sees: those of its chunk and of earlier ones. -/
def refVis : IVec S1x8x2x8192x8192 1 :=
  broadcastInDim S1x8x2x8192x8192 ![3, 4] bcast_S8192x8192_S1x8x2x8192x8192_3_4 (cmpi .sle (broadcastInDim S8192x8192 ![0, 1] bcast_S1x8192_S8192x8192_0_1 (Host.shrsi (broadcastInDim S1x8192 ![1] bcast_S8192_S1x8192_1 refPos) (broadcastInDim S1x8192 ![] bcast_S_S1x8192 (constantI S_ 32 6#32)))) (broadcastInDim S8192x8192 ![0, 1] bcast_S8192x1_S8192x8192_0_1 (Host.shrsi (broadcastInDim S8192x1 ![0] bcast_S8192_S8192x1_0 refPos) (broadcastInDim S8192x1 ![] bcast_S_S8192x1 (constantI S_ 32 6#32)))))

/-- The scaled products of queries and keys. -/
def refSc (q : FVec Ideal S1x8192x5120 .bf16) (kv : FVec Ideal S1x8192x4096 .bf16) : FVec Ideal S1x8x2x8192x8192 .f32 :=
  mulf (Host.dotGeneral dot_S1x8192x8x2x128_S1x8192x8x2x128_S1x8x2x8192x8192_4_4_1_1_023_023 none (shapeCast _ (extf .f32 (extractStridedSlice S1x8192x2048 ![0, 0, 3072] q slices_S1x8192x5120_S1x8192x2048_0_0_3072) bitsLt_bf16_f32) shapeCasts_S1x8192x2048_S1x8192x8x2x128) (shapeCast _ (extf .f32 (extractStridedSlice S1x8192x2048 ![0, 0, 0] kv slices_S1x8192x4096_S1x8192x2048_0_0_0) bitsLt_bf16_f32) shapeCasts_S1x8192x2048_S1x8192x8x2x128)) (broadcastInDim S1x8x2x8192x8192 ![] bcast_S_S1x8x2x8192x8192 (constant S_ .f32 0x3DB504F3#32))

/-- The scores, minus infinity at the keys not seen. -/
def refM (q : FVec Ideal S1x8192x5120 .bf16) (kv : FVec Ideal S1x8192x4096 .bf16) (b : FVec Ideal S3x8x256x256 .f32) : FVec Ideal S1x8x2x8192x8192 .f32 :=
  select refVis (addf (refSc q kv) (refBias b)) (broadcastInDim S1x8x2x8192x8192 ![] bcast_S_S1x8x2x8192x8192 (id (constant S_ .f32 0xFF800000#32)))

/-- The maximum of every row of scores. -/
def refTop (z : FVec Ideal S1x8x2x8192x8192 .f32) : FVec Ideal S1x8x2x8192 .f32 :=
  maximumf (broadcastInDim S1x8x2x8192 ![] bcast_S_S1x8x2x8192 (constant S_ .f32 0xFF800000#32)) (Host.reduce FloatOps.maximumf z (constant S_ .f32 0xFF800000#32) reducesTo_S1x8x2x8192x8192_S1x8x2x8192_d4 h_S_)

/-- The exponentials of scores relative to their row's maximum. -/
def refE (z : FVec Ideal S1x8x2x8192x8192 .f32) : FVec Ideal S1x8x2x8192x8192 .f32 :=
  Host.exp (subf z (broadcastInDim S1x8x2x8192x8192 ![0, 1, 2, 3, 4] bcast_S1x8x2x8192x1_S1x8x2x8192x8192_0_1_2_3_4 (broadcastInDim S1x8x2x8192x1 ![0, 1, 2, 3] bcast_S1x8x2x8192_S1x8x2x8192x1_0_1_2_3 (refTop z))))

/-- The softmax of scores. -/
def refP (z : FVec Ideal S1x8x2x8192x8192 .f32) : FVec Ideal S1x8x2x8192x8192 .f32 :=
  Host.divf (refE z) (broadcastInDim S1x8x2x8192x8192 ![0, 1, 2, 3, 4] bcast_S1x8x2x8192x1_S1x8x2x8192x8192_0_1_2_3_4 (broadcastInDim S1x8x2x8192x1 ![0, 1, 2, 3] bcast_S1x8x2x8192_S1x8x2x8192x1_0_1_2_3 (Host.reduceAdd (refE z) (constant S_ .f32 0x00000000#32) reducesTo_S1x8x2x8192x8192_S1x8x2x8192_d4 h_S_)))

/-- The four rows of the mixing weight's parameters. -/
def refRows (l : FVec Ideal S1x4x128 .f32) : FVec Ideal S4x128 .f32 :=
  shapeCast _ l shapeCasts_S1x4x128_S4x128

/-- The mixing weight. -/
def refLam (l : FVec Ideal S1x4x128 .f32) : FVec Ideal S_ .f32 :=
  addf (subf (Host.exp (Host.reduceAdd (mulf (shapeCast _ (extractStridedSlice S1x128 ![0, 0] (refRows l) slices_S4x128_S1x128_0_0) shapeCasts_S1x128_S128) (shapeCast _ (extractStridedSlice S1x128 ![1, 0] (refRows l) slices_S4x128_S1x128_1_0) shapeCasts_S1x128_S128)) (constant S_ .f32 0x00000000#32) reducesTo_S128_S_d0 h_S_)) (Host.exp (Host.reduceAdd (mulf (shapeCast _ (extractStridedSlice S1x128 ![2, 0] (refRows l) slices_S4x128_S1x128_2_0) shapeCasts_S1x128_S128) (shapeCast _ (extractStridedSlice S1x128 ![3, 0] (refRows l) slices_S4x128_S1x128_3_0) shapeCasts_S1x128_S128)) (constant S_ .f32 0x00000000#32) reducesTo_S128_S_d0 h_S_))) (constant S_ .f32 0x3E4CCCCD#32)

/-- The sums of the values by the difference of the two softmaxes. -/
def refS (kv : FVec Ideal S1x8192x4096 .bf16) (l : FVec Ideal S1x4x128 .f32) (p : FVec Ideal S1x8x2x8192x8192 .f32) : FVec Ideal S1x8192x8x256 .f32 :=
  transpose S1x8192x8x256 [0, 3, 1, 2] (Host.dotGeneral dot_S1x8192x8x256_S1x8x8192x8192_S1x8x256x8192_1_3_3_2_02_01 none (shapeCast _ (extf .f32 (extractStridedSlice S1x8192x2048 ![0, 0, 2048] kv slices_S1x8192x4096_S1x8192x2048_0_0_2048) bitsLt_bf16_f32) shapeCasts_S1x8192x2048_S1x8192x8x256) (subf (shapeCast _ (extractStridedSlice S1x8x1x8192x8192 ![0, 0, 0, 0, 0] p slices_S1x8x2x8192x8192_S1x8x1x8192x8192_0_0_0_0_0) shapeCasts_S1x8x1x8192x8192_S1x8x8192x8192) (mulf (broadcastInDim S1x8x8192x8192 ![] bcast_S_S1x8x8192x8192 (refLam l)) (shapeCast _ (extractStridedSlice S1x8x1x8192x8192 ![0, 0, 1, 0, 0] p slices_S1x8x2x8192x8192_S1x8x1x8192x8192_0_0_1_0_0) shapeCasts_S1x8x1x8192x8192_S1x8x8192x8192)))) transposes_S1x8x256x8192_S1x8192x8x256_0_3_1_2

/-- The half of the gates. -/
def refGate (g : FVec Ideal S1x8192x4096 .f32) : FVec Ideal S1x8192x2048 .f32 :=
  extractStridedSlice S1x8192x2048 ![0, 0, 2048] g slices_S1x8192x4096_S1x8192x2048_0_0_2048

/-- The sums divided by their root mean square, scaled and gated. -/
def refFin (o : FVec Ideal S1x8192x8x256 .f32) (g : FVec Ideal S1x8192x4096 .f32) (w : FVec Ideal S1x256 .f32) : FVec Ideal S1x8192x2048 .bf16 :=
  truncf .bf16 (mulf (shapeCast _ (mulf (mulf (mulf o (broadcastInDim S1x8192x8x256 ![0, 1, 2, 3] bcast_S1x8192x8x1_S1x8192x8x256_0_1_2_3 (Host.rsqrt (addf (Host.divf (broadcastInDim S1x8192x8x1 ![0, 1, 2] bcast_S1x8192x8_S1x8192x8x1_0_1_2 (Host.reduceAdd (mulf o o) (constant S_ .f32 0x00000000#32) reducesTo_S1x8192x8x256_S1x8192x8_d3 h_S_)) (broadcastInDim S1x8192x8x1 ![] bcast_S_S1x8192x8x1 (constant S_ .f32 0x43800000#32))) (broadcastInDim S1x8192x8x1 ![] bcast_S_S1x8192x8x1 (constant S_ .f32 0x358637BD#32)))))) (broadcastInDim S1x8192x8x256 ![0, 1, 2, 3] bcast_S1x1x1x256_S1x8192x8x256_0_1_2_3 (broadcastInDim S1x1x1x256 ![3] bcast_S256_S1x1x1x256_3 (shapeCast _ w shapeCasts_S1x256_S256)))) (broadcastInDim S1x8192x8x256 ![] bcast_S_S1x8192x8x256 (constant S_ .f32 0x3F4CCCCD#32))) shapeCasts_S1x8192x8x256_S1x8192x2048) (mulf (refGate g) (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (refGate g))))))) bitsLt_bf16_f32

/-- The reference's result, of its six arguments. -/
def REF (q : FVec Ideal S1x8192x5120 .bf16) (kv : FVec Ideal S1x8192x4096 .bf16) (g : FVec Ideal S1x8192x4096 .f32)
    (b : FVec Ideal S3x8x256x256 .f32) (l : FVec Ideal S1x4x128 .f32) (w : FVec Ideal S1x256 .f32) : FVec Ideal S1x8192x2048 .bf16 :=
  refFin (refS kv l (refP (refM q kv b))) g w

section
variable (m : (ℓ : Loc nD τ sig) → Buf (Elt Ideal) ℓ)

/-- The reference's result of a run's arguments. -/
abbrev runOut (c : Dev nD) : FVec Ideal S1x8192x2048 .bf16 :=
  REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference runs to its end, at its result, its arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v119) = runOut m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  Cert.DiffRefIdeal.Value.run m ρ

end

end Cert.Proof.Diff

end
-- ==== Proof.DiffRefRow.lean ====
/-
  A row of the reference's scores: its maximum, its exponentials and its softmax.
-/
module

public import proofs.«01_k».proof.Proof.DiffRefDef
public import proofs.«01_k».proof.Proof.DiffMath

@[expose] public section

set_option maxRecDepth 16384

noncomputable section

namespace Cert.Proof.Diff

open Cert.DiffRefIdeal Cert.DiffRefIdeal.Gen Idealize.ShloMosaic Idealize.ShloMosaic.TcCoe Idealize.SL.Sem

/-- The fold of the maximum over `n` entries is the largest of them. -/
theorem fold_top (f : ℕ → EReal) (n : ℕ) : (Finset.univ : Finset (Fin n)).fold max ⊥ (fun x => f x.val) = top f n := by
  show (Finset.univ : Finset (Fin n)).sup (fun x => f x.val) = (Finset.range n).sup f
  refine le_antisymm (Finset.sup_le fun x _ => Finset.le_sup (f := f) (Finset.mem_range.2 x.isLt)) (Finset.sup_le fun s hs => ?_)
  exact Finset.le_sup (f := fun x : Fin n => f x.val) (Finset.mem_univ (⟨s, Finset.mem_range.1 hs⟩ : Fin n))

/-- The maximum along the last of five axes, at an index. -/
theorem fold_apply {n0 n1 n2 n3 n4 : ℕ} {u : Shape} (z : FVec Ideal ⟨5, ![n0, n1, n2, n3, n4]⟩ .f32) (w : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf z w h hu (ix4 a b c d)
      = (Finset.univ : Finset (Fin n4)).fold max (w (Shape.Idx.first hu)) fun x => z (ix5 a b c d x) := by
  pointwise

/-- The reduction of a row of scores is the fold of the maximum over it. -/
theorem top_fold (z : FVec Ideal S1x8x2x8192x8192 .f32) (f : ℕ → EReal) (h : Fin 8) (c : Fin 2) (R : Fin 8192)
    (hf : ∀ s : Fin 8192, z (ix5 (0 : Fin 1) h c R s) = f s.val) :
      (Host.reduce FloatOps.maximumf z (constant S_ .f32 0xFF800000#32) reducesTo_S1x8x2x8192x8192_S1x8x2x8192_d4 h_S_ (ix4 (0 : Fin 1) h c R))
      = (Finset.univ : Finset (Fin 8192)).fold max (constant (F := Ideal) S_ .f32 0xFF800000#32 (Shape.Idx.first h_S_)) fun x => z (ix5 (0 : Fin 1) h c R x) :=
  fold_apply z _ _ _ _ _ _ _

/-- The larger of two arrays, at an index. -/
theorem larger {s : Shape} (x y : FVec Ideal s .f32) (i : s.Idx) : maximumf x y i = max (x i) (y i) := rfl

/-- A repeated literal, at an index. -/
theorem repeated (w : BitVec 32) (i : S1x8x2x8192.Idx) :
    broadcastInDim S1x8x2x8192 ![] bcast_S_S1x8x2x8192 (constant (F := Ideal) S_ .f32 w) i = Ideal.ofBits FTy.f32 w := rfl

/-- The maximum of a row of scores. -/
theorem top_apply (z : FVec Ideal S1x8x2x8192x8192 .f32) (f : ℕ → EReal) (h : Fin 8) (c : Fin 2) (R : Fin 8192)
    (hf : ∀ s : Fin 8192, z (ix5 (0 : Fin 1) h c R s) = f s.val) : refTop z (ix4 (0 : Fin 1) h c R) = top f 8192 := by
  have hb : Ideal.ofBits FTy.f32 0xFF800000#32 = (⊥ : EReal) := by simp [Ideal.ofBits, Ideal.ieee]
  have e2 : constant (F := Ideal) S_ .f32 0xFF800000#32 (Shape.Idx.first h_S_) = (⊥ : EReal) := hb
  have e3 : (fun x : Fin 8192 => z (ix5 (0 : Fin 1) h c R x)) = fun x => f x.val := funext hf
  have e4 := (top_fold z f h c R hf).trans ((congrArg₂ (fun b g => (Finset.univ : Finset (Fin 8192)).fold max b g) e2 e3).trans (fold_top f 8192))
  unfold refTop
  rw [larger, repeated, hb, e4]
  exact bot_sup_eq _

/-- The exponentials of a row of scores. -/
theorem e_apply (z : FVec Ideal S1x8x2x8192x8192 .f32) (f : ℕ → EReal) (h : Fin 8) (c : Fin 2) (R s : Fin 8192)
    (hf : ∀ s : Fin 8192, z (ix5 (0 : Fin 1) h c R s) = f s.val) :
    refE z (ix5 (0 : Fin 1) h c R s) = Ideal.exp (f s.val - top f 8192) := by
  have e : refE z (ix5 (0 : Fin 1) h c R s) = Ideal.exp (z (ix5 (0 : Fin 1) h c R s) - refTop z (ix4 (0 : Fin 1) h c R)) := by
    pointwise [refE]
  rw [e, top_apply z f h c R hf, hf]

/-- The softmax of a row of scores. -/
theorem p_apply (z : FVec Ideal S1x8x2x8192x8192 .f32) (f : ℕ → EReal) (h : Fin 8) (c : Fin 2) (R s : Fin 8192)
    (hf : ∀ s : Fin 8192, z (ix5 (0 : Fin 1) h c R s) = f s.val) :
    refP z (ix5 (0 : Fin 1) h c R s) = Ideal.div (Ideal.exp (f s.val - top f 8192)) (mass f (top f 8192) 8192) := by
  have e : refP z (ix5 (0 : Fin 1) h c R s) = Ideal.div (refE z (ix5 (0 : Fin 1) h c R s)) (∑ x : Fin 8192, refE z (ix5 (0 : Fin 1) h c R x)) := by
    pointwise [refP]
  have e2 : (∑ x : Fin 8192, refE z (ix5 (0 : Fin 1) h c R x)) = mass f (top f 8192) 8192 := by
    rw [mass, ← Fin.sum_univ_eq_sum_range (fun s => Ideal.exp (f s - top f 8192))]
    exact Finset.sum_congr rfl fun x _ => e_apply z f h c R x hf
  rw [e, e2, e_apply z f h c R s hf]

end Cert.Proof.Diff

end
-- ==== Proof.DiffRefScore.lean ====
/-
  The reference's masked scores and mixing weight at an index.
-/
module

public import proofs.«01_k».proof.Proof.DiffRefDef
public import proofs.«01_k».proof.Proof.DiffFine
public import proofs.«01_k».proof.Proof.DiffWord
public import Idealize.ShloMosaic.Lib.WordCmp

@[expose] public section

set_option maxRecDepth 16384

noncomputable section

namespace Cert.Proof.Diff

open Cert.DiffRefIdeal Cert.DiffRefIdeal.Gen Idealize.ShloMosaic Idealize.ShloMosaic.TcCoe Idealize.SL.Sem

/-- The words of a position's chunk and block. -/
theorem shift6 (n : ℕ) (hn : n < 8192) : IntOp.shrsi .host (BitVec.ofNat 32 n) 6#32 = BitVec.ofNat 32 (n / 64) :=
  shift_ofNat .host 6 n (by omega) (by omega)

theorem shift8 (n : ℕ) (hn : n < 8192) : IntOp.shrsi .host (BitVec.ofNat 32 n) 8#32 = BitVec.ofNat 32 (n / 256) :=
  shift_ofNat .host 8 n (by omega) (by omega)

/-- How many blocks a query stands after a key of its own block or of an earlier one. -/
theorem dist_apply (R s : Fin 8192) (h : s.val / 256 ≤ R.val / 256) : refDist (ix2 R s) = BitVec.ofNat 32 (R.val / 256 - s.val / 256) := by
  have e : refDist (ix2 R s) = IntOp.subi (IntOp.shrsi .host (BitVec.ofNat 32 R.val) 8#32) (IntOp.shrsi .host (BitVec.ofNat 32 s.val) 8#32) := by
    pointwise [refDist, refPos]
  rw [e, shift8 R.val R.isLt, shift8 s.val s.isLt]
  show BitVec.ofNat 32 (R.val / 256) - BitVec.ofNat 32 (s.val / 256) = _
  apply BitVec.eq_of_toNat_eq
  simp only [BitVec.toNat_sub, BitVec.toNat_ofNat]
  omega

theorem tile0_apply (b : FVec Ideal S3x8x256x256 .f32) (h : Fin 8) (R s : Fin 8192) :
    refTile0 b (ix3 h R s) = b (ix4 (0 : Fin 3) h (⟨R.val % 256, by omega⟩ : Fin 256) (⟨s.val % 256, by omega⟩ : Fin 256)) := by
  pointwise [refTile0]

theorem tile1_apply (b : FVec Ideal S3x8x256x256 .f32) (h : Fin 8) (R s : Fin 8192) :
    refTile1 b (ix3 h R s) = b (ix4 (1 : Fin 3) h (⟨R.val % 256, by omega⟩ : Fin 256) (⟨s.val % 256, by omega⟩ : Fin 256)) := by
  pointwise [refTile1]

theorem tile2_apply (b : FVec Ideal S3x8x256x256 .f32) (h : Fin 8) (R s : Fin 8192) :
    refTile2 b (ix3 h R s) = b (ix4 (2 : Fin 3) h (⟨R.val % 256, by omega⟩ : Fin 256) (⟨s.val % 256, by omega⟩ : Fin 256)) := by
  pointwise [refTile2]

/-- The words of small numbers are equal only when the numbers are. -/
theorem eq_word (n k : ℕ) (hn : n < 2 ^ 31) (hk : k < 2 ^ 31) {α : Type} (x y : α) :
    Scalar.select (IntOp.cmpi .eq (BitVec.ofNat 32 n) (BitVec.ofNat 32 k)) x y = if n = k then x else y := by
  by_cases h : n = k
  · rw [if_pos h, WordCmp.select_of_eq_one ((WordCmp.cmpi_eq_ofNat_eq_one_iff (by omega) (by omega)).2 h)]
  · rw [if_neg h, WordCmp.select_of_eq_zero ((WordCmp.cmpi_eq_ofNat_eq_zero_iff (by omega) (by omega)).2 h)]

/-- The bias of a query and a key of its own block or of an earlier one. -/
theorem bias_apply (b : FVec Ideal S3x8x256x256 .f32) (h : Fin 8) (c : Fin 2) (R s : Fin 8192) (hs : s.val / 256 ≤ R.val / 256) :
    refBias b (ix5 (0 : Fin 1) h c R s) = b (ix4 (⟨min (R.val / 256 - s.val / 256) 2, by omega⟩ : Fin 3) h
      (⟨R.val % 256, by omega⟩ : Fin 256) (⟨s.val % 256, by omega⟩ : Fin 256)) := by
  have e : refBias b (ix5 (0 : Fin 1) h c R s) = Scalar.select (IntOp.cmpi .eq (refDist (ix2 R s)) (BitVec.ofNat 32 0)) (refTile0 b (ix3 h R s))
      (Scalar.select (IntOp.cmpi .eq (refDist (ix2 R s)) (BitVec.ofNat 32 1)) (refTile1 b (ix3 h R s)) (refTile2 b (ix3 h R s))) := by
    pointwise [refBias]
  rw [e, dist_apply R s hs, eq_word _ _ (by omega) (by omega), eq_word _ _ (by omega) (by omega), tile0_apply, tile1_apply, tile2_apply]
  by_cases h0 : R.val / 256 - s.val / 256 = 0
  · rw [if_pos h0]
    congr 1
    congr 1
    exact Fin.ext (by show 0 = min _ 2; omega)
  · rw [if_neg h0]
    by_cases h1 : R.val / 256 - s.val / 256 = 1
    · rw [if_pos h1]
      congr 1
      congr 1
      exact Fin.ext (by show 1 = min _ 2; omega)
    · rw [if_neg h1]
      congr 1
      congr 1
      exact Fin.ext (by show 2 = min _ 2; omega)

/-- A query sees the keys of its chunk of 64 and of earlier ones. -/
theorem vis_apply {α : Type} (h : Fin 8) (c : Fin 2) (R s : Fin 8192) (x y : α) :
    Scalar.select (refVis (ix5 (0 : Fin 1) h c R s)) x y = if s.val / 64 ≤ R.val / 64 then x else y := by
  have e : refVis (ix5 (0 : Fin 1) h c R s) = IntOp.cmpi .sle (IntOp.shrsi .host (BitVec.ofNat 32 s.val) 6#32) (IntOp.shrsi .host (BitVec.ofNat 32 R.val) 6#32) := by
    pointwise [refVis, refPos]
  rw [e, shift6 R.val R.isLt, shift6 s.val s.isLt]
  by_cases hs : s.val / 64 ≤ R.val / 64
  · rw [if_pos hs, WordCmp.select_of_eq_one ((WordCmp.cmpi_sle_ofNat_eq_one_iff (by omega) (by omega)).2 hs)]
  · rw [if_neg hs, WordCmp.select_of_eq_zero ((WordCmp.cmpi_sle_ofNat_eq_zero_iff (by omega) (by omega)).2 (by omega))]

/-- The reference's masked score at an index. -/
theorem m_apply (q : FVec Ideal S1x8192x5120 .bf16) (kv : FVec Ideal S1x8192x4096 .bf16) (b : FVec Ideal S3x8x256x256 .f32) (h : Fin 8) (c : Fin 2) (R s : Fin 8192) :
    refM q kv b (ix5 (0 : Fin 1) h c R s) = score q kv b h c R s.val := by
  have e : refM q kv b (ix5 (0 : Fin 1) h c R s) = Scalar.select (refVis (ix5 (0 : Fin 1) h c R s))
      (refSc q kv (ix5 (0 : Fin 1) h c R s) + refBias b (ix5 (0 : Fin 1) h c R s)) (id (constant (F := Ideal) S_ .f32 0xFF800000#32) ix0) := by
    pointwise [refM]
  have hb : id (constant (F := Ideal) S_ .f32 0xFF800000#32) ix0 = (⊥ : EReal) := by
    show Ideal.ofBits FTy.f32 0xFF800000#32 = ⊥
    simp [Ideal.ofBits, Ideal.ieee]
  have e2 : refSc q kv (ix5 (0 : Fin 1) h c R s) = (∑ x : Fin 128, q (ix3 (0 : Fin 1) R (⟨3072 + (h.val * 256 + c.val * 128 + x.val), by omega⟩ : Fin 5120))
      * kv (ix3 (0 : Fin 1) s (⟨h.val * 256 + c.val * 128 + x.val, by omega⟩ : Fin 4096))) * Ideal.ofBits FTy.f32 1035273459#32 := by
    pointwise [refSc]
  rw [e, vis_apply, hb, e2]
  unfold score
  rw [dif_pos s.isLt]
  by_cases hs : s.val / 64 ≤ R.val / 64
  · rw [if_pos hs, if_pos hs, bias_apply b h c R s (by omega)]
  · rw [if_neg hs, if_neg hs]

/-- The mixing weight's value. -/
theorem lam_apply (l : FVec Ideal S1x4x128 .f32) : refLam l ix0 = lam l := by
  unfold lam
  pointwise [refLam, refRows]

end Cert.Proof.Diff

end
-- ==== Proof.DiffRef.lean ====
/-
  The reference of differential attention, read at an index.
-/
module

public import proofs.«01_k».proof.Proof.DiffRefRow
public import proofs.«01_k».proof.Proof.DiffRefScore

@[expose] public section

set_option maxRecDepth 16384

noncomputable section

namespace Cert.Proof.Diff

open Cert.DiffRefIdeal Cert.DiffRefIdeal.Gen Idealize.ShloMosaic Idealize.ShloMosaic.TcCoe Idealize.SL.Sem

/-- The sums at an index: over the keys, the value times the difference of the softmaxes. -/
theorem s_read (kv : FVec Ideal S1x8192x4096 .bf16) (l : FVec Ideal S1x4x128 .f32) (p : FVec Ideal S1x8x2x8192x8192 .f32) (R : Fin 8192) (h : Fin 8) (d : Fin 256) :
    refS kv l p (ix4 (0 : Fin 1) R h d) = ∑ x : Fin 8192, kv (ix3 (0 : Fin 1) x (⟨2048 + (h.val * 256 + d.val), by omega⟩ : Fin 4096))
      * (p (ix5 (0 : Fin 1) h (0 : Fin 2) R x) - refLam l ix0 * p (ix5 (0 : Fin 1) h (1 : Fin 2) R x)) := by
  pointwise [refS]

/-- The sum over the keys weighted by the difference of the softmaxes. -/
def blend (z0 z1 v : ℕ → EReal) (w : EReal) (n : ℕ) : EReal := ∑ s ∈ Finset.range n, v s * (Ideal.div (Ideal.exp (z0 s - top z0 n)) (mass z0 (top z0 n) n)
          - w * Ideal.div (Ideal.exp (z1 s - top z1 n)) (mass z1 (top z1 n) n))

/-- The same over the positions below `n`. -/
theorem blend_fin (z0 z1 v : ℕ → EReal) (w : EReal) (n : ℕ) : blend z0 z1 v w n = ∑ s : Fin n, v s.val * (Ideal.div (Ideal.exp (z0 s.val - top z0 n)) (mass z0 (top z0 n) n)
          - w * Ideal.div (Ideal.exp (z1 s.val - top z1 n)) (mass z1 (top z1 n) n)) :=
  (Fin.sum_univ_eq_sum_range (fun s => v s * (Ideal.div (Ideal.exp (z0 s - top z0 n)) (mass z0 (top z0 n) n)
          - w * Ideal.div (Ideal.exp (z1 s - top z1 n)) (mass z1 (top z1 n) n))) n).symm

/-- The difference of the two softmaxes' sums is the sum weighted by their difference. -/
theorem mixed_eq {z0 z1 v : ℕ → EReal} {s0 s1 : ℕ} {w : EReal} (hz0 : ∀ s, z0 s ≠ ⊤) (hz1 : ∀ s, z1 s ≠ ⊤)
    (h0 : s0 < 8192) (hs0 : z0 s0 ≠ ⊥) (h1 : s1 < 8192) (hs1 : z1 s1 ≠ ⊥) (hv : ∀ s, Fin' (v s)) (hl : Fin' w) :
    mixed z0 z1 v w = blend z0 z1 v w 8192 := combine hz0 hz1 h0 hs0 h1 hs1 hv hl

/-- The value at a key. -/
theorem value_at (kv : FVec Ideal S1x8192x4096 .bf16) (h : Fin 8) (d : Fin 256) (x : Fin 8192) : value kv h d x.val = kv (ix3 (0 : Fin 1) x (⟨2048 + (h.val * 256 + d.val), by omega⟩ : Fin 4096)) := by
    unfold value
    rw [dif_pos x.isLt]

/-- The sums of the values by the difference of the softmaxes: the difference of the two softmaxes' sums. -/
theorem s_apply (q : FVec Ideal S1x8192x5120 .bf16) (kv : FVec Ideal S1x8192x4096 .bf16) (b : FVec Ideal S3x8x256x256 .f32) (l : FVec Ideal S1x4x128 .f32)
    (f : Fine q kv b l) (R : Fin 8192) (h : Fin 8) (d : Fin 256) :
    refS kv l (refP (refM q kv b)) (ix4 (0 : Fin 1) R h d) = mixed (score q kv b h 0 R) (score q kv b h 1 R) (value kv h d) (lam l) := by
  rw [s_read, lam_apply, mixed_eq (f.score h 0 R) (f.score h 1 R) R.isLt (f.seen h 0 R R.val R.isLt le_rfl).ne_bot R.isLt (f.seen h 1 R R.val R.isLt le_rfl).ne_bot
    (f.value h d) f.lam, blend_fin]
  refine Finset.sum_congr rfl fun x _ => ?_
  rw [p_apply (refM q kv b) (score q kv b h 0 R) h 0 R x (fun s => m_apply q kv b h 0 R s),
    p_apply (refM q kv b) (score q kv b h 1 R) h 1 R x (fun s => m_apply q kv b h 1 R s), value_at]

/-- The last step at an index. -/
theorem fin_read (o : FVec Ideal S1x8192x8x256 .f32) (g : FVec Ideal S1x8192x4096 .f32) (w : FVec Ideal S1x256 .f32) (R : Fin 8192) (e : Fin 2048) :
    refFin o g w (ix3 (0 : Fin 1) R e)
      = normed (fun x => o (ix4 (0 : Fin 1) R (⟨e.val / 256, by omega⟩ : Fin 8) x)) (⟨e.val % 256, by omega⟩ : Fin 256)
        (w (ix2 (0 : Fin 1) (⟨e.val % 256, by omega⟩ : Fin 256))) (g (ix3 (0 : Fin 1) R (⟨2048 + e.val, by omega⟩ : Fin 4096))) := by
  unfold normed
  rw [zero_sub]
  pointwise [refFin, refGate]

/-- The reference's result at an index. -/
theorem ref_apply (q : FVec Ideal S1x8192x5120 .bf16) (kv : FVec Ideal S1x8192x4096 .bf16) (g : FVec Ideal S1x8192x4096 .f32) (b : FVec Ideal S3x8x256x256 .f32)
    (l : FVec Ideal S1x4x128 .f32) (w : FVec Ideal S1x256 .f32) (f : Fine q kv b l) (R : Fin 8192) (h : Fin 8) (d : Fin 256) (e : Fin 2048) (he : e.val = 256 * h.val + d.val) :
    REF q kv g b l w (ix3 (0 : Fin 1) R e) = normed (fun x => mixed (score q kv b h 0 R) (score q kv b h 1 R) (value kv h x) (lam l)) d
      (w (ix2 (0 : Fin 1) d)) (g (ix3 (0 : Fin 1) R (⟨2048 + e.val, by omega⟩ : Fin 4096))) := by
  have eh : (⟨e.val / 256, by omega⟩ : Fin 8) = h := Fin.ext (by show e.val / 256 = h.val; omega)
  have ed : (⟨e.val % 256, by omega⟩ : Fin 256) = d := Fin.ext (by show e.val % 256 = d.val; omega)
  unfold REF
  rw [fin_read, eh, ed]
  simp only [s_apply q kv b l f]

end Cert.Proof.Diff

end
-- ==== Proof.DiffValue.lean ====
/-
  The differential attention kernel's result array: every grid point's block is the reference's result at the block's
  place, and the blocks cover the array.
-/
module

public import proofs.«01_k».proof.Proof.DiffLeave
public import proofs.«01_k».proof.Proof.DiffRef
public import Idealize.ShloMosaic.Lib.Pipeline.Covers
public import Idealize.ShloMosaic.Lib.Claim

@[expose] public section

set_option maxRecDepth 16384

noncomputable section

namespace Cert.Proof.Diff

open Cert.DiffIdeal Cert.DiffIdeal.Gen Idealize.ShloMosaic Idealize.ShloMosaic.TcCoe Idealize.SL.Sem

variable (m : (ℓ : Loc nD τ sig) → Buf (Elt Ideal) ℓ)

/-- Where each window's block stands at a grid point. -/
theorem idx : ∀ t : Fin cfg0.N, win0_0.index t = ![0, (grid0.coords t 2).val, 12 + (grid0.coords t 1).val]
    ∧ win0_1.index t = ![0, 0, (grid0.coords t 1).val] ∧ win0_2.index t = ![0, 0, 8 + (grid0.coords t 1).val]
    ∧ win0_3.index t = ![0, (grid0.coords t 2).val, 8 + (grid0.coords t 1).val] ∧ win0_4.index t = ![0, (grid0.coords t 1).val, 0, 0]
    ∧ win0_5.index t = ![0, 0] ∧ win0_6.index t = ![0, 0]
    ∧ win0_7.index t = ![0, (grid0.coords t 2).val, (grid0.coords t 1).val] :=
  (by decide +kernel : ∀ t : Fin grid0.N, _)

/-- The blocks of the result cover it. -/
theorem cover : (cfg0.win 7).Covers :=
  (cfg0.win 7).covers_of_indexMap_surj rfl (by decide) fun β =>
    ⟨fun a => match a with
      | ⟨0, _⟩ => (⟨0, Nat.one_pos⟩ : Fin 1)
      | ⟨1, _⟩ => ⟨(β 2).val, (β 2).isLt⟩
      | ⟨2, _⟩ => ⟨(β 1).val, (β 1).isLt⟩, fun a => by
      have h0 : (β 0).val < 1 := (β 0).isLt
      have h1 : (β 1).val < 32 := (β 1).isLt
      have h2 : (β 2).val < 8 := (β 2).isLt
      match a with
      | ⟨0, _⟩ => show (BitVec.ofNat 32 0).toNat = (β 0).val; simp
      | ⟨1, _⟩ => show (BitVec.ofNat 32 (β 1).val).toNat = (β 1).val; rw [BitVec.toNat_ofNat]; omega
      | ⟨2, _⟩ => show (BitVec.ofNat 32 (β 2).val).toNat = (β 2).val; rw [BitVec.toNat_ofNat]; omega⟩

/-- The mixing weight's parameters at a grid point. -/
theorem lam_read (c : Dev nD) (t : Fin cfg0.N) (n : Fin 4) (x : Fin 128) :
    (show Vec Ideal S4x128 .f32 from iblk m c 5 t) (ix2 n x) = m ((c.tc : Thread nD τ).loc main_arg4) (ix3 (0 : Fin 1) n x) := by
  have e : (show Vec Ideal S4x128 .f32 from iblk m c 5 t) (ix2 n x) = (show Vec Ideal S4x128 .f32 from V m c main_v0) (ix2 n x) := by
    blk_point [iblk, idx t]
  rw [e]
  entry_read
  pointwise
  try blk_ext

/-- The norm's gains at a grid point. -/
theorem gain_read (c : Dev nD) (t : Fin cfg0.N) (d : Fin 256) :
    (show Vec Ideal S1x256 .f32 from iblk m c 6 t) (ix2 (0 : Fin 1) d) = m ((c.tc : Thread nD τ).loc main_arg5) (ix2 (0 : Fin 1) d) := by
  have e : (show Vec Ideal S1x256 .f32 from iblk m c 6 t) (ix2 (0 : Fin 1) d) = (show Vec Ideal S1x256 .f32 from V m c main_v2) (ix2 (0 : Fin 1) d) := by
    blk_point [iblk, idx t]
  rw [e]
  entry_read
  pointwise
  try blk_ext

/-- The queries' columns at a grid point. -/
theorem q_read (c : Dev nD) (t : Fin cfg0.N) (r x : Fin 256) (R : Fin 8192) (e : Fin 5120) (hR : R.val = 256 * (grid0.coords t 2).val + r.val)
    (he : e.val = 3072 + (256 * (grid0.coords t 1).val + x.val)) :
    (show Vec Ideal S1x256x256 .bf16 from iblk m c 0 t) (ix3 (0 : Fin 1) r x) = m ((c.tc : Thread nD τ).loc main_arg0) (ix3 (0 : Fin 1) R e) := by
  blk_point [iblk, V, idx t]

/-- The keys' columns at a grid point. -/
theorem k_read (c : Dev nD) (t : Fin cfg0.N) (s : Fin 8192) (x : Fin 256) (e : Fin 4096)
    (he : e.val = 256 * (grid0.coords t 1).val + x.val) :
    (show Vec Ideal S1x8192x256 .bf16 from iblk m c 1 t) (ix3 (0 : Fin 1) s x) = m ((c.tc : Thread nD τ).loc main_arg1) (ix3 (0 : Fin 1) s e) := by
  blk_point [iblk, V, idx t]

/-- The values' columns at a grid point. -/
theorem v_read (c : Dev nD) (t : Fin cfg0.N) (s : Fin 8192) (x : Fin 256) (e : Fin 4096)
    (he : e.val = 2048 + (256 * (grid0.coords t 1).val + x.val)) :
    (show Vec Ideal S1x8192x256 .bf16 from iblk m c 2 t) (ix3 (0 : Fin 1) s x) = m ((c.tc : Thread nD τ).loc main_arg1) (ix3 (0 : Fin 1) s e) := by
  blk_point [iblk, V, idx t]

/-- The gates at a grid point. -/
theorem g_read (c : Dev nD) (t : Fin cfg0.N) (r x : Fin 256) (R : Fin 8192) (e : Fin 4096) (hR : R.val = 256 * (grid0.coords t 2).val + r.val)
    (he : e.val = 2048 + (256 * (grid0.coords t 1).val + x.val)) :
    (show Vec Ideal S1x256x256 .f32 from iblk m c 3 t) (ix3 (0 : Fin 1) r x) = m ((c.tc : Thread nD τ).loc main_arg2) (ix3 (0 : Fin 1) R e) := by
  blk_point [iblk, V, idx t]

/-- The bias tiles at a grid point. -/
theorem b_read (c : Dev nD) (t : Fin cfg0.N) (n : Fin 3) (r l : Fin 256) (h : Fin 8) (hh : h.val = (grid0.coords t 1).val) :
    (show Vec Ideal S3x1x256x256 .f32 from iblk m c 4 t) (ix4 n (0 : Fin 1) r l) = m ((c.tc : Thread nD τ).loc main_arg3) (ix4 n h r l) := by
  blk_point [iblk, V, idx t]

/-- A grid point's scores are the reference's. -/
theorem scores (c : Dev nD) (t : Fin cfg0.N) (r : Fin 256) (R : Fin 8192) (h : Fin 8) (f : Fin 2) (o : ℕ) (ho : o + 128 ≤ 256) (hf : o = f.val * 128)
    (hR : R.val = 256 * (grid0.coords t 2).val + r.val) (hh : h.val = (grid0.coords t 1).val) :
    Scores (grid0.coords t) (iblk m c 0 t) (iblk m c 1 t) (iblk m c 4 t)
      (score (m ((c.tc : Thread nD τ).loc main_arg0)) (m ((c.tc : Thread nD τ).loc main_arg1)) (m ((c.tc : Thread nD τ).loc main_arg3)) h f R) r o ho := by
  intro b hb l hbi
  have hr : r.val < 256 := r.isLt
  have hl : l.val < 256 := l.isLt
  unfold score
  rw [dif_pos (by omega)]
  have hc : (256 * b + l.val) / 64 ≤ R.val / 64 ↔ (256 * b + l.val) / 64 ≤ (256 * (grid0.coords t 2).val + r.val) / 64 := by rw [hR]
  by_cases hv : (256 * b + l.val) / 64 ≤ R.val / 64
  · rw [if_pos hv, if_pos (hc.1 hv)]
    refine congrArg₂ (· + ·) (congrArg (· * _) (Finset.sum_congr rfl fun x _ => congrArg₂ (· * ·) ?_ ?_)) ?_
    · exact (q_read m c t r ⟨o + x.val, by omega⟩ R _ hR (by show 3072 + (h.val * 256 + f.val * 128 + x.val) = 3072 + (256 * (grid0.coords t 1).val + (o + x.val)); omega)).symm
    · exact (k_read m c t ⟨256 * b + l.val, by omega⟩ ⟨o + x.val, by omega⟩ _ (by show h.val * 256 + f.val * 128 + x.val = 256 * (grid0.coords t 1).val + (o + x.val); omega)).symm
    · refine Eq.trans ?_ (b_read m c t _ r l h hh).symm
      have e1 : (⟨min (R.val / 256 - (256 * b + l.val) / 256) 2, by omega⟩ : Fin 3) = ⟨min ((grid0.coords t 2).val - b) 2, by omega⟩ := by
        refine Fin.ext ?_
        have a1 : R.val / 256 = (grid0.coords t 2).val := by omega
        have a2 : (256 * b + l.val) / 256 = b := by omega
        show min (R.val / 256 - (256 * b + l.val) / 256) 2 = min ((grid0.coords t 2).val - b) 2
        rw [a1, a2]
      have e2 : (⟨R.val % 256, by omega⟩ : Fin 256) = r := Fin.ext (by show R.val % 256 = r.val; omega)
      have e3 : (⟨(256 * b + l.val) % 256, by omega⟩ : Fin 256) = l := Fin.ext (by show (256 * b + l.val) % 256 = l.val; omega)
      rw [e1, e2, e3]
  · rw [if_neg hv, if_neg fun hn => hv (hc.2 hn)]

/-- From the block of keys after the query's on, nothing is seen. -/
theorem score_past (q : (⟨3, ![1, 8192, 5120]⟩ : Shape).Idx → EReal) (kv : (⟨3, ![1, 8192, 4096]⟩ : Shape).Idx → EReal)
    (b : (⟨4, ![3, 8, 256, 256]⟩ : Shape).Idx → EReal) (h : Fin 8) (c : Fin 2) (R : Fin 8192) (i s : ℕ) (hR : R.val / 256 = i)
    (hs : 256 * (i + 1) ≤ s) : score q kv b h c R s = ⊥ := by
  unfold score
  split_ifs with h1 h2
  · omega
  · rfl
  · rfl

/-- A point's block, at an index. -/
theorem point (c : Dev nD) (f : Fine (m ((c.tc : Thread nD τ).loc main_arg0)) (m ((c.tc : Thread nD τ).loc main_arg1))
      (m ((c.tc : Thread nD τ).loc main_arg3)) (m ((c.tc : Thread nD τ).loc main_arg4))) (t : Fin cfg0.N) (y : S1x256x256.Idx) :
    leave (F := Ideal) (iblk m c 5 t) (iblk m c 6 t) (iblk m c 3 t)
        (diag (grid0.coords t) (iblk m c 0 t) (iblk m c 1 t) (iblk m c 2 t) (iblk m c 4 t)
          (state (grid0.coords t) (iblk m c 0 t) (iblk m c 1 t) (iblk m c 2 t) (iblk m c 4 t) (k0_t1_loop (grid0.coords t)).trips)) y
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (((cfg0.win 7).blk t).view.emb y) := by
  obtain ⟨r, d, rfl⟩ : ∃ (r d : Fin 256), y = ix3 (0 : Fin 1) r d := ⟨y 1, y 2, by
    funext a
    match a with
    | ⟨0, _⟩ => exact Subsingleton.elim (α := Fin 1) _ _
    | ⟨1, _⟩ => rfl
    | ⟨2, _⟩ => rfl⟩
  have h1 : (grid0.coords t 1).val < 8 := (grid0.coords t 1).isLt
  have h2 : (grid0.coords t 2).val < 32 := (grid0.coords t 2).isLt
  have hr : r.val < 256 := r.isLt
  have hemb : (((cfg0.win 7).blk t).view.emb (ix3 (0 : Fin 1) r d) : S1x8192x2048.Idx)
      = ix3 (0 : Fin 1) (⟨256 * (grid0.coords t 2).val + r.val, by omega⟩ : Fin 8192) (⟨256 * (grid0.coords t 1).val + d.val, by omega⟩ : Fin 2048) := by
    blk_ext [idx t]
  refine Eq.trans ?_ (congrArg (REF _ _ _ _ _ _) hemb.symm)
  have hdiv : (256 * (grid0.coords t 2).val + r.val) / 256 = (grid0.coords t 2).val := by omega
  rw [ref_apply _ _ _ _ _ _ f _ ⟨(grid0.coords t 1).val, h1⟩ d _ rfl]
  refine (leave_apply _ _ _ _ _ _ _ (lam (m ((c.tc : Thread nD τ).loc main_arg4))) r d ((grid0.coords t 2).val + 1) (by omega)
    (fun x => diag_eq (grid0.coords t) _ _ _ _ _ _ (value (m ((c.tc : Thread nD τ).loc main_arg1)) ⟨(grid0.coords t 1).val, h1⟩ x) r x
      (f.score ⟨(grid0.coords t 1).val, h1⟩ 0 _) (f.score ⟨(grid0.coords t 1).val, h1⟩ 1 _)
      (scores m c t r ⟨256 * (grid0.coords t 2).val + r.val, by omega⟩ _ 0 0 (by omega) rfl rfl rfl)
      (scores m c t r ⟨256 * (grid0.coords t 2).val + r.val, by omega⟩ _ 1 128 (by omega) rfl rfl rfl) ?_)
    (fun s hs => score_past _ _ _ _ _ _ _ s hdiv hs) (fun s hs => score_past _ _ _ _ _ _ _ s hdiv hs) ?_).trans ?_
  · intro s
    unfold value
    rw [dif_pos s.isLt]
    exact v_read m c t s x _ (by show 2048 + ((grid0.coords t 1).val * 256 + x.val) = _; omega)
  · unfold lam
    rw [Finset.sum_congr rfl fun e _ => congrArg₂ (· * ·) (lam_read m c t 0 e) (lam_read m c t 1 e),
      Finset.sum_congr rfl fun e _ => congrArg₂ (· * ·) (lam_read m c t 2 e) (lam_read m c t 3 e)]
  · exact congrArg₂ (normed _ d) (gain_read m c t d)
      (g_read m c t r d _ _ rfl (by show 2048 + (256 * (grid0.coords t 1).val + d.val) = _; omega))

/-- The result array after the run. -/
theorem final (c : Dev nD) (f : Fine (m ((c.tc : Thread nD τ).loc main_arg0)) (m ((c.tc : Thread nD τ).loc main_arg1))
      (m ((c.tc : Thread nD τ).loc main_arg3)) (m ((c.tc : Thread nD τ).loc main_arg4))) : (dats m 0 c).arrAt 7 cfg0.N
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 7 _ cover fun t hf y => ?_
  blk_simp
  rw [after0_7]
  unfold outsAt0
  rw [out_eq]
  exact point m c f t y

end Cert.Proof.Diff

end
-- ==== Proof.lean ====
/-
  The certificate of the two attention calls, of the two layers' inputs and of the second layer's end, each with the frames
  of the kernel, of its ideal reading and of its reference, the rewrites (one named constant, in the differential
  attention), and the equality of the kernel's and the reference's results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.StickValue
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenRefIdeal
public import proofs.«01_k».proof.Proof.Gen.InEvenRefIdeal.Run
public import proofs.«01_k».proof.Proof.EvenMath
public import proofs.«01_k».proof.Proof.EvenRef
public import proofs.«01_k».proof.Proof.EvenRun
public import proofs.«01_k».proof.Proof.EvenValue
public import proofs.«01_k».proof.Proof.EvenFinal
public import proofs.«01_k».proof.Proof.Gen.InEvenS
public import proofs.«01_k».proof.Proof.Gen.InEvenS.Skeleton
public import proofs.«01_k».proof.Proof.Gen.InEvenS.Launch
public import proofs.«01_k».proof.Proof.Gen.InEvenS.Points
public import proofs.«01_k».proof.Proof.Gen.InEvenS.Frame
public import proofs.«01_k».proof.Proof.Gen.InEvenSIdeal
public import proofs.«01_k».proof.Proof.Gen.InEvenSIdeal.Skeleton
public import proofs.«01_k».proof.Proof.Gen.InEvenSIdeal.Launch
public import proofs.«01_k».proof.Proof.Gen.InEvenSIdeal.Points
public import proofs.«01_k».proof.Proof.Gen.InEvenSIdeal.Frame
public import proofs.«01_k».proof.Proof.Gen.InEvenSRefIdeal
public import proofs.«01_k».proof.Proof.Gen.InEvenSRefIdeal.Run
public import proofs.«01_k».proof.Proof.EvenSRef
public import proofs.«01_k».proof.Proof.EvenSRun
public import proofs.«01_k».proof.Proof.EvenSValue
public import proofs.«01_k».proof.Proof.EvenSFinal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddRefIdeal
public import proofs.«01_k».proof.Proof.Gen.InOddRefIdeal.Run
public import proofs.«01_k».proof.Proof.OddMath
public import proofs.«01_k».proof.Proof.OddRef
public import proofs.«01_k».proof.Proof.OddRun
public import proofs.«01_k».proof.Proof.OddValue
public import proofs.«01_k».proof.Proof.OddFinal
public import proofs.«01_k».proof.Proof.Gen.InOddS
public import proofs.«01_k».proof.Proof.Gen.InOddS.Skeleton
public import proofs.«01_k».proof.Proof.Gen.InOddS.Launch
public import proofs.«01_k».proof.Proof.Gen.InOddS.Points
public import proofs.«01_k».proof.Proof.Gen.InOddS.Frame
public import proofs.«01_k».proof.Proof.Gen.InOddSIdeal
public import proofs.«01_k».proof.Proof.Gen.InOddSIdeal.Skeleton
public import proofs.«01_k».proof.Proof.Gen.InOddSIdeal.Launch
public import proofs.«01_k».proof.Proof.Gen.InOddSIdeal.Points
public import proofs.«01_k».proof.Proof.Gen.InOddSIdeal.Frame
public import proofs.«01_k».proof.Proof.Gen.InOddSRefIdeal
public import proofs.«01_k».proof.Proof.Gen.InOddSRefIdeal.Run
public import proofs.«01_k».proof.Proof.OddSRef
public import proofs.«01_k».proof.Proof.OddSRun
public import proofs.«01_k».proof.Proof.OddSValue
public import proofs.«01_k».proof.Proof.OddSFinal
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishRefIdeal
public import proofs.«01_k».proof.Proof.Gen.FinishRefIdeal.Run
public import proofs.«01_k».proof.Proof.FinishMath
public import proofs.«01_k».proof.Proof.FinishRegions
public import proofs.«01_k».proof.Proof.FinishRef
public import proofs.«01_k».proof.Proof.FinishRun
public import proofs.«01_k».proof.Proof.FinishValue
public import proofs.«01_k».proof.Proof.FinishFinal
public import proofs.«01_k».proof.Proof.Gen.FinishS
public import proofs.«01_k».proof.Proof.Gen.FinishS.Skeleton
public import proofs.«01_k».proof.Proof.Gen.FinishS.Launch
public import proofs.«01_k».proof.Proof.Gen.FinishS.Points
public import proofs.«01_k».proof.Proof.Gen.FinishS.Frame
public import proofs.«01_k».proof.Proof.Gen.FinishSIdeal
public import proofs.«01_k».proof.Proof.Gen.FinishSIdeal.Skeleton
public import proofs.«01_k».proof.Proof.Gen.FinishSIdeal.Launch
public import proofs.«01_k».proof.Proof.Gen.FinishSIdeal.Points
public import proofs.«01_k».proof.Proof.Gen.FinishSIdeal.Frame
public import proofs.«01_k».proof.Proof.Gen.FinishSRefIdeal
public import proofs.«01_k».proof.Proof.Gen.FinishSRefIdeal.Run
public import proofs.«01_k».proof.Proof.FinishSRegions
public import proofs.«01_k».proof.Proof.FinishSRef
public import proofs.«01_k».proof.Proof.FinishSRun
public import proofs.«01_k».proof.Proof.FinishSValue
public import proofs.«01_k».proof.Proof.FinishSFinal
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffIdeal.Loops
public import proofs.«01_k».proof.Proof.Gen.DiffIdeal.Value
public import proofs.«01_k».proof.Proof.Gen.DiffRefIdeal
public import proofs.«01_k».proof.Proof.Gen.DiffRefIdeal.Run
public import proofs.«01_k».proof.Proof.DiffPre
public import proofs.«01_k».proof.Proof.DiffValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to its end, leaves its arguments as they were, and has no semaphore. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- From equal arguments the reference's result is the array the kernel leaves. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = (Cert.KernelIdeal.Gen.dats m 0 c).arrAt 5 Cert.KernelIdeal.cfg0.N :=
  (Stick.res_eq m' c).trans ((congr (congr (congrArg Stick.REF h0) h1) h2).trans (Stick.final m c).symm)

/-- The kernel's result is the reference's. -/
theorem algebraic : Cert.algebraic_KernelIdeal_ReferenceIdeal := fun m g m' g' _ hagree =>
  ⟨fun c => (Cert.KernelIdeal.Gen.dats m 0 c).arrAt 5 Cert.KernelIdeal.cfg0.N, Cert.KernelIdeal.Value.run_blocks m g,
    (θ_run _ _ _).mono (fun r h c => ⟨(h c).1.trans (same m m' c (hagree c).1 (hagree c).2.1 (hagree c).2.2), (h c).2⟩)
      (Cert.ReferenceIdeal.Value.run m' g')⟩

/-- The reference of the first layer's input runs to its end, leaves its arguments as they were, and has no semaphore. -/
theorem frame_InEvenRefIdeal : Cert.quiescent_InEvenRefIdeal := fun m g _ =>
  (θ_run _ _ _).mono (fun r h => ⟨fun c => (h c).2.2.2.2.2.2.2.2, sem_eq_zero_of_no_sems rfl r.2⟩) (Cert.InEvenRefIdeal.Value.run m g)

/-- The results of the first layer's input are the reference's. -/
theorem algebraic_InEvenIdeal : Cert.algebraic_InEvenIdeal_InEvenRefIdeal := fun m g m' g' _ hagree =>
  ⟨fun c => Cert.InEvenIdeal.Gen.W9 m g c (Proc.devRef .tc Cert.InEvenIdeal.main_v35),
    fun c => Cert.InEvenIdeal.Gen.W9 m g c (Proc.devRef .tc Cert.InEvenIdeal.main_v41),
    fun c => Cert.InEvenIdeal.Gen.W9 m g c (Proc.devRef .tc Cert.InEvenIdeal.main_v36),
    fun c => Cert.InEvenIdeal.Gen.W9 m g c (Proc.devRef .tc Cert.InEvenIdeal.main_v42),
    fun c => Cert.InEvenIdeal.Gen.W9 m g c (Proc.devRef .tc Cert.InEvenIdeal.main_v37),
    fun c => Cert.InEvenIdeal.Gen.W9 m g c (Proc.devRef .tc Cert.InEvenIdeal.main_v38),
    fun c => Cert.InEvenIdeal.Gen.W9 m g c (Proc.devRef .tc Cert.InEvenIdeal.main_v40),
    fun c => Cert.InEvenIdeal.Gen.W9 m g c (Proc.devRef .tc Cert.InEvenIdeal.main_v39),
    (θ_run _ _ _).mono (fun r h c => ⟨h c Cert.InEvenIdeal.main_v35 (by decide), h c Cert.InEvenIdeal.main_v41 (by decide), h c Cert.InEvenIdeal.main_v36 (by decide), h c Cert.InEvenIdeal.main_v42 (by decide), h c Cert.InEvenIdeal.main_v37 (by decide), h c Cert.InEvenIdeal.main_v38 (by decide), h c Cert.InEvenIdeal.main_v40 (by decide), h c Cert.InEvenIdeal.main_v39 (by decide),
        (h c Cert.InEvenIdeal.main_arg0 (by decide)).trans (Cert.InEvenIdeal.Gen.W9_main_arg0 m g c), (h c Cert.InEvenIdeal.main_arg1 (by decide)).trans (Cert.InEvenIdeal.Gen.W9_main_arg1 m g c),
        (h c Cert.InEvenIdeal.main_arg2 (by decide)).trans (Cert.InEvenIdeal.Gen.W9_main_arg2 m g c)⟩) (Even.ends m g),
    (θ_run _ _ _).mono (fun r h c => by
      obtain ⟨q, a, a2, b, b2, k, i, g0, h0, h1, h2⟩ := h c
      rw [Even.runY_eq m m' c (hagree c).1 (hagree c).2.1 (hagree c).2.2] at q a a2 b b2 k i g0
      exact ⟨q.trans (Even.res_q m g c).symm, a.trans (Even.res_a m g c).symm, a2.trans (Even.res_a2 m g c).symm,
        b.trans (Even.res_b m g c).symm, b2.trans (Even.res_b2 m g c).symm, k.trans (Even.res_k m g c).symm,
        i.trans (Even.res_i m g c).symm, g0.trans (Even.res_g m g c).symm, h0, h1, h2⟩)
      (Even.ref_run m' g')⟩

/-- The reference of the first layer's input on the sample batch runs to its end, leaves its arguments as they were, and has no semaphore. -/
theorem frame_InEvenSRefIdeal : Cert.quiescent_InEvenSRefIdeal := fun m g _ =>
  (θ_run _ _ _).mono (fun r h => ⟨fun c => (h c).2.2.2.2.2.2.2.2, sem_eq_zero_of_no_sems rfl r.2⟩) (Cert.InEvenSRefIdeal.Value.run m g)

/-- The results of the first layer's input on the sample batch are the reference's. -/
theorem algebraic_InEvenSIdeal : Cert.algebraic_InEvenSIdeal_InEvenSRefIdeal := fun m g m' g' _ hagree =>
  ⟨fun c => Cert.InEvenSIdeal.Gen.W9 m g c (Proc.devRef .tc Cert.InEvenSIdeal.main_v35),
    fun c => Cert.InEvenSIdeal.Gen.W9 m g c (Proc.devRef .tc Cert.InEvenSIdeal.main_v41),
    fun c => Cert.InEvenSIdeal.Gen.W9 m g c (Proc.devRef .tc Cert.InEvenSIdeal.main_v36),
    fun c => Cert.InEvenSIdeal.Gen.W9 m g c (Proc.devRef .tc Cert.InEvenSIdeal.main_v42),
    fun c => Cert.InEvenSIdeal.Gen.W9 m g c (Proc.devRef .tc Cert.InEvenSIdeal.main_v37),
    fun c => Cert.InEvenSIdeal.Gen.W9 m g c (Proc.devRef .tc Cert.InEvenSIdeal.main_v38),
    fun c => Cert.InEvenSIdeal.Gen.W9 m g c (Proc.devRef .tc Cert.InEvenSIdeal.main_v40),
    fun c => Cert.InEvenSIdeal.Gen.W9 m g c (Proc.devRef .tc Cert.InEvenSIdeal.main_v39),
    (θ_run _ _ _).mono (fun r h c => ⟨h c Cert.InEvenSIdeal.main_v35 (by decide), h c Cert.InEvenSIdeal.main_v41 (by decide), h c Cert.InEvenSIdeal.main_v36 (by decide), h c Cert.InEvenSIdeal.main_v42 (by decide), h c Cert.InEvenSIdeal.main_v37 (by decide), h c Cert.InEvenSIdeal.main_v38 (by decide), h c Cert.InEvenSIdeal.main_v40 (by decide), h c Cert.InEvenSIdeal.main_v39 (by decide),
        (h c Cert.InEvenSIdeal.main_arg0 (by decide)).trans (Cert.InEvenSIdeal.Gen.W9_main_arg0 m g c), (h c Cert.InEvenSIdeal.main_arg1 (by decide)).trans (Cert.InEvenSIdeal.Gen.W9_main_arg1 m g c),
        (h c Cert.InEvenSIdeal.main_arg2 (by decide)).trans (Cert.InEvenSIdeal.Gen.W9_main_arg2 m g c)⟩) (EvenS.ends m g),
    (θ_run _ _ _).mono (fun r h c => by
      obtain ⟨q, a, a2, b, b2, k, i, g0, h0, h1, h2⟩ := h c
      rw [EvenS.runY_eq m m' c (hagree c).1 (hagree c).2.1 (hagree c).2.2] at q a a2 b b2 k i g0
      exact ⟨q.trans (EvenS.res_q m g c).symm, a.trans (EvenS.res_a m g c).symm, a2.trans (EvenS.res_a2 m g c).symm,
        b.trans (EvenS.res_b m g c).symm, b2.trans (EvenS.res_b2 m g c).symm, k.trans (EvenS.res_k m g c).symm,
        i.trans (EvenS.res_i m g c).symm, g0.trans (EvenS.res_g m g c).symm, h0, h1, h2⟩)
      (EvenS.ref_run m' g')⟩

/-- The reference of the second layer's input runs to its end, leaves its arguments as they were, and has no semaphore. -/
theorem frame_InOddRefIdeal : Cert.quiescent_InOddRefIdeal := fun m g _ =>
  (θ_run _ _ _).mono (fun r h => ⟨fun c => (h c).2.2.2.2.2.2, sem_eq_zero_of_no_sems rfl r.2⟩) (Cert.InOddRefIdeal.Value.run m g)

/-- The results of the second layer's input are the reference's. -/
theorem algebraic_InOddIdeal : Cert.algebraic_InOddIdeal_InOddRefIdeal := fun m g m' g' _ hagree =>
  ⟨fun c => Cert.InOddIdeal.Gen.W8 m g c (Proc.devRef .tc Cert.InOddIdeal.main_v28),
    fun c => Cert.InOddIdeal.Gen.W8 m g c (Proc.devRef .tc Cert.InOddIdeal.main_v34),
    fun c => Cert.InOddIdeal.Gen.W8 m g c (Proc.devRef .tc Cert.InOddIdeal.main_v29),
    fun c => Cert.InOddIdeal.Gen.W8 m g c (Proc.devRef .tc Cert.InOddIdeal.main_v36),
    fun c => Cert.InOddIdeal.Gen.W8 m g c (Proc.devRef .tc Cert.InOddIdeal.main_v30),
    fun c => Cert.InOddIdeal.Gen.W8 m g c (Proc.devRef .tc Cert.InOddIdeal.main_v31),
    (θ_run _ _ _).mono (fun r h c => ⟨h c Cert.InOddIdeal.main_v28 (by decide), h c Cert.InOddIdeal.main_v34 (by decide), h c Cert.InOddIdeal.main_v29 (by decide), h c Cert.InOddIdeal.main_v36 (by decide), h c Cert.InOddIdeal.main_v30 (by decide), h c Cert.InOddIdeal.main_v31 (by decide),
        (h c Cert.InOddIdeal.main_arg0 (by decide)).trans (Cert.InOddIdeal.Gen.W8_main_arg0 m g c), (h c Cert.InOddIdeal.main_arg1 (by decide)).trans (Cert.InOddIdeal.Gen.W8_main_arg1 m g c), (h c Cert.InOddIdeal.main_arg2 (by decide)).trans (Cert.InOddIdeal.Gen.W8_main_arg2 m g c)⟩) (Odd.ends m g),
    (θ_run _ _ _).mono (fun r h c => by
      obtain ⟨q, a, a2, b, b2, g0, h0, h1, h2⟩ := h c
      rw [Odd.runY_eq m m' c (hagree c).1 (hagree c).2.1 (hagree c).2.2] at q a a2 b b2 g0
      exact ⟨q.trans (Odd.res_q m g c).symm, a.trans (Odd.res_c m g c).symm, a2.trans (Odd.res_c2 m g c).symm,
        b.trans (Odd.res_d m g c).symm, b2.trans (Odd.res_d2 m g c).symm, g0.trans (Odd.res_g m g c).symm, h0, h1, h2⟩)
      (Odd.ref_run m' g')⟩

/-- The reference of the second layer's input on the sample batch runs to its end, leaves its arguments as they were, and has no semaphore. -/
theorem frame_InOddSRefIdeal : Cert.quiescent_InOddSRefIdeal := fun m g _ =>
  (θ_run _ _ _).mono (fun r h => ⟨fun c => (h c).2.2.2.2.2.2, sem_eq_zero_of_no_sems rfl r.2⟩) (Cert.InOddSRefIdeal.Value.run m g)

/-- The results of the second layer's input on the sample batch are the reference's. -/
theorem algebraic_InOddSIdeal : Cert.algebraic_InOddSIdeal_InOddSRefIdeal := fun m g m' g' _ hagree =>
  ⟨fun c => Cert.InOddSIdeal.Gen.W8 m g c (Proc.devRef .tc Cert.InOddSIdeal.main_v28),
    fun c => Cert.InOddSIdeal.Gen.W8 m g c (Proc.devRef .tc Cert.InOddSIdeal.main_v37),
    fun c => Cert.InOddSIdeal.Gen.W8 m g c (Proc.devRef .tc Cert.InOddSIdeal.main_v29),
    fun c => Cert.InOddSIdeal.Gen.W8 m g c (Proc.devRef .tc Cert.InOddSIdeal.main_v38),
    fun c => Cert.InOddSIdeal.Gen.W8 m g c (Proc.devRef .tc Cert.InOddSIdeal.main_v30),
    fun c => Cert.InOddSIdeal.Gen.W8 m g c (Proc.devRef .tc Cert.InOddSIdeal.main_v31),
    (θ_run _ _ _).mono (fun r h c => ⟨h c Cert.InOddSIdeal.main_v28 (by decide), h c Cert.InOddSIdeal.main_v37 (by decide), h c Cert.InOddSIdeal.main_v29 (by decide), h c Cert.InOddSIdeal.main_v38 (by decide), h c Cert.InOddSIdeal.main_v30 (by decide), h c Cert.InOddSIdeal.main_v31 (by decide),
        (h c Cert.InOddSIdeal.main_arg0 (by decide)).trans (Cert.InOddSIdeal.Gen.W8_main_arg0 m g c), (h c Cert.InOddSIdeal.main_arg1 (by decide)).trans (Cert.InOddSIdeal.Gen.W8_main_arg1 m g c), (h c Cert.InOddSIdeal.main_arg2 (by decide)).trans (Cert.InOddSIdeal.Gen.W8_main_arg2 m g c), (h c Cert.InOddSIdeal.main_arg3 (by decide)).trans (Cert.InOddSIdeal.Gen.W8_main_arg3 m g c)⟩) (OddS.ends m g),
    (θ_run _ _ _).mono (fun r h c => by
      obtain ⟨q, a, a2, b, b2, g0, h0, h1, h2, h3⟩ := h c
      rw [OddS.runY_eq m m' c (hagree c).1 (hagree c).2.1 (hagree c).2.2.1] at q a a2 b b2 g0
      rw [(hagree c).2.2.2] at b
      exact ⟨q.trans (OddS.res_q m g c).symm, a.trans (OddS.res_c m g c).symm, a2.trans (OddS.res_c2 m g c).symm,
        b.trans (OddS.res_d m g c).symm, b2.trans (OddS.res_d2 m g c).symm, g0.trans (OddS.res_g m g c).symm, h0, h1, h2, h3⟩)
      (OddS.ref_run m' g')⟩

/-- The reference of the second layer's end runs to its end, leaves its arguments as they were, and has no semaphore. -/
theorem frame_FinishRefIdeal : Cert.quiescent_FinishRefIdeal := fun m g _ =>
  (θ_run _ _ _).mono (fun r h => ⟨fun c => (h c).2, sem_eq_zero_of_no_sems rfl r.2⟩) (Cert.FinishRefIdeal.Value.run m g)

/-- The result of the second layer's end is the reference's. -/
theorem algebraic_FinishIdeal : Cert.algebraic_FinishIdeal_FinishRefIdeal := fun m g m' g' _ hagree =>
  ⟨fun c => Cert.FinishIdeal.Gen.W8 m g c (Proc.devRef .tc Cert.FinishIdeal.main_v25),
    (θ_run _ _ _).mono (fun r h c => ⟨h c Cert.FinishIdeal.main_v25 (by decide),
        (h c Cert.FinishIdeal.main_arg0 (by decide)).trans (Cert.FinishIdeal.Gen.W8_main_arg0 m g c), (h c Cert.FinishIdeal.main_arg1 (by decide)).trans (Cert.FinishIdeal.Gen.W8_main_arg1 m g c), (h c Cert.FinishIdeal.main_arg2 (by decide)).trans (Cert.FinishIdeal.Gen.W8_main_arg2 m g c), (h c Cert.FinishIdeal.main_arg3 (by decide)).trans (Cert.FinishIdeal.Gen.W8_main_arg3 m g c), (h c Cert.FinishIdeal.main_arg4 (by decide)).trans (Cert.FinishIdeal.Gen.W8_main_arg4 m g c), (h c Cert.FinishIdeal.main_arg5 (by decide)).trans (Cert.FinishIdeal.Gen.W8_main_arg5 m g c), (h c Cert.FinishIdeal.main_arg6 (by decide)).trans (Cert.FinishIdeal.Gen.W8_main_arg6 m g c), (h c Cert.FinishIdeal.main_arg7 (by decide)).trans (Cert.FinishIdeal.Gen.W8_main_arg7 m g c), (h c Cert.FinishIdeal.main_arg8 (by decide)).trans (Cert.FinishIdeal.Gen.W8_main_arg8 m g c)⟩) (Finish.ends m g),
    (θ_run _ _ _).mono (fun r h c => ⟨(h c).1.trans ((Finish.runOut_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2).trans (Finish.res_out m g c).symm), (h c).2⟩)
      (Finish.ref_run m' g')⟩

/-- The reference of the second layer's end on the sample batch runs to its end, leaves its arguments as they were, and has no semaphore. -/
theorem frame_FinishSRefIdeal : Cert.quiescent_FinishSRefIdeal := fun m g _ =>
  (θ_run _ _ _).mono (fun r h => ⟨fun c => (h c).2, sem_eq_zero_of_no_sems rfl r.2⟩) (Cert.FinishSRefIdeal.Value.run m g)

/-- The result of the second layer's end on the sample batch is the reference's. -/
theorem algebraic_FinishSIdeal : Cert.algebraic_FinishSIdeal_FinishSRefIdeal := fun m g m' g' _ hagree =>
  ⟨fun c => Cert.FinishSIdeal.Gen.W8 m g c (Proc.devRef .tc Cert.FinishSIdeal.main_v25),
    (θ_run _ _ _).mono (fun r h c => ⟨h c Cert.FinishSIdeal.main_v25 (by decide),
        (h c Cert.FinishSIdeal.main_arg0 (by decide)).trans (Cert.FinishSIdeal.Gen.W8_main_arg0 m g c), (h c Cert.FinishSIdeal.main_arg1 (by decide)).trans (Cert.FinishSIdeal.Gen.W8_main_arg1 m g c), (h c Cert.FinishSIdeal.main_arg2 (by decide)).trans (Cert.FinishSIdeal.Gen.W8_main_arg2 m g c), (h c Cert.FinishSIdeal.main_arg3 (by decide)).trans (Cert.FinishSIdeal.Gen.W8_main_arg3 m g c), (h c Cert.FinishSIdeal.main_arg4 (by decide)).trans (Cert.FinishSIdeal.Gen.W8_main_arg4 m g c), (h c Cert.FinishSIdeal.main_arg5 (by decide)).trans (Cert.FinishSIdeal.Gen.W8_main_arg5 m g c), (h c Cert.FinishSIdeal.main_arg6 (by decide)).trans (Cert.FinishSIdeal.Gen.W8_main_arg6 m g c), (h c Cert.FinishSIdeal.main_arg7 (by decide)).trans (Cert.FinishSIdeal.Gen.W8_main_arg7 m g c), (h c Cert.FinishSIdeal.main_arg8 (by decide)).trans (Cert.FinishSIdeal.Gen.W8_main_arg8 m g c)⟩) (FinishS.ends m g),
    (θ_run _ _ _).mono (fun r h c => ⟨(h c).1.trans ((FinishS.runOut_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2).trans (FinishS.res_out m g c).symm), (h c).2⟩)
      (FinishS.ref_run m' g')⟩

/-- The reference of the differential attention runs to its end, leaves its arguments as they were, and has no semaphore. -/
theorem frame_DiffRefIdeal : Cert.quiescent_DiffRefIdeal := fun m g _ =>
  (θ_run _ _ _).mono (fun r h => ⟨fun c => (h c).2, sem_eq_zero_of_no_sems rfl r.2⟩) (Cert.DiffRefIdeal.Value.run m g)

/-- The same, of arguments that are finite. -/
theorem frame_DiffRefIdeal_finite [Cert.Pre_finite.Facts] : Cert.quiescent_DiffRefIdeal_pre_finite := fun m g _ =>
  (θ_run _ _ _).mono (fun r h => ⟨fun c => (h c).2, sem_eq_zero_of_no_sems rfl r.2⟩) (Cert.DiffRefIdeal.Value.run m g)

/-- From equal finite arguments the differential attention reference's result is the array the kernel leaves. -/
theorem same_DiffIdeal [Cert.Pre_finite.Facts] (m : (ℓ : Loc Cert.DiffIdeal.nD Cert.DiffIdeal.τ Cert.DiffIdeal.sig) → Buf (Elt Ideal) ℓ)
    (m' : (ℓ : Loc Cert.DiffRefIdeal.nD Cert.DiffRefIdeal.τ Cert.DiffRefIdeal.sig) → Buf (Elt Ideal) ℓ) (hp : Cert.Pre_DiffIdeal_finite m) (c : Dev Cert.DiffIdeal.nD)
    (h0 : m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0))
    (h1 : m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1))
    (h2 : m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2))
    (h3 : m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3))
    (h4 : m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4))
    (h5 : m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) :
    Diff.runOut m' c = (Cert.DiffIdeal.Gen.dats m 0 c).arrAt 7 Cert.DiffIdeal.cfg0.N :=
  (congr (congr (congr (congr (congr (congrArg Diff.REF h0) h1) h2) h3) h4) h5).trans (Diff.final m c (Diff.fine m hp c)).symm

/-- The result of the differential attention is the reference's, of arguments that are finite. -/
theorem algebraic_DiffIdeal [Cert.Pre_finite.Facts] : Cert.algebraic_DiffIdeal_DiffRefIdeal_pre_finite := fun m g m' g' hp hagree =>
  ⟨fun c => (Cert.DiffIdeal.Gen.dats m 0 c).arrAt 7 Cert.DiffIdeal.cfg0.N, Cert.DiffIdeal.Value.run_blocks m g,
    (θ_run _ _ _).mono (fun r h c => ⟨(h c).1.trans (same_DiffIdeal m m' hp c (hagree c).1 (hagree c).2.1 (hagree c).2.2.1 (hagree c).2.2.2.1 (hagree c).2.2.2.2.1 (hagree c).2.2.2.2.2), (h c).2⟩)
      (Diff.ref_run m' g')⟩

/-- All the claims. -/
theorem claim : Cert.Claim := ⟨Cert.Kernel.Gen.facts, Cert.KernelIdeal.Gen.facts, Cert.ReferenceIdeal.Gen.facts, Cert.InEven.Gen.facts, Cert.InEvenIdeal.Gen.facts, Cert.InEvenRefIdeal.Gen.facts, Cert.InEvenS.Gen.facts, Cert.InEvenSIdeal.Gen.facts, Cert.InEvenSRefIdeal.Gen.facts, Cert.InOdd.Gen.facts, Cert.InOddIdeal.Gen.facts, Cert.InOddRefIdeal.Gen.facts, Cert.InOddS.Gen.facts, Cert.InOddSIdeal.Gen.facts, Cert.InOddSRefIdeal.Gen.facts, Cert.Finish.Gen.facts, Cert.FinishIdeal.Gen.facts, Cert.FinishRefIdeal.Gen.facts, Cert.FinishS.Gen.facts, Cert.FinishSIdeal.Gen.facts, Cert.FinishSRefIdeal.Gen.facts, Cert.Diff.Gen.facts, Cert.DiffIdeal.Gen.facts, Cert.DiffRefIdeal.Gen.facts, Diff.pre_facts,
  fun m ρ _ => Cert.Kernel.Gen.frame m ρ,
  fun m ρ _ => Cert.KernelIdeal.Gen.frame m ρ,
  frame_reference,
  fun m ρ _ => Cert.InEven.Gen.frame m ρ,
  fun m ρ _ => Cert.InEvenIdeal.Gen.frame m ρ,
  frame_InEvenRefIdeal,
  fun m ρ _ => Cert.InEvenS.Gen.frame m ρ,
  fun m ρ _ => Cert.InEvenSIdeal.Gen.frame m ρ,
  frame_InEvenSRefIdeal,
  fun m ρ _ => Cert.InOdd.Gen.frame m ρ,
  fun m ρ _ => Cert.InOddIdeal.Gen.frame m ρ,
  frame_InOddRefIdeal,
  fun m ρ _ => Cert.InOddS.Gen.frame m ρ,
  fun m ρ _ => Cert.InOddSIdeal.Gen.frame m ρ,
  frame_InOddSRefIdeal,
  fun m ρ _ => Cert.Finish.Gen.frame m ρ,
  fun m ρ _ => Cert.FinishIdeal.Gen.frame m ρ,
  frame_FinishRefIdeal,
  fun m ρ _ => Cert.FinishS.Gen.frame m ρ,
  fun m ρ _ => Cert.FinishSIdeal.Gen.frame m ρ,
  frame_FinishSRefIdeal,
  fun m ρ _ => Cert.Diff.Gen.frame m ρ,
  fun m ρ _ => Cert.DiffIdeal.Gen.frame m ρ,
  fun m ρ _ => Cert.DiffIdeal.Gen.frame m ρ,
  frame_DiffRefIdeal,
  @frame_DiffRefIdeal_finite Diff.pre_facts,
  trivial, algebraic, trivial, algebraic_InEvenIdeal, trivial, algebraic_InEvenSIdeal, trivial, algebraic_InOddIdeal, trivial, algebraic_InOddSIdeal, trivial, algebraic_FinishIdeal, trivial, algebraic_FinishSIdeal,
  IdealRules.named_const.statement Cert.DiffIdeal.κ "mask" .f32 0xF149F2CA#32 ⊥ rfl, @algebraic_DiffIdeal Diff.pre_facts⟩

end Cert.Proof

end
